-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_finite_ab [hPre_finite_ab : Cert.Pre_finite_ab.Facts] (m : (ℓ : Loc Cert.InprojIdeal.nD Cert.InprojIdeal.τ Cert.InprojIdeal.sig) → Buf (Elt Ideal) ℓ) : Prop :=
  ∀ c : Dev Cert.InprojIdeal.nD,
    (Cert.Pre_finite_ab.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))) = (fun _ => 1#1)

def Pre_InprojReferenceIdeal (m : (ℓ : Loc Cert.InprojReferenceIdeal.nD Cert.InprojReferenceIdeal.τ Cert.InprojReferenceIdeal.sig) → Buf (Elt Ideal) ℓ) : Prop :=
  True

def Pre_InprojReferenceIdeal_finite_ab [hPre_finite_ab : Cert.Pre_finite_ab.Facts] (m : (ℓ : Loc Cert.InprojReferenceIdeal.nD Cert.InprojReferenceIdeal.τ Cert.InprojReferenceIdeal.sig) → Buf (Elt Ideal) ℓ) : Prop :=
  ∀ c : Dev Cert.InprojReferenceIdeal.nD,
    (Cert.Pre_finite_ab.fn (F := Ideal) (m ((c.tc : Thread Cert.InprojReferenceIdeal.nD Cert.InprojReferenceIdeal.τ).loc Cert.InprojReferenceIdeal.main_arg0)) (m ((c.tc : Thread Cert.InprojReferenceIdeal.nD Cert.InprojReferenceIdeal.τ).loc Cert.InprojReferenceIdeal.main_arg1)) (m ((c.tc : Thread Cert.InprojReferenceIdeal.nD Cert.InprojReferenceIdeal.τ).loc Cert.InprojReferenceIdeal.main_arg2)) (m ((c.tc : Thread Cert.InprojReferenceIdeal.nD Cert.InprojReferenceIdeal.τ).loc Cert.InprojReferenceIdeal.main_arg3)) (m ((c.tc : Thread Cert.InprojReferenceIdeal.nD Cert.InprojReferenceIdeal.τ).loc Cert.InprojReferenceIdeal.main_arg4))) = (fun _ => 1#1)

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepReferenceIdeal (m : (ℓ : Loc Cert.StepReferenceIdeal.nD Cert.StepReferenceIdeal.τ Cert.StepReferenceIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinIdeal_finite_win [hPre_finite_win : Cert.Pre_finite_win.Facts] (m : (ℓ : Loc Cert.WinIdeal.nD Cert.WinIdeal.τ Cert.WinIdeal.sig) → Buf (Elt Ideal) ℓ) : Prop :=
  ∀ c : Dev Cert.WinIdeal.nD,
    (Cert.Pre_finite_win.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2)) (m ((c.tc : Thread Cert.WinIdeal.nD Cert.WinIdeal.τ).loc Cert.WinIdeal.main_arg3)) (m ((c.tc : Thread Cert.WinIdeal.nD Cert.WinIdeal.τ).loc Cert.WinIdeal.main_arg4))) = (fun _ => 1#1)

def Pre_WinReferenceIdeal (m : (ℓ : Loc Cert.WinReferenceIdeal.nD Cert.WinReferenceIdeal.τ Cert.WinReferenceIdeal.sig) → Buf (Elt Ideal) ℓ) : Prop :=
  True

def Pre_WinReferenceIdeal_finite_win [hPre_finite_win : Cert.Pre_finite_win.Facts] (m : (ℓ : Loc Cert.WinReferenceIdeal.nD Cert.WinReferenceIdeal.τ Cert.WinReferenceIdeal.sig) → Buf (Elt Ideal) ℓ) : Prop :=
  ∀ c : Dev Cert.WinReferenceIdeal.nD,
    (Cert.Pre_finite_win.fn (F := Ideal) (m ((c.tc : Thread Cert.WinReferenceIdeal.nD Cert.WinReferenceIdeal.τ).loc Cert.WinReferenceIdeal.main_arg0)) (m ((c.tc : Thread Cert.WinReferenceIdeal.nD Cert.WinReferenceIdeal.τ).loc Cert.WinReferenceIdeal.main_arg1)) (m ((c.tc : Thread Cert.WinReferenceIdeal.nD Cert.WinReferenceIdeal.τ).loc Cert.WinReferenceIdeal.main_arg2)) (m ((c.tc : Thread Cert.WinReferenceIdeal.nD Cert.WinReferenceIdeal.τ).loc Cert.WinReferenceIdeal.main_arg3)) (m ((c.tc : Thread Cert.WinReferenceIdeal.nD Cert.WinReferenceIdeal.τ).loc Cert.WinReferenceIdeal.main_arg4))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojIdeal_pre_finite_ab [hInprojIdeal : Cert.InprojIdeal.Facts] [hPre_finite_ab : Cert.Pre_finite_ab.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_finite_ab m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4))
      ∧ r.2.sem = fun _ => 0)

def quiescent_InprojReferenceIdeal_pre_finite_ab [hInprojReferenceIdeal : Cert.InprojReferenceIdeal.Facts] [hPre_finite_ab : Cert.Pre_finite_ab.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal_finite_ab m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5)
      ∧ r.2.mem ((c.tc : Thread Cert.Step.nD Cert.Step.τ).loc Cert.Step.main_arg6) = m ((c.tc : Thread Cert.Step.nD Cert.Step.τ).loc Cert.Step.main_arg6)
      ∧ r.2.mem ((c.tc : Thread Cert.Step.nD Cert.Step.τ).loc Cert.Step.main_arg7) = m ((c.tc : Thread Cert.Step.nD Cert.Step.τ).loc Cert.Step.main_arg7))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
      ∧ r.2.mem ((c.tc : Thread Cert.StepIdeal.nD Cert.StepIdeal.τ).loc Cert.StepIdeal.main_arg7) = m ((c.tc : Thread Cert.StepIdeal.nD Cert.StepIdeal.τ).loc Cert.StepIdeal.main_arg7))
      ∧ r.2.sem = fun _ => 0)

def quiescent_StepReferenceIdeal [hStepReferenceIdeal : Cert.StepReferenceIdeal.Facts] : Prop :=
  ∀ (m : (ℓ : Loc Cert.StepReferenceIdeal.nD Cert.StepReferenceIdeal.τ Cert.StepReferenceIdeal.sig) → Buf (Elt Ideal) ℓ) (g : Dev Cert.StepReferenceIdeal.nD → PrngReg), Pre_StepReferenceIdeal m →
    θ_run (Cert.StepReferenceIdeal.defs (F := Ideal)) (onTc (τ := Cert.StepReferenceIdeal.τ) (Cert.StepReferenceIdeal.main (F := Ideal))) ⟨m, fun _ => 0, g⟩ (fun r => (∀ c : Dev Cert.StepReferenceIdeal.nD,
      r.2.mem ((c.tc : Thread Cert.StepReferenceIdeal.nD Cert.StepReferenceIdeal.τ).loc Cert.StepReferenceIdeal.main_arg0) = m ((c.tc : Thread Cert.StepReferenceIdeal.nD Cert.StepReferenceIdeal.τ).loc Cert.StepReferenceIdeal.main_arg0)
      ∧ r.2.mem ((c.tc : Thread Cert.StepReferenceIdeal.nD Cert.StepReferenceIdeal.τ).loc Cert.StepReferenceIdeal.main_arg1) = m ((c.tc : Thread Cert.StepReferenceIdeal.nD Cert.StepReferenceIdeal.τ).loc Cert.StepReferenceIdeal.main_arg1)
      ∧ r.2.mem ((c.tc : Thread Cert.StepReferenceIdeal.nD Cert.StepReferenceIdeal.τ).loc Cert.StepReferenceIdeal.main_arg2) = m ((c.tc : Thread Cert.StepReferenceIdeal.nD Cert.StepReferenceIdeal.τ).loc Cert.StepReferenceIdeal.main_arg2)
      ∧ r.2.mem ((c.tc : Thread Cert.StepReferenceIdeal.nD Cert.StepReferenceIdeal.τ).loc Cert.StepReferenceIdeal.main_arg3) = m ((c.tc : Thread Cert.StepReferenceIdeal.nD Cert.StepReferenceIdeal.τ).loc Cert.StepReferenceIdeal.main_arg3)
      ∧ r.2.mem ((c.tc : Thread Cert.StepReferenceIdeal.nD Cert.StepReferenceIdeal.τ).loc Cert.StepReferenceIdeal.main_arg4) = m ((c.tc : Thread Cert.StepReferenceIdeal.nD Cert.StepReferenceIdeal.τ).loc Cert.StepReferenceIdeal.main_arg4)
      ∧ r.2.mem ((c.tc : Thread Cert.StepReferenceIdeal.nD Cert.StepReferenceIdeal.τ).loc Cert.StepReferenceIdeal.main_arg5) = m ((c.tc : Thread Cert.StepReferenceIdeal.nD Cert.StepReferenceIdeal.τ).loc Cert.StepReferenceIdeal.main_arg5)
      ∧ r.2.mem ((c.tc : Thread Cert.StepReferenceIdeal.nD Cert.StepReferenceIdeal.τ).loc Cert.StepReferenceIdeal.main_arg6) = m ((c.tc : Thread Cert.StepReferenceIdeal.nD Cert.StepReferenceIdeal.τ).loc Cert.StepReferenceIdeal.main_arg6)
      ∧ r.2.mem ((c.tc : Thread Cert.StepReferenceIdeal.nD Cert.StepReferenceIdeal.τ).loc Cert.StepReferenceIdeal.main_arg7) = m ((c.tc : Thread Cert.StepReferenceIdeal.nD Cert.StepReferenceIdeal.τ).loc Cert.StepReferenceIdeal.main_arg7))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2)
      ∧ r.2.mem ((c.tc : Thread Cert.Win.nD Cert.Win.τ).loc Cert.Win.main_arg3) = m ((c.tc : Thread Cert.Win.nD Cert.Win.τ).loc Cert.Win.main_arg3)
      ∧ r.2.mem ((c.tc : Thread Cert.Win.nD Cert.Win.τ).loc Cert.Win.main_arg4) = m ((c.tc : Thread Cert.Win.nD Cert.Win.τ).loc Cert.Win.main_arg4))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
      ∧ r.2.mem ((c.tc : Thread Cert.WinIdeal.nD Cert.WinIdeal.τ).loc Cert.WinIdeal.main_arg4) = m ((c.tc : Thread Cert.WinIdeal.nD Cert.WinIdeal.τ).loc Cert.WinIdeal.main_arg4))
      ∧ r.2.sem = fun _ => 0)

def quiescent_WinIdeal_pre_finite_win [hWinIdeal : Cert.WinIdeal.Facts] [hPre_finite_win : Cert.Pre_finite_win.Facts] : Prop :=
  ∀ (m : (ℓ : Loc Cert.WinIdeal.nD Cert.WinIdeal.τ Cert.WinIdeal.sig) → Buf (Elt Ideal) ℓ) (g : Dev Cert.WinIdeal.nD → PrngReg), Pre_WinIdeal_finite_win m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
      ∧ r.2.mem ((c.tc : Thread Cert.WinIdeal.nD Cert.WinIdeal.τ).loc Cert.WinIdeal.main_arg4) = m ((c.tc : Thread Cert.WinIdeal.nD Cert.WinIdeal.τ).loc Cert.WinIdeal.main_arg4))
      ∧ r.2.sem = fun _ => 0)

def quiescent_WinReferenceIdeal [hWinReferenceIdeal : Cert.WinReferenceIdeal.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1)
      ∧ r.2.mem ((c.tc : Thread Cert.WinReferenceIdeal.nD Cert.WinReferenceIdeal.τ).loc Cert.WinReferenceIdeal.main_arg2) = m ((c.tc : Thread Cert.WinReferenceIdeal.nD Cert.WinReferenceIdeal.τ).loc Cert.WinReferenceIdeal.main_arg2)
      ∧ r.2.mem ((c.tc : Thread Cert.WinReferenceIdeal.nD Cert.WinReferenceIdeal.τ).loc Cert.WinReferenceIdeal.main_arg3) = m ((c.tc : Thread Cert.WinReferenceIdeal.nD Cert.WinReferenceIdeal.τ).loc Cert.WinReferenceIdeal.main_arg3)
      ∧ r.2.mem ((c.tc : Thread Cert.WinReferenceIdeal.nD Cert.WinReferenceIdeal.τ).loc Cert.WinReferenceIdeal.main_arg4) = m ((c.tc : Thread Cert.WinReferenceIdeal.nD Cert.WinReferenceIdeal.τ).loc Cert.WinReferenceIdeal.main_arg4))
      ∧ r.2.sem = fun _ => 0)

def quiescent_WinReferenceIdeal_pre_finite_win [hWinReferenceIdeal : Cert.WinReferenceIdeal.Facts] [hPre_finite_win : Cert.Pre_finite_win.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal_finite_win m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1)
      ∧ r.2.mem ((c.tc : Thread Cert.WinReferenceIdeal.nD Cert.WinReferenceIdeal.τ).loc Cert.WinReferenceIdeal.main_arg2) = m ((c.tc : Thread Cert.WinReferenceIdeal.nD Cert.WinReferenceIdeal.τ).loc Cert.WinReferenceIdeal.main_arg2)
      ∧ r.2.mem ((c.tc : Thread Cert.WinReferenceIdeal.nD Cert.WinReferenceIdeal.τ).loc Cert.WinReferenceIdeal.main_arg3) = m ((c.tc : Thread Cert.WinReferenceIdeal.nD Cert.WinReferenceIdeal.τ).loc Cert.WinReferenceIdeal.main_arg3)
      ∧ r.2.mem ((c.tc : Thread Cert.WinReferenceIdeal.nD Cert.WinReferenceIdeal.τ).loc Cert.WinReferenceIdeal.main_arg4) = m ((c.tc : Thread Cert.WinReferenceIdeal.nD Cert.WinReferenceIdeal.τ).loc Cert.WinReferenceIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v50) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)
      ∧ m' ((c.tc : Thread Cert.MixReferenceIdeal.nD Cert.MixReferenceIdeal.τ).loc Cert.MixReferenceIdeal.main_arg12) = m ((c.tc : Thread Cert.MixIdeal.nD Cert.MixIdeal.τ).loc Cert.MixIdeal.main_arg12)) →
    ∃ (v0 : (c : Dev Cert.MixIdeal.nD) → Buf (Elt Ideal) ((c.tc : Thread Cert.MixIdeal.nD Cert.MixIdeal.τ).loc Cert.MixIdeal.main_v3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v3) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v96) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12))

def preserves_Inproj_InprojIdeal : Prop :=
  True

def algebraic_InprojIdeal_InprojReferenceIdeal_pre_finite_ab [hInprojIdeal : Cert.InprojIdeal.Facts] [hInprojReferenceIdeal : Cert.InprojReferenceIdeal.Facts] [hPre_finite_ab : Cert.Pre_finite_ab.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal_finite_ab m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v2_0)) (v1 : (c : Dev Cert.InprojIdeal.nD) → Buf (Elt Ideal) ((c.tc : Thread Cert.InprojIdeal.nD Cert.InprojIdeal.τ).loc Cert.InprojIdeal.main_v2_1)) (v2 : (c : Dev Cert.InprojIdeal.nD) → Buf (Elt Ideal) ((c.tc : Thread Cert.InprojIdeal.nD Cert.InprojIdeal.τ).loc Cert.InprojIdeal.main_v2_2)) (v3 : (c : Dev Cert.InprojIdeal.nD) → Buf (Elt Ideal) ((c.tc : Thread Cert.InprojIdeal.nD Cert.InprojIdeal.τ).loc Cert.InprojIdeal.main_v2_3)) (v4 : (c : Dev Cert.InprojIdeal.nD) → Buf (Elt Ideal) ((c.tc : Thread Cert.InprojIdeal.nD Cert.InprojIdeal.τ).loc Cert.InprojIdeal.main_v2_4)) (v5 : (c : Dev Cert.InprojIdeal.nD) → Buf (Elt Ideal) ((c.tc : Thread Cert.InprojIdeal.nD Cert.InprojIdeal.τ).loc Cert.InprojIdeal.main_v2_5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v2_0) = v0 c
          ∧ r.2.mem ((c.tc : Thread Cert.InprojIdeal.nD Cert.InprojIdeal.τ).loc Cert.InprojIdeal.main_v2_1) = v1 c
          ∧ r.2.mem ((c.tc : Thread Cert.InprojIdeal.nD Cert.InprojIdeal.τ).loc Cert.InprojIdeal.main_v2_2) = v2 c
          ∧ r.2.mem ((c.tc : Thread Cert.InprojIdeal.nD Cert.InprojIdeal.τ).loc Cert.InprojIdeal.main_v2_3) = v3 c
          ∧ r.2.mem ((c.tc : Thread Cert.InprojIdeal.nD Cert.InprojIdeal.τ).loc Cert.InprojIdeal.main_v2_4) = v4 c
          ∧ r.2.mem ((c.tc : Thread Cert.InprojIdeal.nD Cert.InprojIdeal.τ).loc Cert.InprojIdeal.main_v2_5) = v5 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v42) = v0 c
          ∧ r.2.mem ((c.tc : Thread Cert.InprojReferenceIdeal.nD Cert.InprojReferenceIdeal.τ).loc Cert.InprojReferenceIdeal.main_v55) = v1 c
          ∧ r.2.mem ((c.tc : Thread Cert.InprojReferenceIdeal.nD Cert.InprojReferenceIdeal.τ).loc Cert.InprojReferenceIdeal.main_v56) = v2 c
          ∧ r.2.mem ((c.tc : Thread Cert.InprojReferenceIdeal.nD Cert.InprojReferenceIdeal.τ).loc Cert.InprojReferenceIdeal.main_v57) = v3 c
          ∧ r.2.mem ((c.tc : Thread Cert.InprojReferenceIdeal.nD Cert.InprojReferenceIdeal.τ).loc Cert.InprojReferenceIdeal.main_v59) = v4 c
          ∧ r.2.mem ((c.tc : Thread Cert.InprojReferenceIdeal.nD Cert.InprojReferenceIdeal.τ).loc Cert.InprojReferenceIdeal.main_v53) = v5 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4))

def preserves_Step_StepIdeal : Prop :=
  True

def algebraic_StepIdeal_StepReferenceIdeal [hStepIdeal : Cert.StepIdeal.Facts] [hStepReferenceIdeal : Cert.StepReferenceIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepReferenceIdeal.nD Cert.StepReferenceIdeal.τ Cert.StepReferenceIdeal.sig) → Buf (Elt Ideal) ℓ) (g' : Dev Cert.StepReferenceIdeal.nD → PrngReg), Pre_StepIdeal m →
    (∀ c : Dev Cert.StepIdeal.nD,
      m' ((c.tc : Thread Cert.StepReferenceIdeal.nD Cert.StepReferenceIdeal.τ).loc Cert.StepReferenceIdeal.main_arg0) = m ((c.tc : Thread Cert.StepIdeal.nD Cert.StepIdeal.τ).loc Cert.StepIdeal.main_arg0)
      ∧ m' ((c.tc : Thread Cert.StepReferenceIdeal.nD Cert.StepReferenceIdeal.τ).loc Cert.StepReferenceIdeal.main_arg1) = m ((c.tc : Thread Cert.StepIdeal.nD Cert.StepIdeal.τ).loc Cert.StepIdeal.main_arg1)
      ∧ m' ((c.tc : Thread Cert.StepReferenceIdeal.nD Cert.StepReferenceIdeal.τ).loc Cert.StepReferenceIdeal.main_arg2) = m ((c.tc : Thread Cert.StepIdeal.nD Cert.StepIdeal.τ).loc Cert.StepIdeal.main_arg2)
      ∧ m' ((c.tc : Thread Cert.StepReferenceIdeal.nD Cert.StepReferenceIdeal.τ).loc Cert.StepReferenceIdeal.main_arg3) = m ((c.tc : Thread Cert.StepIdeal.nD Cert.StepIdeal.τ).loc Cert.StepIdeal.main_arg3)
      ∧ m' ((c.tc : Thread Cert.StepReferenceIdeal.nD Cert.StepReferenceIdeal.τ).loc Cert.StepReferenceIdeal.main_arg4) = m ((c.tc : Thread Cert.StepIdeal.nD Cert.StepIdeal.τ).loc Cert.StepIdeal.main_arg4)
      ∧ m' ((c.tc : Thread Cert.StepReferenceIdeal.nD Cert.StepReferenceIdeal.τ).loc Cert.StepReferenceIdeal.main_arg5) = m ((c.tc : Thread Cert.StepIdeal.nD Cert.StepIdeal.τ).loc Cert.StepIdeal.main_arg5)
      ∧ m' ((c.tc : Thread Cert.StepReferenceIdeal.nD Cert.StepReferenceIdeal.τ).loc Cert.StepReferenceIdeal.main_arg6) = m ((c.tc : Thread Cert.StepIdeal.nD Cert.StepIdeal.τ).loc Cert.StepIdeal.main_arg6)
      ∧ m' ((c.tc : Thread Cert.StepReferenceIdeal.nD Cert.StepReferenceIdeal.τ).loc Cert.StepReferenceIdeal.main_arg7) = m ((c.tc : Thread Cert.StepIdeal.nD Cert.StepIdeal.τ).loc Cert.StepIdeal.main_arg7)) →
    ∃ (v0 : (c : Dev Cert.StepIdeal.nD) → Buf (Elt Ideal) ((c.tc : Thread Cert.StepIdeal.nD Cert.StepIdeal.τ).loc Cert.StepIdeal.main_v1_0)) (v1 : (c : Dev Cert.StepIdeal.nD) → Buf (Elt Ideal) ((c.tc : Thread Cert.StepIdeal.nD Cert.StepIdeal.τ).loc Cert.StepIdeal.main_v1_1)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v1_0) = v0 c
          ∧ r.2.mem ((c.tc : Thread Cert.StepIdeal.nD Cert.StepIdeal.τ).loc Cert.StepIdeal.main_v1_1) = v1 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
          ∧ r.2.mem ((c.tc : Thread Cert.StepIdeal.nD Cert.StepIdeal.τ).loc Cert.StepIdeal.main_arg7) = m ((c.tc : Thread Cert.StepIdeal.nD Cert.StepIdeal.τ).loc Cert.StepIdeal.main_arg7))
      ∧ θ_run (Cert.StepReferenceIdeal.defs (F := Ideal)) (onTc (τ := Cert.StepReferenceIdeal.τ) (Cert.StepReferenceIdeal.main (F := Ideal))) ⟨m', fun _ => 0, g'⟩ (fun r => ∀ c : Dev Cert.StepReferenceIdeal.nD,
          r.2.mem ((c.tc : Thread Cert.StepReferenceIdeal.nD Cert.StepReferenceIdeal.τ).loc Cert.StepReferenceIdeal.main_v18) = v0 c
          ∧ r.2.mem ((c.tc : Thread Cert.StepReferenceIdeal.nD Cert.StepReferenceIdeal.τ).loc Cert.StepReferenceIdeal.main_v35) = v1 c
          ∧ r.2.mem ((c.tc : Thread Cert.StepReferenceIdeal.nD Cert.StepReferenceIdeal.τ).loc Cert.StepReferenceIdeal.main_arg0) = m' ((c.tc : Thread Cert.StepReferenceIdeal.nD Cert.StepReferenceIdeal.τ).loc Cert.StepReferenceIdeal.main_arg0)
          ∧ r.2.mem ((c.tc : Thread Cert.StepReferenceIdeal.nD Cert.StepReferenceIdeal.τ).loc Cert.StepReferenceIdeal.main_arg1) = m' ((c.tc : Thread Cert.StepReferenceIdeal.nD Cert.StepReferenceIdeal.τ).loc Cert.StepReferenceIdeal.main_arg1)
          ∧ r.2.mem ((c.tc : Thread Cert.StepReferenceIdeal.nD Cert.StepReferenceIdeal.τ).loc Cert.StepReferenceIdeal.main_arg2) = m' ((c.tc : Thread Cert.StepReferenceIdeal.nD Cert.StepReferenceIdeal.τ).loc Cert.StepReferenceIdeal.main_arg2)
          ∧ r.2.mem ((c.tc : Thread Cert.StepReferenceIdeal.nD Cert.StepReferenceIdeal.τ).loc Cert.StepReferenceIdeal.main_arg3) = m' ((c.tc : Thread Cert.StepReferenceIdeal.nD Cert.StepReferenceIdeal.τ).loc Cert.StepReferenceIdeal.main_arg3)
          ∧ r.2.mem ((c.tc : Thread Cert.StepReferenceIdeal.nD Cert.StepReferenceIdeal.τ).loc Cert.StepReferenceIdeal.main_arg4) = m' ((c.tc : Thread Cert.StepReferenceIdeal.nD Cert.StepReferenceIdeal.τ).loc Cert.StepReferenceIdeal.main_arg4)
          ∧ r.2.mem ((c.tc : Thread Cert.StepReferenceIdeal.nD Cert.StepReferenceIdeal.τ).loc Cert.StepReferenceIdeal.main_arg5) = m' ((c.tc : Thread Cert.StepReferenceIdeal.nD Cert.StepReferenceIdeal.τ).loc Cert.StepReferenceIdeal.main_arg5)
          ∧ r.2.mem ((c.tc : Thread Cert.StepReferenceIdeal.nD Cert.StepReferenceIdeal.τ).loc Cert.StepReferenceIdeal.main_arg6) = m' ((c.tc : Thread Cert.StepReferenceIdeal.nD Cert.StepReferenceIdeal.τ).loc Cert.StepReferenceIdeal.main_arg6)
          ∧ r.2.mem ((c.tc : Thread Cert.StepReferenceIdeal.nD Cert.StepReferenceIdeal.τ).loc Cert.StepReferenceIdeal.main_arg7) = m' ((c.tc : Thread Cert.StepReferenceIdeal.nD Cert.StepReferenceIdeal.τ).loc Cert.StepReferenceIdeal.main_arg7))

def preserves_Win_WinIdeal : Prop :=
  True

def algebraic_WinIdeal_WinReferenceIdeal_pre_finite_win [hWinIdeal : Cert.WinIdeal.Facts] [hWinReferenceIdeal : Cert.WinReferenceIdeal.Facts] [hPre_finite_win : Cert.Pre_finite_win.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinReferenceIdeal.nD Cert.WinReferenceIdeal.τ Cert.WinReferenceIdeal.sig) → Buf (Elt Ideal) ℓ) (g' : Dev Cert.WinReferenceIdeal.nD → PrngReg), Pre_WinIdeal_finite_win m →
    (∀ c : Dev Cert.WinIdeal.nD,
      m' ((c.tc : Thread Cert.WinReferenceIdeal.nD Cert.WinReferenceIdeal.τ).loc Cert.WinReferenceIdeal.main_arg0) = m ((c.tc : Thread Cert.WinIdeal.nD Cert.WinIdeal.τ).loc Cert.WinIdeal.main_arg0)
      ∧ m' ((c.tc : Thread Cert.WinReferenceIdeal.nD Cert.WinReferenceIdeal.τ).loc Cert.WinReferenceIdeal.main_arg1) = m ((c.tc : Thread Cert.WinIdeal.nD Cert.WinIdeal.τ).loc Cert.WinIdeal.main_arg1)
      ∧ m' ((c.tc : Thread Cert.WinReferenceIdeal.nD Cert.WinReferenceIdeal.τ).loc Cert.WinReferenceIdeal.main_arg2) = m ((c.tc : Thread Cert.WinIdeal.nD Cert.WinIdeal.τ).loc Cert.WinIdeal.main_arg2)
      ∧ m' ((c.tc : Thread Cert.WinReferenceIdeal.nD Cert.WinReferenceIdeal.τ).loc Cert.WinReferenceIdeal.main_arg3) = m ((c.tc : Thread Cert.WinIdeal.nD Cert.WinIdeal.τ).loc Cert.WinIdeal.main_arg3)
      ∧ m' ((c.tc : Thread Cert.WinReferenceIdeal.nD Cert.WinReferenceIdeal.τ).loc Cert.WinReferenceIdeal.main_arg4) = m ((c.tc : Thread Cert.WinIdeal.nD Cert.WinIdeal.τ).loc Cert.WinIdeal.main_arg4)) →
    ∃ (v0 : (c : Dev Cert.WinIdeal.nD) → Buf (Elt Ideal) ((c.tc : Thread Cert.WinIdeal.nD Cert.WinIdeal.τ).loc Cert.WinIdeal.main_v9_0)) (v1 : (c : Dev Cert.WinIdeal.nD) → Buf (Elt Ideal) ((c.tc : Thread Cert.WinIdeal.nD Cert.WinIdeal.τ).loc Cert.WinIdeal.main_v9_1)) (v2 : (c : Dev Cert.WinIdeal.nD) → Buf (Elt Ideal) ((c.tc : Thread Cert.WinIdeal.nD Cert.WinIdeal.τ).loc Cert.WinIdeal.main_v9_2)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v9_0) = v0 c
          ∧ r.2.mem ((c.tc : Thread Cert.WinIdeal.nD Cert.WinIdeal.τ).loc Cert.WinIdeal.main_v9_1) = v1 c
          ∧ r.2.mem ((c.tc : Thread Cert.WinIdeal.nD Cert.WinIdeal.τ).loc Cert.WinIdeal.main_v9_2) = v2 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
          ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
          ∧ r.2.mem ((c.tc : Thread Cert.WinIdeal.nD Cert.WinIdeal.τ).loc Cert.WinIdeal.main_arg4) = m ((c.tc : Thread Cert.WinIdeal.nD Cert.WinIdeal.τ).loc Cert.WinIdeal.main_arg4))
      ∧ θ_run (Cert.WinReferenceIdeal.defs (F := Ideal)) (onTc (τ := Cert.WinReferenceIdeal.τ) (Cert.WinReferenceIdeal.main (F := Ideal))) ⟨m', fun _ => 0, g'⟩ (fun r => ∀ c : Dev Cert.WinReferenceIdeal.nD,
          r.2.mem ((c.tc : Thread Cert.WinReferenceIdeal.nD Cert.WinReferenceIdeal.τ).loc Cert.WinReferenceIdeal.main_v48) = v0 c
          ∧ r.2.mem ((c.tc : Thread Cert.WinReferenceIdeal.nD Cert.WinReferenceIdeal.τ).loc Cert.WinReferenceIdeal.main_v50) = v1 c
          ∧ r.2.mem ((c.tc : Thread Cert.WinReferenceIdeal.nD Cert.WinReferenceIdeal.τ).loc Cert.WinReferenceIdeal.main_v52) = v2 c
          ∧ r.2.mem ((c.tc : Thread Cert.WinReferenceIdeal.nD Cert.WinReferenceIdeal.τ).loc Cert.WinReferenceIdeal.main_arg0) = m' ((c.tc : Thread Cert.WinReferenceIdeal.nD Cert.WinReferenceIdeal.τ).loc Cert.WinReferenceIdeal.main_arg0)
          ∧ r.2.mem ((c.tc : Thread Cert.WinReferenceIdeal.nD Cert.WinReferenceIdeal.τ).loc Cert.WinReferenceIdeal.main_arg1) = m' ((c.tc : Thread Cert.WinReferenceIdeal.nD Cert.WinReferenceIdeal.τ).loc Cert.WinReferenceIdeal.main_arg1)
          ∧ r.2.mem ((c.tc : Thread Cert.WinReferenceIdeal.nD Cert.WinReferenceIdeal.τ).loc Cert.WinReferenceIdeal.main_arg2) = m' ((c.tc : Thread Cert.WinReferenceIdeal.nD Cert.WinReferenceIdeal.τ).loc Cert.WinReferenceIdeal.main_arg2)
          ∧ r.2.mem ((c.tc : Thread Cert.WinReferenceIdeal.nD Cert.WinReferenceIdeal.τ).loc Cert.WinReferenceIdeal.main_arg3) = m' ((c.tc : Thread Cert.WinReferenceIdeal.nD Cert.WinReferenceIdeal.τ).loc Cert.WinReferenceIdeal.main_arg3)
          ∧ r.2.mem ((c.tc : Thread Cert.WinReferenceIdeal.nD Cert.WinReferenceIdeal.τ).loc Cert.WinReferenceIdeal.main_arg4) = m' ((c.tc : Thread Cert.WinReferenceIdeal.nD Cert.WinReferenceIdeal.τ).loc Cert.WinReferenceIdeal.main_arg4))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)
      ∧ m' ((c.tc : Thread Cert.PrepReferenceIdeal.nD Cert.PrepReferenceIdeal.τ).loc Cert.PrepReferenceIdeal.main_arg5) = m ((c.tc : Thread Cert.PrepIdeal.nD Cert.PrepIdeal.τ).loc Cert.PrepIdeal.main_arg5)) →
    ∃ (v0 : (c : Dev Cert.PrepIdeal.nD) → Buf (Elt Ideal) ((c.tc : Thread Cert.PrepIdeal.nD Cert.PrepIdeal.τ).loc Cert.PrepIdeal.main_v5_0)) (v1 : (c : Dev Cert.PrepIdeal.nD) → Buf (Elt Ideal) ((c.tc : Thread Cert.PrepIdeal.nD Cert.PrepIdeal.τ).loc Cert.PrepIdeal.main_v5_1)) (v2 : (c : Dev Cert.PrepIdeal.nD) → Buf (Elt Ideal) ((c.tc : Thread Cert.PrepIdeal.nD Cert.PrepIdeal.τ).loc Cert.PrepIdeal.main_v5_2)) (v3 : (c : Dev Cert.PrepIdeal.nD) → Buf (Elt Ideal) ((c.tc : Thread Cert.PrepIdeal.nD Cert.PrepIdeal.τ).loc Cert.PrepIdeal.main_v5_3)) (v4 : (c : Dev Cert.PrepIdeal.nD) → Buf (Elt Ideal) ((c.tc : Thread Cert.PrepIdeal.nD Cert.PrepIdeal.τ).loc Cert.PrepIdeal.main_v5_4)) (v5 : (c : Dev Cert.PrepIdeal.nD) → Buf (Elt Ideal) ((c.tc : Thread Cert.PrepIdeal.nD Cert.PrepIdeal.τ).loc Cert.PrepIdeal.main_v5_5)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v5_0) = v0 c
          ∧ r.2.mem ((c.tc : Thread Cert.PrepIdeal.nD Cert.PrepIdeal.τ).loc Cert.PrepIdeal.main_v5_1) = v1 c
          ∧ r.2.mem ((c.tc : Thread Cert.PrepIdeal.nD Cert.PrepIdeal.τ).loc Cert.PrepIdeal.main_v5_2) = v2 c
          ∧ r.2.mem ((c.tc : Thread Cert.PrepIdeal.nD Cert.PrepIdeal.τ).loc Cert.PrepIdeal.main_v5_3) = v3 c
          ∧ r.2.mem ((c.tc : Thread Cert.PrepIdeal.nD Cert.PrepIdeal.τ).loc Cert.PrepIdeal.main_v5_4) = v4 c
          ∧ r.2.mem ((c.tc : Thread Cert.PrepIdeal.nD Cert.PrepIdeal.τ).loc Cert.PrepIdeal.main_v5_5) = v5 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v48) = v0 c
          ∧ r.2.mem ((c.tc : Thread Cert.PrepReferenceIdeal.nD Cert.PrepReferenceIdeal.τ).loc Cert.PrepReferenceIdeal.main_v49) = v1 c
          ∧ r.2.mem ((c.tc : Thread Cert.PrepReferenceIdeal.nD Cert.PrepReferenceIdeal.τ).loc Cert.PrepReferenceIdeal.main_v50) = v2 c
          ∧ r.2.mem ((c.tc : Thread Cert.PrepReferenceIdeal.nD Cert.PrepReferenceIdeal.τ).loc Cert.PrepReferenceIdeal.main_v10) = v3 c
          ∧ r.2.mem ((c.tc : Thread Cert.PrepReferenceIdeal.nD Cert.PrepReferenceIdeal.τ).loc Cert.PrepReferenceIdeal.main_v54) = v4 c
          ∧ r.2.mem ((c.tc : Thread Cert.PrepReferenceIdeal.nD Cert.PrepReferenceIdeal.τ).loc Cert.PrepReferenceIdeal.main_v57) = v5 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMix : Cert.Mix.Facts) (hMixIdeal : Cert.MixIdeal.Facts) (hMixReferenceIdeal : Cert.MixReferenceIdeal.Facts) (hInproj : Cert.Inproj.Facts) (hInprojIdeal : Cert.InprojIdeal.Facts) (hInprojReferenceIdeal : Cert.InprojReferenceIdeal.Facts) (hStep : Cert.Step.Facts) (hStepIdeal : Cert.StepIdeal.Facts) (hStepReferenceIdeal : Cert.StepReferenceIdeal.Facts) (hWin : Cert.Win.Facts) (hWinIdeal : Cert.WinIdeal.Facts) (hWinReferenceIdeal : Cert.WinReferenceIdeal.Facts) (hPrep : Cert.Prep.Facts) (hPrepIdeal : Cert.PrepIdeal.Facts) (hPrepReferenceIdeal : Cert.PrepReferenceIdeal.Facts) (hPre_finite_scores : Cert.Pre_finite_scores.Facts) (hPre_finite_ab : Cert.Pre_finite_ab.Facts) (hPre_finite_win : Cert.Pre_finite_win.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Mix (hMix := hMix)
    ∧ quiescent_MixIdeal (hMixIdeal := hMixIdeal)
    ∧ quiescent_MixReferenceIdeal (hMixReferenceIdeal := hMixReferenceIdeal)
    ∧ quiescent_Inproj (hInproj := hInproj)
    ∧ quiescent_InprojIdeal (hInprojIdeal := hInprojIdeal)
    ∧ quiescent_InprojIdeal_pre_finite_ab (hInprojIdeal := hInprojIdeal) (hPre_finite_ab := hPre_finite_ab)
    ∧ quiescent_InprojReferenceIdeal (hInprojReferenceIdeal := hInprojReferenceIdeal)
    ∧ quiescent_InprojReferenceIdeal_pre_finite_ab (hInprojReferenceIdeal := hInprojReferenceIdeal) (hPre_finite_ab := hPre_finite_ab)
    ∧ quiescent_Step (hStep := hStep)
    ∧ quiescent_StepIdeal (hStepIdeal := hStepIdeal)
    ∧ quiescent_StepReferenceIdeal (hStepReferenceIdeal := hStepReferenceIdeal)
    ∧ quiescent_Win (hWin := hWin)
    ∧ quiescent_WinIdeal (hWinIdeal := hWinIdeal)
    ∧ quiescent_WinIdeal_pre_finite_win (hWinIdeal := hWinIdeal) (hPre_finite_win := hPre_finite_win)
    ∧ quiescent_WinReferenceIdeal (hWinReferenceIdeal := hWinReferenceIdeal)
    ∧ quiescent_WinReferenceIdeal_pre_finite_win (hWinReferenceIdeal := hWinReferenceIdeal) (hPre_finite_win := hPre_finite_win)
    ∧ quiescent_Prep (hPrep := hPrep)
    ∧ quiescent_PrepIdeal (hPrepIdeal := hPrepIdeal)
    ∧ quiescent_PrepReferenceIdeal (hPrepReferenceIdeal := hPrepReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnReferenceIdeal (hFfnIdeal := hFfnIdeal) (hFfnReferenceIdeal := hFfnReferenceIdeal)
    ∧ preserves_Mix_MixIdeal
    ∧ algebraic_MixIdeal_MixReferenceIdeal (hMixIdeal := hMixIdeal) (hMixReferenceIdeal := hMixReferenceIdeal)
    ∧ preserves_Inproj_InprojIdeal
    ∧ algebraic_InprojIdeal_InprojReferenceIdeal_pre_finite_ab (hInprojIdeal := hInprojIdeal) (hInprojReferenceIdeal := hInprojReferenceIdeal) (hPre_finite_ab := hPre_finite_ab)
    ∧ preserves_Step_StepIdeal
    ∧ algebraic_StepIdeal_StepReferenceIdeal (hStepIdeal := hStepIdeal) (hStepReferenceIdeal := hStepReferenceIdeal)
    ∧ preserves_Win_WinIdeal
    ∧ algebraic_WinIdeal_WinReferenceIdeal_pre_finite_win (hWinIdeal := hWinIdeal) (hWinReferenceIdeal := hWinReferenceIdeal) (hPre_finite_win := hPre_finite_win)
    ∧ preserves_Prep_PrepIdeal
    ∧ algebraic_PrepIdeal_PrepReferenceIdeal (hPrepIdeal := hPrepIdeal) (hPrepReferenceIdeal := hPrepReferenceIdeal)
-- ==== Pre_finite_ab.lean ====
abbrev S16384x1024 : Shape := ⟨2, ![16384, 1024]⟩
abbrev S8x9216 : Shape := ⟨2, ![8, 9216]⟩
abbrev S1024 : Shape := ⟨1, ![1024]⟩
abbrev S7440x1024 : Shape := ⟨2, ![7440, 1024]⟩
abbrev S128x1024 : Shape := ⟨2, ![128, 1024]⟩
abbrev S8x2048 : Shape := ⟨2, ![8, 2048]⟩
abbrev S16384 : Shape := ⟨1, ![16384]⟩
abbrev S131072 : Shape := ⟨1, ![131072]⟩
abbrev S148480 : Shape := ⟨1, ![148480]⟩
abbrev S_ : Shape := ⟨0, ![]⟩

class Facts : Prop where
  slices_S8x9216_S8x2048_0_3072 : S8x9216.Slices ![0, 3072] S8x2048
  shapeCasts_S8x2048_S16384 : S8x2048.ShapeCasts S16384
  shapeCasts_S128x1024_S131072 : S128x1024.ShapeCasts S131072
  concatenates_S16384_S1024_S131072_S148480_d0 : Shape.Concatenates [S16384, S1024, S131072] S148480 0
  bcast_S_S148480 : S_.BroadcastsInDim S148480 (![] : Fin 0 → Fin S148480.rank)

variable [Facts]

def fn {F : FTy → Type} [FloatOps F] (main_arg0 : FVec F S16384x1024 .f32) (main_arg1 : FVec F S8x9216 .f32) (main_arg2 : FVec F S1024 .f32) (main_arg3 : FVec F S7440x1024 .bf16) (main_arg4 : FVec F S128x1024 .f32) : IVec S148480 1 :=
  let main_v0 : FVec F S8x2048 .f32 := (extractStridedSlice S8x2048 ![0, 3072] · slices_S8x9216_S8x2048_0_3072) main_arg1
  let main_v1 : FVec F S16384 .f32 := shapeCast S16384 main_v0 shapeCasts_S8x2048_S16384
  let main_v2 : FVec F S131072 .f32 := shapeCast S131072 main_arg4 shapeCasts_S128x1024_S131072
  let main_v3 : FVec F S148480 .f32 := concatenate S148480 0 [⟨S16384, main_v1⟩, ⟨S1024, main_arg2⟩, ⟨S131072, main_v2⟩] concatenates_S16384_S1024_S131072_S148480_d0
  let main_v4 : FVec F S148480 .f32 := Host.absf main_v3
  let main_cst : FVec F S_ .f32 := constant S_ .f32 0x7F800000#32
  let main_v5 : FVec F S148480 .f32 := broadcastInDim S148480 ![] bcast_S_S148480 main_cst
  let main_v6 : IVec S148480 1 := cmpf .olt main_v4 main_v5
  main_v6
-- ==== Pre_finite_scores.lean ====
abbrev S16384x1024 : Shape := ⟨2, ![16384, 1024]⟩
abbrev S16384x256 : Shape := ⟨2, ![16384, 256]⟩
abbrev S16 : Shape := ⟨1, ![16]⟩
abbrev S16384x128 : Shape := ⟨2, ![16384, 128]⟩
abbrev S16777216 : Shape := ⟨1, ![16777216]⟩
abbrev S2097152 : Shape := ⟨1, ![2097152]⟩
abbrev S18874384 : Shape := ⟨1, ![18874384]⟩
abbrev S_ : Shape := ⟨0, ![]⟩

class Facts : Prop where
  slices_S16384x256_S16384x128_0_0 : S16384x256.Slices ![0, 0] S16384x128
  bitsLt_bf16_f32 : FTy.bits .bf16 < FTy.bits .f32
  shapeCasts_S16384x1024_S16777216 : S16384x1024.ShapeCasts S16777216
  shapeCasts_S16384x128_S2097152 : S16384x128.ShapeCasts S2097152
  concatenates_S16777216_S2097152_S16_S18874384_d0 : Shape.Concatenates [S16777216, S2097152, S16] S18874384 0
  bcast_S_S18874384 : S_.BroadcastsInDim S18874384 (![] : Fin 0 → Fin S18874384.rank)

variable [Facts]

def fn {F : FTy → Type} [FloatOps F] (main_arg0 : FVec F S16384x1024 .bf16) (main_arg1 : FVec F S16384x256 .f32) (main_arg2 : FVec F S16 .f32) : IVec S18874384 1 :=
  let main_v0 : FVec F S16384x128 .f32 := (extractStridedSlice S16384x128 ![0, 0] · slices_S16384x256_S16384x128_0_0) main_arg1
  let main_v1 : FVec F S16384x1024 .f32 := (extf .f32 · bitsLt_bf16_f32) main_arg0
  let main_v2 : FVec F S16777216 .f32 := shapeCast S16777216 main_v1 shapeCasts_S16384x1024_S16777216
  let main_v3 : FVec F S2097152 .f32 := shapeCast S2097152 main_v0 shapeCasts_S16384x128_S2097152
  let main_v4 : FVec F S18874384 .f32 := concatenate S18874384 0 [⟨S16777216, main_v2⟩, ⟨S2097152, main_v3⟩, ⟨S16, main_arg2⟩] concatenates_S16777216_S2097152_S16_S18874384_d0
  let main_v5 : FVec F S18874384 .f32 := Host.absf main_v4
  let main_cst : FVec F S_ .f32 := constant S_ .f32 0x7F800000#32
  let main_v6 : FVec F S18874384 .f32 := broadcastInDim S18874384 ![] bcast_S_S18874384 main_cst
  let main_v7 : IVec S18874384 1 := cmpf .olt main_v5 main_v6
  main_v7
-- ==== Pre_finite_win.lean ====
abbrev S128x1024 : Shape := ⟨2, ![128, 1024]⟩
abbrev S128x256 : Shape := ⟨2, ![128, 256]⟩
abbrev S128x128x2x64 : Shape := ⟨4, ![128, 128, 2, 64]⟩
abbrev S16 : Shape := ⟨1, ![16]⟩
abbrev S128x128 : Shape := ⟨2, ![128, 128]⟩
abbrev S131072 : Shape := ⟨1, ![131072]⟩
abbrev S16384 : Shape := ⟨1, ![16384]⟩
abbrev S128x127x2x64 : Shape := ⟨4, ![128, 127, 2, 64]⟩
abbrev S2080768 : Shape := ⟨1, ![2080768]⟩
abbrev S2228240 : Shape := ⟨1, ![2228240]⟩
abbrev S_ : Shape := ⟨0, ![]⟩

class Facts : Prop where
  slices_S128x256_S128x128_0_0 : S128x256.Slices ![0, 0] S128x128
  bitsLt_bf16_f32 : FTy.bits .bf16 < FTy.bits .f32
  shapeCasts_S128x1024_S131072 : S128x1024.ShapeCasts S131072
  shapeCasts_S128x128_S16384 : S128x128.ShapeCasts S16384
  slices_S128x128x2x64_S128x127x2x64_0_1_0_0 : S128x128x2x64.Slices ![0, 1, 0, 0] S128x127x2x64
  shapeCasts_S128x127x2x64_S2080768 : S128x127x2x64.ShapeCasts S2080768
  concatenates_S131072_S16384_S2080768_S16_S2228240_d0 : Shape.Concatenates [S131072, S16384, S2080768, S16] S2228240 0
  bcast_S_S2228240 : S_.BroadcastsInDim S2228240 (![] : Fin 0 → Fin S2228240.rank)

variable [Facts]

def fn {F : FTy → Type} [FloatOps F] (main_arg0 : FVec F S128x1024 .bf16) (main_arg1 : FVec F S128x256 .f32) (main_arg2 : FVec F S128x128x2x64 .f32) (main_arg3 : FVec F S128x128x2x64 .f32) (main_arg4 : FVec F S16 .f32) : IVec S2228240 1 :=
  let main_v0 : FVec F S128x128 .f32 := (extractStridedSlice S128x128 ![0, 0] · slices_S128x256_S128x128_0_0) main_arg1
  let main_v1 : FVec F S128x1024 .f32 := (extf .f32 · bitsLt_bf16_f32) main_arg0
  let main_v2 : FVec F S131072 .f32 := shapeCast S131072 main_v1 shapeCasts_S128x1024_S131072
  let main_v3 : FVec F S16384 .f32 := shapeCast S16384 main_v0 shapeCasts_S128x128_S16384
  let main_v4 : FVec F S128x127x2x64 .f32 := (extractStridedSlice S128x127x2x64 ![0, 1, 0, 0] · slices_S128x128x2x64_S128x127x2x64_0_1_0_0) main_arg2
  let main_v5 : FVec F S2080768 .f32 := shapeCast S2080768 main_v4 shapeCasts_S128x127x2x64_S2080768
  let main_v6 : FVec F S2228240 .f32 := concatenate S2228240 0 [⟨S131072, main_v2⟩, ⟨S16384, main_v3⟩, ⟨S2080768, main_v5⟩, ⟨S16, main_arg4⟩] concatenates_S131072_S16384_S2080768_S16_S2228240_d0
  let main_v7 : FVec F S2228240 .f32 := Host.absf main_v6
  let main_cst : FVec F S_ .f32 := constant S_ .f32 0x7F800000#32
  let main_v8 : FVec F S2228240 .f32 := broadcastInDim S2228240 ![] bcast_S_S2228240 main_cst
  let main_v9 : IVec S2228240 1 := cmpf .olt main_v7 main_v8
  main_v9
-- ==== Kernel.lean ====
abbrev S16384x1024 : Shape := ⟨2, ![16384, 1024]⟩
abbrev S16384x256 : Shape := ⟨2, ![16384, 256]⟩
abbrev S16 : Shape := ⟨1, ![16]⟩
abbrev S256x1024 : Shape := ⟨2, ![256, 1024]⟩
abbrev S256x256 : Shape := ⟨2, ![256, 256]⟩
abbrev S128x256 : Shape := ⟨2, ![128, 256]⟩
abbrev S128x128 : Shape := ⟨2, ![128, 128]⟩
abbrev S512x128 : Shape := ⟨2, ![512, 128]⟩
abbrev S256x128 : Shape := ⟨2, ![256, 128]⟩
abbrev S128x512 : Shape := ⟨2, ![128, 512]⟩
abbrev S1 : Shape := ⟨1, ![1]⟩
abbrev S128 : Shape := ⟨1, ![128]⟩
abbrev S128x1 : Shape := ⟨2, ![128, 1]⟩

abbrev nBuf : Space → Nat
  | .hbm => 4
  | .vmem => 8
  | .smem => 1
  | _ => 0

abbrev bufTy : (tb : Table) → Fin (tcTables nBuf tb) → BufTy
  | .hbm, ⟨0, _⟩ => ⟨S16384x1024, .bf16⟩
  | .hbm, ⟨1, _⟩ => ⟨S16384x256, .f32⟩
  | .hbm, ⟨2, _⟩ => ⟨S16, .f32⟩
  | .hbm, ⟨3, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S256x256, .f32⟩
  | .local _ .vmem, ⟨3, _⟩ => ⟨S256x256, .f32⟩
  | .local _ .vmem, ⟨4, _⟩ => ⟨S128x256, .f32⟩
  | .local _ .vmem, ⟨5, _⟩ => ⟨S128x256, .f32⟩
  | .local _ .vmem, ⟨6, _⟩ => ⟨S256x1024, .bf16⟩
  | .local _ .vmem, ⟨7, _⟩ => ⟨S256x1024, .bf16⟩
  | .local _ .smem, ⟨0, _⟩ => ⟨S16, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let c1_i32 : BitVec 32 := 1#32
  let v3 : BitVec 32 := Scalar.minsi arg1 c1_i32
  let v4 : BitVec 32 := Scalar.subi v2 v3
  let c0_i32 : BitVec 32 := 0#32
  let c0_i32_0 : BitVec 32 := 0#32
  ![v4.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x1024 : Shape := ⟨2, ![16384, 1024]⟩
abbrev S16384x256 : Shape := ⟨2, ![16384, 256]⟩
abbrev S16 : Shape := ⟨1, ![16]⟩
abbrev S8x2048x16x64 : Shape := ⟨4, ![8, 2048, 16, 64]⟩
abbrev S16384x128 : Shape := ⟨2, ![16384, 128]⟩
abbrev S8x2048x2x64 : Shape := ⟨4, ![8, 2048, 2, 64]⟩
abbrev S8x16x128x2x8x64 : Shape := ⟨6, ![8, 16, 128, 2, 8, 64]⟩
abbrev S8x16x128x2x64 : Shape := ⟨5, ![8, 16, 128, 2, 64]⟩
abbrev S_ : Shape := ⟨0, ![]⟩
abbrev S8x17x128x2x64 : Shape := ⟨5, ![8, 17, 128, 2, 64]⟩
abbrev S8x16x256x2x64 : Shape := ⟨5, ![8, 16, 256, 2, 64]⟩
abbrev S8x16x2x256x128x8 : Shape := ⟨6, ![8, 16, 2, 256, 128, 8]⟩
abbrev S8x16x2x8x128x256 : Shape := ⟨6, ![8, 16, 2, 8, 128, 256]⟩
abbrev S16x1x1 : Shape := ⟨3, ![16, 1, 1]⟩
abbrev S128 : Shape := ⟨1, ![128]⟩
abbrev S1x128x1 : Shape := ⟨3, ![1, 128, 1]⟩
abbrev S16x128x1 : Shape := ⟨3, ![16, 128, 1]⟩
abbrev S256 : Shape := ⟨1, ![256]⟩
abbrev S1x1x256 : Shape := ⟨3, ![1, 1, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S2x8 : Shape := ⟨2, ![2, 8]⟩
abbrev S2x8x1x1 : Shape := ⟨4, ![2, 8, 1, 1]⟩
abbrev S8x16x2x8x128 : Shape := ⟨5, ![8, 16, 2, 8, 128]⟩
abbrev S8x16x2x8x128x1 : Shape := ⟨6, ![8, 16, 2, 8, 128, 1]⟩
abbrev S1x1x2x8x1x1 : Shape := ⟨6, ![1, 1, 2, 8, 1, 1]⟩
abbrev S8x16x2x64x8x128 : Shape := ⟨6, ![8, 16, 2, 64, 8, 128]⟩

abbrev nBuf : Space → Nat
  | .hbm => 91
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x256, .f32⟩
  | .hbm, ⟨2, _⟩ => ⟨S16, .f32⟩
  | .hbm, ⟨3, _⟩ => ⟨S16384x1024, .f32⟩
  | .hbm, ⟨4, _⟩ => ⟨S8x2048x16x64, .f32⟩
  | .hbm, ⟨5, _⟩ => ⟨S16384x128, .f32⟩
  | .hbm, ⟨6, _⟩ => ⟨S8x2048x2x64, .f32⟩
  | .hbm, ⟨7, _⟩ => ⟨S16384x128, .f32⟩
  | .hbm, ⟨8, _⟩ => ⟨S8x2048x2x64, .f32⟩
  | .hbm, ⟨9, _⟩ => ⟨S8x16x128x2x8x64, .f32⟩
  | .hbm, ⟨10, _⟩ => ⟨S8x16x128x2x64, .f32⟩
  | .hbm, ⟨11, _⟩ => ⟨S_, .i32⟩
  | .hbm, ⟨12, _⟩ => ⟨S_, .f32⟩
  | .hbm, ⟨13, _⟩ => ⟨S8x17x128x2x64, .f32⟩
  | .hbm, ⟨14, _⟩ => ⟨S8x16x128x2x64, .f32⟩
  | .hbm, ⟨15, _⟩ => ⟨S8x16x256x2x64, .f32⟩
  | .hbm, ⟨16, _⟩ => ⟨S8x16x128x2x64, .f32⟩
  | .hbm, ⟨17, _⟩ => ⟨S_, .i32⟩
  | .hbm, ⟨18, _⟩ => ⟨S_, .f32⟩
  | .hbm, ⟨19, _⟩ => ⟨S8x17x128x2x64, .f32⟩
  | .hbm, ⟨20, _⟩ => ⟨S8x16x128x2x64, .f32⟩
  | .hbm, ⟨21, _⟩ => ⟨S8x16x256x2x64, .f32⟩
  | .hbm, ⟨22, _⟩ => ⟨S8x16x2x256x128x8, .f32⟩
  | .hbm, ⟨23, _⟩ => ⟨S8x16x2x8x128x256, .f32⟩
  | .hbm, ⟨24, _⟩ => ⟨S_, .f32⟩
  | .hbm, ⟨25, _⟩ => ⟨S8x16x2x8x128x256, .f32⟩
  | .hbm, ⟨26, _⟩ => ⟨S8x16x2x8x128x256, .f32⟩
  | .hbm, ⟨27, _⟩ => ⟨S16, .i32⟩
  | .hbm, ⟨28, _⟩ => ⟨S16x1x1, .i32⟩
  | .hbm, ⟨29, _⟩ => ⟨S_, .i32⟩
  | .hbm, ⟨30, _⟩ => ⟨S16x1x1, .i32⟩
  | .hbm, ⟨31, _⟩ => ⟨S16x1x1, .i32⟩
  | .hbm, ⟨32, _⟩ => ⟨S128, .i32⟩
  | .hbm, ⟨33, _⟩ => ⟨S1x128x1, .i32⟩
  | .hbm, ⟨34, _⟩ => ⟨S16x128x1, .i32⟩
  | .hbm, ⟨35, _⟩ => ⟨S16x128x1, .i32⟩
  | .hbm, ⟨36, _⟩ => ⟨S16x128x1, .i32⟩
  | .hbm, ⟨37, _⟩ => ⟨S_, .i32⟩
  | .hbm, ⟨38, _⟩ => ⟨S16x1x1, .i32⟩
  | .hbm, ⟨39, _⟩ => ⟨S16x1x1, .i32⟩
  | .hbm, ⟨40, _⟩ => ⟨S256, .i32⟩
  | .hbm, ⟨41, _⟩ => ⟨S1x1x256, .i32⟩
  | .hbm, ⟨42, _⟩ => ⟨S16x1x256, .i32⟩
  | .hbm, ⟨43, _⟩ => ⟨S16x1x256, .i32⟩
  | .hbm, ⟨44, _⟩ => ⟨S16x1x256, .i32⟩
  | .hbm, ⟨45, _⟩ => ⟨S16x128x256, .i32⟩
  | .hbm, ⟨46, _⟩ => ⟨S16x128x256, .i32⟩
  | .hbm, ⟨47, _⟩ => ⟨S16x128x256, .i32⟩
  | .hbm, ⟨48, _⟩ => ⟨S_, .i32⟩
  | .hbm, ⟨49, _⟩ => ⟨S16x1x256, .i32⟩
  | .hbm, ⟨50, _⟩ => ⟨S16x1x256, .i1⟩
  | .hbm, ⟨51, _⟩ => ⟨S_, .i32⟩
  | .hbm, ⟨52, _⟩ => ⟨S16x128x256, .i32⟩
  | .hbm, ⟨53, _⟩ => ⟨S16x128x256, .i1⟩
  | .hbm, ⟨54, _⟩ => ⟨S16x128x256, .i1⟩
  | .hbm, ⟨55, _⟩ => ⟨S16x128x256, .i1⟩
  | .hbm, ⟨56, _⟩ => ⟨S_, .i32⟩
  | .hbm, ⟨57, _⟩ => ⟨S16x128x256, .i32⟩
  | .hbm, ⟨58, _⟩ => ⟨S16x128x256, .i1⟩
  | .hbm, ⟨59, _⟩ => ⟨S16x128x256, .i1⟩
  | .hbm, ⟨60, _⟩ => ⟨S1x16x1x1x128x256, .i1⟩
  | .hbm, ⟨61, _⟩ => ⟨S_, .f32⟩
  | .hbm, ⟨62, _⟩ => ⟨S_, .f32⟩
  | .hbm, ⟨63, _⟩ => ⟨S8x16x2x8x128x256, .i1⟩
  | .hbm, ⟨64, _⟩ => ⟨S8x16x2x8x128x256, .f32⟩
  | .hbm, ⟨65, _⟩ => ⟨S8x16x2x8x128x256, .f32⟩
  | .hbm, ⟨66, _⟩ => ⟨S2x8, .f32⟩
  | .hbm, ⟨67, _⟩ => ⟨S2x8x1x1, .f32⟩
  | .hbm, ⟨68, _⟩ => ⟨S_, .f32⟩
  | .hbm, ⟨69, _⟩ => ⟨S8x16x2x8x128, .f32⟩
  | .hbm, ⟨70, _⟩ => ⟨S8x16x2x8x128x1, .f32⟩
  | .hbm, ⟨71, _⟩ => ⟨S1x1x2x8x1x1, .f32⟩
  | .hbm, ⟨72, _⟩ => ⟨S8x16x2x8x128x1, .f32⟩
  | .hbm, ⟨73, _⟩ => ⟨S8x16x2x8x128x1, .f32⟩
  | .hbm, ⟨74, _⟩ => ⟨S8x16x2x8x128x256, .f32⟩
  | .hbm, ⟨75, _⟩ => ⟨S8x16x2x8x128x256, .f32⟩
  | .hbm, ⟨76, _⟩ => ⟨S8x16x2x8x128x256, .f32⟩
  | .hbm, ⟨77, _⟩ => ⟨S_, .f32⟩
  | .hbm, ⟨78, _⟩ => ⟨S8x16x2x8x128, .f32⟩
  | .hbm, ⟨79, _⟩ => ⟨S8x16x2x8x128x1, .f32⟩
  | .hbm, ⟨80, _⟩ => ⟨S1x1x2x8x1x1, .f32⟩
  | .hbm, ⟨81, _⟩ => ⟨S8x16x2x8x128x1, .f32⟩
  | .hbm, ⟨82, _⟩ => ⟨S8x16x2x8x128x1, .f32⟩
  | .hbm, ⟨83, _⟩ => ⟨S8x16x2x8x128x1, .f32⟩
  | .hbm, ⟨84, _⟩ => ⟨S8x16x2x8x128x1, .f32⟩
  | .hbm, ⟨85, _⟩ => ⟨S8x16x2x8x128x256, .f32⟩
  | .hbm, ⟨86, _⟩ => ⟨S8x16x2x8x128x256, .f32⟩
  | .hbm, ⟨87, _⟩ => ⟨S8x16x2x64x8x128, .f32⟩
  | .hbm, ⟨88, _⟩ => ⟨S8x16x128x2x8x64, .f32⟩
  | .hbm, ⟨89, _⟩ => ⟨S16384x1024, .f32⟩
  | .hbm, ⟨90, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_call1_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_3 : Ref sig .tc := ⟨.hbm, 48, rfl⟩
abbrev main_v38 : Ref sig .tc := ⟨.hbm, 49, rfl⟩
abbrev main_v39 : Ref sig .tc := ⟨.hbm, 50, rfl⟩
abbrev main_c_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_8 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩

abbrev nD : Nat := 1
abbrev τ : Topo := Topo.v7x

variable {F : FTy → Type} [FloatOps F]
-- ==== Ffn.lean ====
abbrev S8x2048x1024 : Shape := ⟨3, ![8, 2048, 1024]⟩
abbrev S8x9216 : Shape := ⟨2, ![8, 9216]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S8x1x9216 : Shape := ⟨3, ![8, 1, 9216]⟩
abbrev S1x1024 : Shape := ⟨2, ![1, 1024]⟩
abbrev S1024x1024 : Shape := ⟨2, ![1024, 1024]⟩
abbrev S1x1x1024 : Shape := ⟨3, ![1, 1, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 10
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x9216, .f32⟩
  | .hbm, ⟨2, _⟩ => ⟨S1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S16384x1024, .f32⟩
  | .hbm, ⟨7, _⟩ => ⟨S8x1x9216, .f32⟩
  | .hbm, ⟨8, _⟩ => ⟨S1x1024, .f32⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1024x1024, .f32⟩
  | .local _ .vmem, ⟨13, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32_5 : BitVec 32 := 2#32
  let c0_i32_6 : BitVec 32 := 0#32
  ![v16.toNat, c0_i32_4.toNat, c2_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnReferenceIdeal.lean ====
abbrev S8x2048x1024 : Shape := ⟨3, ![8, 2048, 1024]⟩
abbrev S8x9216 : Shape := ⟨2, ![8, 9216]⟩
abbrev S1024 : Shape := ⟨1, ![1024]⟩
abbrev S1024x2816 : Shape := ⟨2, ![1024, 2816]⟩
abbrev S2816x1024 : Shape := ⟨2, ![2816, 1024]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S16384x1024 : Shape := ⟨2, ![16384, 1024]⟩

abbrev nBuf : Space → Nat
  | .hbm => 70
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x9216, .f32⟩
  | .hbm, ⟨2, _⟩ => ⟨S1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S8x1x1024, .f32⟩
  | .hbm, ⟨24, _⟩ => ⟨S8x1x1024, .f32⟩
  | .hbm, ⟨25, _⟩ => ⟨S8x1x1024, .f32⟩
  | .hbm, ⟨26, _⟩ => ⟨S8x1x1024, .f32⟩
  | .hbm, ⟨27, _⟩ => ⟨S8x2048x1024, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S1x1x1024, .f32⟩
  | .hbm, ⟨41, _⟩ => ⟨S8x2048x1024, .f32⟩
  | .hbm, ⟨42, _⟩ => ⟨S8x2048x1024, .f32⟩
  | .hbm, ⟨43, _⟩ => ⟨S_, .f32⟩
  | .hbm, ⟨44, _⟩ => ⟨S8x1x1024, .f32⟩
  | .hbm, ⟨45, _⟩ => ⟨S8x1x1024, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S_, .f32⟩
  | .hbm, ⟨51, _⟩ => ⟨S8x1x1024, .f32⟩
  | .hbm, ⟨52, _⟩ => ⟨S8x1x1024, .f32⟩
  | .hbm, ⟨53, _⟩ => ⟨S8x2048x2816, .f32⟩
  | .hbm, ⟨54, _⟩ => ⟨S8x2048x2816, .f32⟩
  | .hbm, ⟨55, _⟩ => ⟨S8x2048x2816, .f32⟩
  | .hbm, ⟨56, _⟩ => ⟨S8x2048x2816, .f32⟩
  | .hbm, ⟨57, _⟩ => ⟨S_, .f32⟩
  | .hbm, ⟨58, _⟩ => ⟨S8x2048x2816, .f32⟩
  | .hbm, ⟨59, _⟩ => ⟨S8x2048x2816, .f32⟩
  | .hbm, ⟨60, _⟩ => ⟨S_, .f32⟩
  | .hbm, ⟨61, _⟩ => ⟨S8x2048x2816, .f32⟩
  | .hbm, ⟨62, _⟩ => ⟨S8x2048x2816, .f32⟩
  | .hbm, ⟨63, _⟩ => ⟨S8x2048x2816, .f32⟩
  | .hbm, ⟨64, _⟩ => ⟨S8x2048x2816, .f32⟩
  | .hbm, ⟨65, _⟩ => ⟨S8x2048x1024, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Mix.lean ====
abbrev S16384x1024 : Shape := ⟨2, ![16384, 1024]⟩
abbrev S16384x2048 : Shape := ⟨2, ![16384, 2048]⟩
abbrev S8x9216 : Shape := ⟨2, ![8, 9216]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S1x1024 : Shape := ⟨2, ![1, 1024]⟩
abbrev S8x1x9216 : Shape := ⟨3, ![8, 1, 9216]⟩
abbrev S512x1024 : Shape := ⟨2, ![512, 1024]⟩
abbrev S512x2048 : Shape := ⟨2, ![512, 2048]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 17
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x2048, .bf16⟩
  | .hbm, ⟨4, _⟩ => ⟨S8x9216, .f32⟩
  | .hbm, ⟨5, _⟩ => ⟨S1024, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1024, .f32⟩
  | .hbm, ⟨13, _⟩ => ⟨S1x1024, .f32⟩
  | .hbm, ⟨14, _⟩ => ⟨S8x1x9216, .f32⟩
  | .hbm, ⟨15, _⟩ => ⟨S1x1024, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x2816, .bf16⟩
  | .local _ .vmem, ⟨21, _⟩ => ⟨S1024x2816, .bf16⟩
  | .local _ .vmem, ⟨22, _⟩ => ⟨S2816x1024, .bf16⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c6_i32 : BitVec 32 := 6#32
  let c0_i32_5 : BitVec 32 := 0#32
  ![v16.toNat, c0_i32_4.toNat, c6_i32.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c7_i32 : BitVec 32 := 7#32
  let c0_i32_5 : BitVec 32 := 0#32
  ![v16.toNat, c0_i32_4.toNat, c7_i32.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c8_i32 : BitVec 32 := 8#32
  let c0_i32_5 : BitVec 32 := 0#32
  ![v16.toNat, c0_i32_4.toNat, c8_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixReferenceIdeal.lean ====
abbrev S16384x1024 : Shape := ⟨2, ![16384, 1024]⟩
abbrev S16384x2048 : Shape := ⟨2, ![16384, 2048]⟩
abbrev S8x9216 : Shape := ⟨2, ![8, 9216]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S8x2048x1024 : Shape := ⟨3, ![8, 2048, 1024]⟩
abbrev S8x2048x2048 : Shape := ⟨3, ![8, 2048, 2048]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩

abbrev nBuf : Space → Nat
  | .hbm => 130
  | .vmem => 0
  | .smem => 0
  | _ => 0

abbrev hbmTy0_0 (i : Nat) : BufTy := match i % 128 with
  | 0 => ⟨S16384x1024, .f32⟩
  | 1 => ⟨S16384x1024, .bf16⟩
  | 2 => ⟨S16384x1024, .bf16⟩
  | 3 => ⟨S16384x2048, .bf16⟩
  | 4 => ⟨S8x9216, .f32⟩
  | 5 => ⟨S1024, .f32⟩
  | 6 => ⟨S1024x1024, .bf16⟩
  | 7 => ⟨S1024x1024, .bf16⟩
  | 8 => ⟨S1024x1024, .bf16⟩
  | 9 => ⟨S1024x2816, .bf16⟩
  | 10 => ⟨S1024x2816, .bf16⟩
  | 11 => ⟨S2816x1024, .bf16⟩
  | 12 => ⟨S1024, .f32⟩
  | 13 => ⟨S16384x1024, .f32⟩
  | 14 => ⟨S16384x1024, .f32⟩
  | 15 => ⟨S16384x2048, .f32⟩
  | 16 => ⟨S1024x1024, .f32⟩
  | 17 => ⟨S1024x1024, .f32⟩
  | 18 => ⟨S1024x1024, .f32⟩
  | 19 => ⟨S1024x2816, .f32⟩
  | 20 => ⟨S1024x2816, .f32⟩
  | 21 => ⟨S2816x1024, .f32⟩
  | 22 => ⟨S8x2048x1024, .f32⟩
  | 23 => ⟨S8x2048x1024, .f32⟩
  | 24 => ⟨S8x2048x1024, .f32⟩
  | 25 => ⟨S8x2048x2048, .f32⟩
  | 26 => ⟨S8x2048x1024, .f32⟩
  | 27 => ⟨S8x2048x1024, .f32⟩
  | 28 => ⟨S8x1024, .f32⟩
  | 29 => ⟨S8x1024, .f32⟩
  | 30 => ⟨S8x1024, .f32⟩
  | 31 => ⟨S8x1024, .f32⟩
  | 32 => ⟨S8x1024, .f32⟩
  | 33 => ⟨S8x1024, .f32⟩
  | 34 => ⟨S8x1024, .f32⟩
  | 35 => ⟨S8x1024, .f32⟩
  | 36 => ⟨S8x1024, .f32⟩
  | 37 => ⟨S8x1x1024, .f32⟩
  | 38 => ⟨S8x1x1024, .f32⟩
  | 39 => ⟨S8x1x1024, .f32⟩
  | 40 => ⟨S8x1x1024, .f32⟩
  | 41 => ⟨S8x1x1024, .f32⟩
  | 42 => ⟨S8x1x1024, .f32⟩
  | 43 => ⟨S8x1x1024, .f32⟩
  | 44 => ⟨S8x1x1024, .f32⟩
  | 45 => ⟨S8x1x1024, .f32⟩
  | 46 => ⟨S8x2048x1024, .f32⟩
  | 47 => ⟨S8x2048x1024, .f32⟩
  | 48 => ⟨S_, .f32⟩
  | 49 => ⟨S8x2048x1024, .f32⟩
  | 50 => ⟨S8x2048x1024, .f32⟩
  | 51 => ⟨S_, .f32⟩
  | 52 => ⟨S8x2048x1024, .f32⟩
  | 53 => ⟨S8x2048x1024, .f32⟩
  | 54 => ⟨S8x2048x1024, .f32⟩
  | 55 => ⟨S8x2048x1024, .f32⟩
  | 56 => ⟨S8x2048x1024, .f32⟩
  | 57 => ⟨S8x2048x1024, .f32⟩
  | 58 => ⟨S_, .f32⟩
  | 59 => ⟨S8x2048x1024, .f32⟩
  | 60 => ⟨S8x2048x1024, .f32⟩
  | 61 => ⟨S_, .f32⟩
  | 62 => ⟨S8x2048x1024, .f32⟩
  | 63 => ⟨S8x2048x1024, .f32⟩
  | 64 => ⟨S8x2048x1024, .f32⟩
  | 65 => ⟨S8x2048x1024, .f32⟩
  | 66 => ⟨S8x2048x1024, .f32⟩
  | 67 => ⟨S8x2048x1024, .f32⟩
  | 68 => ⟨S8x2048x1024, .f32⟩
  | 69 => ⟨S8x2048x1024, .f32⟩
  | 70 => ⟨S8x2048x1024, .f32⟩
  | 71 => ⟨S8x2048x1024, .f32⟩
  | 72 => ⟨S_, .f32⟩
  | 73 => ⟨S8x2048, .f32⟩
  | 74 => ⟨S8x2048x1, .f32⟩
  | 75 => ⟨S_, .f32⟩
  | 76 => ⟨S8x2048x1, .f32⟩
  | 77 => ⟨S8x2048x1, .f32⟩
  | 78 => ⟨S_, .f32⟩
  | 79 => ⟨S8x2048x1, .f32⟩
  | 80 => ⟨S8x2048x1, .f32⟩
  | 81 => ⟨S8x2048x1, .f32⟩
  | 82 => ⟨S8x2048x1024, .f32⟩
  | 83 => ⟨S8x2048x1024, .f32⟩
  | 84 => ⟨S1x1x1024, .f32⟩
  | 85 => ⟨S8x2048x1024, .f32⟩
  | 86 => ⟨S8x2048x1024, .f32⟩
  | 87 => ⟨S_, .f32⟩
  | 88 => ⟨S8x1x1024, .f32⟩
  | 89 => ⟨S8x1x1024, .f32⟩
  | 90 => ⟨S8x2048x1024, .f32⟩
  | 91 => ⟨S8x2048x1024, .f32⟩
  | 92 => ⟨S8x2048x1024, .f32⟩
  | 93 => ⟨S8x2048x1024, .f32⟩
  | 94 => ⟨S_, .f32⟩
  | 95 => ⟨S8x1x1024, .f32⟩
  | 96 => ⟨S8x1x1024, .f32⟩
  | 97 => ⟨S8x2048x2816, .f32⟩
  | 98 => ⟨S8x2048x2816, .f32⟩
  | 99 => ⟨S8x2048x2816, .f32⟩
  | 100 => ⟨S8x2048x2816, .f32⟩
  | 101 => ⟨S_, .f32⟩
  | 102 => ⟨S8x2048x2816, .f32⟩
  | 103 => ⟨S8x2048x2816, .f32⟩
  | 104 => ⟨S_, .f32⟩
  | 105 => ⟨S8x2048x2816, .f32⟩
  | 106 => ⟨S8x2048x2816, .f32⟩
  | 107 => ⟨S8x2048x2816, .f32⟩
  | 108 => ⟨S8x2048x2816, .f32⟩
  | 109 => ⟨S8x2048x1024, .f32⟩
  | 110 => ⟨S8x2048x1024, .f32⟩
  | 111 => ⟨S8x2048x1024, .f32⟩
  | 112 => ⟨S8x2048x1024, .f32⟩
  | 113 => ⟨S8x2048x1024, .f32⟩
  | 114 => ⟨S_, .f32⟩
  | 115 => ⟨S8x2048, .f32⟩
  | 116 => ⟨S8x2048x1, .f32⟩
  | 117 => ⟨S_, .f32⟩
  | 118 => ⟨S8x2048x1, .f32⟩
  | 119 => ⟨S8x2048x1, .f32⟩
  | 120 => ⟨S_, .f32⟩
  | 121 => ⟨S8x2048x1, .f32⟩
  | 122 => ⟨S8x2048x1, .f32⟩
  | 123 => ⟨S8x2048x1, .f32⟩
  | 124 => ⟨S8x2048x1024, .f32⟩
  | 125 => ⟨S8x2048x1024, .f32⟩
  | 126 => ⟨S1x1x1024, .f32⟩
  | 127 => ⟨S8x2048x1024, .f32⟩
  | _ => ⟨S16384x1024, .f32⟩

abbrev hbmTy0_1 (i : Nat) : BufTy := match i % 128 with
  | 0 => ⟨S8x2048x1024, .f32⟩
  | 1 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst : Ref sig .tc := ⟨.hbm, 48, rfl⟩
abbrev main_v35 : Ref sig .tc := ⟨.hbm, 49, rfl⟩
abbrev main_v36 : Ref sig .tc := ⟨.hbm, 50, rfl⟩
abbrev main_cst_0 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_1 : Ref sig .tc := ⟨.hbm, 58, rfl⟩
abbrev main_v43 : Ref sig .tc := ⟨.hbm, 59, rfl⟩
abbrev main_v44 : Ref sig .tc := ⟨.hbm, 60, rfl⟩
abbrev main_cst_2 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_3 : Ref sig .tc := ⟨.hbm, 72, rfl⟩
abbrev main_v55 : Ref sig .tc := ⟨.hbm, 73, rfl⟩
abbrev main_v56 : Ref sig .tc := ⟨.hbm, 74, rfl⟩
abbrev main_cst_4 : Ref sig .tc := ⟨.hbm, 75, rfl⟩
abbrev main_v57 : Ref sig .tc := ⟨.hbm, 76, rfl⟩
abbrev main_v58 : Ref sig .tc := ⟨.hbm, 77, rfl⟩
abbrev main_cst_5 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_6 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_7 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_call0_v0 : Ref sig .tc := ⟨.hbm, 99, rfl⟩
abbrev main_call0_v1 : Ref sig .tc := ⟨.hbm, 100, rfl⟩
abbrev main_call0_cst : Ref sig .tc := ⟨.hbm, 101, rfl⟩
abbrev main_call0_v2 : Ref sig .tc := ⟨.hbm, 102, rfl⟩
abbrev main_call0_v3 : Ref sig .tc := ⟨.hbm, 103, rfl⟩
abbrev main_call0_cst_0 : Ref sig .tc := ⟨.hbm, 104, rfl⟩
abbrev main_call0_v4 : Ref sig .tc := ⟨.hbm, 105, rfl⟩
abbrev main_call0_v5 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_8 : Ref sig .tc := ⟨.hbm, 114, rfl⟩
abbrev main_v84 : Ref sig .tc := ⟨.hbm, 115, rfl⟩
abbrev main_v85 : Ref sig .tc := ⟨.hbm, 116, rfl⟩
abbrev main_cst_9 : Ref sig .tc := ⟨.hbm, 117, rfl⟩
abbrev main_v86 : Ref sig .tc := ⟨.hbm, 118, rfl⟩
abbrev main_v87 : Ref sig .tc := ⟨.hbm, 119, rfl⟩
abbrev main_cst_10 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩

abbrev nD : Nat := 1
abbrev τ : Topo := Topo.v7x

variable {F : FTy → Type} [FloatOps F]
-- ==== Inproj.lean ====
abbrev S16384x1024 : Shape := ⟨2, ![16384, 1024]⟩
abbrev S8x9216 : Shape := ⟨2, ![8, 9216]⟩
abbrev S1024 : Shape := ⟨1, ![1024]⟩
abbrev S7440x1024 : Shape := ⟨2, ![7440, 1024]⟩
abbrev S128x1024 : Shape := ⟨2, ![128, 1024]⟩
abbrev S8x1x9216 : Shape := ⟨3, ![8, 1, 9216]⟩
abbrev S1x1024 : Shape := ⟨2, ![1, 1024]⟩
abbrev S16384x3072 : Shape := ⟨2, ![16384, 3072]⟩
abbrev S16384x256 : Shape := ⟨2, ![16384, 256]⟩
abbrev S16384x2048 : Shape := ⟨2, ![16384, 2048]⟩
abbrev S16384x128 : Shape := ⟨2, ![16384, 128]⟩
abbrev S512x1024 : Shape := ⟨2, ![512, 1024]⟩
abbrev S1x1x1024 : Shape := ⟨3, ![1, 1, 1024]⟩
abbrev S512x3072 : Shape := ⟨2, ![512, 3072]⟩
abbrev S512x256 : Shape := ⟨2, ![512, 256]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S256x1024 : Shape := ⟨2, ![256, 1024]⟩

abbrev nBuf : Space → Nat
  | .hbm => 13
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S8x9216, .f32⟩
  | .hbm, ⟨2, _⟩ => ⟨S1024, .f32⟩
  | .hbm, ⟨3, _⟩ => ⟨S7440x1024, .bf16⟩
  | .hbm, ⟨4, _⟩ => ⟨S128x1024, .f32⟩
  | .hbm, ⟨5, _⟩ => ⟨S8x1x9216, .f32⟩
  | .hbm, ⟨6, _⟩ => ⟨S1x1024, .f32⟩
  | .hbm, ⟨7, _⟩ => ⟨S16384x3072, .f32⟩
  | .hbm, ⟨8, _⟩ => ⟨S16384x1024, .bf16⟩
  | .hbm, ⟨9, _⟩ => ⟨S16384x1024, .bf16⟩
  | .hbm, ⟨10, _⟩ => ⟨S16384x256, .f32⟩
  | .hbm, ⟨11, _⟩ => ⟨S16384x2048, .bf16⟩
  | .hbm, ⟨12, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S7440x1024, .bf16⟩
  | .local _ .vmem, ⟨8, _⟩ => ⟨S128x1024, .f32⟩
  | .local _ .vmem, ⟨9, _⟩ => ⟨S512x3072, .f32⟩
  | .local _ .vmem, ⟨10, _⟩ => ⟨S512x3072, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x256, .f32⟩
  | .local _ .vmem, ⟨16, _⟩ => ⟨S512x256, .f32⟩
  | .local _ .vmem, ⟨17, _⟩ => ⟨S512x2048, .bf16⟩
  | .local _ .vmem, ⟨18, _⟩ => ⟨S512x2048, .bf16⟩
  | .local _ .vmem, ⟨19, _⟩ => ⟨S512x128, .f32⟩
  | .local _ .vmem, ⟨20, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v2_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32_5 : BitVec 32 := 4#32
  let c0_i32_6 : BitVec 32 := 0#32
  ![v16.toNat, c0_i32_4.toNat, c4_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7440x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InprojReferenceIdeal.lean ====
abbrev S16384x1024 : Shape := ⟨2, ![16384, 1024]⟩
abbrev S8x9216 : Shape := ⟨2, ![8, 9216]⟩
abbrev S1024 : Shape := ⟨1, ![1024]⟩
abbrev S7440x1024 : Shape := ⟨2, ![7440, 1024]⟩
abbrev S128x1024 : Shape := ⟨2, ![128, 1024]⟩
abbrev S8x2048x1024 : Shape := ⟨3, ![8, 2048, 1024]⟩
abbrev S1024x7440 : Shape := ⟨2, ![1024, 7440]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x7440 : Shape := ⟨3, ![8, 2048, 7440]⟩
abbrev S16384x7440 : Shape := ⟨2, ![16384, 7440]⟩
abbrev S16384x3072 : Shape := ⟨2, ![16384, 3072]⟩
abbrev S16384x8 : Shape := ⟨2, ![16384, 8]⟩
abbrev S16384x128 : Shape := ⟨2, ![16384, 128]⟩
abbrev S1024x128 : Shape := ⟨2, ![1024, 128]⟩
abbrev S8x2048x128 : Shape := ⟨3, ![8, 2048, 128]⟩
abbrev S16384x256 : Shape := ⟨2, ![16384, 256]⟩
abbrev S16384x2048 : Shape := ⟨2, ![16384, 2048]⟩

abbrev nBuf : Space → Nat
  | .hbm => 77
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x9216, .f32⟩
  | .hbm, ⟨2, _⟩ => ⟨S1024, .f32⟩
  | .hbm, ⟨3, _⟩ => ⟨S7440x1024, .bf16⟩
  | .hbm, ⟨4, _⟩ => ⟨S128x1024, .f32⟩
  | .hbm, ⟨5, _⟩ => ⟨S8x2048x1024, .f32⟩
  | .hbm, ⟨6, _⟩ => ⟨S7440x1024, .f32⟩
  | .hbm, ⟨7, _⟩ => ⟨S1024x7440, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S8x1x1024, .f32⟩
  | .hbm, ⟨24, _⟩ => ⟨S8x1x1024, .f32⟩
  | .hbm, ⟨25, _⟩ => ⟨S8x1x1024, .f32⟩
  | .hbm, ⟨26, _⟩ => ⟨S8x2048x1024, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x1, .f32⟩
  | .hbm, ⟨37, _⟩ => ⟨S8x2048x1024, .f32⟩
  | .hbm, ⟨38, _⟩ => ⟨S8x2048x1024, .f32⟩
  | .hbm, ⟨39, _⟩ => ⟨S1x1x1024, .f32⟩
  | .hbm, ⟨40, _⟩ => ⟨S8x2048x1024, .f32⟩
  | .hbm, ⟨41, _⟩ => ⟨S8x2048x1024, .f32⟩
  | .hbm, ⟨42, _⟩ => ⟨S_, .f32⟩
  | .hbm, ⟨43, _⟩ => ⟨S8x1x1024, .f32⟩
  | .hbm, ⟨44, _⟩ => ⟨S8x1x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S8x2048x7440, .f32⟩
  | .hbm, ⟨50, _⟩ => ⟨S16384x7440, .f32⟩
  | .hbm, ⟨51, _⟩ => ⟨S16384x3072, .f32⟩
  | .hbm, ⟨52, _⟩ => ⟨S16384x1024, .f32⟩
  | .hbm, ⟨53, _⟩ => ⟨S16384x8, .f32⟩
  | .hbm, ⟨54, _⟩ => ⟨S16384x8, .f32⟩
  | .hbm, ⟨55, _⟩ => ⟨S16384x1024, .f32⟩
  | .hbm, ⟨56, _⟩ => ⟨S16384x128, .f32⟩
  | .hbm, ⟨57, _⟩ => ⟨S16384x128, .f32⟩
  | .hbm, ⟨58, _⟩ => ⟨S16384x1024, .f32⟩
  | .hbm, ⟨59, _⟩ => ⟨S16384x1024, .f32⟩
  | .hbm, ⟨60, _⟩ => ⟨S1024x128, .f32⟩
  | .hbm, ⟨61, _⟩ => ⟨S8x2048x128, .f32⟩
  | .hbm, ⟨62, _⟩ => ⟨S16384x128, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .bf16⟩
  | .hbm, ⟨73, _⟩ => ⟨S16384x1024, .bf16⟩
  | .hbm, ⟨74, _⟩ => ⟨S16384x256, .f32⟩
  | .hbm, ⟨75, _⟩ => ⟨S16384x2048, .f32⟩
  | .hbm, ⟨76, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩

abbrev nD : Nat := 1
abbrev τ : Topo := Topo.v7x

variable {F : FTy → Type} [FloatOps F]
-- ==== Step.lean ====
abbrev S128x8x128x128 : Shape := ⟨4, ![128, 8, 128, 128]⟩
abbrev S8x128x128 : Shape := ⟨3, ![8, 128, 128]⟩
abbrev S128x1024 : Shape := ⟨2, ![128, 1024]⟩
abbrev S128 : Shape := ⟨1, ![128]⟩
abbrev S1x128 : Shape := ⟨2, ![1, 128]⟩
abbrev S128x1x128x128 : Shape := ⟨4, ![128, 1, 128, 128]⟩
abbrev S1x128x128 : Shape := ⟨3, ![1, 128, 128]⟩
abbrev S128x128 : Shape := ⟨2, ![128, 128]⟩
abbrev S128x1 : Shape := ⟨2, ![128, 1]⟩
abbrev S1x1x128x128 : Shape := ⟨4, ![1, 1, 128, 128]⟩

abbrev nBuf : Space → Nat
  | .hbm => 11
  | .vmem => 20
  | .smem => 0
  | _ => 0

abbrev bufTy : (tb : Table) → Fin (tcTables nBuf tb) → BufTy
  | .hbm, ⟨0, _⟩ => ⟨S128x8x128x128, .f32⟩
  | .hbm, ⟨1, _⟩ => ⟨S8x128x128, .f32⟩
  | .hbm, ⟨2, _⟩ => ⟨S8x128x128, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .bf16⟩
  | .hbm, ⟨7, _⟩ => ⟨S128, .f32⟩
  | .hbm, ⟨8, _⟩ => ⟨S1x128, .f32⟩
  | .hbm, ⟨9, _⟩ => ⟨S128x8x128x128, .f32⟩
  | .hbm, ⟨10, _⟩ => ⟨S128x1024, .bf16⟩
  | .local _ .vmem, ⟨0, _⟩ => ⟨S128x1x128x128, .f32⟩
  | .local _ .vmem, ⟨1, _⟩ => ⟨S128x1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .bf16⟩
  | .local _ .vmem, ⟨13, _⟩ => ⟨S128x128, .bf16⟩
  | .local _ .vmem, ⟨14, _⟩ => ⟨S1x128, .f32⟩
  | .local _ .vmem, ⟨15, _⟩ => ⟨S128x1x128x128, .f32⟩
  | .local _ .vmem, ⟨16, _⟩ => ⟨S128x1x128x128, .f32⟩
  | .local _ .vmem, ⟨17, _⟩ => ⟨S128x128, .bf16⟩
  | .local _ .vmem, ⟨18, _⟩ => ⟨S128x128, .bf16⟩
  | .local _ .vmem, ⟨19, _⟩ => ⟨S128x128, .f32⟩
  | _, _ => ⟨S128x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== StepReferenceIdeal.lean ====
abbrev S128x8x128x128 : Shape := ⟨4, ![128, 8, 128, 128]⟩
abbrev S8x128x128 : Shape := ⟨3, ![8, 128, 128]⟩
abbrev S128x1024 : Shape := ⟨2, ![128, 1024]⟩
abbrev S128 : Shape := ⟨1, ![128]⟩
abbrev S128x8x128 : Shape := ⟨3, ![128, 8, 128]⟩
abbrev S128x8x1x128 : Shape := ⟨4, ![128, 8, 1, 128]⟩
abbrev S128x8x128x1 : Shape := ⟨4, ![128, 8, 128, 1]⟩
abbrev S_ : Shape := ⟨0, ![]⟩
abbrev S128x8 : Shape := ⟨2, ![128, 8]⟩
abbrev S128x8x1 : Shape := ⟨3, ![128, 8, 1]⟩
abbrev S1x1x128 : Shape := ⟨3, ![1, 1, 128]⟩

abbrev nBuf : Space → Nat
  | .hbm => 47
  | .vmem => 0
  | .smem => 0
  | _ => 0

abbrev bufTy : (tb : Table) → Fin (tcTables nBuf tb) → BufTy
  | .hbm, ⟨0, _⟩ => ⟨S128x8x128x128, .f32⟩
  | .hbm, ⟨1, _⟩ => ⟨S8x128x128, .f32⟩
  | .hbm, ⟨2, _⟩ => ⟨S8x128x128, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .bf16⟩
  | .hbm, ⟨7, _⟩ => ⟨S128, .f32⟩
  | .hbm, ⟨8, _⟩ => ⟨S128x8x128, .f32⟩
  | .hbm, ⟨9, _⟩ => ⟨S128x8x128, .f32⟩
  | .hbm, ⟨10, _⟩ => ⟨S128x8x128, .f32⟩
  | .hbm, ⟨11, _⟩ => ⟨S128x8x128, .f32⟩
  | .hbm, ⟨12, _⟩ => ⟨S128x8x128, .f32⟩
  | .hbm, ⟨13, _⟩ => ⟨S128x1024, .f32⟩
  | .hbm, ⟨14, _⟩ => ⟨S128x8x128, .f32⟩
  | .hbm, ⟨15, _⟩ => ⟨S128x8x1x128, .f32⟩
  | .hbm, ⟨16, _⟩ => ⟨S128x8x128x128, .f32⟩
  | .hbm, ⟨17, _⟩ => ⟨S128x8x128x128, .f32⟩
  | .hbm, ⟨18, _⟩ => ⟨S128x8x128, .f32⟩
  | .hbm, ⟨19, _⟩ => ⟨S128x8x128x1, .f32⟩
  | .hbm, ⟨20, _⟩ => ⟨S128x8x128, .f32⟩
  | .hbm, ⟨21, _⟩ => ⟨S128x8x128, .f32⟩
  | .hbm, ⟨22, _⟩ => ⟨S128x8x1x128, .f32⟩
  | .hbm, ⟨23, _⟩ => ⟨S128x8x128x128, .f32⟩
  | .hbm, ⟨24, _⟩ => ⟨S128x8x128x128, .f32⟩
  | .hbm, ⟨25, _⟩ => ⟨S128x8x128x128, .f32⟩
  | .hbm, ⟨26, _⟩ => ⟨S128x8x128x128, .f32⟩
  | .hbm, ⟨27, _⟩ => ⟨S128x8x128, .f32⟩
  | .hbm, ⟨28, _⟩ => ⟨S128x8x128, .f32⟩
  | .hbm, ⟨29, _⟩ => ⟨S_, .f32⟩
  | .hbm, ⟨30, _⟩ => ⟨S128x8, .f32⟩
  | .hbm, ⟨31, _⟩ => ⟨S128x8x1, .f32⟩
  | .hbm, ⟨32, _⟩ => ⟨S_, .f32⟩
  | .hbm, ⟨33, _⟩ => ⟨S128x8x1, .f32⟩
  | .hbm, ⟨34, _⟩ => ⟨S128x8x1, .f32⟩
  | .hbm, ⟨35, _⟩ => ⟨S_, .f32⟩
  | .hbm, ⟨36, _⟩ => ⟨S128x8x1, .f32⟩
  | .hbm, ⟨37, _⟩ => ⟨S128x8x1, .f32⟩
  | .hbm, ⟨38, _⟩ => ⟨S128x8x1, .f32⟩
  | .hbm, ⟨39, _⟩ => ⟨S128x8x128, .f32⟩
  | .hbm, ⟨40, _⟩ => ⟨S128x8x128, .f32⟩
  | .hbm, ⟨41, _⟩ => ⟨S1x1x128, .f32⟩
  | .hbm, ⟨42, _⟩ => ⟨S128x8x128, .f32⟩
  | .hbm, ⟨43, _⟩ => ⟨S128x8x128, .f32⟩
  | .hbm, ⟨44, _⟩ => ⟨S128x8x128, .f32⟩
  | .hbm, ⟨45, _⟩ => ⟨S128x1024, .f32⟩
  | .hbm, ⟨46, _⟩ => ⟨S128x1024, .bf16⟩
  | _, _ => ⟨S128x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Win.lean ====
abbrev S128x1024 : Shape := ⟨2, ![128, 1024]⟩
abbrev S128x256 : Shape := ⟨2, ![128, 256]⟩
abbrev S128x128x2x64 : Shape := ⟨4, ![128, 128, 2, 64]⟩
abbrev S16 : Shape := ⟨1, ![16]⟩
abbrev S8x2 : Shape := ⟨2, ![8, 2]⟩
abbrev S8x1 : Shape := ⟨2, ![8, 1]⟩
abbrev S8x128 : Shape := ⟨2, ![8, 128]⟩
abbrev S128x8x128 : Shape := ⟨3, ![128, 8, 128]⟩
abbrev S128x128x128 : Shape := ⟨3, ![128, 128, 128]⟩
abbrev S16x8x128 : Shape := ⟨3, ![16, 8, 128]⟩
abbrev S16x256 : Shape := ⟨2, ![16, 256]⟩
abbrev S16x128x128 : Shape := ⟨3, ![16, 128, 128]⟩
abbrev S128x128 : Shape := ⟨2, ![128, 128]⟩
abbrev S1x128 : Shape := ⟨2, ![1, 128]⟩
abbrev S1x128x128 : Shape := ⟨3, ![1, 128, 128]⟩
abbrev S512x128 : Shape := ⟨2, ![512, 128]⟩
abbrev S1x8x128 : Shape := ⟨3, ![1, 8, 128]⟩
abbrev S8x512 : Shape := ⟨2, ![8, 512]⟩
abbrev S8 : Shape := ⟨1, ![8]⟩
abbrev S16x128 : Shape := ⟨2, ![16, 128]⟩

abbrev nBuf : Space → Nat
  | .hbm => 17
  | .vmem => 16
  | .smem => 0
  | _ => 0

abbrev bufTy : (tb : Table) → Fin (tcTables nBuf tb) → BufTy
  | .hbm, ⟨0, _⟩ => ⟨S128x1024, .bf16⟩
  | .hbm, ⟨1, _⟩ => ⟨S128x256, .f32⟩
  | .hbm, ⟨2, _⟩ => ⟨S128x128x2x64, .f32⟩
  | .hbm, ⟨3, _⟩ => ⟨S128x128x2x64, .f32⟩
  | .hbm, ⟨4, _⟩ => ⟨S16, .f32⟩
  | .hbm, ⟨5, _⟩ => ⟨S8x2, .f32⟩
  | .hbm, ⟨6, _⟩ => ⟨S8x1, .f32⟩
  | .hbm, ⟨7, _⟩ => ⟨S8x128, .f32⟩
  | .hbm, ⟨8, _⟩ => ⟨S8x2, .f32⟩
  | .hbm, ⟨9, _⟩ => ⟨S8x1, .f32⟩
  | .hbm, ⟨10, _⟩ => ⟨S8x128, .f32⟩
  | .hbm, ⟨11, _⟩ => ⟨S128x8x128, .bf16⟩
  | .hbm, ⟨12, _⟩ => ⟨S128x128x128, .f32⟩
  | .hbm, ⟨13, _⟩ => ⟨S128x128x128, .f32⟩
  | .hbm, ⟨14, _⟩ => ⟨S128x8x128, .bf16⟩
  | .hbm, ⟨15, _⟩ => ⟨S128x128x128, .f32⟩
  | .hbm, ⟨16, _⟩ => ⟨S128x128x128, .f32⟩
  | .local _ .vmem, ⟨0, _⟩ => ⟨S16x8x128, .bf16⟩
  | .local _ .vmem, ⟨1, _⟩ => ⟨S16x8x128, .bf16⟩
  | .local _ .vmem, ⟨2, _⟩ => ⟨S16x256, .f32⟩
  | .local _ .vmem, ⟨3, _⟩ => ⟨S16x256, .f32⟩
  | .local _ .vmem, ⟨4, _⟩ => ⟨S16x128x128, .f32⟩
  | .local _ .vmem, ⟨5, _⟩ => ⟨S16x128x128, .f32⟩
  | .local _ .vmem, ⟨6, _⟩ => ⟨S16x128x128, .f32⟩
  | .local _ .vmem, ⟨7, _⟩ => ⟨S16x128x128, .f32⟩
  | .local _ .vmem, ⟨8, _⟩ => ⟨S8x128, .f32⟩
  | .local _ .vmem, ⟨9, _⟩ => ⟨S8x128, .f32⟩
  | .local _ .vmem, ⟨10, _⟩ => ⟨S16x8x128, .bf16⟩
  | .local _ .vmem, ⟨11, _⟩ => ⟨S16x8x128, .bf16⟩
  | .local _ .vmem, ⟨12, _⟩ => ⟨S16x128x128, .f32⟩
  | .local _ .vmem, ⟨13, _⟩ => ⟨S16x128x128, .f32⟩
  | .local _ .vmem, ⟨14, _⟩ => ⟨S16x128x128, .f32⟩
  | .local _ .vmem, ⟨15, _⟩ => ⟨S16x128x128, .f32⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x8x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== WinReferenceIdeal.lean ====
abbrev S128x1024 : Shape := ⟨2, ![128, 1024]⟩
abbrev S128x256 : Shape := ⟨2, ![128, 256]⟩
abbrev S128x128x2x64 : Shape := ⟨4, ![128, 128, 2, 64]⟩
abbrev S16 : Shape := ⟨1, ![16]⟩
abbrev S128x128 : Shape := ⟨2, ![128, 128]⟩
abbrev S128x1x2x64 : Shape := ⟨4, ![128, 1, 2, 64]⟩
abbrev S128x129x2x64 : Shape := ⟨4, ![128, 129, 2, 64]⟩
abbrev S128x1x2x8x64 : Shape := ⟨5, ![128, 1, 2, 8, 64]⟩
abbrev S128x2x129x1x8 : Shape := ⟨5, ![128, 2, 129, 1, 8]⟩
abbrev S128x2x8x1x129 : Shape := ⟨5, ![128, 2, 8, 1, 129]⟩
abbrev S_ : Shape := ⟨0, ![]⟩
abbrev S1 : Shape := ⟨1, ![1]⟩
abbrev S1x1 : Shape := ⟨2, ![1, 1]⟩
abbrev S129 : Shape := ⟨1, ![129]⟩
abbrev S1x129 : Shape := ⟨2, ![1, 129]⟩
abbrev S2x8 : Shape := ⟨2, ![2, 8]⟩
abbrev S2x8x1x1 : Shape := ⟨4, ![2, 8, 1, 1]⟩
abbrev S128x2x8x1 : Shape := ⟨4, ![128, 2, 8, 1]⟩
abbrev S128x2x8x1x1 : Shape := ⟨5, ![128, 2, 8, 1, 1]⟩
abbrev S1x2x8x1x1 : Shape := ⟨5, ![1, 2, 8, 1, 1]⟩
abbrev S128x2x64x8x1 : Shape := ⟨5, ![128, 2, 64, 8, 1]⟩
abbrev S128x8x128 : Shape := ⟨3, ![128, 8, 128]⟩
abbrev S128x128x128 : Shape := ⟨3, ![128, 128, 128]⟩

abbrev nBuf : Space → Nat
  | .hbm => 68
  | .vmem => 0
  | .smem => 0
  | _ => 0

abbrev bufTy : (tb : Table) → Fin (tcTables nBuf tb) → BufTy
  | .hbm, ⟨0, _⟩ => ⟨S128x1024, .bf16⟩
  | .hbm, ⟨1, _⟩ => ⟨S128x256, .f32⟩
  | .hbm, ⟨2, _⟩ => ⟨S128x128x2x64, .f32⟩
  | .hbm, ⟨3, _⟩ => ⟨S128x128x2x64, .f32⟩
  | .hbm, ⟨4, _⟩ => ⟨S16, .f32⟩
  | .hbm, ⟨5, _⟩ => ⟨S128x128, .f32⟩
  | .hbm, ⟨6, _⟩ => ⟨S128x1x2x64, .f32⟩
  | .hbm, ⟨7, _⟩ => ⟨S128x128, .f32⟩
  | .hbm, ⟨8, _⟩ => ⟨S128x1x2x64, .f32⟩
  | .hbm, ⟨9, _⟩ => ⟨S128x129x2x64, .f32⟩
  | .hbm, ⟨10, _⟩ => ⟨S128x129x2x64, .f32⟩
  | .hbm, ⟨11, _⟩ => ⟨S128x1024, .f32⟩
  | .hbm, ⟨12, _⟩ => ⟨S128x1x2x8x64, .f32⟩
  | .hbm, ⟨13, _⟩ => ⟨S128x2x129x1x8, .f32⟩
  | .hbm, ⟨14, _⟩ => ⟨S128x2x8x1x129, .f32⟩
  | .hbm, ⟨15, _⟩ => ⟨S_, .f32⟩
  | .hbm, ⟨16, _⟩ => ⟨S128x2x8x1x129, .f32⟩
  | .hbm, ⟨17, _⟩ => ⟨S128x2x8x1x129, .f32⟩
  | .hbm, ⟨18, _⟩ => ⟨S1, .i32⟩
  | .hbm, ⟨19, _⟩ => ⟨S1x1, .i32⟩
  | .hbm, ⟨20, _⟩ => ⟨S_, .i32⟩
  | .hbm, ⟨21, _⟩ => ⟨S1x1, .i32⟩
  | .hbm, ⟨22, _⟩ => ⟨S1x1, .i32⟩
  | .hbm, ⟨23, _⟩ => ⟨S129, .i32⟩
  | .hbm, ⟨24, _⟩ => ⟨S1x129, .i32⟩
  | .hbm, ⟨25, _⟩ => ⟨S1x129, .i32⟩
  | .hbm, ⟨26, _⟩ => ⟨S1x129, .i32⟩
  | .hbm, ⟨27, _⟩ => ⟨S_, .i32⟩
  | .hbm, ⟨28, _⟩ => ⟨S1x129, .i32⟩
  | .hbm, ⟨29, _⟩ => ⟨S1x129, .i1⟩
  | .hbm, ⟨30, _⟩ => ⟨S_, .i32⟩
  | .hbm, ⟨31, _⟩ => ⟨S1x129, .i32⟩
  | .hbm, ⟨32, _⟩ => ⟨S1x129, .i1⟩
  | .hbm, ⟨33, _⟩ => ⟨S1x129, .i1⟩
  | .hbm, ⟨34, _⟩ => ⟨S_, .f32⟩
  | .hbm, ⟨35, _⟩ => ⟨S_, .f32⟩
  | .hbm, ⟨36, _⟩ => ⟨S128x2x8x1x129, .i1⟩
  | .hbm, ⟨37, _⟩ => ⟨S128x2x8x1x129, .f32⟩
  | .hbm, ⟨38, _⟩ => ⟨S128x2x8x1x129, .f32⟩
  | .hbm, ⟨39, _⟩ => ⟨S2x8, .f32⟩
  | .hbm, ⟨40, _⟩ => ⟨S2x8x1x1, .f32⟩
  | .hbm, ⟨41, _⟩ => ⟨S_, .f32⟩
  | .hbm, ⟨42, _⟩ => ⟨S128x2x8x1, .f32⟩
  | .hbm, ⟨43, _⟩ => ⟨S128x2x8x1x1, .f32⟩
  | .hbm, ⟨44, _⟩ => ⟨S1x2x8x1x1, .f32⟩
  | .hbm, ⟨45, _⟩ => ⟨S128x2x8x1x1, .f32⟩
  | .hbm, ⟨46, _⟩ => ⟨S128x2x8x1x1, .f32⟩
  | .hbm, ⟨47, _⟩ => ⟨S128x2x8x1x129, .f32⟩
  | .hbm, ⟨48, _⟩ => ⟨S128x2x8x1x129, .f32⟩
  | .hbm, ⟨49, _⟩ => ⟨S128x2x8x1x129, .f32⟩
  | .hbm, ⟨50, _⟩ => ⟨S_, .f32⟩
  | .hbm, ⟨51, _⟩ => ⟨S128x2x8x1, .f32⟩
  | .hbm, ⟨52, _⟩ => ⟨S128x2x8x1x1, .f32⟩
  | .hbm, ⟨53, _⟩ => ⟨S1x2x8x1x1, .f32⟩
  | .hbm, ⟨54, _⟩ => ⟨S128x2x8x1x1, .f32⟩
  | .hbm, ⟨55, _⟩ => ⟨S128x2x8x1x1, .f32⟩
  | .hbm, ⟨56, _⟩ => ⟨S128x2x8x1x1, .f32⟩
  | .hbm, ⟨57, _⟩ => ⟨S128x2x8x1x1, .f32⟩
  | .hbm, ⟨58, _⟩ => ⟨S128x2x8x1x129, .f32⟩
  | .hbm, ⟨59, _⟩ => ⟨S128x2x8x1x129, .f32⟩
  | .hbm, ⟨60, _⟩ => ⟨S128x2x64x8x1, .f32⟩
  | .hbm, ⟨61, _⟩ => ⟨S128x1x2x8x64, .f32⟩
  | .hbm, ⟨62, _⟩ => ⟨S128x8x128, .f32⟩
  | .hbm, ⟨63, _⟩ => ⟨S128x8x128, .bf16⟩
  | .hbm, ⟨64, _⟩ => ⟨S128x128x2x64, .f32⟩
  | .hbm, ⟨65, _⟩ => ⟨S128x128x128, .f32⟩
  | .hbm, ⟨66, _⟩ => ⟨S128x128x2x64, .f32⟩
  | .hbm, ⟨67, _⟩ => ⟨S128x128x128, .f32⟩
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_0 : Ref sig .tc := ⟨.hbm, 27, rfl⟩
abbrev main_v20 : Ref sig .tc := ⟨.hbm, 28, rfl⟩
abbrev main_v21 : Ref sig .tc := ⟨.hbm, 29, rfl⟩
abbrev main_c_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Prep.lean ====
abbrev S128x3072 : Shape := ⟨2, ![128, 3072]⟩
abbrev S128x3x3072 : Shape := ⟨3, ![128, 3, 3072]⟩
abbrev S128x128 : Shape := ⟨2, ![128, 128]⟩
abbrev S4x3072 : Shape := ⟨2, ![4, 3072]⟩
abbrev S8 : Shape := ⟨1, ![8]⟩
abbrev S3x128x3072 : Shape := ⟨3, ![3, 128, 3072]⟩
abbrev S_ : Shape := ⟨0, ![]⟩
abbrev S128 : Shape := ⟨1, ![128]⟩
abbrev S1x128 : Shape := ⟨2, ![1, 128]⟩
abbrev S8x128x128 : Shape := ⟨3, ![8, 128, 128]⟩
abbrev S128x1024 : Shape := ⟨2, ![128, 1024]⟩
abbrev S1x128x3072 : Shape := ⟨3, ![1, 128, 3072]⟩
abbrev S1x128x128 : Shape := ⟨3, ![1, 128, 128]⟩
abbrev S128x1 : Shape := ⟨2, ![128, 1]⟩

abbrev nBuf : Space → Nat
  | .hbm => 21
  | .vmem => 12
  | .smem => 0
  | _ => 0

abbrev bufTy : (tb : Table) → Fin (tcTables nBuf tb) → BufTy
  | .hbm, ⟨0, _⟩ => ⟨S128x3072, .f32⟩
  | .hbm, ⟨1, _⟩ => ⟨S128x3x3072, .f32⟩
  | .hbm, ⟨2, _⟩ => ⟨S128x128, .f32⟩
  | .hbm, ⟨3, _⟩ => ⟨S4x3072, .f32⟩
  | .hbm, ⟨4, _⟩ => ⟨S8, .f32⟩
  | .hbm, ⟨5, _⟩ => ⟨S8, .f32⟩
  | .hbm, ⟨6, _⟩ => ⟨S3x128x3072, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S3x128x3072, .f32⟩
  | .hbm, ⟨16, _⟩ => ⟨S8x128x128, .f32⟩
  | .hbm, ⟨17, _⟩ => ⟨S8x128x128, .f32⟩
  | .hbm, ⟨18, _⟩ => ⟨S128x1024, .f32⟩
  | .hbm, ⟨19, _⟩ => ⟨S128x1024, .f32⟩
  | .hbm, ⟨20, _⟩ => ⟨S128x1024, .f32⟩
  | .local _ .vmem, ⟨0, _⟩ => ⟨S128x3072, .f32⟩
  | .local _ .vmem, ⟨1, _⟩ => ⟨S3x128x3072, .f32⟩
  | .local _ .vmem, ⟨2, _⟩ => ⟨S128x128, .f32⟩
  | .local _ .vmem, ⟨3, _⟩ => ⟨S4x3072, .f32⟩
  | .local _ .vmem, ⟨4, _⟩ => ⟨S1x128, .f32⟩
  | .local _ .vmem, ⟨5, _⟩ => ⟨S1x128, .f32⟩
  | .local _ .vmem, ⟨6, _⟩ => ⟨S3x128x3072, .f32⟩
  | .local _ .vmem, ⟨7, _⟩ => ⟨S8x128x128, .f32⟩
  | .local _ .vmem, ⟨8, _⟩ => ⟨S8x128x128, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | _, _ => ⟨S128x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x128x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x128x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== PrepReferenceIdeal.lean ====
abbrev S128x3072 : Shape := ⟨2, ![128, 3072]⟩
abbrev S128x3x3072 : Shape := ⟨3, ![128, 3, 3072]⟩
abbrev S128x128 : Shape := ⟨2, ![128, 128]⟩
abbrev S4x3072 : Shape := ⟨2, ![4, 3072]⟩
abbrev S8 : Shape := ⟨1, ![8]⟩
abbrev S128x1x3072 : Shape := ⟨3, ![128, 1, 3072]⟩
abbrev S128x4x3072 : Shape := ⟨3, ![128, 4, 3072]⟩
abbrev S1x4x3072 : Shape := ⟨3, ![1, 4, 3072]⟩
abbrev S_ : Shape := ⟨0, ![]⟩
abbrev S128x1024 : Shape := ⟨2, ![128, 1024]⟩
abbrev S128x8x128 : Shape := ⟨3, ![128, 8, 128]⟩
abbrev S128x8 : Shape := ⟨2, ![128, 8]⟩
abbrev S128x8x1 : Shape := ⟨3, ![128, 8, 1]⟩
abbrev S1x8 : Shape := ⟨2, ![1, 8]⟩
abbrev S3x128x3072 : Shape := ⟨3, ![3, 128, 3072]⟩
abbrev S8x128x128 : Shape := ⟨3, ![8, 128, 128]⟩

abbrev nBuf : Space → Nat
  | .hbm => 93
  | .vmem => 0
  | .smem => 0
  | _ => 0

abbrev bufTy : (tb : Table) → Fin (tcTables nBuf tb) → BufTy
  | .hbm, ⟨0, _⟩ => ⟨S128x3072, .f32⟩
  | .hbm, ⟨1, _⟩ => ⟨S128x3x3072, .f32⟩
  | .hbm, ⟨2, _⟩ => ⟨S128x128, .f32⟩
  | .hbm, ⟨3, _⟩ => ⟨S4x3072, .f32⟩
  | .hbm, ⟨4, _⟩ => ⟨S8, .f32⟩
  | .hbm, ⟨5, _⟩ => ⟨S8, .f32⟩
  | .hbm, ⟨6, _⟩ => ⟨S128x1x3072, .f32⟩
  | .hbm, ⟨7, _⟩ => ⟨S128x4x3072, .f32⟩
  | .hbm, ⟨8, _⟩ => ⟨S128x3x3072, .f32⟩
  | .hbm, ⟨9, _⟩ => ⟨S1x4x3072, .f32⟩
  | .hbm, ⟨10, _⟩ => ⟨S128x4x3072, .f32⟩
  | .hbm, ⟨11, _⟩ => ⟨S128x4x3072, .f32⟩
  | .hbm, ⟨12, _⟩ => ⟨S_, .f32⟩
  | .hbm, ⟨13, _⟩ => ⟨S128x3072, .f32⟩
  | .hbm, ⟨14, _⟩ => ⟨S128x3072, .f32⟩
  | .hbm, ⟨15, _⟩ => ⟨S128x3072, .f32⟩
  | .hbm, ⟨16, _⟩ => ⟨S_, .f32⟩
  | .hbm, ⟨17, _⟩ => ⟨S128x3072, .f32⟩
  | .hbm, ⟨18, _⟩ => ⟨S128x3072, .f32⟩
  | .hbm, ⟨19, _⟩ => ⟨S_, .f32⟩
  | .hbm, ⟨20, _⟩ => ⟨S128x3072, .f32⟩
  | .hbm, ⟨21, _⟩ => ⟨S128x3072, .f32⟩
  | .hbm, ⟨22, _⟩ => ⟨S128x3072, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S128x8x128, .f32⟩
  | .hbm, ⟨27, _⟩ => ⟨S128x8x128, .f32⟩
  | .hbm, ⟨28, _⟩ => ⟨S_, .f32⟩
  | .hbm, ⟨29, _⟩ => ⟨S128x8, .f32⟩
  | .hbm, ⟨30, _⟩ => ⟨S128x8x1, .f32⟩
  | .hbm, ⟨31, _⟩ => ⟨S_, .f32⟩
  | .hbm, ⟨32, _⟩ => ⟨S128x8x1, .f32⟩
  | .hbm, ⟨33, _⟩ => ⟨S128x8x1, .f32⟩
  | .hbm, ⟨34, _⟩ => ⟨S128x8x1, .f32⟩
  | .hbm, ⟨35, _⟩ => ⟨S128x8x128, .f32⟩
  | .hbm, ⟨36, _⟩ => ⟨S128x8x128, .f32⟩
  | .hbm, ⟨37, _⟩ => ⟨S_, .f32⟩
  | .hbm, ⟨38, _⟩ => ⟨S128x8x128, .f32⟩
  | .hbm, ⟨39, _⟩ => ⟨S128x8x128, .f32⟩
  | .hbm, ⟨40, _⟩ => ⟨S128x8x128, .f32⟩
  | .hbm, ⟨41, _⟩ => ⟨S128x8x128, .f32⟩
  | .hbm, ⟨42, _⟩ => ⟨S_, .f32⟩
  | .hbm, ⟨43, _⟩ => ⟨S128x8, .f32⟩
  | .hbm, ⟨44, _⟩ => ⟨S128x8x1, .f32⟩
  | .hbm, ⟨45, _⟩ => ⟨S_, .f32⟩
  | .hbm, ⟨46, _⟩ => ⟨S128x8x1, .f32⟩
  | .hbm, ⟨47, _⟩ => ⟨S128x8x1, .f32⟩
  | .hbm, ⟨48, _⟩ => ⟨S128x8x1, .f32⟩
  | .hbm, ⟨49, _⟩ => ⟨S128x8x128, .f32⟩
  | .hbm, ⟨50, _⟩ => ⟨S128x8x128, .f32⟩
  | .hbm, ⟨51, _⟩ => ⟨S128x8, .f32⟩
  | .hbm, ⟨52, _⟩ => ⟨S128x8, .f32⟩
  | .hbm, ⟨53, _⟩ => ⟨S8, .f32⟩
  | .hbm, ⟨54, _⟩ => ⟨S8, .f32⟩
  | .hbm, ⟨55, _⟩ => ⟨S1x8, .f32⟩
  | .hbm, ⟨56, _⟩ => ⟨S128x8, .f32⟩
  | .hbm, ⟨57, _⟩ => ⟨S128x8, .f32⟩
  | .hbm, ⟨58, _⟩ => ⟨S_, .f32⟩
  | .hbm, ⟨59, _⟩ => ⟨S128x8, .f32⟩
  | .hbm, ⟨60, _⟩ => ⟨S128x8, .f32⟩
  | .hbm, ⟨61, _⟩ => ⟨S128x8, .f32⟩
  | .hbm, ⟨62, _⟩ => ⟨S128x8, .f32⟩
  | .hbm, ⟨63, _⟩ => ⟨S128x8, .i1⟩
  | .hbm, ⟨64, _⟩ => ⟨S128x8, .f32⟩
  | .hbm, ⟨65, _⟩ => ⟨S128x8, .f32⟩
  | .hbm, ⟨66, _⟩ => ⟨S128x8, .f32⟩
  | .hbm, ⟨67, _⟩ => ⟨S128x8, .f32⟩
  | .hbm, ⟨68, _⟩ => ⟨S128x8, .f32⟩
  | .hbm, ⟨69, _⟩ => ⟨S128x8, .f32⟩
  | .hbm, ⟨70, _⟩ => ⟨S128x8, .f32⟩
  | .hbm, ⟨71, _⟩ => ⟨S128x8, .f32⟩
  | .hbm, ⟨72, _⟩ => ⟨S1x8, .f32⟩
  | .hbm, ⟨73, _⟩ => ⟨S128x8, .f32⟩
  | .hbm, ⟨74, _⟩ => ⟨S128x8, .f32⟩
  | .hbm, ⟨75, _⟩ => ⟨S128x8, .f32⟩
  | .hbm, ⟨76, _⟩ => ⟨S128x8, .f32⟩
  | .hbm, ⟨77, _⟩ => ⟨S_, .f32⟩
  | .hbm, ⟨78, _⟩ => ⟨S128x8, .f32⟩
  | .hbm, ⟨79, _⟩ => ⟨S128x8, .f32⟩
  | .hbm, ⟨80, _⟩ => ⟨S_, .f32⟩
  | .hbm, ⟨81, _⟩ => ⟨S128x8, .f32⟩
  | .hbm, ⟨82, _⟩ => ⟨S128x8, .f32⟩
  | .hbm, ⟨83, _⟩ => ⟨S3x128x3072, .f32⟩
  | .hbm, ⟨84, _⟩ => ⟨S8x128x128, .f32⟩
  | .hbm, ⟨85, _⟩ => ⟨S8x128x128, .f32⟩
  | .hbm, ⟨86, _⟩ => ⟨S128x8, .f32⟩
  | .hbm, ⟨87, _⟩ => ⟨S128x8x1, .f32⟩
  | .hbm, ⟨88, _⟩ => ⟨S128x8x128, .f32⟩
  | .hbm, ⟨89, _⟩ => ⟨S128x1024, .f32⟩
  | .hbm, ⟨90, _⟩ => ⟨S128x8x1, .f32⟩
  | .hbm, ⟨91, _⟩ => ⟨S128x8x128, .f32⟩
  | .hbm, ⟨92, _⟩ => ⟨S128x1024, .f32⟩
  | _, _ => ⟨S128x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call1_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_5 : Ref sig .tc := ⟨.hbm, 77, rfl⟩
abbrev main_v44 : Ref sig .tc := ⟨.hbm, 78, rfl⟩
abbrev main_v45 : Ref sig .tc := ⟨.hbm, 79, rfl⟩
abbrev main_cst_6 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩

abbrev nD : Nat := 1
abbrev τ : Topo := Topo.v7x

variable {F : FTy → Type} [FloatOps F]
-- ==== Proof.SwaStage.lean ====
module

public import proofs.«01_k».proof.Proof.Gen.KernelIdeal.Value
public import Idealize.ShloMosaic.Lib.Pointwise

@[expose] public section

set_option maxRecDepth 16384

/-! # The attention kernel's sixteen stores as one computation

The body works on two blocks of 128 queries, and within a block on eight pairs of heads. Every store is the same
computation on its own operands; it is spelt out here once, and the sixteen stores are its instances. -/

noncomputable section

namespace Cert.SwaStage

open Cert.KernelIdeal Cert.KernelIdeal.Gen Idealize.ShloMosaic Idealize.ShloMosaic.TcCoe Idealize.SL.Sem

/-- The keys of the first head of keys (the first 64 lanes): the block's own 128, once in the low lanes and once in the high,
    then the block before's. -/
def keys0 (o p : Vec Ideal S128x128 .f32) : FVec Ideal S512x128 .bf16 :=
  k0_pay22 (k0_pay6 p) (k0_pay8 p) (k0_pay6 o) (k0_pay8 o)

/-- The keys of the second head of keys (the last 64 lanes), laid out the same way. -/
def keys1 (o p : Vec Ideal S128x128 .f32) : FVec Ideal S512x128 .bf16 :=
  k0_pay23 (k0_pay7 p) (k0_pay9 p) (k0_pay7 o) (k0_pay9 o)

/-- The values of the first head of keys, twice across the lanes: the block's own 128, then the block before's. -/
def vals0 (o p : Vec Ideal S128x128 .f32) : FVec Ideal S256x128 .bf16 := k0_pay26 (k0_pay10 p) (k0_pay10 o)

/-- The values of the second head of keys. -/
def vals1 (o p : Vec Ideal S128x128 .f32) : FVec Ideal S256x128 .bf16 := k0_pay27 (k0_pay11 p) (k0_pay11 o)

/-- The head of keys that pair `j` of the query heads reads. -/
def keysOf (j : Fin 8) (o p : Vec Ideal S128x128 .f32) : FVec Ideal S512x128 .bf16 :=
  if j.val < 4 then keys0 o p else keys1 o p

def valsOf (j : Fin 8) (o p : Vec Ideal S128x128 .f32) : FVec Ideal S256x128 .bf16 :=
  if j.val < 4 then vals0 o p else vals1 o p

/-- One head's output, in both halves of the lanes: the weights' product with the values over the weights' sum. -/
def headOut (s : FVec Ideal S128x128 .f32) (sink : EReal) (vc : FVec Ideal S256x128 .bf16) : FVec Ideal S128x128 .f32 :=
  divf (matmul (φ₂ := .bf16) dot_S128x256_S256x128_S128x128_1_0_0_1_n_n none (truncf .bf16 (k0_pay62 k0_pay3 s sink) bitsLt_bf16_f32) vc
      (constant S128x128 .f32 0x00000000#32))
    (broadcastTo S128x128 (k0_pay63 s sink) broadcasts_S128x1_S128x128)

/-- A pair of heads' output: the first head's in the low lanes, the second's in the high. -/
def pairOut (s1 s2 : FVec Ideal S128x128 .f32) (k1 k2 : EReal) (vc : FVec Ideal S256x128 .bf16) : FVec Ideal S128x128 .bf16 :=
  truncf .bf16 (select k0_pay2 (headOut s1 k1 vc) (headOut s2 k2 vc)) bitsLt_bf16_f32

/-- The scores row of the first head of a pair: own keys up to the diagonal, beyond it the block before's. -/
def scoresLo (sc : FVec Ideal S128x512 .f32) : FVec Ideal S128x128 .f32 := k0_pay145 k0_pay3 sc

def scoresHi (sc : FVec Ideal S128x512 .f32) : FVec Ideal S128x128 .f32 := k0_pay150 k0_pay3 sc

/-- The same in the window's first block, where the block before may be another sequence's and is then masked. -/
def scoresLoFirst (n : BitVec 32) (sc : FVec Ideal S128x512 .f32) : FVec Ideal S128x128 .f32 := k0_pay39 n k0_pay3 sc

def scoresHiFirst (n : BitVec 32) (sc : FVec Ideal S128x512 .f32) : FVec Ideal S128x128 .f32 := k0_pay44 n k0_pay3 sc

/-- Block `s` of the queries, pair `j` of the heads. -/
abbrev rectQ (s : Fin 2) (j : Fin 8) : Rect S256x1024 :=
  Rect.unit (s := S256x1024) ![128 * s.val, 128 * j.val] S128x128.size (by
    intro a
    match a with
    | ⟨0, _⟩ => show 128 * s.val + 128 ≤ 256; omega
    | ⟨1, _⟩ => show 128 * j.val + 128 ≤ 1024; omega)

/-- Block `s` of the keys (`c = 0`) or the values (`c = 1`). -/
abbrev rectK (s c : Fin 2) : Rect S256x256 :=
  Rect.unit (s := S256x256) ![128 * s.val, 128 * c.val] S128x128.size (by
    intro a
    match a with
    | ⟨0, _⟩ => show 128 * s.val + 128 ≤ 256; omega
    | ⟨1, _⟩ => show 128 * c.val + 128 ≤ 256; omega)

/-- The keys or the values of the block before the window. -/
abbrev rectP (c : Fin 2) : Rect S128x256 :=
  Rect.unit (s := S128x256) ![0, 128 * c.val] S128x128.size (by
    intro a
    match a with
    | ⟨0, _⟩ => show 0 + 128 ≤ 128; omega
    | ⟨1, _⟩ => show 128 * c.val + 128 ≤ 256; omega)

/-- A head's sink. -/
abbrev rectS (h : Fin 16) : Rect S16 :=
  Rect.unit (s := S16) ![h.val] S1.size (by
    intro a
    match a with
    | ⟨0, _⟩ => show h.val + 1 ≤ 16; omega)

abbrev sinkOf (x0 : Vec Ideal S16 .f32) (h : Fin 16) : EReal := View.ld x0 (rectS h) (Shape.Idx.first (show 0 < S1.numel by decide))

variable (n : BitVec 32) (x0 : Vec Ideal S16 .f32) (x1 : Vec Ideal S256x1024 .bf16) (x2 : Vec Ideal S256x256 .f32)
  (x3 : Vec Ideal S128x256 .f32)

/-- What is stored for pair `j` in the window's first block. -/
def first (j : Fin 8) : View.Piece (Elt Ideal) S256x1024 .bf16 :=
  ⟨rectQ 0 j, pairOut (scoresLoFirst n (k0_pay35 (keysOf j (View.ld x2 (rectK 0 0)) (View.ld x3 (rectP 0))) (View.ld x1 (rectQ 0 j))))
    (scoresHiFirst n (k0_pay35 (keysOf j (View.ld x2 (rectK 0 0)) (View.ld x3 (rectP 0))) (View.ld x1 (rectQ 0 j))))
    (sinkOf x0 ⟨2 * j.val, by omega⟩) (sinkOf x0 ⟨2 * j.val + 1, by omega⟩)
    (valsOf j (View.ld x2 (rectK 0 1)) (View.ld x3 (rectP 1)))⟩

/-- What is stored for pair `j` in the window's second block, whose block before is the first. -/
def second (j : Fin 8) : View.Piece (Elt Ideal) S256x1024 .bf16 :=
  ⟨rectQ 1 j, pairOut (scoresLo (k0_pay35 (keysOf j (View.ld x2 (rectK 1 0)) (View.ld x2 (rectK 0 0))) (View.ld x1 (rectQ 1 j))))
    (scoresHi (k0_pay35 (keysOf j (View.ld x2 (rectK 1 0)) (View.ld x2 (rectK 0 0))) (View.ld x1 (rectQ 1 j))))
    (sinkOf x0 ⟨2 * j.val, by omega⟩) (sinkOf x0 ⟨2 * j.val + 1, by omega⟩)
    (valsOf j (View.ld x2 (rectK 1 1)) (View.ld x2 (rectK 0 1)))⟩

/-- The sixteen stores, last first. -/
theorem run_eq (c : Dev nD) (i : grid0.Coords) (arg2 : Memref sig .tc .smem S16 .f32) (harg2 : arg2.IsWhole)
    (arg3 : Memref sig .tc .vmem S256x1024 .bf16) (harg3 : arg3.IsWhole) (arg4 : Memref sig .tc .vmem S256x256 .f32) (harg4 : arg4.IsWhole)
    (arg5 : Memref sig .tc .vmem S128x256 .f32) (harg5 : arg5.IsWhole) (arg6 : Memref sig .tc .vmem S256x1024 .bf16) (harg6 : arg6.IsWhole) :
    (kernelRun0_A (F := Ideal) c i arg2 harg2 arg3 harg3 arg4 harg4 arg5 harg5 arg6 harg6 x0 x1 x2 x3).1
      = (fun (n : BitVec 32) y0 y1 y2 y3 => [second y0 y1 y2 7, second y0 y1 y2 6, second y0 y1 y2 5, second y0 y1 y2 4, second y0 y1 y2 3,
          second y0 y1 y2 2, second y0 y1 y2 1, second y0 y1 y2 0, first n y0 y1 y2 y3 7, first n y0 y1 y2 y3 6, first n y0 y1 y2 y3 5,
          first n y0 y1 y2 y3 4, first n y0 y1 y2 y3 3, first n y0 y1 y2 y3 2, first n y0 y1 y2 y3 1, first n y0 y1 y2 y3 0])
        (BitVec.ofNat 32 (i 1).val) (View.read (Elt Ideal) arg2.view (harg2.unread x0)) (View.read (Elt Ideal) arg3.view (harg3.unread x1))
        (View.read (Elt Ideal) arg4.view (harg4.unread x2)) (View.read (Elt Ideal) arg5.view (harg5.unread x3)) := by
  sl_kernel_rfl

end Cert.SwaStage

end
-- ==== Proof.Rows.lean ====
module

public import Idealize.ShloMosaic.Lib.Pointwise

@[expose] public section

/-! # One row of the layer's dense parts

The mathematics of the layer on a single row (one token) of 1024 numbers, over the extended reals: the root mean
square norm, the modulated norm, the gated feed-forward half-step. Both the kernels' blocks and the references' whole
arrays are read as these functions, so no program is named here. -/

noncomputable section

namespace Cert.Rows

open Idealize.ShloMosaic

/-- The factor that normalizes a row: one over the root of its mean square plus the small constant. -/
def scaleOf (x : Fin 1024 → EReal) : EReal :=
  Ideal.rsqrt (Ideal.div (∑ j, x j * x j) (Ideal.ofBits .f32 0x44800000#32) + Ideal.ofBits .f32 0x358637BD#32)

/-- The root mean square norm of a row, with its weights. -/
def norm (x w : Fin 1024 → EReal) (k : Fin 1024) : EReal := x k * scaleOf x * w k

/-- The normalized row, scaled by one plus `sc` and shifted by `sh`. -/
def hidden (x w sc sh : Fin 1024 → EReal) (k : Fin 1024) : EReal := norm x w k * (1 + sc k) + sh k

/-- One hidden unit of the feed-forward: the silu of the gate product times the up product. -/
def unit (h : Fin 1024 → EReal) (wg wu : Fin 1024 → Fin 2816 → EReal) (j : Fin 2816) : EReal :=
  (∑ k, h k * wg k j) * Ideal.logistic (∑ k, h k * wg k j) * (∑ k, h k * wu k j)

/-- The feed-forward half-step of a row: the row plus half the gate times the feed-forward of its modulated norm. -/
def ffn (x w sc sh g : Fin 1024 → EReal) (wg wu : Fin 1024 → Fin 2816 → EReal) (w2 : Fin 2816 → Fin 1024 → EReal)
    (l : Fin 1024) : EReal :=
  x l + Ideal.ofBits .f32 0x3F000000#32 * g l * ∑ j, unit (hidden x w sc sh) wg wu j * w2 j l

/-- The mixed row: the row plus the gate `g` times the output projection of the two branches, each projected first and
    weighted by the logistic of its own gates. -/
def mix (x yd ys gd gs g : Fin 1024 → EReal) (wd ws wo : Fin 1024 → Fin 1024 → EReal) (l : Fin 1024) : EReal :=
  x l + g l * ∑ j, (Ideal.logistic (gd j) * (∑ i, yd i * wd i j) + Ideal.logistic (gs j) * (∑ i, ys i * ws i j)) * wo j l

/-- A sum of eleven terms, from the first to the last. -/
theorem eleven (F : Fin 11 → EReal) : ∑ j, F j = F 0 + F 1 + F 2 + F 3 + F 4 + F 5 + F 6 + F 7 + F 8 + F 9 + F 10 := by
  simp only [Fin.sum_univ_castSucc, Finset.univ_eq_empty, Finset.sum_empty, zero_add]
  rfl

/-- A sum over the 2816 hidden units is the running sum of its eleven chunks of 256, from the first to the last. -/
theorem chunks (f : Fin 2816 → EReal) :
    ∑ j, f j = (∑ c : Fin 256, f ⟨c.val, by omega⟩) + (∑ c : Fin 256, f ⟨256 + c.val, by omega⟩)
      + (∑ c : Fin 256, f ⟨512 + c.val, by omega⟩) + (∑ c : Fin 256, f ⟨768 + c.val, by omega⟩)
      + (∑ c : Fin 256, f ⟨1024 + c.val, by omega⟩) + (∑ c : Fin 256, f ⟨1280 + c.val, by omega⟩)
      + (∑ c : Fin 256, f ⟨1536 + c.val, by omega⟩) + (∑ c : Fin 256, f ⟨1792 + c.val, by omega⟩)
      + (∑ c : Fin 256, f ⟨2048 + c.val, by omega⟩) + (∑ c : Fin 256, f ⟨2304 + c.val, by omega⟩)
      + (∑ c : Fin 256, f ⟨2560 + c.val, by omega⟩) := by
  rw [Fin.sum_univ_tiles 11 256 rfl f, eleven]
  refine congrArg₂ _ (congrArg₂ _ (congrArg₂ _ (congrArg₂ _ (congrArg₂ _ (congrArg₂ _ (congrArg₂ _ (congrArg₂ _
    (congrArg₂ _ (congrArg₂ _ ?_ ?_) ?_) ?_) ?_) ?_) ?_) ?_) ?_) ?_) ?_ <;>
  exact Finset.sum_congr rfl fun c _ => congrArg f (Fin.ext (by simp))

end Cert.Rows

end
-- ==== Proof.Finite.lean ====
module

public import proofs.«01_k».proof.Proof.Rows

@[expose] public section

/-! # Finite numbers among the extended reals

The identities that two of the kernels rest on (a number minus itself is zero; a common factor leaves a sum) hold for
finite numbers only. Here: what keeps a number finite, and why the modulated norm of any row is finite. -/

noncomputable section

namespace Cert.Finite

open Idealize.ShloMosaic

/-- A finite number: neither of the two infinities. -/
def Num (x : EReal) : Prop := ∃ r : ℝ, x = (r : EReal)

theorem Num.coe (r : ℝ) : Num (r : EReal) := ⟨r, rfl⟩

theorem Num.add {x y : EReal} : Num x → Num y → Num (x + y) := by
  rintro ⟨a, rfl⟩ ⟨b, rfl⟩; exact ⟨a + b, (EReal.coe_add a b).symm⟩

theorem Num.mul {x y : EReal} : Num x → Num y → Num (x * y) := by
  rintro ⟨a, rfl⟩ ⟨b, rfl⟩; exact ⟨a * b, (EReal.coe_mul a b).symm⟩

theorem Num.zero : Num 0 := ⟨0, rfl⟩

theorem Num.one : Num 1 := ⟨1, rfl⟩

theorem Num.sum {ι : Type} (s : Finset ι) (f : ι → EReal) (h : ∀ i, Num (f i)) : Num (∑ i ∈ s, f i) :=
  Finset.sum_induction f Num (fun _ _ => Num.add) Num.zero (fun i _ => h i)

theorem Num.sub_self {x : EReal} : Num x → x - x = 0 := by
  rintro ⟨a, rfl⟩; rw [← EReal.coe_sub, _root_.sub_self]; rfl

theorem num_of_ne {x : EReal} (hb : x ≠ ⊥) (ht : x ≠ ⊤) : Num x := ⟨x.toReal, (EReal.coe_toReal ht hb).symm⟩

/-- A number whose absolute value is below infinity is finite. -/
theorem num_of_abs_lt {x : EReal} (h : max x (-x) < ⊤) : Num x := by
  refine num_of_ne ?_ ?_ <;> rintro rfl <;> simp at h

/-- The printed test of a number: its absolute value is below the pattern of infinity. -/
theorem num_of_test {x : EReal}
    (h : BitVec.ofBool (decide (FloatOps.absf (F := Ideal) (φ := .f32) x < Ideal.ofBits .f32 0x7F800000#32)) = 1#1) : Num x := by
  have ht : Ideal.ofBits .f32 0x7F800000#32 = ⊤ := by simp [Ideal.ofBits, Ideal.ieee]
  rw [ht] at h
  by_cases hx : FloatOps.absf (F := Ideal) (φ := .f32) x < (⊤ : EReal)
  · exact num_of_abs_lt hx
  · rw [decide_eq_false hx] at h; exact absurd h (by decide)

theorem mul_self_nonneg (x : EReal) : 0 ≤ x * x := by
  rcases le_total 0 x with h | h
  · exact mul_nonneg h h
  · rw [← neg_mul_neg]
    exact mul_nonneg (EReal.neg_nonneg.2 h) (EReal.neg_nonneg.2 h)

theorem ofBits_1024 : Ideal.ofBits .f32 0x44800000#32 = ((1024 : ℝ) : EReal) := by
  simp [Ideal.ofBits, Ideal.ieee, -EReal.coe_mul]; norm_num

/-- The norm's small constant is a positive real. -/
theorem ofBits_small : ∃ e : ℝ, 0 < e ∧ Ideal.ofBits .f32 0x358637BD#32 = (e : EReal) := by
  refine ⟨_, ?_, by simp [Ideal.ofBits, Ideal.ieee, -EReal.coe_mul]; rfl⟩
  norm_num

/-- A row's numbers times the row's scale are finite, whatever the row: if the mean square is infinite the scale is zero,
    and if it is not then the row's numbers are finite and the scale is one over a positive root. -/
theorem num_scaled (x : Fin 1024 → EReal) (k : Fin 1024) : Num (x k * Rows.scaleOf x) := by
  obtain ⟨e, he, hs⟩ := ofBits_small
  unfold Rows.scaleOf
  rw [ofBits_1024, hs, Ideal.div_coe (by norm_num)]
  have h0 : 0 ≤ ∑ j, x j * x j := Finset.sum_nonneg fun j _ => mul_self_nonneg (x j)
  by_cases ht : (∑ j, x j * x j) = ⊤
  · rw [ht, EReal.top_mul_coe_of_pos (by norm_num), EReal.top_add_coe, Ideal.rsqrt_top, mul_zero]
    exact Num.zero
  · have hk : x k * x k ≠ ⊤ := fun h => ht (top_le_iff.1 (h ▸ Finset.single_le_sum (f := fun j => x j * x j)
      (fun j _ => mul_self_nonneg (x j)) (Finset.mem_univ k)))
    have hx : Num (x k) := by
      refine num_of_ne ?_ ?_ <;> intro h <;> rw [h] at hk <;> simp at hk
    obtain ⟨s, hs⟩ := num_of_ne (ne_of_gt (lt_of_lt_of_le EReal.bot_lt_zero h0)) ht
    rw [hs] at h0 ⊢
    have h1 : 0 ≤ s := EReal.coe_nonneg.1 h0
    refine hx.mul ?_
    rw [← EReal.coe_mul, ← EReal.coe_add, Ideal.rsqrt_coe]
    have hp : 0 < s * (1 / 1024) + e := by positivity
    rw [if_neg (not_lt.2 hp.le), if_neg hp.ne']
    exact Num.coe _

/-- The modulated norm of any row is finite when its weights and modulation are. -/
theorem num_hidden (x w sc sh : Fin 1024 → EReal) (hw : ∀ k, Num (w k)) (hc : ∀ k, Num (sc k)) (hs : ∀ k, Num (sh k))
    (k : Fin 1024) : Num (Rows.hidden x w sc sh k) :=
  (((num_scaled x k).mul (hw k)).mul (Num.one.add (hc k))).add (hs k)

/-- A sum of products split in high and low parts: over the reals the low parts are zero. -/
theorem split_sum {ι : Type} [Fintype ι] (h q : ι → EReal) (hh : ∀ k, Num (h k)) (hq : ∀ k, Num (q k)) :
    (∑ k, h k * q k) + ((∑ k, (h k - h k) * q k) + ∑ k, h k * (q k - q k)) = ∑ k, h k * q k := by
  have e1 : ∀ k, (h k - h k) * q k = 0 := fun k => by rw [(hh k).sub_self, zero_mul]
  have e2 : ∀ k, h k * (q k - q k) = 0 := fun k => by rw [(hq k).sub_self, mul_zero]
  simp only [e1, e2, Finset.sum_const_zero, add_zero]

end Cert.Finite

end
-- ==== Proof.SwaRow.lean ====
module

public import proofs.«01_k».proof.Proof.Finite

@[expose] public section

/-! # One row of the windowed attention

A query looks at the 128 keys of its own block up to its own position and at the keys of the block before from the next
position on. The reference weighs 256 keys, the ones out of sight having score `⊥`. The kernel keeps, at each of 128
places, whichever of the two keys is in sight, so that it exponentiates half as many scores, and divides the weighted
sum of the values once. -/

noncomputable section

namespace Cert.SwaRow

open Idealize.ShloMosaic

/-- The greatest of the scores and the sink. -/
abbrev top {n : ℕ} (s : Fin n → EReal) (sink : EReal) : EReal := max (Finset.univ.sup s) sink

/-- The softmax denominator, in which the sink takes part. -/
abbrev den {n : ℕ} (s : Fin n → EReal) (sink : EReal) : EReal :=
  ∑ u, Ideal.exp (s u - top s sink) + Ideal.exp (sink - top s sink)

/-- The reference's output: the values weighted by the softmax of the scores. -/
abbrev refOut {n : ℕ} (s : Fin n → EReal) (sink : EReal) (v : Fin n → EReal) : EReal :=
  ∑ u, v u * Ideal.div (Ideal.exp (s u - top s sink)) (den s sink)

/-- The kernel's output at row `i`: own values up to `i`, the previous block's beyond. -/
abbrev kerOut (i : Fin 128) (s : Fin 128 → EReal) (sink : EReal) (vo vp : Fin 128 → EReal) : EReal :=
  Ideal.div (∑ u : Fin 128, (if u ≤ i then Ideal.exp (s u - top s sink) * vo u else 0)
    + ∑ u : Fin 128, (if u ≤ i then 0 else Ideal.exp (s u - top s sink) * vp u)) (den s sink)

/-- The exponential of `⊥`, less a number or not, is zero. -/
theorem exp_bot (x : EReal) : Ideal.exp (⊥ - x) = 0 := by rw [EReal.bot_sub]; rfl

/-- A score: a number, or `⊥` if the key is out of sight. -/
abbrev Score (x : EReal) : Prop := x = ⊥ ∨ Finite.Num x

theorem coe_sum {n : ℕ} (f : Fin n → ℝ) : ((∑ u, f u : ℝ) : EReal) = ∑ u, (f u : EReal) :=
  map_sum (⟨⟨(↑), EReal.coe_zero⟩, EReal.coe_add⟩ : ℝ →+ EReal) f Finset.univ

section facts

variable {n : ℕ} {s : Fin n → EReal} {sink : EReal} (hs : ∀ u, Score (s u)) (hsink : Finite.Num sink)
include hs hsink

theorem num_top : Finite.Num (top s sink) := by
  obtain ⟨r, rfl⟩ := hsink
  refine Finite.num_of_ne (fun h => ?_) (fun h => ?_)
  · exact absurd (le_trans (le_max_right _ _) h.le) (by simp)
  · rcases max_eq_iff.1 h with ⟨h1, _⟩ | ⟨h1, _⟩
    · have : Finset.univ.sup s < ⊤ := (Finset.sup_lt_iff (by simp)).2 fun u _ => by
        rcases hs u with e | ⟨x, e⟩ <;> rw [e] <;> simp
      exact absurd h1 this.ne
    · exact absurd h1 (by simp)

/-- An exponential of a score less the greatest is a number that is not negative. -/
theorem exp_score (u : Fin n) : ∃ r : ℝ, 0 ≤ r ∧ Ideal.exp (s u - top s sink) = r := by
  obtain ⟨t, ht⟩ := num_top hs hsink
  rw [ht]
  rcases hs u with e | ⟨x, e⟩ <;> rw [e]
  · exact ⟨0, le_rfl, by rw [exp_bot]; rfl⟩
  · exact ⟨Real.exp (x - t), (Real.exp_pos _).le, by rw [← EReal.coe_sub]; rfl⟩

theorem den_pos : ∃ r : ℝ, 0 < r ∧ den s sink = r := by
  choose f hf he using exp_score hs hsink
  obtain ⟨t, ht⟩ := num_top hs hsink
  obtain ⟨k, rfl⟩ := hsink
  refine ⟨∑ u, f u + Real.exp (k - t), add_pos_of_nonneg_of_pos (Finset.sum_nonneg fun u _ => hf u) (Real.exp_pos _), ?_⟩
  unfold den
  simp only [he]
  rw [ht, ← EReal.coe_sub, EReal.coe_add, coe_sum]
  rfl

/-- Dividing by the denominator is multiplying by one number that is not negative. -/
theorem div_den : ∃ r : ℝ, 0 ≤ r ∧ ∀ x, Ideal.div x (den s sink) = x * r := by
  obtain ⟨d, hd, e⟩ := den_pos hs hsink
  exact ⟨1 / d, by positivity, fun x => by rw [e, Ideal.div_coe hd.ne']⟩

end facts

/-- A number that is not negative distributes over a sum, whatever the summands. -/
theorem sum_mul_coe {n : ℕ} (f : Fin n → EReal) {r : ℝ} (hr : 0 ≤ r) : (∑ u, f u) * (r : EReal) = ∑ u, f u * r := by
  induction (Finset.univ : Finset (Fin n)) using Finset.induction_on with
  | empty => simp
  | insert a t ha ih =>
    rw [Finset.sum_insert ha, Finset.sum_insert ha, EReal.right_distrib_of_nonneg_of_ne_top (by exact_mod_cast hr) (by simp), ih]

/-- The reference's output is one division of a weighted sum. -/
theorem refOut_eq {n : ℕ} {s : Fin n → EReal} {sink : EReal} (v : Fin n → EReal) (hs : ∀ u, Score (s u)) (hsink : Finite.Num sink) :
    refOut s sink v = Ideal.div (∑ u, Ideal.exp (s u - top s sink) * v u) (den s sink) := by
  obtain ⟨r, hr, hd⟩ := div_den hs hsink
  unfold refOut
  simp only [hd]
  rw [sum_mul_coe _ hr]
  exact Finset.sum_congr rfl fun u _ => by rw [← mul_assoc, mul_comm (v u)]

section window

variable {i : Fin 128} {p : Prop} [Decidable p] {a b vo vp : Fin 128 → EReal} {sink : EReal} {S V : Fin 256 → EReal}

/-- What the kernel keeps at place `u` of row `i`. -/
abbrev kept (i : Fin 128) (p : Prop) [Decidable p] (a b : Fin 128 → EReal) (u : Fin 128) : EReal :=
  if u ≤ i then b u else if p then a u else ⊥

variable (hp : ∀ u : Fin 128, S (Fin.castAdd 128 u) = if p ∧ i < u then a u else ⊥)
  (ho : ∀ u : Fin 128, S (Fin.natAdd 128 u) = if u ≤ i then b u else ⊥)
include hp ho

theorem sup_eq : Finset.univ.sup S = Finset.univ.sup (kept i p a b) := by
  refine le_antisymm (Finset.sup_le fun t _ => ?_) (Finset.sup_le fun u _ => ?_)
  · refine Fin.addCases (m := 128) (n := 128) (fun u => ?_) (fun u => ?_) t
    · rw [hp]
      split
      · next h => exact le_trans (by simp [kept, h.1, not_le.2 h.2]) (Finset.le_sup (f := kept i p a b) (Finset.mem_univ u))
      · exact bot_le
    · rw [ho]
      split
      · next h => exact le_trans (by simp [kept, h]) (Finset.le_sup (f := kept i p a b) (Finset.mem_univ u))
      · exact bot_le
  · unfold kept
    split
    · next h => exact le_trans (by rw [ho, if_pos h]) (Finset.le_sup (f := S) (Finset.mem_univ (Fin.natAdd 128 u)))
    · next h =>
      split
      · next h' => exact le_trans (by rw [hp, if_pos ⟨h', not_le.1 h⟩]) (Finset.le_sup (f := S) (Finset.mem_univ (Fin.castAdd 128 u)))
      · exact bot_le

/-- A weighted sum over the 256 keys, with weights that vanish out of sight, as the kernel takes it. -/
theorem sum_eq (f : EReal → EReal) (hf : f ⊥ = 0) (V : Fin 256 → EReal) (vo vp : Fin 128 → EReal)
    (hvo : ∀ u, V (Fin.natAdd 128 u) = vo u) (hvp : p → ∀ u, V (Fin.castAdd 128 u) = vp u) :
    ∑ t, f (S t) * V t = ∑ u : Fin 128, (if u ≤ i then f (kept i p a b u) * vo u else 0)
      + ∑ u : Fin 128, (if u ≤ i then 0 else f (kept i p a b u) * vp u) := by
  rw [show (∑ t, f (S t) * V t) = ∑ u : Fin 128, f (S (Fin.castAdd 128 u)) * V (Fin.castAdd 128 u)
    + ∑ u : Fin 128, f (S (Fin.natAdd 128 u)) * V (Fin.natAdd 128 u) from Fin.sum_univ_add (a := 128) (b := 128) _, add_comm]
  refine congrArg₂ (· + ·) (Finset.sum_congr rfl fun u _ => ?_) (Finset.sum_congr rfl fun u _ => ?_)
  · rw [ho, hvo]
    by_cases h : u ≤ i
    · simp [kept, h]
    · simp [h, hf]
  · rw [hp]
    by_cases h : u ≤ i
    · rw [if_neg (fun h' => absurd h (not_le.2 h'.2)), if_pos h, hf, zero_mul]
    · by_cases h' : p
      · simp [kept, h, h', not_le.1 h, hvp h' u]
      · simp [kept, h, h', hf]

theorem den_eq : den S sink = den (kept i p a b) sink := by
  have e : top S sink = top (kept i p a b) sink := by unfold top; rw [sup_eq hp ho]
  unfold den
  rw [e]
  refine congrArg (· + _) ?_
  have h := sum_eq hp ho (fun x => Ideal.exp (x - top (kept i p a b) sink)) (exp_bot _) (fun _ => 1) (fun _ => 1)
    (fun _ => 1) (fun _ => rfl) (fun _ _ => rfl)
  simp only [mul_one] at h
  rw [h, ← Finset.sum_add_distrib]
  exact Finset.sum_congr rfl fun u _ => by split <;> simp

/-- The kernel's row is the reference's. -/
theorem refOut_eq_kerOut (ha : ∀ u, Finite.Num (a u)) (hb : ∀ u, Finite.Num (b u)) (hsink : Finite.Num sink)
    (hvo : ∀ u, V (Fin.natAdd 128 u) = vo u) (hvp : p → ∀ u, V (Fin.castAdd 128 u) = vp u) :
    refOut S sink V = kerOut i (kept i p a b) sink vo vp := by
  have hS : ∀ t, Score (S t) := fun t => by
    refine Fin.addCases (m := 128) (n := 128) (fun u => ?_) (fun u => ?_) t
    · rw [hp]
      split
      · exact Or.inr (ha u)
      · exact Or.inl rfl
    · rw [ho]
      split
      · exact Or.inr (hb u)
      · exact Or.inl rfl
  have e : top S sink = top (kept i p a b) sink := by unfold top; rw [sup_eq hp ho]
  rw [refOut_eq V hS hsink, den_eq hp ho, e, sum_eq hp ho (fun x => Ideal.exp (x - top (kept i p a b) sink)) (exp_bot _) V vo vp hvo hvp]

end window

end Cert.SwaRow

end
-- ==== Proof.SwaBlock.lean ====
module

public import proofs.«01_k».proof.Proof.SwaStage
public import proofs.«01_k».proof.Proof.SwaRow
public import Idealize.ShloMosaic.Lib.WordCmp

@[expose] public section

set_option maxRecDepth 16384

/-! # The attention kernel's block, element by element -/

noncomputable section

namespace Cert.SwaBlock

open Cert.KernelIdeal Cert.KernelIdeal.Gen Cert.SwaStage Idealize.ShloMosaic Idealize.ShloMosaic.TcCoe Idealize.SL.Sem
open Idealize.ShloMosaic.WordCmp

/-! ## Words and constants -/

theorem select_ofBool {α : Type} (p : Bool) (x y : α) : Scalar.select (BitVec.ofBool p) x y = if p then x else y := by
  cases p <;> rfl

theorem select_lane {α : Type} (l : Fin 128) (x y : α) :
    Scalar.select (IntOp.cmpi .slt (BitVec.ofNat 32 l.val) 64#32) x y = if l.val < 64 then x else y := by
  rw [show (64#32 : BitVec 32) = BitVec.ofNat 32 64 from rfl, cmpi_slt_ofNat (by norm_num; omega) (by norm_num), select_ofBool]
  simp only [decide_eq_true_eq]

theorem select_diag {α : Type} (i u : Fin 128) (x y : α) :
    Scalar.select (IntOp.cmpi .sge (BitVec.ofNat 32 i.val) (BitVec.ofNat 32 u.val)) x y = if u ≤ i then x else y := by
  rw [cmpi_sge_ofNat (by norm_num; omega) (by norm_num; omega), select_ofBool]
  simp only [decide_eq_true_eq, Fin.le_def]

theorem select_pos {α : Type} (n : Fin 8) (x y : α) :
    Scalar.select (Scalar.cmpi .sgt (BitVec.ofNat 32 n.val) 0#32) x y = if 0 < n.val then x else y := by
  show Scalar.select (IntOp.cmpi .sgt (BitVec.ofNat 32 n.val) (BitVec.ofNat 32 0)) x y = _
  rw [cmpi_sgt_ofNat (by norm_num; omega) (by norm_num), select_ofBool]
  simp only [decide_eq_true_eq]

theorem mask_bot : Named.named (F := Ideal) (φ := .f32) κ "mask" 4048155338#32 = ⊥ :=
  IdealRules.named_const.ideal_named_scalar _ _ _ _ rfl

theorem neg_inf : Ideal.ofBits .f32 4286578688#32 = ⊥ := by simp [Ideal.ofBits, Ideal.ieee]

/-- One eighth, in either format. -/
theorem eighth_bf16 : Ideal.ofBits .bf16 15872#16 = ((1 / 8 : ℝ) : EReal) := by
  simp [Ideal.ofBits, Ideal.ieee, -EReal.coe_mul]; norm_num

theorem eighth_f32 : Ideal.ofBits .f32 1040187392#32 = ((1 / 8 : ℝ) : EReal) := by
  simp [Ideal.ofBits, Ideal.ieee, -EReal.coe_mul]; norm_num

/-! ## The keys and the values as the products take them -/

/-- The lane of head `c` of keys (or of values) below lane `x` of a pair. -/
abbrev laneOf (c : Fin 2) (x : Fin 128) : Fin 128 := ⟨c.val * 64 + x.val % 64, by omega⟩

section keys

variable (o p : Vec Ideal S128x128 .f32) (u x : Fin 128)

/-- Head `c` of the keys. -/
abbrev keysAt (c : Fin 2) : FVec Ideal S512x128 .bf16 := if c.val = 0 then keys0 o p else keys1 o p

abbrev valsAt (c : Fin 2) : FVec Ideal S256x128 .bf16 := if c.val = 0 then vals0 o p else vals1 o p

theorem low_half {a b : EReal} (h : x.val < 64 → a = b) :
    (if x.val < 64 then a else 0) = if x.val < 64 then b else 0 := by
  by_cases hx : x.val < 64
  · rw [if_pos hx, if_pos hx, h hx]
  · rw [if_neg hx, if_neg hx]

theorem high_half {a b : EReal} (h : ¬ x.val < 64 → a = b) :
    (if x.val < 64 then 0 else a) = if x.val < 64 then 0 else b := by
  by_cases hx : x.val < 64
  · rw [if_pos hx, if_pos hx]
  · rw [if_neg hx, if_neg hx, h hx]

theorem lane_lo0 (h : x.val < 64) : x = laneOf 0 x := Fin.ext (by show x.val = 0 * 64 + x.val % 64; omega)

theorem lane_hi1 (h : ¬ x.val < 64) : x = laneOf 1 x := Fin.ext (by show x.val = 1 * 64 + x.val % 64; omega)

theorem lane_lo1 (h : x.val < 64) (h' : (x.val + 128 - 64) % 128 < 128) : (⟨(x.val + 128 - 64) % 128, h'⟩ : Fin 128) = laneOf 1 x :=
  Fin.ext (by show (x.val + 128 - 64) % 128 = 1 * 64 + x.val % 64; omega)

theorem lane_hi0 (h : ¬ x.val < 64) (h' : (x.val + 128 - 64) % 128 < 128) : (⟨(x.val + 128 - 64) % 128, h'⟩ : Fin 128) = laneOf 0 x :=
  Fin.ext (by show (x.val + 128 - 64) % 128 = 0 * 64 + x.val % 64; omega)

/-- The keys' rows: own keys in the low lanes, own keys in the high lanes, then the block before's likewise. -/
theorem keys_apply (c : Fin 2) :
    keysAt o p c (ix2 ⟨u.val, by omega⟩ x) = (if x.val < 64 then o (ix2 u (laneOf c x)) else 0)
    ∧ keysAt o p c (ix2 ⟨128 + u.val, by omega⟩ x) = (if x.val < 64 then 0 else o (ix2 u (laneOf c x)))
    ∧ keysAt o p c (ix2 ⟨256 + u.val, by omega⟩ x) = (if x.val < 64 then p (ix2 u (laneOf c x)) else 0)
    ∧ keysAt o p c (ix2 ⟨384 + u.val, by omega⟩ x) = (if x.val < 64 then 0 else p (ix2 u (laneOf c x))) := by
  match c with
  | ⟨0, _⟩ =>
    show keys0 o p _ = _ ∧ keys0 o p _ = _ ∧ keys0 o p _ = _ ∧ keys0 o p _ = _
    pointwise [keys0, k0_pay22, k0_pay6, k0_pay8, k0_pay4, k0_pay2]
    simp only [select_lane]
    have e3 : ∀ h, (⟨256 + u.val - 128 - 128, h⟩ : Fin 128) = u := fun h => Fin.ext (by show 256 + u.val - 128 - 128 = u.val; omega)
    have e4 : ∀ h, (⟨384 + u.val - 128 - 128 - 128, h⟩ : Fin 128) = u := fun h => Fin.ext (by show 384 + u.val - 128 - 128 - 128 = u.val; omega)
    refine ⟨?_, ?_, ?_, ?_⟩
    · exact low_half x fun h => congrArg (fun b => o (ix2 u b)) (lane_lo0 x h)
    · exact high_half x fun h => congrArg (fun b => o (ix2 u b)) (lane_hi0 x h _)
    · rw [dif_neg (by omega), dif_neg (by omega), dif_pos (by omega), e3]
      exact low_half x fun h => congrArg (fun b => p (ix2 u b)) (lane_lo0 x h)
    · rw [dif_neg (by omega), dif_neg (by omega), dif_neg (by omega), e4]
      exact high_half x fun h => congrArg (fun b => p (ix2 u b)) (lane_hi0 x h _)
  | ⟨1, _⟩ =>
    show keys1 o p _ = _ ∧ keys1 o p _ = _ ∧ keys1 o p _ = _ ∧ keys1 o p _ = _
    pointwise [keys1, k0_pay23, k0_pay7, k0_pay9, k0_pay4, k0_pay2]
    simp only [select_lane]
    have e3 : ∀ h, (⟨256 + u.val - 128 - 128, h⟩ : Fin 128) = u := fun h => Fin.ext (by show 256 + u.val - 128 - 128 = u.val; omega)
    have e4 : ∀ h, (⟨384 + u.val - 128 - 128 - 128, h⟩ : Fin 128) = u := fun h => Fin.ext (by show 384 + u.val - 128 - 128 - 128 = u.val; omega)
    refine ⟨?_, ?_, ?_, ?_⟩
    · exact low_half x fun h => congrArg (fun b => o (ix2 u b)) (lane_lo1 x h _)
    · exact high_half x fun h => congrArg (fun b => o (ix2 u b)) (lane_hi1 x h)
    · rw [dif_neg (by omega), dif_neg (by omega), dif_pos (by omega), e3]
      exact low_half x fun h => congrArg (fun b => p (ix2 u b)) (lane_lo1 x h _)
    · rw [dif_neg (by omega), dif_neg (by omega), dif_neg (by omega), e4]
      exact high_half x fun h => congrArg (fun b => p (ix2 u b)) (lane_hi1 x h)

/-- The values' rows: own values, then the block before's. -/
theorem vals_apply (c : Fin 2) :
    valsAt o p c (ix2 ⟨u.val, by omega⟩ x) = o (ix2 u (laneOf c x))
    ∧ valsAt o p c (ix2 ⟨128 + u.val, by omega⟩ x) = p (ix2 u (laneOf c x)) := by
  match c with
  | ⟨0, _⟩ =>
    show vals0 o p _ = _ ∧ vals0 o p _ = _
    pointwise [vals0, k0_pay26, k0_pay10, k0_pay5, k0_pay2]
    simp only [select_lane]
    by_cases h : x.val < 64
    · rw [if_pos h, if_pos h, ← lane_lo0 x h]
      exact ⟨rfl, rfl⟩
    · rw [if_neg h, if_neg h, lane_hi0 x h]
      exact ⟨rfl, rfl⟩
  | ⟨1, _⟩ =>
    show vals1 o p _ = _ ∧ vals1 o p _ = _
    pointwise [vals1, k0_pay27, k0_pay11, k0_pay5, k0_pay2]
    simp only [select_lane]
    by_cases h : x.val < 64
    · rw [if_pos h, if_pos h, lane_lo1 x h]
      exact ⟨rfl, rfl⟩
    · rw [if_neg h, if_neg h, ← lane_hi1 x h]
      exact ⟨rfl, rfl⟩

end keys

theorem head_apply (s : FVec Ideal S128x128 .f32) (sink : EReal) (vc : FVec Ideal S256x128 .bf16) (i l : Fin 128) :
    headOut s sink vc (ix2 i l) = SwaRow.kerOut i (fun u => s (ix2 i u)) sink (fun u => vc (ix2 ⟨u.val, by omega⟩ l))
      (fun u => vc (ix2 ⟨128 + u.val, by omega⟩ l)) := by
  pointwise [headOut, k0_pay62, k0_pay63, k0_pay61, k0_pay60, k0_pay3]
  simp only [select_diag, neg_inf]
  rfl

/-! ## The scores -/

/-- Head `c` of the keys of row `u` against the query lanes `64 * h …` of row `i`. -/
abbrev score (h c : Fin 2) (q : Vec Ideal S128x128 .bf16) (k : Vec Ideal S128x128 .f32) (i u : Fin 128) : EReal :=
  (∑ d : Fin 64, k (ix2 u ⟨c.val * 64 + d.val, by omega⟩) * q (ix2 i ⟨h.val * 64 + d.val, by omega⟩)) * Ideal.ofBits .f32 1040187392#32

theorem sum_lo (a f : Fin 128 → EReal) :
    ∑ x : Fin 128, a x * (if x.val < 64 then f x else 0) = ∑ d : Fin 64, a (Fin.castAdd 64 d) * f (Fin.castAdd 64 d) := by
  rw [Fin.sum_univ_add (a := 64) (b := 64) fun x => a x * (if x.val < 64 then f x else 0)]
  have h1 : ∀ d : Fin 64, a (Fin.natAdd 64 d) * (if (Fin.natAdd 64 d).val < 64 then f (Fin.natAdd 64 d) else 0) = 0 := fun d => by
    rw [if_neg (by show ¬ 64 + d.val < 64; omega), mul_zero]
  have h2 : ∀ d : Fin 64, a (Fin.castAdd 64 d) * (if (Fin.castAdd 64 d).val < 64 then f (Fin.castAdd 64 d) else 0)
      = a (Fin.castAdd 64 d) * f (Fin.castAdd 64 d) := fun d => by
    rw [if_pos (show (Fin.castAdd 64 d).val < 64 from d.isLt)]
  simp only [h1, h2, Finset.sum_const_zero, add_zero]

theorem sum_hi (a f : Fin 128 → EReal) :
    ∑ x : Fin 128, a x * (if x.val < 64 then 0 else f x) = ∑ d : Fin 64, a (Fin.natAdd 64 d) * f (Fin.natAdd 64 d) := by
  rw [Fin.sum_univ_add (a := 64) (b := 64) fun x => a x * (if x.val < 64 then 0 else f x)]
  have h1 : ∀ d : Fin 64, a (Fin.castAdd 64 d) * (if (Fin.castAdd 64 d).val < 64 then 0 else f (Fin.castAdd 64 d)) = 0 := fun d => by
    rw [if_pos (show (Fin.castAdd 64 d).val < 64 from d.isLt), mul_zero]
  have h2 : ∀ d : Fin 64, a (Fin.natAdd 64 d) * (if (Fin.natAdd 64 d).val < 64 then 0 else f (Fin.natAdd 64 d))
      = a (Fin.natAdd 64 d) * f (Fin.natAdd 64 d) := fun d => by
    rw [if_neg (by show ¬ 64 + d.val < 64; omega)]
  simp only [h1, h2, Finset.sum_const_zero, zero_add]

/-- The factor on the queries leaves the sum. -/
theorem scaled (q k : Fin 64 → EReal) :
    ∑ d, q d * Ideal.ofBits .bf16 15872#16 * k d = (∑ d, k d * q d) * Ideal.ofBits .f32 1040187392#32 := by
  rw [eighth_bf16, eighth_f32, SwaRow.sum_mul_coe _ (by norm_num)]
  exact Finset.sum_congr rfl fun d _ => by rw [mul_comm, mul_assoc]

theorem products (kc : FVec Ideal S512x128 .bf16) (q : Vec Ideal S128x128 .bf16) (i : Fin 128) (t : Fin 512) :
    k0_pay35 kc q (ix2 i t) = ∑ x, q (ix2 i x) * Ideal.ofBits .bf16 15872#16 * kc (ix2 t x) := by
  pointwise [k0_pay35]

theorem mod_lo (c : Fin 2) (d : Fin 64) : laneOf c (Fin.castAdd 64 d) = ⟨c.val * 64 + d.val, by omega⟩ :=
  Fin.ext (by show c.val * 64 + d.val % 64 = c.val * 64 + d.val; omega)

theorem mod_hi (c : Fin 2) (d : Fin 64) : laneOf c (Fin.natAdd 64 d) = ⟨c.val * 64 + d.val, by omega⟩ :=
  Fin.ext (by show c.val * 64 + (64 + d.val) % 64 = c.val * 64 + d.val; omega)

/-- The products with keys that fill the low lanes are the first head's scores. -/
theorem lo_score (c : Fin 2) (q : Vec Ideal S128x128 .bf16) (k : Vec Ideal S128x128 .f32) (i u : Fin 128) :
    ∑ x : Fin 128, q (ix2 i x) * Ideal.ofBits .bf16 15872#16 * (if x.val < 64 then k (ix2 u (laneOf c x)) else 0) = score 0 c q k i u := by
  rw [sum_lo (fun x => q (ix2 i x) * Ideal.ofBits .bf16 15872#16) fun x => k (ix2 u (laneOf c x))]
  simp only [mod_lo]
  rw [scaled (fun d : Fin 64 => q (ix2 i (Fin.castAdd 64 d))) fun d => k (ix2 u ⟨c.val * 64 + d.val, by omega⟩)]
  refine congrArg (· * _) (Finset.sum_congr rfl fun d _ => congrArg (fun b => _ * q (ix2 i b)) (Fin.ext ?_))
  show d.val = 0 * 64 + d.val
  omega

/-- The products with keys that fill the high lanes are the second head's scores. -/
theorem hi_score (c : Fin 2) (q : Vec Ideal S128x128 .bf16) (k : Vec Ideal S128x128 .f32) (i u : Fin 128) :
    ∑ x : Fin 128, q (ix2 i x) * Ideal.ofBits .bf16 15872#16 * (if x.val < 64 then 0 else k (ix2 u (laneOf c x))) = score 1 c q k i u := by
  rw [sum_hi (fun x => q (ix2 i x) * Ideal.ofBits .bf16 15872#16) fun x => k (ix2 u (laneOf c x))]
  simp only [mod_hi]
  rw [scaled (fun d : Fin 64 => q (ix2 i (Fin.natAdd 64 d))) fun d => k (ix2 u ⟨c.val * 64 + d.val, by omega⟩)]
  refine congrArg (· * _) (Finset.sum_congr rfl fun d _ => congrArg (fun b => _ * q (ix2 i b)) (Fin.ext ?_))
  show 64 + d.val = 1 * 64 + d.val
  omega

section scores

variable (c : Fin 2) (q : Vec Ideal S128x128 .bf16) (o p : Vec Ideal S128x128 .f32) (i u : Fin 128)

theorem scoresLo_apply : scoresLo (k0_pay35 (keysAt o p c) q) (ix2 i u)
    = SwaRow.kept i True (fun u => score 0 c q p i u) (fun u => score 0 c q o i u) u := by
  have h := keys_apply o p u
  unfold scoresLo
  have hp := products (keysAt o p c) q i
  generalize k0_pay35 (keysAt o p c) q = S at hp ⊢
  pointwise [k0_pay145, k0_pay3]
  rw [select_diag, hp, hp]
  simp only [(h _ c).1, (h _ c).2.2.1]
  exact if_congr Iff.rfl (lo_score c q o i u) ((lo_score c q p i u).trans (if_pos trivial).symm)

theorem scoresHi_apply : scoresHi (k0_pay35 (keysAt o p c) q) (ix2 i u)
    = SwaRow.kept i True (fun u => score 1 c q p i u) (fun u => score 1 c q o i u) u := by
  have h := keys_apply o p u
  unfold scoresHi
  have hp := products (keysAt o p c) q i
  generalize k0_pay35 (keysAt o p c) q = S at hp ⊢
  pointwise [k0_pay150, k0_pay3]
  rw [select_diag, hp, hp]
  simp only [(h _ c).2.1, (h _ c).2.2.2]
  exact if_congr Iff.rfl (hi_score c q o i u) ((hi_score c q p i u).trans (if_pos trivial).symm)

theorem scoresLoFirst_apply (n : Fin 8) : scoresLoFirst (BitVec.ofNat 32 n.val) (k0_pay35 (keysAt o p c) q) (ix2 i u)
    = SwaRow.kept i (0 < n.val) (fun u => score 0 c q p i u) (fun u => score 0 c q o i u) u := by
  have h := keys_apply o p u
  unfold scoresLoFirst
  have hp := products (keysAt o p c) q i
  generalize k0_pay35 (keysAt o p c) q = S at hp ⊢
  pointwise [k0_pay39, k0_pay3]
  rw [select_diag, select_pos, hp, hp, mask_bot]
  simp only [(h _ c).1, (h _ c).2.2.1]
  exact if_congr Iff.rfl (lo_score c q o i u) (if_congr Iff.rfl (lo_score c q p i u) rfl)

theorem scoresHiFirst_apply (n : Fin 8) : scoresHiFirst (BitVec.ofNat 32 n.val) (k0_pay35 (keysAt o p c) q) (ix2 i u)
    = SwaRow.kept i (0 < n.val) (fun u => score 1 c q p i u) (fun u => score 1 c q o i u) u := by
  have h := keys_apply o p u
  unfold scoresHiFirst
  have hp := products (keysAt o p c) q i
  generalize k0_pay35 (keysAt o p c) q = S at hp ⊢
  pointwise [k0_pay44, k0_pay3]
  rw [select_diag, select_pos, hp, hp, mask_bot]
  simp only [(h _ c).2.1, (h _ c).2.2.2]
  exact if_congr Iff.rfl (hi_score c q o i u) (if_congr Iff.rfl (hi_score c q p i u) rfl)

end scores

/-! ## A pair of heads -/

/-- A pair's output at row `i`, lane `x`. -/
abbrev pairRow (P : Prop) [Decidable P] (c : Fin 2) (q : Vec Ideal S128x128 .bf16) (o p ov pv : Vec Ideal S128x128 .f32) (k : Fin 2 → EReal)
    (i x : Fin 128) : EReal :=
  SwaRow.kerOut i (SwaRow.kept i P (fun u => score ⟨x.val / 64, by omega⟩ c q p i u) (fun u => score ⟨x.val / 64, by omega⟩ c q o i u))
    (k ⟨x.val / 64, by omega⟩) (fun u => ov (ix2 u (laneOf c x))) (fun u => pv (ix2 u (laneOf c x)))

theorem pair_apply (P : Prop) [Decidable P] (c : Fin 2) (q : Vec Ideal S128x128 .bf16) (o p ov pv : Vec Ideal S128x128 .f32) (k1 k2 : EReal)
    (i x : Fin 128) (s1 s2 : FVec Ideal S128x128 .f32)
    (h1 : ∀ u, s1 (ix2 i u) = SwaRow.kept i P (fun u => score 0 c q p i u) (fun u => score 0 c q o i u) u)
    (h2 : ∀ u, s2 (ix2 i u) = SwaRow.kept i P (fun u => score 1 c q p i u) (fun u => score 1 c q o i u) u) :
    pairOut s1 s2 k1 k2 (valsAt ov pv c) (ix2 i x) = pairRow P c q o p ov pv ![k1, k2] i x := by
  have hv := fun u => vals_apply ov pv u x c
  have e1 := head_apply s1 k1 (valsAt ov pv c) i x
  have e2 := head_apply s2 k2 (valsAt ov pv c) i x
  unfold pairOut
  generalize headOut s1 k1 (valsAt ov pv c) = A at e1 ⊢
  generalize headOut s2 k2 (valsAt ov pv c) = B at e2 ⊢
  pointwise [k0_pay2]
  rw [select_lane, e1, e2]
  simp only [h1, h2, (hv _).1, (hv _).2]
  by_cases hx : x.val < 64
  · rw [if_pos hx]
    have e : (⟨x.val / 64, by omega⟩ : Fin 2) = 0 := Fin.ext (by show x.val / 64 = 0; omega)
    unfold pairRow
    rw [e]
    rfl
  · rw [if_neg hx]
    have e : (⟨x.val / 64, by omega⟩ : Fin 2) = 1 := Fin.ext (by show x.val / 64 = 1; omega)
    unfold pairRow
    rw [e]
    rfl

theorem ld_q (x1 : Vec Ideal S256x1024 .bf16) (s : Fin 2) (j : Fin 8) (i x : Fin 128) :
    View.ld x1 (rectQ s j) (ix2 i x) = x1 (ix2 ⟨s.val * 128 + i.val, by omega⟩ ⟨j.val * 128 + x.val, by omega⟩) := by
  refine congrArg x1 (funext fun a => Fin.ext ?_)
  match a with
  | ⟨0, _⟩ => show 128 * s.val + 1 * i.val = s.val * 128 + i.val; omega
  | ⟨1, _⟩ => show 128 * j.val + 1 * x.val = j.val * 128 + x.val; omega

theorem ld_k (x2 : Vec Ideal S256x256 .f32) (s c : Fin 2) (u x : Fin 128) :
    View.ld x2 (rectK s c) (ix2 u x) = x2 (ix2 ⟨s.val * 128 + u.val, by omega⟩ ⟨c.val * 128 + x.val, by omega⟩) := by
  refine congrArg x2 (funext fun a => Fin.ext ?_)
  match a with
  | ⟨0, _⟩ => show 128 * s.val + 1 * u.val = s.val * 128 + u.val; omega
  | ⟨1, _⟩ => show 128 * c.val + 1 * x.val = c.val * 128 + x.val; omega

theorem ld_p (x3 : Vec Ideal S128x256 .f32) (c : Fin 2) (u x : Fin 128) :
    View.ld x3 (rectP c) (ix2 u x) = x3 (ix2 u ⟨c.val * 128 + x.val, by omega⟩) := by
  refine congrArg x3 (funext fun a => Fin.ext ?_)
  match a with
  | ⟨0, _⟩ => show 0 + 1 * u.val = u.val; omega
  | ⟨1, _⟩ => show 128 * c.val + 1 * x.val = c.val * 128 + x.val; omega

theorem sink_apply (x0 : Vec Ideal S16 .f32) (h : Fin 16) : sinkOf x0 h = x0 (ix1 h) := by
  refine congrArg x0 (funext fun a => Fin.ext ?_)
  match a with
  | ⟨0, _⟩ => show h.val + 1 * 0 = h.val; omega

/-! ## The block -/

section block

variable (n : Fin 8) (x0 : Vec Ideal S16 .f32) (x1 : Vec Ideal S256x1024 .bf16) (x2 : Vec Ideal S256x256 .f32) (x3 : Vec Ideal S128x256 .f32)

/-- The keys (`c = 0`) or values (`c = 1`) of the block before block `s` of the window. -/
abbrev before (s c : Fin 2) : Vec Ideal S128x128 .f32 := if s.val = 0 then View.ld x3 (rectP c) else View.ld x2 (rectK 0 c)

/-- The key head of pair `j`. -/
abbrev keyHead (j : Fin 8) : Fin 2 := ⟨j.val / 4, by omega⟩

/-- What is stored for block `s` and pair `j`, at row `i` and lane `x`. -/
abbrev stored (s : Fin 2) (j : Fin 8) (i x : Fin 128) : EReal :=
  pairRow (s.val = 1 ∨ 0 < n.val) (keyHead j) (View.ld x1 (rectQ s j)) (View.ld x2 (rectK s 0)) (before x2 x3 s 0) (View.ld x2 (rectK s 1))
    (before x2 x3 s 1) ![sinkOf x0 ⟨2 * j.val, by omega⟩, sinkOf x0 ⟨2 * j.val + 1, by omega⟩] i x

/-- The window's block, element by element. -/
abbrev blockOut (y : S256x1024.Idx) : Elt Ideal .bf16 :=
  stored n x0 x1 x2 x3 ⟨(y 0).val / 128, by have h : (y 0).val < 256 := (y 0).isLt; omega⟩
    ⟨(y 1).val / 128, by have h : (y 1).val < 1024 := (y 1).isLt; omega⟩ ⟨(y 0).val % 128, by omega⟩ ⟨(y 1).val % 128, by omega⟩

theorem keysOf_eq (j : Fin 8) (o p : Vec Ideal S128x128 .f32) : keysOf j o p = keysAt o p (keyHead j) :=
  if_congr (by show j.val < 4 ↔ j.val / 4 = 0; omega) rfl rfl

theorem valsOf_eq (j : Fin 8) (o p : Vec Ideal S128x128 .f32) : valsOf j o p = valsAt o p (keyHead j) :=
  if_congr (by show j.val < 4 ↔ j.val / 4 = 0; omega) rfl rfl

theorem kept_congr {P P' : Prop} [Decidable P] [Decidable P'] (h : P ↔ P') (i : Fin 128) (a b : Fin 128 → EReal) (u : Fin 128) :
    SwaRow.kept i P a b u = SwaRow.kept i P' a b u := if_congr Iff.rfl rfl (if_congr h rfl rfl)

theorem blockOut_at (s : Fin 2) (j : Fin 8) (i x : Fin 128) (y : S256x1024.Idx) (h0 : (y 0).val = 128 * s.val + 1 * i.val)
    (h1 : (y 1).val = 128 * j.val + 1 * x.val) : blockOut n x0 x1 x2 x3 y = stored n x0 x1 x2 x3 s j i x := by
  have e1 : ∀ h, (⟨(y 0).val / 128, h⟩ : Fin 2) = s := fun h => Fin.ext (by show (y 0).val / 128 = s.val; omega)
  have e2 : ∀ h, (⟨(y 1).val / 128, h⟩ : Fin 8) = j := fun h => Fin.ext (by show (y 1).val / 128 = j.val; omega)
  have e3 : ∀ h, (⟨(y 0).val % 128, h⟩ : Fin 128) = i := fun h => Fin.ext (by show (y 0).val % 128 = i.val; omega)
  have e4 : ∀ h, (⟨(y 1).val % 128, h⟩ : Fin 128) = x := fun h => Fin.ext (by show (y 1).val % 128 = x.val; omega)
  unfold blockOut
  rw [e1, e2, e3, e4]

/-- A store in the window's first block. -/
theorem first_apply (j : Fin 8) (z : S128x128.Idx) :
    (first (BitVec.ofNat 32 n.val) x0 x1 x2 x3 j).2 z = blockOut n x0 x1 x2 x3 ((rectQ 0 j).emb z) := by
  obtain ⟨i, x, rfl⟩ : ∃ (i x : Fin 128), z = ix2 i x := ⟨z 0, z 1, eq_ix2 z⟩
  rw [blockOut_at n x0 x1 x2 x3 0 j i x _ rfl rfl]
  unfold first
  dsimp only
  rw [keysOf_eq, valsOf_eq]
  have h : 0 < n.val ↔ (0 : Fin 2).val = 1 ∨ 0 < n.val := ⟨Or.inr, fun h => h.resolve_left (by decide)⟩
  exact pair_apply _ _ _ _ _ _ _ _ _ i x _ _ (fun u => (scoresLoFirst_apply _ _ _ _ i u n).trans (kept_congr h i _ _ u))
    (fun u => (scoresHiFirst_apply _ _ _ _ i u n).trans (kept_congr h i _ _ u))

/-- A store in the window's second block. -/
theorem second_apply (j : Fin 8) (z : S128x128.Idx) :
    (second x0 x1 x2 j).2 z = blockOut n x0 x1 x2 x3 ((rectQ 1 j).emb z) := by
  obtain ⟨i, x, rfl⟩ : ∃ (i x : Fin 128), z = ix2 i x := ⟨z 0, z 1, eq_ix2 z⟩
  rw [blockOut_at n x0 x1 x2 x3 1 j i x _ rfl rfl]
  unfold second
  dsimp only
  rw [keysOf_eq, valsOf_eq]
  have h : True ↔ (1 : Fin 2).val = 1 ∨ 0 < n.val := ⟨fun _ => Or.inl rfl, fun _ => trivial⟩
  exact pair_apply _ _ _ _ _ _ _ _ _ i x _ _ (fun u => (scoresLo_apply _ _ _ _ i u).trans (kept_congr h i _ _ u))
    (fun u => (scoresHi_apply _ _ _ _ i u).trans (kept_congr h i _ _ u))

/-- The block the body leaves, element by element. -/
theorem out_apply (c : Dev nD) (i : grid0.Coords) (arg2 : Memref sig .tc .smem S16 .f32) (harg2 : arg2.IsWhole)
    (arg3 : Memref sig .tc .vmem S256x1024 .bf16) (harg3 : arg3.IsWhole) (arg4 : Memref sig .tc .vmem S256x256 .f32) (harg4 : arg4.IsWhole)
    (arg5 : Memref sig .tc .vmem S128x256 .f32) (harg5 : arg5.IsWhole) (arg6 : Memref sig .tc .vmem S256x1024 .bf16) (harg6 : arg6.IsWhole)
    (hn : (i 1).val = n.val) (r : Fin 256) (l : Fin 1024) :
    out0_A_4 (F := Ideal) c i arg2 harg2 arg3 harg3 arg4 harg4 arg5 harg5 arg6 harg6 x0 x1 x2 x3 (ix2 r l)
      = blockOut n x0 x1 x2 x3 (ix2 r l) := by
  unfold out0_A_4
  rw [View.read_writes_eq_canon _ _ _ (fun z => cover0_A_4 c i arg2 harg2 arg3 harg3 arg4 harg4 arg5 harg5 arg6 harg6 x0 x1 x2 x3 z)]
  refine View.canon_apply_of_pieces (blockOut n x0 x1 x2 x3) _ (fun p hp z => ?_) (ix2 r l)
    (cover0_A_4 c i arg2 harg2 arg3 harg3 arg4 harg4 arg5 harg5 arg6 harg6 x0 x1 x2 x3 (ix2 r l))
  rw [run_eq] at hp
  simp only [Memref.IsWhole.read_unread, hn, List.mem_cons, List.mem_nil_iff, or_false] at hp
  rcases hp with rfl | rfl | rfl | rfl | rfl | rfl | rfl | rfl | rfl | rfl | rfl | rfl | rfl | rfl | rfl | rfl
  · exact second_apply n x0 x1 x2 x3 7 z
  · exact second_apply n x0 x1 x2 x3 6 z
  · exact second_apply n x0 x1 x2 x3 5 z
  · exact second_apply n x0 x1 x2 x3 4 z
  · exact second_apply n x0 x1 x2 x3 3 z
  · exact second_apply n x0 x1 x2 x3 2 z
  · exact second_apply n x0 x1 x2 x3 1 z
  · exact second_apply n x0 x1 x2 x3 0 z
  · exact first_apply n x0 x1 x2 x3 7 z
  · exact first_apply n x0 x1 x2 x3 6 z
  · exact first_apply n x0 x1 x2 x3 5 z
  · exact first_apply n x0 x1 x2 x3 4 z
  · exact first_apply n x0 x1 x2 x3 3 z
  · exact first_apply n x0 x1 x2 x3 2 z
  · exact first_apply n x0 x1 x2 x3 1 z
  · exact first_apply n x0 x1 x2 x3 0 z

end block

end Cert.SwaBlock

end
-- ==== Proof.SwaRef.lean ====
module

public import proofs.«01_k».proof.Proof.Gen.ReferenceIdeal.Read
public import proofs.«01_k».proof.Proof.SwaRow
public import Idealize.ShloMosaic.Lib.ValueIdxRank6
public import Idealize.ShloMosaic.Lib.WordCmp

@[expose] public section

set_option maxRecDepth 16384

/-! # The windowed attention's reference, row by row -/

noncomputable section

namespace Cert.SwaRef

open Cert.ReferenceIdeal Cert.ReferenceIdeal.Read Idealize.ShloMosaic Idealize.ShloMosaic.WordCmp

/-- Row `i` of block `n` of batch `b`. -/
abbrev row (b : Fin 8) (n : Fin 16) (i : Fin 128) : Fin 16384 := ⟨b.val * 2048 + (n.val * 128 + i.val), by omega⟩

/-- Row `i` of the block before. -/
abbrev rowPrev (b : Fin 8) (n : Fin 16) (i : Fin 128) : Fin 16384 := ⟨b.val * 2048 + ((n.val - 1) * 128 + i.val), by omega⟩

/-- Lane `d` of query head `g` of key head `c`. -/
abbrev laneQ (c : Fin 2) (g : Fin 8) (d : Fin 64) : Fin 1024 := ⟨(c.val * 8 + g.val) * 64 + d.val, by omega⟩

/-- Lane `d` of the keys of key head `c`. -/
abbrev laneK (c : Fin 2) (d : Fin 64) : Fin 256 := ⟨c.val * 64 + d.val, by omega⟩

/-- Lane `d` of the values of key head `c`. -/
abbrev laneV (c : Fin 2) (d : Fin 64) : Fin 256 := ⟨128 + (c.val * 64 + d.val), by omega⟩

/-- The factor on the scores, one eighth. -/
abbrev scale : EReal := Ideal.ofBits .f32 1040187392#32

variable (Q : (⟨S16384x1024, .bf16⟩ : BufTy).Contents (Elt Ideal)) (K : (⟨S16384x256, .f32⟩ : BufTy).Contents (Elt Ideal))
  (T : (⟨S16, .f32⟩ : BufTy).Contents (Elt Ideal))

theorem select_ofBool {α : Type} (p : Bool) (x y : α) : Scalar.select (BitVec.ofBool p) x y = if p then x else y := by
  cases p <;> rfl

/-- The score of query head `c, g` in row `r` against row `r'`. -/
abbrev score (r r' : Fin 16384) (c : Fin 2) (g : Fin 8) : EReal :=
  (∑ d, K (ix2 r' (laneK c d)) * Q (ix2 r (laneQ c g d))) * scale

theorem keys_prev (b : Fin 8) (n : Fin 16) (u : Fin 128) (c : Fin 2) (d : Fin 64) (hn : 0 < n.val) :
    val_main_v10 (F := Ideal) K (ix5 b n (Fin.castAdd 128 u) c d) = K (ix2 (rowPrev b n u) (laneK c d)) := by
  pointwise [val_main_v10, val_main_v9, val_main_v8, val_main_v7, val_main_v3, val_main_v2, val_main_call0_v0, val_main_c]
  have hu : (Fin.castAdd 128 u).val < 128 := u.isLt
  rw [dif_pos hu, dif_pos ⟨⟨hn, by omega⟩, hu⟩]
  exact congrArg (fun r => K (ix2 r _)) (Fin.ext (by show b.val * 2048 + (n.val - 1) * 128 + u.val = b.val * 2048 + ((n.val - 1) * 128 + u.val); omega))

theorem keys_own (b : Fin 8) (n : Fin 16) (u : Fin 128) (c : Fin 2) (d : Fin 64) :
    val_main_v10 (F := Ideal) K (ix5 b n (Fin.natAdd 128 u) c d) = K (ix2 (row b n u) (laneK c d)) := by
  pointwise [val_main_v10, val_main_v9, val_main_v8, val_main_v7, val_main_v3, val_main_v2, val_main_call0_v0, val_main_c]
  rw [dif_neg (by show ¬ 128 + u.val < 128; omega)]
  exact congrArg (fun r => K (ix2 r _)) (Fin.ext (by show b.val * 2048 + n.val * 128 + (128 + u.val - 128) = b.val * 2048 + (n.val * 128 + u.val); omega))

theorem vals_prev (b : Fin 8) (n : Fin 16) (u : Fin 128) (c : Fin 2) (d : Fin 64) (hn : 0 < n.val) :
    val_main_v14 (F := Ideal) K (ix5 b n (Fin.castAdd 128 u) c d) = K (ix2 (rowPrev b n u) (laneV c d)) := by
  pointwise [val_main_v14, val_main_v13, val_main_v12, val_main_v11, val_main_v5, val_main_v4, val_main_call1_v0, val_main_c_0]
  have hu : (Fin.castAdd 128 u).val < 128 := u.isLt
  rw [dif_pos hu, dif_pos ⟨⟨hn, by omega⟩, hu⟩]
  exact congrArg (fun r => K (ix2 r _)) (Fin.ext (by show b.val * 2048 + (n.val - 1) * 128 + u.val = b.val * 2048 + ((n.val - 1) * 128 + u.val); omega))

theorem vals_own (b : Fin 8) (n : Fin 16) (u : Fin 128) (c : Fin 2) (d : Fin 64) :
    val_main_v14 (F := Ideal) K (ix5 b n (Fin.natAdd 128 u) c d) = K (ix2 (row b n u) (laneV c d)) := by
  pointwise [val_main_v14, val_main_v13, val_main_v12, val_main_v11, val_main_v5, val_main_v4, val_main_call1_v0, val_main_c_0]
  rw [dif_neg (by show ¬ 128 + u.val < 128; omega)]
  exact congrArg (fun r => K (ix2 r _)) (Fin.ext (by show b.val * 2048 + n.val * 128 + (128 + u.val - 128) = b.val * 2048 + (n.val * 128 + u.val); omega))

theorem queries (b : Fin 8) (n : Fin 16) (i : Fin 128) (c : Fin 2) (g : Fin 8) (d : Fin 64) :
    val_main_v6 (F := Ideal) Q (ix6 b n i c g d) = Q (ix2 (row b n i) (laneQ c g d)) := by
  have e : val_main_v1 (F := Ideal) Q (ix4 b ⟨n.val * 128 + i.val, by omega⟩ ⟨c.val * 8 + g.val, by omega⟩ d)
      = Q (ix2 (row b n i) (laneQ c g d)) := by
    pointwise [val_main_v1, val_main_v0]
  unfold val_main_v6
  rw [← e]
  generalize val_main_v1 (F := Ideal) Q = A
  refine shapeCast_apply A _ _ _ ?_
  rw [Shape.rowMajor_val_four, Shape.rowMajor_val_six]
  show ((b.val * 2048 + (n.val * 128 + i.val)) * 16 + (c.val * 8 + g.val)) * 64 + d.val
    = ((((b.val * 16 + n.val) * 128 + i.val) * 2 + c.val) * 8 + g.val) * 64 + d.val
  omega

theorem toInt (k : ℕ) : BitVec.ofNat 32 k = BitVec.ofInt 32 k := (BitVec.ofInt_natCast 32 k).symm

theorem ofInt_sub (a b : ℤ) : BitVec.ofInt 32 (a - b) = BitVec.ofInt 32 a - BitVec.ofInt 32 b := by
  have h : BitVec.ofInt 32 (a - b) + BitVec.ofInt 32 b = BitVec.ofInt 32 a := by rw [← BitVec.ofInt_add, sub_add_cancel]
  rw [← h, BitVec.add_sub_cancel]

theorem mask_bits (n : Fin 16) (i : Fin 128) (s : Fin 256) : val_main_v46 (F := Ideal) (ix3 n i s)
    = BitVec.ofBool (decide (128 ≤ n.val * 128 + s.val ∧ s.val ≤ i.val + 128 ∧ i.val < s.val)) := by
  have e1 : IntOp.addi (IntOp.subi (IntOp.muli (BitVec.ofNat 32 n.val) 128#32) 128#32) (BitVec.ofNat 32 s.val)
      = BitVec.ofInt 32 (n.val * 128 - 128 + s.val) := by
    show (BitVec.ofNat 32 n.val * 128#32 - 128#32) + BitVec.ofNat 32 s.val = _
    rw [show (128#32 : BitVec 32) = BitVec.ofInt 32 128 from rfl, toInt n.val, toInt s.val, ← BitVec.ofInt_mul,
      ← ofInt_sub, ← BitVec.ofInt_add]
  have e2 : IntOp.subi (IntOp.addi (IntOp.muli (BitVec.ofNat 32 n.val) 128#32) (BitVec.ofNat 32 i.val))
      (BitVec.ofInt 32 (n.val * 128 - 128 + s.val)) = BitVec.ofInt 32 (i.val + 128 - s.val) := by
    show (BitVec.ofNat 32 n.val * 128#32 + BitVec.ofNat 32 i.val) - BitVec.ofInt 32 _ = _
    rw [show (128#32 : BitVec 32) = BitVec.ofInt 32 128 from rfl, toInt n.val, toInt i.val, ← BitVec.ofInt_mul,
      ← BitVec.ofInt_add, ← ofInt_sub]
    exact congrArg _ (by ring)
  pointwise [val_main_v46, val_main_v45, val_main_v44, val_main_v43, val_main_v42, val_main_v41, val_main_v40, val_main_v39, val_main_v38,
    val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_v20,
    val_main_v19, val_main_c_1, val_main_c_2, val_main_c_3, val_main_c_4, val_main_c_5]
  rw [e1, e2, cmpi_sge_eq, cmpi_sge_eq, cmpi_slt_eq, andi_ofBool, andi_ofBool]
  refine congrArg BitVec.ofBool ?_
  have t1 : (BitVec.ofInt 32 ((n.val : ℤ) * 128 - 128 + s.val)).toInt = (n.val : ℤ) * 128 - 128 + s.val := by
    rw [BitVec.toInt_ofInt]; exact Int.bmod_eq_of_le (by omega) (by omega)
  have t2 : (BitVec.ofInt 32 ((i.val : ℤ) + 128 - s.val)).toInt = (i.val : ℤ) + 128 - s.val := by
    rw [BitVec.toInt_ofInt]; exact Int.bmod_eq_of_le (by omega) (by omega)
  rw [t1, t2, show (0#32 : BitVec 32).toInt = 0 from rfl, show (128#32 : BitVec 32).toInt = 128 from rfl, ← Bool.decide_and, ← Bool.decide_and,
    decide_eq_decide]
  omega

/-- The mask's constant is `⊥`. -/
theorem neg_inf : Ideal.ofBits .f32 4286578688#32 = ⊥ := by simp [Ideal.ofBits, Ideal.ieee]

theorem scores (b : Fin 8) (n : Fin 16) (i : Fin 128) (s : Fin 256) (c : Fin 2) (g : Fin 8) :
    val_main_v16 (F := Ideal) Q K (ix6 b n c g i s)
      = ∑ d, val_main_v10 (F := Ideal) K (ix5 b n s c d) * Q (ix2 (row b n i) (laneQ c g d)) := by
  have hq := queries Q b n i c g
  unfold val_main_v16 val_main_v15
  generalize val_main_v6 (F := Ideal) Q = A at hq ⊢
  generalize val_main_v10 (F := Ideal) K = B
  pointwise
  simp only [hq]

theorem mask_apply (b : Fin 8) (n : Fin 16) (i : Fin 128) (s : Fin 256) (c : Fin 2) (g : Fin 8) :
    val_main_call2_v1 (F := Ideal) (ix6 b n c g i s) = val_main_v46 (F := Ideal) (ix3 n i s) := by
  rw [val_main_call2_v1_apply, val_main_v47_apply]
  exact congrArg _ (eq_ix3 _)

theorem zero_bits : Ideal.ofBits .f32 0#32 = 0 := by simp [Ideal.ofBits, Ideal.ieee]

/-- A score, `⊥` where the mask is not set. -/
theorem masked (b : Fin 8) (n : Fin 16) (i : Fin 128) (s : Fin 256) (c : Fin 2) (g : Fin 8) :
    val_main_v48 (F := Ideal) Q K (ix6 b n c g i s)
      = if 128 ≤ n.val * 128 + s.val ∧ s.val ≤ i.val + 128 ∧ i.val < s.val
        then (∑ d, val_main_v10 (F := Ideal) K (ix5 b n s c d) * Q (ix2 (row b n i) (laneQ c g d))) * scale else ⊥ := by
  rw [val_main_v48_apply, mask_apply, mask_bits, select_ofBool, val_main_v18_apply, scores, val_main_v17_apply, val_main_call2_v2_apply]
  simp only [decide_eq_true_eq]
  rw [show val_main_call2_v0 (F := Ideal) _ = (⊥ : EReal) from neg_inf]
  rfl

/-- The sink of query head `c, g`. -/
abbrev sink (c : Fin 2) (g : Fin 8) : EReal := T (ix1 ⟨c.val * 8 + g.val, by omega⟩)

theorem sink_apply (c : Fin 2) (g : Fin 8) : val_main_v50 (F := Ideal) T (ix4 c g 0 0) = sink T c g := by
  pointwise [val_main_v50, val_main_v49]

/-- The scores of one row against the 256 keys. -/
abbrev rowScores (b : Fin 8) (n : Fin 16) (i : Fin 128) (c : Fin 2) (g : Fin 8) (s : Fin 256) : EReal :=
  val_main_v48 (F := Ideal) Q K (ix6 b n c g i s)

theorem max_apply (b : Fin 8) (n : Fin 16) (i : Fin 128) (c : Fin 2) (g : Fin 8) :
    val_main_v51 (F := Ideal) Q K (ix5 b n c g i) = Finset.univ.sup (rowScores Q K b n i c g) := by
  unfold rowScores val_main_v51
  generalize val_main_v48 (F := Ideal) Q K = A
  rw [Host.reduce_eq_fold_single _ _ _ _ (by decide)]
  rw [show val_main_cst_7 (F := Ideal) (Shape.Idx.first Gen.h_S_) = (⊥ : EReal) from neg_inf]
  refine congrArg (fun f => Finset.fold max (⊥ : EReal) f Finset.univ) (funext fun s => ?_)
  exact congrArg A (eq_ix6 _)

theorem top_apply (b : Fin 8) (n : Fin 16) (i : Fin 128) (c : Fin 2) (g : Fin 8) :
    val_main_v55 (F := Ideal) Q K T (ix6 b n c g i 0) = SwaRow.top (rowScores Q K b n i c g) (sink T c g) := by
  rw [val_main_v55_apply, val_main_v52_apply, val_main_v54_apply, val_main_v53_apply]
  exact congrArg₂ max ((congrArg _ (eq_ix5 _)).trans (max_apply Q K b n i c g)) ((congrArg _ (eq_ix4 _)).trans (sink_apply T c g))

theorem exp_apply (b : Fin 8) (n : Fin 16) (i : Fin 128) (s : Fin 256) (c : Fin 2) (g : Fin 8) :
    val_main_v58 (F := Ideal) Q K T (ix6 b n c g i s)
      = Ideal.exp (rowScores Q K b n i c g s - SwaRow.top (rowScores Q K b n i c g) (sink T c g)) := by
  have e : val_main_v55 (F := Ideal) Q K T (idx_main_v56 (ix6 b n c g i s)) = SwaRow.top (rowScores Q K b n i c g) (sink T c g) :=
    (congrArg _ (eq_ix6 _)).trans (top_apply Q K T b n i c g)
  rw [val_main_v58_apply, val_main_v57_apply, val_main_v56_apply, e]
  rfl

theorem den_apply (b : Fin 8) (n : Fin 16) (i : Fin 128) (c : Fin 2) (g : Fin 8) :
    val_main_v65 (F := Ideal) Q K T (ix6 b n c g i 0) = SwaRow.den (rowScores Q K b n i c g) (sink T c g) := by
  rw [val_main_v65_apply, val_main_v60_apply, val_main_v59_apply, val_main_v64_apply, val_main_v63_apply, top_apply, val_main_v62_apply,
    val_main_v61_apply]
  rw [show val_main_cst_8 (F := Ideal) (Shape.Idx.first Gen.h_S_) = (0 : EReal) from zero_bits, zero_add]
  refine congrArg₂ (· + ·) (Finset.sum_congr rfl fun s _ => ?_) ?_
  · rw [← exp_apply]
    exact congrArg _ (eq_ix6 _)
  · rw [← sink_apply]
    exact congrArg (fun x => Ideal.exp (x - _)) (congrArg _ (eq_ix4 _))

theorem weights (b : Fin 8) (n : Fin 16) (i : Fin 128) (s : Fin 256) (c : Fin 2) (g : Fin 8) :
    val_main_v67 (F := Ideal) Q K T (ix6 b n c g i s)
      = Ideal.div (Ideal.exp (rowScores Q K b n i c g s - SwaRow.top (rowScores Q K b n i c g) (sink T c g)))
        (SwaRow.den (rowScores Q K b n i c g) (sink T c g)) := by
  rw [val_main_v67_apply, val_main_v66_apply, exp_apply, ← den_apply]
  exact congrArg (Ideal.div _) (congrArg _ (eq_ix6 _))

/-- Batch, block, row in the block, key head, query head of it, and lane of an element of the result. -/
abbrev batch (r : Fin 16384) : Fin 8 := ⟨r.val / 2048, by omega⟩
abbrev block (r : Fin 16384) : Fin 16 := ⟨r.val / 128 % 16, by omega⟩
abbrev inBlock (r : Fin 16384) : Fin 128 := ⟨r.val % 128, by omega⟩
abbrev keyHead (l : Fin 1024) : Fin 2 := ⟨l.val / 512, by omega⟩
abbrev member (l : Fin 1024) : Fin 8 := ⟨l.val / 64 % 8, by omega⟩
abbrev lane (l : Fin 1024) : Fin 64 := ⟨l.val % 64, by omega⟩

theorem out_split (r : Fin 16384) (l : Fin 1024) : val_main_v70 (F := Ideal) Q K T (ix2 r l)
    = val_main_v69 (F := Ideal) Q K T (ix6 (batch r) (block r) (inBlock r) (keyHead l) (member l) (lane l)) := by
  unfold val_main_v70
  generalize val_main_v69 (F := Ideal) Q K T = A
  refine shapeCast_apply A _ _ _ ?_
  rw [Shape.rowMajor_val_two, Shape.rowMajor_val_six]
  show ((((r.val / 2048 * 16 + r.val / 128 % 16) * 128 + r.val % 128) * 2 + l.val / 512) * 8 + l.val / 64 % 8) * 64 + l.val % 64 = r.val * 1024 + l.val
  omega

theorem out_row (b : Fin 8) (n : Fin 16) (i : Fin 128) (c : Fin 2) (g : Fin 8) (d : Fin 64) :
    val_main_v69 (F := Ideal) Q K T (ix6 b n i c g d)
      = SwaRow.refOut (rowScores Q K b n i c g) (sink T c g) (fun s => val_main_v14 (F := Ideal) K (ix5 b n s c d)) := by
  have hw := weights Q K T b n i
  unfold SwaRow.refOut
  simp only [← hw]
  unfold val_main_v69 val_main_v68
  generalize val_main_v67 (F := Ideal) Q K T = W
  generalize val_main_v14 (F := Ideal) K = V
  pointwise

theorem prev_apply (b : Fin 8) (n : Fin 16) (i u : Fin 128) (c : Fin 2) (g : Fin 8) :
    rowScores Q K b n i c g (Fin.castAdd 128 u) = if 0 < n.val ∧ i < u then score Q K (row b n i) (rowPrev b n u) c g else ⊥ := by
  unfold rowScores
  rw [masked]
  by_cases h : 0 < n.val ∧ i < u
  · have hu : i.val < u.val := h.2
    rw [if_pos h, if_pos ⟨by show 128 ≤ n.val * 128 + u.val; omega, by show u.val ≤ i.val + 128; omega, hu⟩]
    simp only [keys_prev K b n u c _ h.1]
  · rw [if_neg h, if_neg fun h' => h ⟨by have h1 : 128 ≤ n.val * 128 + u.val := h'.1; omega, h'.2.2⟩]

theorem own_apply (b : Fin 8) (n : Fin 16) (i u : Fin 128) (c : Fin 2) (g : Fin 8) :
    rowScores Q K b n i c g (Fin.natAdd 128 u) = if u ≤ i then score Q K (row b n i) (row b n u) c g else ⊥ := by
  unfold rowScores
  rw [masked]
  by_cases h : u ≤ i
  · have hu : u.val ≤ i.val := h
    rw [if_pos h, if_pos ⟨by show 128 ≤ n.val * 128 + (128 + u.val); omega, by show 128 + u.val ≤ i.val + 128; omega, by show i.val < 128 + u.val; omega⟩]
    simp only [keys_own K b n u c]
  · rw [if_neg h, if_neg fun h' => h (by have h1 : 128 + u.val ≤ i.val + 128 := h'.2.1; show u.val ≤ i.val; omega)]

/-- The kernel's arrangement of a row. -/
abbrev rowOut (b : Fin 8) (n : Fin 16) (i : Fin 128) (c : Fin 2) (g : Fin 8) (d : Fin 64) : EReal :=
  SwaRow.kerOut i (SwaRow.kept i (0 < n.val) (fun u => score Q K (row b n i) (rowPrev b n u) c g) (fun u => score Q K (row b n i) (row b n u) c g))
    (sink T c g) (fun u => K (ix2 (row b n u) (laneV c d))) (fun u => K (ix2 (rowPrev b n u) (laneV c d)))

theorem out_apply (hQ : ∀ r j, Finite.Num (Q (ix2 r j))) (hK : ∀ (r : Fin 16384) (j : Fin 128), Finite.Num (K (ix2 r ⟨j.val, by omega⟩)))
    (hT : ∀ h, Finite.Num (T (ix1 h))) (r : Fin 16384) (l : Fin 1024) : val_main_v71 (F := Ideal) Q K T (ix2 r l)
      = rowOut Q K T (batch r) (block r) (inBlock r) (keyHead l) (member l) (lane l) := by
  have hscale : Finite.Num scale := ⟨1 / 8, by simp [scale, Ideal.ofBits, Ideal.ieee, -EReal.coe_mul]; norm_num⟩
  have hs : ∀ r r' c g, Finite.Num (score Q K r r' c g) := fun r r' c g =>
    (Finite.Num.sum _ _ fun (d : Fin 64) => (hK r' ⟨c.val * 64 + d.val, by omega⟩).mul (hQ _ _)).mul hscale
  refine Eq.trans (out_split Q K T r l) ((out_row Q K T _ _ _ _ _ _).trans ?_)
  exact SwaRow.refOut_eq_kerOut (fun u => prev_apply Q K _ _ _ u _ _) (fun u => own_apply Q K _ _ _ u _ _) (fun u => hs _ _ _ _)
    (fun u => hs _ _ _ _) (hT _) (fun u => vals_own K _ _ u _ _) (fun hn u => vals_prev K _ _ u _ _ hn)

end Cert.SwaRef

end
-- ==== Proof.SwaValue.lean ====
module

public import proofs.«01_k».proof.Proof.SwaBlock
public import proofs.«01_k».proof.Proof.SwaRef
public import proofs.«01_k».proof.Proof.Gen.KernelIdeal.Value

@[expose] public section

set_option maxRecDepth 16384

/-! # The attention's result array is the reference's -/

noncomputable section

namespace Cert.SwaValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-! ## The reference's value of device `c`'s arguments -/

abbrev Q (c : Dev nD) : (⟨S16384x1024, .bf16⟩ : BufTy).Contents (Elt Ideal) := m ((c : Thread nD τ).loc main_arg0)
abbrev K (c : Dev nD) : (⟨S16384x256, .f32⟩ : BufTy).Contents (Elt Ideal) := m ((c : Thread nD τ).loc main_arg1)
abbrev T (c : Dev nD) : (⟨S16, .f32⟩ : BufTy).Contents (Elt Ideal) := m ((c : Thread nD τ).loc main_arg2)

abbrev G (c : Dev nD) : (⟨S16384x1024, .bf16⟩ : BufTy).Contents (Elt Ideal) :=
  ReferenceIdeal.Read.val_main_v71 (F := Ideal) (Q m c) (K m c) (T m c)

/-! ## The windows' places on the grid -/

/-- The windows of 256 rows move with the point. -/
theorem idx_rows : ∀ t : Fin grid0.N, (win0_1.index t 0 = t.val ∧ win0_1.index t 1 = 0)
    ∧ (win0_2.index t 0 = t.val ∧ win0_2.index t 1 = 0) ∧ (win0_4.index t 0 = t.val ∧ win0_4.index t 1 = 0) := by
  decide +kernel

/-- The window of the previous 128 rows stands just before them, except at a batch's start. -/
theorem idx_prev : ∀ t : Fin grid0.N, win0_3.index t 0 = t.val * 2 - min (t.val % 8) 1 ∧ win0_3.index t 1 = 0 := by
  decide +kernel

/-- The sinks' window stays. -/
theorem idx_sink : ∀ t : Fin grid0.N, win0_0.index t 0 = 0 := by
  decide +kernel

theorem coord : ∀ t : Fin grid0.N, (grid0.coords t 1).val = t.val % 8 := by
  decide +kernel

/-! ## A window's block is its array at the block's place -/

/-- Row `r` of tile `t`. -/
abbrev tileRow (t : Fin grid0.N) (r : Fin 256) : Fin 16384 := ⟨t.val * 256 + r.val, by have : grid0.N = 64 := N_0; omega⟩

/-- Row `u` of the block before tile `t`. -/
abbrev prevRow (t : Fin grid0.N) (u : Fin 128) : Fin 16384 :=
  ⟨(t.val * 2 - min (t.val % 8) 1) * 128 + u.val, by have : grid0.N = 64 := N_0; omega⟩

theorem blk0 (A : S16.Idx → EReal) (t : Fin grid0.N) (h : Fin 16) :
    (win0_0.blk t).view.read (Elt Ideal) A (ix1 h) = A (ix1 h) := by
  refine congrArg A (funext fun a => Fin.ext ?_)
  match a with
  | ⟨0, _⟩ => show win0_0.index t 0 * 16 + 1 * h.val = h.val; rw [idx_sink]; omega

theorem blk1 (A : S16384x1024.Idx → EReal) (t : Fin grid0.N) (r : Fin 256) (l : Fin 1024) :
    (win0_1.blk t).view.read (Elt Ideal) A (ix2 r l) = A (ix2 (tileRow t r) l) := by
  refine congrArg A (funext fun a => Fin.ext ?_)
  obtain ⟨h0, h1⟩ := (idx_rows t).1
  match a with
  | ⟨0, _⟩ => show win0_1.index t 0 * 256 + 1 * r.val = t.val * 256 + r.val; rw [h0]; omega
  | ⟨1, _⟩ => show win0_1.index t 1 * 1024 + 1 * l.val = l.val; rw [h1]; omega

theorem blk2 (A : S16384x256.Idx → EReal) (t : Fin grid0.N) (r : Fin 256) (l : Fin 256) :
    (win0_2.blk t).view.read (Elt Ideal) A (ix2 r l) = A (ix2 (tileRow t r) l) := by
  refine congrArg A (funext fun a => Fin.ext ?_)
  obtain ⟨h0, h1⟩ := (idx_rows t).2.1
  match a with
  | ⟨0, _⟩ => show win0_2.index t 0 * 256 + 1 * r.val = t.val * 256 + r.val; rw [h0]; omega
  | ⟨1, _⟩ => show win0_2.index t 1 * 256 + 1 * l.val = l.val; rw [h1]; omega

theorem blk3 (A : S16384x256.Idx → EReal) (t : Fin grid0.N) (u : Fin 128) (l : Fin 256) :
    (win0_3.blk t).view.read (Elt Ideal) A (ix2 u l) = A (ix2 (prevRow t u) l) := by
  refine congrArg A (funext fun a => Fin.ext ?_)
  obtain ⟨h0, h1⟩ := idx_prev t
  match a with
  | ⟨0, _⟩ => show win0_3.index t 0 * 128 + 1 * u.val = (t.val * 2 - min (t.val % 8) 1) * 128 + u.val; rw [h0]; omega
  | ⟨1, _⟩ => show win0_3.index t 1 * 256 + 1 * l.val = l.val; rw [h1]; omega

theorem blk4 (A : S16384x1024.Idx → EReal) (t : Fin grid0.N) (r : Fin 256) (l : Fin 1024) :
    (win0_4.blk t).view.read (Elt Ideal) A (ix2 r l) = A (ix2 (tileRow t r) l) := by
  refine congrArg A (funext fun a => Fin.ext ?_)
  obtain ⟨h0, h1⟩ := (idx_rows t).2.2
  match a with
  | ⟨0, _⟩ => show win0_4.index t 0 * 256 + 1 * r.val = t.val * 256 + r.val; rw [h0]; omega
  | ⟨1, _⟩ => show win0_4.index t 1 * 1024 + 1 * l.val = l.val; rw [h1]; omega

/-! ## The block at a point, over the arrays -/

section tile

variable (A : S16384x1024.Idx → EReal) (B : S16384x256.Idx → EReal) (C : S16.Idx → EReal) (t : Fin grid0.N)
  {x0 : Vec Ideal S16 .f32} {x1 : Vec Ideal S256x1024 .bf16} {x2 : Vec Ideal S256x256 .f32} {x3 : Vec Ideal S128x256 .f32}

/-- The rows of the reference's block of row `r` of the tile are the tile's. -/
theorem row_eq (r : Fin 256) (u : Fin 128) (h : r.val / 128 * 128 + u.val < 256) :
    SwaRef.row (SwaRef.batch (tileRow t r)) (SwaRef.block (tileRow t r)) u = tileRow t ⟨r.val / 128 * 128 + u.val, h⟩ := by
  refine Fin.ext ?_
  show (t.val * 256 + r.val) / 2048 * 2048 + ((t.val * 256 + r.val) / 128 % 16 * 128 + u.val) = t.val * 256 + (r.val / 128 * 128 + u.val)
  omega

/-- The block before it, as the body finds it: in the window of the previous rows for the tile's first block, in the tile itself for the second. -/
theorem before_eq (h2 : ∀ r l, x2 (ix2 r l) = B (ix2 (tileRow t r) l)) (h3 : ∀ u l, x3 (ix2 u l) = B (ix2 (prevRow t u) l))
    (r : Fin 256) (s : Fin 2) (hs : s.val = r.val / 128) (k : Fin 2) (u x : Fin 128) :
    SwaBlock.before x2 x3 s k (ix2 u x)
      = B (ix2 (SwaRef.rowPrev (SwaRef.batch (tileRow t r)) (SwaRef.block (tileRow t r)) u) ⟨k.val * 128 + x.val, by omega⟩) := by
  unfold SwaBlock.before
  by_cases h : s.val = 0
  · rw [if_pos h, SwaBlock.ld_p, h3]
    refine congrArg B (congrArg (ix2 · _) (Fin.ext ?_))
    show (t.val * 2 - min (t.val % 8) 1) * 128 + u.val
      = (t.val * 256 + r.val) / 2048 * 2048 + (((t.val * 256 + r.val) / 128 % 16 - 1) * 128 + u.val)
    omega
  · rw [if_neg h, SwaBlock.ld_k, h2]
    refine congrArg B (congrArg (ix2 · _) (Fin.ext ?_))
    show t.val * 256 + ((0 : Fin 2).val * 128 + u.val)
      = (t.val * 256 + r.val) / 2048 * 2048 + (((t.val * 256 + r.val) / 128 % 16 - 1) * 128 + u.val)
    have : s.val < 2 := s.isLt
    show t.val * 256 + (0 * 128 + u.val) = _
    omega

theorem own_eq (h2 : ∀ r l, x2 (ix2 r l) = B (ix2 (tileRow t r) l)) (r : Fin 256) (s : Fin 2) (hs : s.val = r.val / 128) (k : Fin 2) (u x : Fin 128) :
    View.ld x2 (SwaStage.rectK s k) (ix2 u x)
      = B (ix2 (SwaRef.row (SwaRef.batch (tileRow t r)) (SwaRef.block (tileRow t r)) u) ⟨k.val * 128 + x.val, by omega⟩) := by
  rw [SwaBlock.ld_k, h2, row_eq t r u (by omega)]
  refine congrArg B (congrArg (ix2 · _) (Fin.ext ?_))
  show t.val * 256 + (s.val * 128 + u.val) = t.val * 256 + (r.val / 128 * 128 + u.val)
  rw [hs]

theorem query_eq (h1 : ∀ r l, x1 (ix2 r l) = A (ix2 (tileRow t r) l)) (r : Fin 256) (s : Fin 2) (hs : s.val = r.val / 128) (j : Fin 8) (i x : Fin 128) :
    View.ld x1 (SwaStage.rectQ s j) (ix2 i x)
      = A (ix2 (SwaRef.row (SwaRef.batch (tileRow t r)) (SwaRef.block (tileRow t r)) i) ⟨j.val * 128 + x.val, by omega⟩) := by
  rw [SwaBlock.ld_q, h1, row_eq t r i (by omega)]
  refine congrArg A (congrArg (ix2 · _) (Fin.ext ?_))
  show t.val * 256 + (s.val * 128 + i.val) = t.val * 256 + (r.val / 128 * 128 + i.val)
  rw [hs]

theorem sink_eq (h0 : ∀ h, x0 (ix1 h) = C (ix1 h)) (l : Fin 1024) (j : Fin 8) (hj : j.val = l.val / 128) (g : Fin 2) (hg : g.val = l.val % 128 / 64) :
    (![SwaStage.sinkOf x0 ⟨2 * j.val, by omega⟩, SwaStage.sinkOf x0 ⟨2 * j.val + 1, by omega⟩] : Fin 2 → EReal) g
      = SwaRef.sink C (SwaRef.keyHead l) (SwaRef.member l) := by
  unfold SwaRef.sink
  match g, hg with
  | ⟨0, _⟩, hg =>
    refine ((SwaBlock.sink_apply x0 _).trans (h0 _)).trans (congrArg C (congrArg ix1 (Fin.ext ?_)))
    show 2 * j.val = l.val / 512 * 8 + l.val / 64 % 8
    change 0 = _ at hg
    omega
  | ⟨1, _⟩, hg =>
    refine ((SwaBlock.sink_apply x0 _).trans (h0 _)).trans (congrArg C (congrArg ix1 (Fin.ext ?_)))
    show 2 * j.val + 1 = l.val / 512 * 8 + l.val / 64 % 8
    change 1 = _ at hg
    omega

/-- A head's score against a row is the reference's, if the keys are. -/
theorem score_eq (h1 : ∀ r l, x1 (ix2 r l) = A (ix2 (tileRow t r) l)) (r : Fin 256) (l : Fin 1024) (s : Fin 2) (hs : s.val = r.val / 128)
    (j : Fin 8) (hj : j.val = l.val / 128) (g : Fin 2) (hg : g.val = l.val % 128 / 64) (i : Fin 128) (k : Vec Ideal S128x128 .f32) (r' : Fin 16384) (u : Fin 128)
    (hk : ∀ x : Fin 128, k (ix2 u x) = B (ix2 r' ⟨x.val, by omega⟩)) :
    SwaBlock.score g (SwaBlock.keyHead j) (View.ld x1 (SwaStage.rectQ s j)) k i u
      = SwaRef.score A B (SwaRef.row (SwaRef.batch (tileRow t r)) (SwaRef.block (tileRow t r)) i) r' (SwaRef.keyHead l) (SwaRef.member l) := by
  unfold SwaBlock.score SwaRef.score
  refine congrArg (· * _) (Finset.sum_congr rfl fun d _ => congrArg₂ (· * ·) ?_ ?_)
  · refine (hk _).trans (congrArg B (congrArg (ix2 _ ·) (Fin.ext ?_)))
    show j.val / 4 * 64 + d.val = l.val / 512 * 64 + d.val
    omega
  · refine (query_eq A t h1 r s hs j i _).trans (congrArg A (congrArg (ix2 _ ·) (Fin.ext ?_)))
    show j.val * 128 + (g.val * 64 + d.val) = (l.val / 512 * 8 + l.val / 64 % 8) * 64 + d.val
    omega

/-- The block's element is the reference's row of the arrays. -/
theorem block_eq (n : Fin 8) (hn : n.val = t.val % 8) (h0 : ∀ h, x0 (ix1 h) = C (ix1 h)) (h1 : ∀ r l, x1 (ix2 r l) = A (ix2 (tileRow t r) l))
    (h2 : ∀ r l, x2 (ix2 r l) = B (ix2 (tileRow t r) l)) (h3 : ∀ u l, x3 (ix2 u l) = B (ix2 (prevRow t u) l)) (r : Fin 256) (l : Fin 1024) :
    SwaBlock.blockOut n x0 x1 x2 x3 (ix2 r l)
      = SwaRef.rowOut A B C (SwaRef.batch (tileRow t r)) (SwaRef.block (tileRow t r)) (SwaRef.inBlock (tileRow t r)) (SwaRef.keyHead l)
          (SwaRef.member l) (SwaRef.lane l) := by
  let s : Fin 2 := ⟨r.val / 128, by omega⟩
  let j : Fin 8 := ⟨l.val / 128, by omega⟩
  let x : Fin 128 := ⟨l.val % 128, by omega⟩
  let i : Fin 128 := ⟨r.val % 128, by omega⟩
  let g : Fin 2 := ⟨l.val % 128 / 64, by omega⟩
  have hi : SwaRef.inBlock (tileRow t r) = i := Fin.ext (by show (t.val * 256 + r.val) % 128 = r.val % 128; omega)
  have hP : s.val = 1 ∨ 0 < n.val ↔ 0 < (SwaRef.block (tileRow t r)).val := by
    show r.val / 128 = 1 ∨ 0 < n.val ↔ 0 < (t.val * 256 + r.val) / 128 % 16
    omega
  have hx : (SwaBlock.laneOf (SwaBlock.keyHead j) x).val = l.val / 512 * 64 + l.val % 64 := by
    show l.val / 128 / 4 * 64 + l.val % 128 % 64 = _
    omega
  rw [hi]
  show SwaBlock.pairRow _ (SwaBlock.keyHead j) (View.ld x1 (SwaStage.rectQ s j)) (View.ld x2 (SwaStage.rectK s 0)) (SwaBlock.before x2 x3 s 0)
    (View.ld x2 (SwaStage.rectK s 1)) (SwaBlock.before x2 x3 s 1) _ i x = _
  unfold SwaBlock.pairRow SwaRef.rowOut
  have ek : SwaRow.kept i (s.val = 1 ∨ 0 < n.val)
        (fun u => SwaBlock.score g (SwaBlock.keyHead j) (View.ld x1 (SwaStage.rectQ s j)) (SwaBlock.before x2 x3 s 0) i u)
        (fun u => SwaBlock.score g (SwaBlock.keyHead j) (View.ld x1 (SwaStage.rectQ s j)) (View.ld x2 (SwaStage.rectK s 0)) i u)
      = SwaRow.kept i (0 < (SwaRef.block (tileRow t r)).val)
        (fun u => SwaRef.score A B (SwaRef.row (SwaRef.batch (tileRow t r)) (SwaRef.block (tileRow t r)) i)
          (SwaRef.rowPrev (SwaRef.batch (tileRow t r)) (SwaRef.block (tileRow t r)) u) (SwaRef.keyHead l) (SwaRef.member l))
        (fun u => SwaRef.score A B (SwaRef.row (SwaRef.batch (tileRow t r)) (SwaRef.block (tileRow t r)) i)
          (SwaRef.row (SwaRef.batch (tileRow t r)) (SwaRef.block (tileRow t r)) u) (SwaRef.keyHead l) (SwaRef.member l)) := by
    refine funext fun u => if_congr Iff.rfl ?_ (if_congr hP ?_ rfl)
    · refine score_eq A B t h1 r l s rfl j rfl g rfl i _ _ u fun x => (own_eq B t h2 r s rfl 0 u x).trans ?_
      exact congrArg B (congrArg (ix2 _ ·) (Fin.ext (by show 0 * 128 + x.val = x.val; omega)))
    · refine score_eq A B t h1 r l s rfl j rfl g rfl i _ _ u fun x => (before_eq B t h2 h3 r s rfl 0 u x).trans ?_
      exact congrArg B (congrArg (ix2 _ ·) (Fin.ext (by show 0 * 128 + x.val = x.val; omega)))
  have es := sink_eq C h0 l j rfl g rfl
  have eo : (fun u => View.ld x2 (SwaStage.rectK s 1) (ix2 u (SwaBlock.laneOf (SwaBlock.keyHead j) x)))
      = fun u => B (ix2 (SwaRef.row (SwaRef.batch (tileRow t r)) (SwaRef.block (tileRow t r)) u) (SwaRef.laneV (SwaRef.keyHead l) (SwaRef.lane l))) := by
    refine funext fun u => (own_eq B t h2 r s rfl 1 u _).trans (congrArg B (congrArg (ix2 _ ·) (Fin.ext ?_)))
    show 1 * 128 + (SwaBlock.laneOf (SwaBlock.keyHead j) x).val = 128 + (l.val / 512 * 64 + l.val % 64)
    omega
  have ep : (fun u => SwaBlock.before x2 x3 s 1 (ix2 u (SwaBlock.laneOf (SwaBlock.keyHead j) x)))
      = fun u => B (ix2 (SwaRef.rowPrev (SwaRef.batch (tileRow t r)) (SwaRef.block (tileRow t r)) u) (SwaRef.laneV (SwaRef.keyHead l) (SwaRef.lane l))) := by
    refine funext fun u => (before_eq B t h2 h3 r s rfl 1 u _).trans (congrArg B (congrArg (ix2 _ ·) (Fin.ext ?_)))
    show 1 * 128 + (SwaBlock.laneOf (SwaBlock.keyHead j) x).val = 128 + (l.val / 512 * 64 + l.val % 64)
    omega
  exact congr (congr (congr (congrArg (SwaRow.kerOut i) ek) es) eo) ep

end tile

/-! ## What a point writes back is its block of the reference's value -/

theorem flushed_eq (c : Dev nD) (hQ : ∀ (r : Fin 16384) (j : Fin 1024), Finite.Num (Q m c (ix2 r j)))
    (hK : ∀ (r : Fin 16384) (j : Fin 128), Finite.Num (K m c (ix2 r ⟨j.val, by omega⟩))) (hT : ∀ h : Fin 16, Finite.Num (T m c (ix1 h)))
    (t : Fin cfg0.N) : (dats m 0 c).flushed 4 t = ((cfg0.win 4).blk t).view.read (Elt Ideal) (G m c) := by
  rw [KernelIdeal.Value.flushed4_A]
  show (fun y : S256x1024.Idx => out0_A_4 (F := Ideal) c (grid0.coords t) (ms0_0 t) (hs0_0 t) (ms0_1 t) (hs0_1 t) (ms0_2 t) (hs0_2 t)
      (ms0_3 t) (hs0_3 t) (ms0_4 t) (hs0_4 t) (iblk m c 0 t) (iblk m c 1 t) (iblk m c 2 t) (iblk m c 3 t) y)
    = fun y : S256x1024.Idx => (win0_4.blk t).view.read (Elt Ideal) (G m c) y
  funext y
  obtain ⟨r, l, rfl⟩ : ∃ (r : Fin 256) (l : Fin 1024), y = ix2 r l := ⟨y 0, y 1, eq_ix2 y⟩
  rw [SwaBlock.out_apply ⟨t.val % 8, by omega⟩ _ _ _ _ _ _ _ _ _ _ _ _ _ _ _ _ (coord t), blk4]
  refine Eq.trans ?_ (SwaRef.out_apply _ _ _ hQ hK hT _ l).symm
  exact block_eq (Q m c) (K m c) (T m c) t _ rfl
    (fun h => (blk0 _ t h).trans (congrFun (V_main_arg2 m c) _)) (fun r l => (blk1 _ t r l).trans (congrFun (V_main_arg0 m c) _))
    (fun r l => (blk2 _ t r l).trans (congrFun (V_main_arg1 m c) _)) (fun u l => (blk3 _ t u l).trans (congrFun (V_main_arg1 m c) _)) r l

theorem cover (i : S16384x1024.Idx) : ∃ t : Fin cfg0.N, (cfg0.win 4).flush t = true ∧ i ∈ ((cfg0.win 4).blk t).view.set := by
  have hN : cfg0.N = 64 := N_0
  have h0 : (i 0).val < 16384 := (i 0).isLt
  have h1 : (i 1).val < 1024 := (i 1).isLt
  refine ⟨⟨(i 0).val / 256, by omega⟩, flush0_4 _, ?_⟩
  generalize ht : (⟨(i 0).val / 256, by omega⟩ : Fin cfg0.N) = t
  have htv : t.val = (i 0).val / 256 := by rw [← ht]
  obtain ⟨e0, e1⟩ := (idx_rows t).2.2
  show i ∈ ((View.whole main_v0).slice (win0_4.rect t)).set
  rw [View.set_slice_whole, Rect.mem_set_unit]
  intro a
  match a with
  | ⟨0, _⟩ =>
    show win0_4.index t 0 * 256 ≤ (i 0).val ∧ (i 0).val < win0_4.index t 0 * 256 + 256
    rw [e0]; omega
  | ⟨1, _⟩ =>
    show win0_4.index t 1 * 1024 ≤ (i 1).val ∧ (i 1).val < win0_4.index t 1 * 1024 + 1024
    rw [e1]; omega

theorem final (c : Dev nD) (hQ : ∀ (r : Fin 16384) (j : Fin 1024), Finite.Num (Q m c (ix2 r j)))
    (hK : ∀ (r : Fin 16384) (j : Fin 128), Finite.Num (K m c (ix2 r ⟨j.val, by omega⟩))) (hT : ∀ h : Fin 16, Finite.Num (T m c (ix1 h))) : (dats m 0 c).arrAt 4 cfg0.N = G m c :=
  (dats m 0 c).arrAt_eq_of_cover 4 (G m c) (fun t _ => flushed_eq m c hQ hK hT t) cover

end Cert.SwaValue

end
-- ==== Proof.SwaPre.lean ====
module

public import proofs.«01_k».proof.Pre_finite_scores
public import proofs.«01_k».proof.Proof.Gen.Pre_finite_scores
public import proofs.«01_k».proof.Proof.Finite

@[expose] public section

set_option maxRecDepth 2048

/-! # What the attention's precondition says -/

noncomputable section

namespace Cert.SwaPre

open Cert.Pre_finite_scores Idealize.ShloMosaic

/-- The first of the three arrays put end to end, read at one of its own places. -/
theorem first_piece (A : S16777216.Idx → EReal) (B : S2097152.Idx → EReal) (C : S16.Idx → EReal)
    (hc : Shape.Concatenates [S16777216, S2097152, S16] S18874384 0) (p : ℕ) (hp : p < 16777216) :
    concatenate S18874384 0 [⟨S16777216, A⟩, ⟨S2097152, B⟩, ⟨S16, C⟩] hc (ix1 ⟨p, by omega⟩) = A (ix1 ⟨p, hp⟩) :=
  concatenate_apply_piece (t := S18874384) 0 [⟨S16777216, A⟩, ⟨S2097152, B⟩, ⟨S16, C⟩] hc (ix1 ⟨p, by omega⟩) 0 (Nat.zero_lt_succ _) S16777216 A rfl
    rfl 0 rfl (ix1 ⟨p, hp⟩) (fun _ hb => absurd (Subsingleton.elim (α := Fin 1) _ _) hb) (Nat.zero_add p)

variable {Q : FVec Ideal S16384x1024 .bf16} {K : FVec Ideal S16384x256 .f32} {T : FVec Ideal S16 .f32}
variable (h : fn Q K T = fun _ => 1#1)
include h

theorem num_q (r : Fin 16384) (j : Fin 1024) : Finite.Num (Q (ix2 r j)) := by
  have hp : r.val * 1024 + j.val < 16777216 := by omega
  have e := congrFun h (ix1 ⟨r.val * 1024 + j.val, by omega⟩)
  refine Finite.num_of_test (Eq.trans (congrArg (fun x => BitVec.ofBool (decide (FloatOps.absf (F := Ideal) (φ := .f32) x < _))) (Eq.symm ?_)) e)
  refine (first_piece _ _ _ _ _ hp).trans ?_
  pointwise

theorem num_k (r : Fin 16384) (j : Fin 128) : Finite.Num (K (ix2 r ⟨j.val, by omega⟩)) := by
  have e := congrFun h (ix1 ⟨16777216 + (r.val * 128 + j.val), by omega⟩)
  refine Finite.num_of_test (Eq.trans (Eq.symm ?_) e)
  pointwise [fn]
  rw [dif_pos (by omega)]

theorem num_t (j : Fin 16) : Finite.Num (T (ix1 j)) := by
  have e := congrFun h (ix1 ⟨16777216 + (2097152 + j.val), by omega⟩)
  refine Finite.num_of_test (Eq.trans (Eq.symm ?_) e)
  pointwise [fn]

end Cert.SwaPre

end
-- ==== Proof.SwaClaims.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.SwaValue
public import proofs.«01_k».proof.Proof.SwaPre
public import Idealize.ShloMosaic.Adequacy

@[expose] public section

/-! # The claims about the windowed attention -/

noncomputable section

namespace Cert.SwaClaims

open Idealize.ShloMosaic

theorem frame : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two frames again, of the memories the precondition holds of. -/
theorem frame_ideal_pre : Cert.quiescent_KernelIdeal_pre_finite_scores := fun m ρ _ => frame_ideal m ρ trivial

theorem frame_reference_pre : Cert.quiescent_ReferenceIdeal_pre_finite_scores := fun m ρ _ => frame_reference m ρ trivial

/-- The mask's literal stands for −∞. -/
theorem preserves : Cert.preserves_Kernel_KernelIdeal :=
  IdealRules.named_const.statement Cert.KernelIdeal.κ "mask" .f32 0xF149F2CA#32 ⊥ rfl

/-- Both programs end with the reference's value of the kernel's arguments. -/
theorem algebraic : Cert.algebraic_KernelIdeal_ReferenceIdeal_pre_finite_scores := by
  intro m ρ m' ρ' hpre hagree
  refine ⟨fun c => SwaValue.G m c, ?_, ?_⟩
  · refine (θ_run Cert.KernelIdeal.defs _ _).mono (fun _ h c => ?_) (Cert.KernelIdeal.Value.run_blocks (F := Ideal) m ρ)
    exact ⟨(h c).1.trans (SwaValue.final m c (SwaPre.num_q (hpre c)) (SwaPre.num_k (hpre c)) (SwaPre.num_t (hpre c))), (h c).2⟩
  · refine (θ_run Cert.ReferenceIdeal.defs _ _).mono (fun _ h c => ?_) (Cert.ReferenceIdeal.Value.run (F := Ideal) m' ρ')
    obtain ⟨e0, e1, e2⟩ := hagree c
    refine ⟨(h c).1.trans ?_, (h c).2⟩
    rw [Cert.ReferenceIdeal.Read.val_main_v71_eq]
    show Cert.ReferenceIdeal.Read.val_main_v71 (F := Ideal) _ _ _ = Cert.ReferenceIdeal.Read.val_main_v71 _ _ _
    rw [e0, e1, e2]

end Cert.SwaClaims

end
-- ==== Proof.FfnBlock.lean ====
module

public import proofs.«01_k».proof.Proof.Gen.FfnIdeal.Value
public import proofs.«01_k».proof.Proof.Rows

@[expose] public section

set_option maxRecDepth 16384

/-! # The feed-forward kernel's block, row by row -/

noncomputable section

namespace Cert.FfnBlock

open Cert.FfnIdeal Cert.FfnIdeal.Gen Idealize.ShloMosaic

/-- The hidden row the kernel keeps, at a row and a column of the block. -/
theorem hidden_apply (x0 : Vec Ideal S1024x1024 .f32) (x1 x2 : Vec Ideal S1x1x1024 .f32) (x4 : Vec Ideal S1x1024 .f32)
    (r k : Fin 1024) :
    k0_pay4 (F := Ideal) x0 x4 x2 x1 (ix2 r k)
      = Rows.hidden (fun k => x0 (ix2 r k)) (fun k => x4 (ix2 0 k)) (fun k => x2 (ix3 0 0 k)) (fun k => x1 (ix3 0 0 k)) k := by
  pointwise [k0_pay4, k0_pay2, Rows.hidden, Rows.norm, Rows.scaleOf]

/-- Row `r` of what the body stores is the feed-forward half-step of row `r` of its input block. -/
theorem out_apply (x0 : Vec Ideal S1024x1024 .f32) (x1 x2 x3 : Vec Ideal S1x1x1024 .f32) (x4 : Vec Ideal S1x1024 .f32)
    (x5 x6 : Vec Ideal S1024x2816 .bf16) (x7 : Vec Ideal S2816x1024 .bf16) (r l : Fin 1024) :
    out0_8 (F := Ideal) x0 x1 x2 x3 x4 x5 x6 x7 (ix2 r l)
      = Rows.ffn (fun k => x0 (ix2 r k)) (fun k => x4 (ix2 0 k)) (fun k => x2 (ix3 0 0 k)) (fun k => x1 (ix3 0 0 k))
          (fun k => x3 (ix3 0 0 k)) (fun k j => x5 (ix2 k j)) (fun k j => x6 (ix2 k j)) (fun j l => x7 (ix2 j l)) l := by
  unfold out0_8
  rw [View.canon_unit_zero (by funext a; fin_cases a <;> rfl)]
  have hz2 : (![0, 0] : Fin 2 → ℕ) = fun _ => 0 := by funext a; fin_cases a <;> rfl
  have hz3 : (![0, 0, 0] : Fin 3 → ℕ) = fun _ => 0 := by funext a; fin_cases a <;> rfl
  unfold k0_pay8 k0_pay6 k0_pay7 k0_pay21
  have e0 : View.ld x0 r0_0 = x0 := View.ld_unit_zero hz2 _ x0
  have e4 : View.ld x4 r0_1 = x4 := View.ld_unit_zero hz2 _ x4
  have e1 : View.ld x1 r0_2 = x1 := View.ld_unit_zero hz3 _ x1
  have e2 : View.ld x2 r0_2 = x2 := View.ld_unit_zero hz3 _ x2
  have e3 : View.ld x3 r0_2 = x3 := View.ld_unit_zero hz3 _ x3
  rw [e0, e1, e2, e3, e4]
  have hh := hidden_apply x0 x1 x2 x4 r
  generalize k0_pay4 (F := Ideal) x0 x4 x2 x1 = H at hh ⊢
  pointwise [k0_pay1, k0_pay2, k0_pay3, k0_pay5, k0_pay9, k0_pay10, k0_pay11, k0_pay12, k0_pay13, k0_pay14, k0_pay15, k0_pay16, k0_pay17, k0_pay18, k0_pay19, k0_pay20, r0_3, r0_4, r0_5, r0_6, r0_7, r0_8, r0_9, r0_10, r0_11, r0_12, r0_13, r0_14, r0_15, r0_16, r0_17, r0_18, r0_19, r0_20, r0_21, r0_22, r0_23, r0_24]
  rw [Rows.ffn, Rows.chunks]
  simp only [hh, Rows.unit]

end Cert.FfnBlock

end
-- ==== Proof.FfnRef.lean ====
module

public import proofs.«01_k».proof.Proof.Gen.FfnReferenceIdeal.Read
public import proofs.«01_k».proof.Proof.Rows

@[expose] public section

set_option maxRecDepth 16384

/-! # The feed-forward reference, row by row -/

noncomputable section

namespace Cert.FfnRef

open Cert.FfnReferenceIdeal Cert.FfnReferenceIdeal.Read Idealize.ShloMosaic

/-- A row of the six-way modulation array's slice starting at `o`: the numbers of batch `b`. -/
abbrev modRow (M : (⟨S8x9216, .f32⟩ : BufTy).Contents (Elt Ideal)) (b : Fin 8) (o : ℕ) (ho : o + 1024 ≤ 9216) (k : Fin 1024) : EReal :=
  M (ix2 b ⟨o + k.val, by omega⟩)

/-- The reference's hidden row. -/
theorem hidden_apply (X : (⟨S8x2048x1024, .f32⟩ : BufTy).Contents (Elt Ideal)) (M : (⟨S8x9216, .f32⟩ : BufTy).Contents (Elt Ideal))
    (W : (⟨S1024, .f32⟩ : BufTy).Contents (Elt Ideal)) (b : Fin 8) (t : Fin 2048) (k : Fin 1024) :
    val_main_v39 (F := Ideal) X M W (ix3 b t k)
      = Rows.hidden (fun k => X (ix3 b t k)) (fun k => W (ix1 k)) (modRow M b 1024 (by omega)) (modRow M b 0 (by omega)) k := by
  pointwise [val_main_v39, val_main_v38, val_main_v37, val_main_v36, val_main_v35, val_main_v34, val_main_v33, val_main_v32,
    val_main_v31, val_main_v30, val_main_v29, val_main_v28, val_main_v27, val_main_v26, val_main_v25, val_main_v24, val_main_v23,
    val_main_v22, val_main_v21, val_main_v13, val_main_v12, val_main_v4, val_main_v3, val_main_cst, val_main_cst_0, val_main_cst_1,
    val_main_cst_2, Rows.hidden, Rows.norm, Rows.scaleOf, modRow]

/-- The reference's result at a row and a column. -/
theorem res_apply (X : (⟨S8x2048x1024, .f32⟩ : BufTy).Contents (Elt Ideal)) (M : (⟨S8x9216, .f32⟩ : BufTy).Contents (Elt Ideal))
    (W : (⟨S1024, .f32⟩ : BufTy).Contents (Elt Ideal)) (G U : (⟨S1024x2816, .bf16⟩ : BufTy).Contents (Elt Ideal))
    (D : (⟨S2816x1024, .bf16⟩ : BufTy).Contents (Elt Ideal)) (r : Fin 16384) (l : Fin 1024) :
    val_main_v50 (F := Ideal) X M W G U D (ix2 r l)
      = Rows.ffn (fun k => X (ix3 ⟨r.val / 2048, by omega⟩ ⟨r.val % 2048, by omega⟩ k)) (fun k => W (ix1 k))
          (modRow M ⟨r.val / 2048, by omega⟩ 1024 (by omega)) (modRow M ⟨r.val / 2048, by omega⟩ 0 (by omega))
          (modRow M ⟨r.val / 2048, by omega⟩ 2048 (by omega))
          (fun k j => G (ix2 k j)) (fun k j => U (ix2 k j)) (fun j l => D (ix2 j l)) l := by
  have hh := hidden_apply X M W
  unfold val_main_v50 val_main_v49 val_main_v48 val_main_v46 val_main_v45 val_main_v44 val_main_call0_v5 val_main_call0_v3
    val_main_call0_v1 val_main_call0_v0 val_main_v42 val_main_v43
  generalize val_main_v39 (F := Ideal) X M W = H at hh ⊢
  pointwise [val_main_v47, val_main_v41, val_main_v40, val_main_v14, val_main_v5, val_main_cst_3, val_main_v0, val_main_v1, val_main_v2,
    val_main_call0_v2, val_main_call0_v4, val_main_call0_cst, val_main_call0_cst_0]
  simp only [hh, Rows.ffn, Rows.unit, Ideal.logistic, modRow]

end Cert.FfnRef

end
-- ==== Proof.FfnValue.lean ====
module

public import proofs.«01_k».proof.Proof.FfnBlock
public import proofs.«01_k».proof.Proof.FfnRef

@[expose] public section

set_option maxRecDepth 16384

/-! # The feed-forward kernel's result array is the reference's -/

noncomputable section

namespace Cert.FfnValue

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The reference's value of device `c`'s arguments: what the kernel's result array is shown to hold. -/
abbrev G (c : Dev nD) : (⟨S16384x1024, .f32⟩ : BufTy).Contents (Elt Ideal) :=
  FfnReferenceIdeal.Read.val_main_v50 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-! ## The arrays the windows stage -/

theorem V_v0 (c : Dev nD) : V m c main_v0
    = shapeCast S16384x1024 (m ((c : Thread nD τ).loc main_arg0)) shapeCasts_S8x2048x1024_S16384x1024 := by
  unfold_abbrev_sides
  after_results
  rfl

theorem V_v1 (c : Dev nD) : V m c main_v1
    = shapeCast S8x1x9216 (m ((c : Thread nD τ).loc main_arg1)) shapeCasts_S8x9216_S8x1x9216 := by
  unfold_abbrev_sides
  after_results
  rfl

theorem V_v2 (c : Dev nD) : V m c main_v2
    = shapeCast S1x1024 (m ((c : Thread nD τ).loc main_arg2)) shapeCasts_S1024_S1x1024 := by
  unfold_abbrev_sides
  after_results
  rfl

/-! ## The windows' places on the grid -/

theorem idx_facts : ∀ t : Fin grid0.N, win0_0.index t 0 = t.val ∧ win0_0.index t 1 = 0
    ∧ win0_1.index t 0 = t.val / 2 ∧ win0_1.index t 1 = 0 ∧ win0_1.index t 2 = 0
    ∧ win0_2.index t 0 = t.val / 2 ∧ win0_2.index t 1 = 0 ∧ win0_2.index t 2 = 1
    ∧ win0_3.index t 0 = t.val / 2 ∧ win0_3.index t 1 = 0 ∧ win0_3.index t 2 = 2
    ∧ win0_8.index t 0 = t.val ∧ win0_8.index t 1 = 0 := by
  decide +kernel

theorem idx_const : ∀ t : Fin grid0.N, ∀ a : Fin 2, win0_4.index t a = 0 ∧ win0_5.index t a = 0 ∧ win0_6.index t a = 0
    ∧ win0_7.index t a = 0 := by
  decide +kernel

/-- A row of a row tile of 1024 rows. -/
theorem blk0 (A : S16384x1024.Idx → EReal) (t : Fin grid0.N) (r k : Fin 1024) :
    (win0_0.blk t).view.read (Elt Ideal) A (ix2 r k)
      = A (ix2 ⟨t.val * 1024 + r.val, by have : grid0.N = 16 := N_0; omega⟩ k) := by
  refine congrArg A (funext fun a => Fin.ext ?_)
  obtain ⟨h0, h1, -⟩ := idx_facts t
  match a with
  | ⟨0, _⟩ => show win0_0.index t 0 * 1024 + 1 * r.val = _; rw [h0]; show _ = t.val * 1024 + r.val; omega
  | ⟨1, _⟩ => show win0_0.index t 1 * 1024 + 1 * k.val = _; rw [h1]; show _ = k.val; omega

/-- A row of the modulation array: block (batch, 0, slice) of the windows that stage it. -/
theorem blk1 (A : S8x1x9216.Idx → EReal) (t : Fin grid0.N) (k : Fin 1024) :
    (win0_1.blk t).view.read (Elt Ideal) A (ix3 0 0 k)
      = A (ix3 ⟨t.val / 2, by have : grid0.N = 16 := N_0; omega⟩ 0 ⟨0 + k.val, by omega⟩) := by
  refine congrArg A (funext fun a => Fin.ext ?_)
  obtain ⟨-, -, h0, h1, h2, -⟩ := idx_facts t
  match a with
  | ⟨0, _⟩ => show win0_1.index t 0 * 1 + 1 * 0 = t.val / 2; rw [h0]; omega
  | ⟨1, _⟩ => show win0_1.index t 1 * 1 + 1 * 0 = 0; rw [h1]
  | ⟨2, _⟩ => show win0_1.index t 2 * 1024 + 1 * k.val = 0 + k.val; rw [h2]; omega

theorem blk2 (A : S8x1x9216.Idx → EReal) (t : Fin grid0.N) (k : Fin 1024) :
    (win0_2.blk t).view.read (Elt Ideal) A (ix3 0 0 k)
      = A (ix3 ⟨t.val / 2, by have : grid0.N = 16 := N_0; omega⟩ 0 ⟨1024 + k.val, by omega⟩) := by
  refine congrArg A (funext fun a => Fin.ext ?_)
  obtain ⟨-, -, -, -, -, h0, h1, h2, -⟩ := idx_facts t
  match a with
  | ⟨0, _⟩ => show win0_2.index t 0 * 1 + 1 * 0 = t.val / 2; rw [h0]; omega
  | ⟨1, _⟩ => show win0_2.index t 1 * 1 + 1 * 0 = 0; rw [h1]
  | ⟨2, _⟩ => show win0_2.index t 2 * 1024 + 1 * k.val = 1024 + k.val; rw [h2]; omega

theorem blk3 (A : S8x1x9216.Idx → EReal) (t : Fin grid0.N) (k : Fin 1024) :
    (win0_3.blk t).view.read (Elt Ideal) A (ix3 0 0 k)
      = A (ix3 ⟨t.val / 2, by have : grid0.N = 16 := N_0; omega⟩ 0 ⟨2048 + k.val, by omega⟩) := by
  refine congrArg A (funext fun a => Fin.ext ?_)
  obtain ⟨-, -, -, -, -, -, -, -, h0, h1, h2, -⟩ := idx_facts t
  match a with
  | ⟨0, _⟩ => show win0_3.index t 0 * 1 + 1 * 0 = t.val / 2; rw [h0]; omega
  | ⟨1, _⟩ => show win0_3.index t 1 * 1 + 1 * 0 = 0; rw [h1]
  | ⟨2, _⟩ => show win0_3.index t 2 * 1024 + 1 * k.val = 2048 + k.val; rw [h2]; omega

/-- The norm's weights and the three weight matrices are staged whole. -/
theorem blk4 (A : S1x1024.Idx → EReal) (t : Fin grid0.N) (k : Fin 1024) :
    (win0_4.blk t).view.read (Elt Ideal) A (ix2 0 k) = A (ix2 0 k) := by
  refine congrArg A (funext fun a => Fin.ext ?_)
  match a with
  | ⟨0, _⟩ => show win0_4.index t 0 * 1 + 1 * 0 = 0; rw [(idx_const t 0).1]
  | ⟨1, _⟩ => show win0_4.index t 1 * 1024 + 1 * k.val = k.val; rw [(idx_const t 1).1]; omega

theorem blk5 (A : S1024x2816.Idx → EReal) (t : Fin grid0.N) (k : Fin 1024) (j : Fin 2816) :
    (win0_5.blk t).view.read (Elt Ideal) A (ix2 k j) = A (ix2 k j) := by
  refine congrArg A (funext fun a => Fin.ext ?_)
  match a with
  | ⟨0, _⟩ => show win0_5.index t 0 * 1024 + 1 * k.val = k.val; rw [(idx_const t 0).2.1]; omega
  | ⟨1, _⟩ => show win0_5.index t 1 * 2816 + 1 * j.val = j.val; rw [(idx_const t 1).2.1]; omega

theorem blk6 (A : S1024x2816.Idx → EReal) (t : Fin grid0.N) (k : Fin 1024) (j : Fin 2816) :
    (win0_6.blk t).view.read (Elt Ideal) A (ix2 k j) = A (ix2 k j) := by
  refine congrArg A (funext fun a => Fin.ext ?_)
  match a with
  | ⟨0, _⟩ => show win0_6.index t 0 * 1024 + 1 * k.val = k.val; rw [(idx_const t 0).2.2.1]; omega
  | ⟨1, _⟩ => show win0_6.index t 1 * 2816 + 1 * j.val = j.val; rw [(idx_const t 1).2.2.1]; omega

theorem blk7 (A : S2816x1024.Idx → EReal) (t : Fin grid0.N) (j : Fin 2816) (l : Fin 1024) :
    (win0_7.blk t).view.read (Elt Ideal) A (ix2 j l) = A (ix2 j l) := by
  refine congrArg A (funext fun a => Fin.ext ?_)
  match a with
  | ⟨0, _⟩ => show win0_7.index t 0 * 2816 + 1 * j.val = j.val; rw [(idx_const t 0).2.2.2]; omega
  | ⟨1, _⟩ => show win0_7.index t 1 * 1024 + 1 * l.val = l.val; rw [(idx_const t 1).2.2.2]; omega

theorem blk8 (A : S16384x1024.Idx → EReal) (t : Fin grid0.N) (r l : Fin 1024) :
    (win0_8.blk t).view.read (Elt Ideal) A (ix2 r l)
      = A (ix2 ⟨t.val * 1024 + r.val, by have : grid0.N = 16 := N_0; omega⟩ l) := by
  refine congrArg A (funext fun a => Fin.ext ?_)
  obtain ⟨-, -, -, -, -, -, -, -, -, -, -, h0, h1⟩ := idx_facts t
  match a with
  | ⟨0, _⟩ => show win0_8.index t 0 * 1024 + 1 * r.val = t.val * 1024 + r.val; rw [h0]; omega
  | ⟨1, _⟩ => show win0_8.index t 1 * 1024 + 1 * l.val = l.val; rw [h1]; omega

/-! ## The staged arrays, read at an index of the arguments -/

theorem cast_x (X : Vec Ideal S8x2048x1024 .f32) (r : Fin 16384) (k : Fin 1024) :
    shapeCast S16384x1024 X shapeCasts_S8x2048x1024_S16384x1024 (ix2 r k)
      = X (ix3 ⟨r.val / 2048, by omega⟩ ⟨r.val % 2048, by omega⟩ k) := by
  pointwise

theorem cast_mod (M : Vec Ideal S8x9216 .f32) (b : Fin 8) (k : Fin 9216) :
    shapeCast S8x1x9216 M shapeCasts_S8x9216_S8x1x9216 (ix3 b 0 k) = M (ix2 b k) := by
  pointwise

theorem cast_nw (W : Vec Ideal S1024 .f32) (k : Fin 1024) :
    shapeCast S1x1024 W shapeCasts_S1024_S1x1024 (ix2 0 k) = W (ix1 k) := by
  pointwise

/-- The batch of row `r` of tile `t`. -/
theorem batch {t r : ℕ} (hr : r < 1024) : (t * 1024 + r) / 2048 = t / 2 := by omega

theorem iblk0 (c : Dev nD) (t : Fin cfg0.N) (r k : Fin 1024) :
    iblk m c 0 t (ix2 r k) = m ((c : Thread nD τ).loc main_arg0)
      (ix3 ⟨(t.val * 1024 + r.val) / 2048, by have : cfg0.N = 16 := N_0; omega⟩ ⟨(t.val * 1024 + r.val) % 2048, by omega⟩ k) :=
  (blk0 _ t r k).trans ((congrFun (V_v0 m c) _).trans (cast_x _ _ _))

theorem iblk1 (c : Dev nD) (t : Fin cfg0.N) (r k : Fin 1024) :
    iblk m c 1 t (ix3 0 0 k) = FfnRef.modRow (m ((c : Thread nD τ).loc main_arg1))
      ⟨(t.val * 1024 + r.val) / 2048, by have : cfg0.N = 16 := N_0; omega⟩ 0 (by omega) k :=
  (blk1 _ t k).trans ((congrFun (V_v1 m c) _).trans ((cast_mod _ _ _).trans
    (congrArg (fun b => m ((c : Thread nD τ).loc main_arg1) (ix2 b _)) (Fin.ext (batch r.isLt).symm))))

theorem iblk2 (c : Dev nD) (t : Fin cfg0.N) (r k : Fin 1024) :
    iblk m c 2 t (ix3 0 0 k) = FfnRef.modRow (m ((c : Thread nD τ).loc main_arg1))
      ⟨(t.val * 1024 + r.val) / 2048, by have : cfg0.N = 16 := N_0; omega⟩ 1024 (by omega) k :=
  (blk2 _ t k).trans ((congrFun (V_v1 m c) _).trans ((cast_mod _ _ _).trans
    (congrArg (fun b => m ((c : Thread nD τ).loc main_arg1) (ix2 b _)) (Fin.ext (batch r.isLt).symm))))

theorem iblk3 (c : Dev nD) (t : Fin cfg0.N) (r k : Fin 1024) :
    iblk m c 3 t (ix3 0 0 k) = FfnRef.modRow (m ((c : Thread nD τ).loc main_arg1))
      ⟨(t.val * 1024 + r.val) / 2048, by have : cfg0.N = 16 := N_0; omega⟩ 2048 (by omega) k :=
  (blk3 _ t k).trans ((congrFun (V_v1 m c) _).trans ((cast_mod _ _ _).trans
    (congrArg (fun b => m ((c : Thread nD τ).loc main_arg1) (ix2 b _)) (Fin.ext (batch r.isLt).symm))))

theorem iblk4 (c : Dev nD) (t : Fin cfg0.N) (k : Fin 1024) :
    iblk m c 4 t (ix2 0 k) = m ((c : Thread nD τ).loc main_arg2) (ix1 k) :=
  (blk4 _ t k).trans ((congrFun (V_v2 m c) _).trans (cast_nw _ _))

theorem iblk5 (c : Dev nD) (t : Fin cfg0.N) (k : Fin 1024) (j : Fin 2816) :
    iblk m c 5 t (ix2 k j) = m ((c : Thread nD τ).loc main_arg3) (ix2 k j) :=
  (blk5 _ t k j).trans (congrFun (V_main_arg3 m c) _)

theorem iblk6 (c : Dev nD) (t : Fin cfg0.N) (k : Fin 1024) (j : Fin 2816) :
    iblk m c 6 t (ix2 k j) = m ((c : Thread nD τ).loc main_arg4) (ix2 k j) :=
  (blk6 _ t k j).trans (congrFun (V_main_arg4 m c) _)

theorem iblk7 (c : Dev nD) (t : Fin cfg0.N) (j : Fin 2816) (l : Fin 1024) :
    iblk m c 7 t (ix2 j l) = m ((c : Thread nD τ).loc main_arg5) (ix2 j l) :=
  (blk7 _ t j l).trans (congrFun (V_main_arg5 m c) _)

/-- What point `t` writes back is block `t` of the reference's value. -/
theorem flushed_eq (c : Dev nD) (t : Fin cfg0.N) :
    (dats m 0 c).flushed 8 t = ((cfg0.win 8).blk t).view.read (Elt Ideal) (G m c) := by
  rw [FfnIdeal.Value.flushed8]
  show (fun y : S1024x1024.Idx => out0_8 (iblk m c 0 t) (iblk m c 1 t) (iblk m c 2 t) (iblk m c 3 t) (iblk m c 4 t)
    (iblk m c 5 t) (iblk m c 6 t) (iblk m c 7 t) y) = fun y : S1024x1024.Idx => (win0_8.blk t).view.read (Elt Ideal) (G m c) y
  funext y
  obtain ⟨r, l, rfl⟩ : ∃ (r l : Fin 1024), y = ix2 r l := ⟨y 0, y 1, eq_ix2 y⟩
  rw [FfnBlock.out_apply, blk8]
  refine Eq.trans ?_ (FfnRef.res_apply _ _ _ _ _ _ _ l).symm
  rw [funext (iblk0 m c t r), funext (iblk1 m c t r), funext (iblk2 m c t r), funext (iblk3 m c t r), funext (iblk4 m c t),
    funext fun k => funext (iblk5 m c t k), funext fun k => funext (iblk6 m c t k), funext fun j => funext (iblk7 m c t j)]

/-- The blocks tile the result array. -/
theorem cover (i : S16384x1024.Idx) : ∃ t : Fin cfg0.N, (cfg0.win 8).flush t = true ∧ i ∈ ((cfg0.win 8).blk t).view.set := by
  have hN : cfg0.N = 16 := N_0
  have h0 : (i 0).val < 16384 := (i 0).isLt
  have h1 : (i 1).val < 1024 := (i 1).isLt
  refine ⟨⟨(i 0).val / 1024, by omega⟩, flush0_8 _, ?_⟩
  generalize ht : (⟨(i 0).val / 1024, by omega⟩ : Fin cfg0.N) = t
  have htv : t.val = (i 0).val / 1024 := by rw [← ht]
  obtain ⟨-, -, -, -, -, -, -, -, -, -, -, e0, e1⟩ := idx_facts t
  show i ∈ ((View.whole main_v3).slice (win0_8.rect t)).set
  rw [View.set_slice_whole, Rect.mem_set_unit]
  intro a
  match a with
  | ⟨0, _⟩ =>
    show win0_8.index t 0 * 1024 ≤ (i 0).val ∧ (i 0).val < win0_8.index t 0 * 1024 + 1024
    rw [e0]; omega
  | ⟨1, _⟩ =>
    show win0_8.index t 1 * 1024 ≤ (i 1).val ∧ (i 1).val < win0_8.index t 1 * 1024 + 1024
    rw [e1]; omega

/-- The result array ends holding the reference's value. -/
theorem final (c : Dev nD) : (dats m 0 c).arrAt 8 cfg0.N = G m c :=
  (dats m 0 c).arrAt_eq_of_cover 8 (G m c) (fun t _ => flushed_eq m c t) cover

end Cert.FfnValue

end
-- ==== Proof.FfnClaims.lean ====
module

public import proofs.«01_k».proof.Defs
public import proofs.«01_k».proof.Proof.Gen.Ffn.Frame
public import proofs.«01_k».proof.Proof.Gen.FfnReferenceIdeal.Run
public import proofs.«01_k».proof.Proof.FfnValue
public import Idealize.ShloMosaic.Adequacy

@[expose] public section

/-! # The claims about the feed-forward -/

noncomputable section

namespace Cert.FfnClaims

open Idealize.ShloMosaic

theorem frame : Cert.quiescent_Ffn := fun m ρ _ => Cert.Ffn.Gen.frame m ρ

theorem frame_ideal : Cert.quiescent_FfnIdeal := fun m ρ _ => Cert.FfnIdeal.Gen.frame m ρ

theorem frame_reference : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

theorem preserves : Cert.preserves_Ffn_FfnIdeal := trivial

/-- Both programs end with the reference's value of the kernel's arguments. -/
theorem algebraic : Cert.algebraic_FfnIdeal_FfnReferenceIdeal := by
  intro m ρ m' ρ' _ hagree
  refine ⟨fun c => FfnValue.G m c, ?_, ?_⟩
  · exact (θ_run Cert.FfnIdeal.defs _ _).mono (fun _ h c => ⟨(h c).1.trans (FfnValue.final m c), (h c).2⟩)
      (Cert.FfnIdeal.Value.run_blocks (F := Ideal) m ρ)
  · refine (θ_run Cert.FfnReferenceIdeal.defs _ _).mono (fun _ h c => ⟨(h c).1.trans ?_, (h c).2⟩)
      (Cert.FfnReferenceIdeal.Value.run (F := Ideal) m' ρ')
    obtain ⟨h0, h1, h2, h3, h4, h5⟩ := hagree c
    rw [Cert.FfnReferenceIdeal.Read.val_main_v50_eq]
    show Cert.FfnReferenceIdeal.Read.val_main_v50 (F := Ideal) _ _ _ _ _ _ = Cert.FfnReferenceIdeal.Read.val_main_v50 (F := Ideal) _ _ _ _ _ _
    rw [h0, h1, h2, h3, h4, h5]

end Cert.FfnClaims

end
-- ==== Proof.MixBlock.lean ====
module

public import proofs.«01_k».proof.Proof.Gen.MixIdeal.Value
public import proofs.«01_k».proof.Proof.Rows

@[expose] public section

set_option maxRecDepth 16384

/-! # The mixing kernel's block, row by row -/

noncomputable section

namespace Cert.MixBlock

open Cert.MixIdeal Cert.MixIdeal.Gen Idealize.ShloMosaic

/-- The mixed row the kernel starts its feed-forward from. -/
theorem mix_apply (x0 : Vec Ideal S512x1024 .f32) (x1 x2 : Vec Ideal S512x1024 .bf16) (x3 : Vec Ideal S512x2048 .bf16)
    (x4 : Vec Ideal S1x1x1024 .f32) (x9 x10 x11 : Vec Ideal S1024x1024 .bf16) (r : Fin 512) (k : Fin 1024) :
    k0_pay2 (F := Ideal) x0 x1 x2 x3 x4 x9 x10 x11 (ix2 r k)
      = Rows.mix (fun k => x0 (ix2 r k)) (fun k => x1 (ix2 r k)) (fun k => x2 (ix2 r k))
          (fun k => x3 (ix2 r ⟨k.val, by omega⟩)) (fun k => x3 (ix2 r ⟨1024 + k.val, by omega⟩)) (fun k => x4 (ix3 0 0 k))
          (fun i j => x9 (ix2 i j)) (fun i j => x10 (ix2 i j)) (fun i j => x11 (ix2 i j)) k := by
  pointwise [k0_pay2, Rows.mix]

/-- The hidden row of a mixed block. -/
theorem hidden_apply (A : Vec Ideal S512x1024 .f32) (x5 x6 : Vec Ideal S1x1x1024 .f32) (x8 : Vec Ideal S1x1024 .f32)
    (r : Fin 512) (k : Fin 1024) :
    k0_pay7 (F := Ideal) A (k0_pay3 x8) (k0_pay4 x6) (k0_pay5 x5) (ix2 r k)
      = Rows.hidden (fun k => A (ix2 r k)) (fun k => x8 (ix2 0 k)) (fun k => x6 (ix3 0 0 k)) (fun k => x5 (ix3 0 0 k)) k := by
  pointwise [k0_pay7, k0_pay3, k0_pay4, k0_pay5, Rows.hidden, Rows.norm, Rows.scaleOf]

/-- The block before its last norm: the mixed block plus half the gate times the feed-forward's running sum. -/
def lastBlock (A : FVec Ideal S512x1024 .f32) (g : FVec Ideal S1x1024 .f32) (s : FVec Ideal S512x1024 .f32)
    (a b : FVec Ideal S512x256 .f32) (w : Vec Ideal S256x1024 .bf16) : FVec Ideal S512x1024 .f32 :=
  addf A (mulf (broadcastTo S512x1024 (mulf (broadcast S1x1024 (Scalar.ofBits .f32 0x3F000000#32)) g) broadcasts_S1x1024_S512x1024)
    (addf s (matmul (φ₂ := .bf16) dot_S512x256_S256x1024_S512x1024_1_0_0_1_n_n none (truncf .bf16 (mulf (mulf a (logistic a)) b) bitsLt_bf16_f32)
      w (constant S512x1024 .f32 0x00000000#32))))

/-- The norm of a block's rows, as the kernel writes it. -/
def normBlock (Y : FVec Ideal S512x1024 .f32) (w : FVec Ideal S1x1024 .f32) : FVec Ideal S512x1024 .f32 :=
  mulf (mulf Y (broadcastTo S512x1024 (rsqrt (addf (divf (shapeCast S512x1 (multiReduction .add [1] S512 (mulf Y Y) 0x00000000#32
    reduces_S512x1024_S512 (.inl rfl) rfl) shapeCasts_S512_S512x1) (broadcast S512x1 (Scalar.ofBits .f32 0x44800000#32)))
    (broadcast S512x1 (Scalar.ofBits .f32 0x358637BD#32)))) broadcasts_S512x1_S512x1024))
    (broadcastTo S512x1024 (shapeCast S1x1024 w shapeCasts_S1x1024_S1x1024) broadcasts_S1x1024_S512x1024)

theorem pay1_eq (A : FVec Ideal S512x1024 .f32) (g : FVec Ideal S1x1024 .f32) (s : FVec Ideal S512x1024 .f32)
    (a b : FVec Ideal S512x256 .f32) (w : Vec Ideal S256x1024 .bf16) (f : Vec Ideal S1x1024 .f32) :
    k0_pay1 A g s a b w f = normBlock (lastBlock A g s a b w) f := rfl

theorem norm_apply (Y : FVec Ideal S512x1024 .f32) (w : FVec Ideal S1x1024 .f32) (r : Fin 512) (l : Fin 1024) :
    normBlock Y w (ix2 r l) = Rows.norm (fun k => Y (ix2 r k)) (fun k => w (ix2 0 k)) l := by
  pointwise [normBlock, Rows.norm, Rows.scaleOf]

/-- Row `r` of what the body stores is the norm of the feed-forward half-step of the mixed row. -/
theorem out_apply (x0 : Vec Ideal S512x1024 .f32) (x1 x2 : Vec Ideal S512x1024 .bf16) (x3 : Vec Ideal S512x2048 .bf16)
    (x4 x5 x6 x7 : Vec Ideal S1x1x1024 .f32) (x8 : Vec Ideal S1x1024 .f32) (x9 x10 x11 : Vec Ideal S1024x1024 .bf16)
    (x12 x13 : Vec Ideal S1024x2816 .bf16) (x14 : Vec Ideal S2816x1024 .bf16) (x15 : Vec Ideal S1x1024 .f32) (r : Fin 512)
    (l : Fin 1024) :
    out0_16 (F := Ideal) x0 x1 x2 x3 x4 x5 x6 x7 x8 x9 x10 x11 x12 x13 x14 x15 (ix2 r l)
      = Rows.norm (Rows.ffn (Rows.mix (fun k => x0 (ix2 r k)) (fun k => x1 (ix2 r k)) (fun k => x2 (ix2 r k))
          (fun k => x3 (ix2 r ⟨k.val, by omega⟩)) (fun k => x3 (ix2 r ⟨1024 + k.val, by omega⟩)) (fun k => x4 (ix3 0 0 k))
          (fun i j => x9 (ix2 i j)) (fun i j => x10 (ix2 i j)) (fun i j => x11 (ix2 i j)))
          (fun k => x8 (ix2 0 k)) (fun k => x6 (ix3 0 0 k)) (fun k => x5 (ix3 0 0 k)) (fun k => x7 (ix3 0 0 k))
          (fun k j => x12 (ix2 k j)) (fun k j => x13 (ix2 k j)) (fun j l => x14 (ix2 j l))) (fun k => x15 (ix2 0 k)) l := by
  unfold out0_16
  rw [View.canon_unit_zero (by funext a; fin_cases a <;> rfl)]
  have hz2 : (![0, 0] : Fin 2 → ℕ) = fun _ => 0 := by funext a; fin_cases a <;> rfl
  have hz3 : (![0, 0, 0] : Fin 3 → ℕ) = fun _ => 0 := by funext a; fin_cases a <;> rfl
  rw [pay1_eq, norm_apply]
  have e0 : View.ld x0 r0_0 = x0 := View.ld_unit_zero hz2 _ x0
  have e1 : View.ld x1 r0_0 = x1 := View.ld_unit_zero hz2 _ x1
  have e2 : View.ld x2 r0_0 = x2 := View.ld_unit_zero hz2 _ x2
  have e3 : View.ld x3 r0_1 = x3 := View.ld_unit_zero hz2 _ x3
  have e4 : View.ld x4 r0_2 = x4 := View.ld_unit_zero hz3 _ x4
  have e5 : View.ld x5 r0_2 = x5 := View.ld_unit_zero hz3 _ x5
  have e6 : View.ld x6 r0_2 = x6 := View.ld_unit_zero hz3 _ x6
  have e7 : View.ld x7 r0_2 = x7 := View.ld_unit_zero hz3 _ x7
  have e8 : View.ld x8 r0_4 = x8 := View.ld_unit_zero hz2 _ x8
  have e9 : View.ld x9 r0_3 = x9 := View.ld_unit_zero hz2 _ x9
  have e10 : View.ld x10 r0_3 = x10 := View.ld_unit_zero hz2 _ x10
  have e11 : View.ld x11 r0_3 = x11 := View.ld_unit_zero hz2 _ x11
  have e15 : View.ld x15 r0_4 = x15 := View.ld_unit_zero hz2 _ x15
  rw [e15]
  refine congrArg (fun R : Fin 1024 → EReal => Rows.norm R _ l) (funext fun k => ?_)
  have hA := funext (mix_apply x0 x1 x2 x3 x4 x9 x10 x11 r)
  rw [← hA]
  unfold k0_pay24 k0_pay20 k0_pay21 k0_pay22 k0_pay23 k0_pay8 k0_pay9 k0_pay10
  rw [e0, e1, e2, e3, e4, e5, e6, e7, e8, e9, e10, e11]
  clear hA
  generalize k0_pay2 (F := Ideal) x0 x1 x2 x3 x4 x9 x10 x11 = A
  have hh := hidden_apply A x5 x6 x8 r
  generalize k0_pay7 (F := Ideal) A (k0_pay3 x8) (k0_pay4 x6) (k0_pay5 x5) = H at hh ⊢
  pointwise [lastBlock, k0_pay6, k0_pay11, k0_pay12, k0_pay13, k0_pay14, k0_pay15, k0_pay16, k0_pay17, k0_pay18, k0_pay19, r0_5, r0_6, r0_7, r0_8, r0_9, r0_10, r0_11, r0_12, r0_13, r0_14, r0_15, r0_16, r0_17, r0_18, r0_19, r0_20, r0_21, r0_22, r0_23, r0_24, r0_25, r0_26]
  rw [Rows.ffn, Rows.chunks]
  simp only [hh, Rows.unit]

end Cert.MixBlock

end
-- ==== Proof.MixRef.lean ====
module

public import proofs.«01_k».proof.Proof.Gen.MixReferenceIdeal.Read
public import proofs.«01_k».proof.Proof.Rows

@[expose] public section

set_option maxRecDepth 16384

/-! # The mixing reference, row by row -/

noncomputable section

namespace Cert.MixRef

open Cert.MixReferenceIdeal Cert.MixReferenceIdeal.Read Idealize.ShloMosaic

/-- A row of the modulation array's slice starting at `o`: the numbers of batch `b`. -/
abbrev modRow (M : (⟨S8x9216, .f32⟩ : BufTy).Contents (Elt Ideal)) (b : Fin 8) (o : ℕ) (ho : o + 1024 ≤ 9216) (k : Fin 1024) : EReal :=
  M (ix2 b ⟨o + k.val, by omega⟩)

/-- The row number of token `t` of batch `b`. -/
abbrev row (b : Fin 8) (t : Fin 2048) : Fin 16384 := ⟨b.val * 2048 + t.val, by omega⟩

variable (X : (⟨S16384x1024, .f32⟩ : BufTy).Contents (Elt Ideal)) (D S : (⟨S16384x1024, .bf16⟩ : BufTy).Contents (Elt Ideal))
  (A : (⟨S16384x2048, .bf16⟩ : BufTy).Contents (Elt Ideal)) (M : (⟨S8x9216, .f32⟩ : BufTy).Contents (Elt Ideal))
  (W : (⟨S1024, .f32⟩ : BufTy).Contents (Elt Ideal)) (P Q O : (⟨S1024x1024, .bf16⟩ : BufTy).Contents (Elt Ideal))
  (G U : (⟨S1024x2816, .bf16⟩ : BufTy).Contents (Elt Ideal)) (E : (⟨S2816x1024, .bf16⟩ : BufTy).Contents (Elt Ideal))
  (N : (⟨S1024, .f32⟩ : BufTy).Contents (Elt Ideal))

/-- The mixed row number `r`, of batch `b`. -/
abbrev mixRow (r : Fin 16384) (b : Fin 8) : Fin 1024 → EReal :=
  Rows.mix (fun k => X (ix2 r k)) (fun k => D (ix2 r k)) (fun k => S (ix2 r k)) (fun k => A (ix2 r ⟨k.val, by omega⟩))
    (fun k => A (ix2 r ⟨1024 + k.val, by omega⟩)) (modRow M b 5120 (by omega))
    (fun i j => P (ix2 i j)) (fun i j => Q (ix2 i j)) (fun i j => O (ix2 i j))

theorem mix_apply (b : Fin 8) (t : Fin 2048) (k : Fin 1024) :
    val_main_v53 (F := Ideal) X D S A M P Q O (ix3 b t k) = mixRow X D S A M P Q O (row b t) b k := by
  pointwise [val_main_v53, val_main_v52, val_main_v51, val_main_v50, val_main_v49, val_main_v48, val_main_v47, val_main_v46,
    val_main_v45, val_main_v44, val_main_v43, val_main_v42, val_main_v41, val_main_v40, val_main_v39, val_main_v38, val_main_v37,
    val_main_v36, val_main_v35, val_main_v34, val_main_v33, val_main_v29, val_main_v20, val_main_v14, val_main_v13, val_main_v12,
    val_main_v11, val_main_v10, val_main_v9, val_main_v5, val_main_v4, val_main_v3, val_main_v2, val_main_v1, val_main_v0,
    val_main_cst, val_main_cst_0, val_main_cst_1, val_main_cst_2, Rows.mix, Ideal.logistic, modRow, row]

theorem hidden_apply (b : Fin 8) (t : Fin 2048) (k : Fin 1024) :
    val_main_v72 (F := Ideal) X D S A M W P Q O (ix3 b t k)
      = Rows.hidden (mixRow X D S A M P Q O (row b t) b) (fun k => W (ix1 k)) (modRow M b 7168 (by omega))
          (modRow M b 6144 (by omega)) k := by
  have hm := funext (mix_apply X D S A M P Q O b t)
  rw [← hm]
  clear hm
  unfold val_main_v72 val_main_v70 val_main_v66 val_main_v63 val_main_v62 val_main_v61 val_main_v60 val_main_v58 val_main_v56
    val_main_v55 val_main_v54
  generalize val_main_v53 (F := Ideal) X D S A M P Q O = H
  pointwise [val_main_v71, val_main_v69, val_main_v68, val_main_v67, val_main_v65, val_main_v64, val_main_v59, val_main_v57,
    val_main_v31, val_main_v30, val_main_v22, val_main_v21, val_main_cst_3, val_main_cst_4, val_main_cst_5, val_main_cst_6,
    Rows.hidden, Rows.norm, Rows.scaleOf, modRow]

/-- The row before the last norm: the feed-forward half-step of the mixed row. -/
abbrev ffnRow (r : Fin 16384) (b : Fin 8) : Fin 1024 → EReal :=
  Rows.ffn (mixRow X D S A M P Q O r b) (fun k => W (ix1 k)) (modRow M b 7168 (by omega)) (modRow M b 6144 (by omega))
    (modRow M b 8192 (by omega)) (fun k j => G (ix2 k j)) (fun k j => U (ix2 k j)) (fun j l => E (ix2 j l))

theorem ffn_apply (b : Fin 8) (t : Fin 2048) (l : Fin 1024) :
    val_main_v82 (F := Ideal) X D S A M W P Q O G U E (ix3 b t l) = ffnRow X D S A M W P Q O G U E (row b t) b l := by
  have hm := mix_apply X D S A M P Q O b t
  have hh := hidden_apply X D S A M W P Q O b t
  unfold val_main_v82 val_main_v81 val_main_v79 val_main_v78 val_main_v77 val_main_call0_v5 val_main_call0_v3
    val_main_call0_v1 val_main_call0_v0 val_main_v75 val_main_v76
  generalize val_main_v53 (F := Ideal) X D S A M P Q O = H at hm ⊢
  generalize val_main_v72 (F := Ideal) X D S A M W P Q O = K at hh ⊢
  pointwise [val_main_v80, val_main_v74, val_main_v73, val_main_v32, val_main_v23, val_main_cst_7, val_main_v6, val_main_v7, val_main_v8,
    val_main_call0_v2, val_main_call0_v4, val_main_call0_cst, val_main_call0_cst_0]
  simp only [hm, hh, Rows.ffn, Rows.unit, Ideal.logistic, modRow]

theorem norm_apply (b : Fin 8) (t : Fin 2048) (l : Fin 1024) :
    val_main_v95 (F := Ideal) X D S A M W P Q O G U E N (ix3 b t l)
      = Rows.norm (ffnRow X D S A M W P Q O G U E (row b t) b) (fun k => N (ix1 k)) l := by
  have hm := funext (ffn_apply X D S A M W P Q O G U E b t)
  rw [← hm]
  clear hm
  unfold val_main_v95 val_main_v92 val_main_v91 val_main_v90 val_main_v89 val_main_v87 val_main_v85 val_main_v84 val_main_v83
  generalize val_main_v82 (F := Ideal) X D S A M W P Q O G U E = H
  pointwise [val_main_v94, val_main_v93, val_main_v88, val_main_v86, val_main_cst_8, val_main_cst_9, val_main_cst_10,
    Rows.norm, Rows.scaleOf]

/-- The reference's result at a row and a column. -/
theorem res_apply (r : Fin 16384) (l : Fin 1024) :
    val_main_v96 (F := Ideal) X D S A M W P Q O G U E N (ix2 r l)
      = Rows.norm (ffnRow X D S A M W P Q O G U E r ⟨r.val / 2048, by omega⟩) (fun k => N (ix1 k)) l := by
  have hn := norm_apply X D S A M W P Q O G U E N ⟨r.val / 2048, by omega⟩ ⟨r.val % 2048, by omega⟩ l
  have hr : row ⟨r.val / 2048, by omega⟩ ⟨r.val % 2048, by omega⟩ = r := Fin.ext (Nat.div_add_mod' r.val 2048)
  rw [hr] at hn
  rw [← hn]
  unfold val_main_v96
  generalize val_main_v95 (F := Ideal) X D S A M W P Q O G U E N = H
  pointwise

end Cert.MixRef

end
-- ==== Proof.MixValue.lean ====
module

public import proofs.«01_k».proof.Proof.MixBlock
public import proofs.«01_k».proof.Proof.MixRef

@[expose] public section

set_option maxRecDepth 16384

/-! # The mixing kernel's result array is the reference's -/

noncomputable section

namespace Cert.MixValue

open Cert.MixIdeal Cert.MixIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The reference's value of device `c`'s arguments: what the kernel's result array is shown to hold. -/
abbrev G (c : Dev nD) : (⟨S16384x1024, .f32⟩ : BufTy).Contents (Elt Ideal) :=
  MixReferenceIdeal.Read.val_main_v96 (F := Ideal)
    (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))

/-! ## The arrays the windows stage -/

theorem V_v1 (c : Dev nD) : V m c main_v1
    = shapeCast S8x1x9216 (m ((c : Thread nD τ).loc main_arg4)) shapeCasts_S8x9216_S8x1x9216 := by
  unfold_abbrev_sides
  after_results
  rfl

theorem V_v0 (c : Dev nD) : V m c main_v0
    = shapeCast S1x1024 (m ((c : Thread nD τ).loc main_arg5)) shapeCasts_S1024_S1x1024 := by
  unfold_abbrev_sides
  after_results
  rfl

theorem V_v2 (c : Dev nD) : V m c main_v2
    = shapeCast S1x1024 (m ((c : Thread nD τ).loc main_arg12)) shapeCasts_S1024_S1x1024 := by
  unfold_abbrev_sides
  after_results
  rfl

/-! ## The windows' places on the grid -/

/-- The windows of 512 rows move with the point. -/
theorem idx_rows : ∀ t : Fin grid0.N, (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = t.val ∧ win0_3.index t 1 = 0) ∧ (win0_16.index t 0 = t.val ∧ win0_16.index t 1 = 0) := by
  decide +kernel

/-- The modulation windows move once in four points, with the batch. -/
theorem idx_mod : ∀ t : Fin grid0.N, (win0_4.index t 0 = t.val / 4 ∧ win0_4.index t 1 = 0 ∧ win0_4.index t 2 = 5)
    ∧ (win0_5.index t 0 = t.val / 4 ∧ win0_5.index t 1 = 0 ∧ win0_5.index t 2 = 6)
    ∧ (win0_6.index t 0 = t.val / 4 ∧ win0_6.index t 1 = 0 ∧ win0_6.index t 2 = 7)
    ∧ (win0_7.index t 0 = t.val / 4 ∧ win0_7.index t 1 = 0 ∧ win0_7.index t 2 = 8) := by
  decide +kernel

/-- The weights' windows stay. -/
theorem idx_const : ∀ t : Fin grid0.N, ∀ a : Fin 2, win0_8.index t a = 0 ∧ win0_9.index t a = 0 ∧ win0_10.index t a = 0
    ∧ win0_11.index t a = 0 ∧ win0_12.index t a = 0 ∧ win0_13.index t a = 0 ∧ win0_14.index t a = 0 ∧ win0_15.index t a = 0 := by
  decide +kernel

/-! ## A window's block is its array at the block's place -/

theorem blk0 (A : S16384x1024.Idx → EReal) (t : Fin grid0.N) (r : Fin 512) (k : Fin 1024) :
    (win0_0.blk t).view.read (Elt Ideal) A (ix2 r k)
      = A (ix2 ⟨t.val * 512 + r.val, by have : grid0.N = 32 := N_0; omega⟩ k) := by
  refine congrArg A (funext fun a => Fin.ext ?_)
  obtain ⟨h0, h1⟩ := (idx_rows t).1
  match a with
  | ⟨0, _⟩ => show win0_0.index t 0 * 512 + 1 * r.val = t.val * 512 + r.val; rw [h0]; omega
  | ⟨1, _⟩ => show win0_0.index t 1 * 1024 + 1 * k.val = k.val; rw [h1]; omega

theorem blk1 (A : S16384x1024.Idx → EReal) (t : Fin grid0.N) (r : Fin 512) (k : Fin 1024) :
    (win0_1.blk t).view.read (Elt Ideal) A (ix2 r k)
      = A (ix2 ⟨t.val * 512 + r.val, by have : grid0.N = 32 := N_0; omega⟩ k) := by
  refine congrArg A (funext fun a => Fin.ext ?_)
  obtain ⟨h0, h1⟩ := (idx_rows t).2.1
  match a with
  | ⟨0, _⟩ => show win0_1.index t 0 * 512 + 1 * r.val = t.val * 512 + r.val; rw [h0]; omega
  | ⟨1, _⟩ => show win0_1.index t 1 * 1024 + 1 * k.val = k.val; rw [h1]; omega

theorem blk2 (A : S16384x1024.Idx → EReal) (t : Fin grid0.N) (r : Fin 512) (k : Fin 1024) :
    (win0_2.blk t).view.read (Elt Ideal) A (ix2 r k)
      = A (ix2 ⟨t.val * 512 + r.val, by have : grid0.N = 32 := N_0; omega⟩ k) := by
  refine congrArg A (funext fun a => Fin.ext ?_)
  obtain ⟨h0, h1⟩ := (idx_rows t).2.2.1
  match a with
  | ⟨0, _⟩ => show win0_2.index t 0 * 512 + 1 * r.val = t.val * 512 + r.val; rw [h0]; omega
  | ⟨1, _⟩ => show win0_2.index t 1 * 1024 + 1 * k.val = k.val; rw [h1]; omega

theorem blk3 (A : S16384x2048.Idx → EReal) (t : Fin grid0.N) (r : Fin 512) (k : Fin 2048) :
    (win0_3.blk t).view.read (Elt Ideal) A (ix2 r k)
      = A (ix2 ⟨t.val * 512 + r.val, by have : grid0.N = 32 := N_0; omega⟩ k) := by
  refine congrArg A (funext fun a => Fin.ext ?_)
  obtain ⟨h0, h1⟩ := (idx_rows t).2.2.2.1
  match a with
  | ⟨0, _⟩ => show win0_3.index t 0 * 512 + 1 * r.val = t.val * 512 + r.val; rw [h0]; omega
  | ⟨1, _⟩ => show win0_3.index t 1 * 2048 + 1 * k.val = k.val; rw [h1]; omega

theorem blk16 (A : S16384x1024.Idx → EReal) (t : Fin grid0.N) (r : Fin 512) (k : Fin 1024) :
    (win0_16.blk t).view.read (Elt Ideal) A (ix2 r k)
      = A (ix2 ⟨t.val * 512 + r.val, by have : grid0.N = 32 := N_0; omega⟩ k) := by
  refine congrArg A (funext fun a => Fin.ext ?_)
  obtain ⟨h0, h1⟩ := (idx_rows t).2.2.2.2
  match a with
  | ⟨0, _⟩ => show win0_16.index t 0 * 512 + 1 * r.val = t.val * 512 + r.val; rw [h0]; omega
  | ⟨1, _⟩ => show win0_16.index t 1 * 1024 + 1 * k.val = k.val; rw [h1]; omega

theorem blk4 (A : S8x1x9216.Idx → EReal) (t : Fin grid0.N) (k : Fin 1024) :
    (win0_4.blk t).view.read (Elt Ideal) A (ix3 0 0 k)
      = A (ix3 ⟨t.val / 4, by have : grid0.N = 32 := N_0; omega⟩ 0 ⟨5120 + k.val, by omega⟩) := by
  refine congrArg A (funext fun a => Fin.ext ?_)
  obtain ⟨h0, h1, h2⟩ := (idx_mod t).1
  match a with
  | ⟨0, _⟩ => show win0_4.index t 0 * 1 + 1 * 0 = t.val / 4; rw [h0]; omega
  | ⟨1, _⟩ => show win0_4.index t 1 * 1 + 1 * 0 = 0; rw [h1]
  | ⟨2, _⟩ => show win0_4.index t 2 * 1024 + 1 * k.val = 5120 + k.val; rw [h2]; omega

theorem blk5 (A : S8x1x9216.Idx → EReal) (t : Fin grid0.N) (k : Fin 1024) :
    (win0_5.blk t).view.read (Elt Ideal) A (ix3 0 0 k)
      = A (ix3 ⟨t.val / 4, by have : grid0.N = 32 := N_0; omega⟩ 0 ⟨6144 + k.val, by omega⟩) := by
  refine congrArg A (funext fun a => Fin.ext ?_)
  obtain ⟨h0, h1, h2⟩ := (idx_mod t).2.1
  match a with
  | ⟨0, _⟩ => show win0_5.index t 0 * 1 + 1 * 0 = t.val / 4; rw [h0]; omega
  | ⟨1, _⟩ => show win0_5.index t 1 * 1 + 1 * 0 = 0; rw [h1]
  | ⟨2, _⟩ => show win0_5.index t 2 * 1024 + 1 * k.val = 6144 + k.val; rw [h2]; omega

theorem blk6 (A : S8x1x9216.Idx → EReal) (t : Fin grid0.N) (k : Fin 1024) :
    (win0_6.blk t).view.read (Elt Ideal) A (ix3 0 0 k)
      = A (ix3 ⟨t.val / 4, by have : grid0.N = 32 := N_0; omega⟩ 0 ⟨7168 + k.val, by omega⟩) := by
  refine congrArg A (funext fun a => Fin.ext ?_)
  obtain ⟨h0, h1, h2⟩ := (idx_mod t).2.2.1
  match a with
  | ⟨0, _⟩ => show win0_6.index t 0 * 1 + 1 * 0 = t.val / 4; rw [h0]; omega
  | ⟨1, _⟩ => show win0_6.index t 1 * 1 + 1 * 0 = 0; rw [h1]
  | ⟨2, _⟩ => show win0_6.index t 2 * 1024 + 1 * k.val = 7168 + k.val; rw [h2]; omega

theorem blk7 (A : S8x1x9216.Idx → EReal) (t : Fin grid0.N) (k : Fin 1024) :
    (win0_7.blk t).view.read (Elt Ideal) A (ix3 0 0 k)
      = A (ix3 ⟨t.val / 4, by have : grid0.N = 32 := N_0; omega⟩ 0 ⟨8192 + k.val, by omega⟩) := by
  refine congrArg A (funext fun a => Fin.ext ?_)
  obtain ⟨h0, h1, h2⟩ := (idx_mod t).2.2.2
  match a with
  | ⟨0, _⟩ => show win0_7.index t 0 * 1 + 1 * 0 = t.val / 4; rw [h0]; omega
  | ⟨1, _⟩ => show win0_7.index t 1 * 1 + 1 * 0 = 0; rw [h1]
  | ⟨2, _⟩ => show win0_7.index t 2 * 1024 + 1 * k.val = 8192 + k.val; rw [h2]; omega

theorem blk8 (A : S1x1024.Idx → EReal) (t : Fin grid0.N) (k : Fin 1024) :
    (win0_8.blk t).view.read (Elt Ideal) A (ix2 0 k) = A (ix2 0 k) := by
  refine congrArg A (funext fun a => Fin.ext ?_)
  match a with
  | ⟨0, _⟩ => show win0_8.index t 0 * 1 + 1 * 0 = 0; rw [(idx_const t 0).1]
  | ⟨1, _⟩ => show win0_8.index t 1 * 1024 + 1 * k.val = k.val; rw [(idx_const t 1).1]; omega

theorem blk9 (A : S1024x1024.Idx → EReal) (t : Fin grid0.N) (i : Fin 1024) (k : Fin 1024) :
    (win0_9.blk t).view.read (Elt Ideal) A (ix2 i k) = A (ix2 i k) := by
  refine congrArg A (funext fun a => Fin.ext ?_)
  match a with
  | ⟨0, _⟩ => show win0_9.index t 0 * 1024 + 1 * i.val = i.val; rw [(idx_const t 0).2.1]; omega
  | ⟨1, _⟩ => show win0_9.index t 1 * 1024 + 1 * k.val = k.val; rw [(idx_const t 1).2.1]; omega

theorem blk10 (A : S1024x1024.Idx → EReal) (t : Fin grid0.N) (i : Fin 1024) (k : Fin 1024) :
    (win0_10.blk t).view.read (Elt Ideal) A (ix2 i k) = A (ix2 i k) := by
  refine congrArg A (funext fun a => Fin.ext ?_)
  match a with
  | ⟨0, _⟩ => show win0_10.index t 0 * 1024 + 1 * i.val = i.val; rw [(idx_const t 0).2.2.1]; omega
  | ⟨1, _⟩ => show win0_10.index t 1 * 1024 + 1 * k.val = k.val; rw [(idx_const t 1).2.2.1]; omega

theorem blk11 (A : S1024x1024.Idx → EReal) (t : Fin grid0.N) (i : Fin 1024) (k : Fin 1024) :
    (win0_11.blk t).view.read (Elt Ideal) A (ix2 i k) = A (ix2 i k) := by
  refine congrArg A (funext fun a => Fin.ext ?_)
  match a with
  | ⟨0, _⟩ => show win0_11.index t 0 * 1024 + 1 * i.val = i.val; rw [(idx_const t 0).2.2.2.1]; omega
  | ⟨1, _⟩ => show win0_11.index t 1 * 1024 + 1 * k.val = k.val; rw [(idx_const t 1).2.2.2.1]; omega

theorem blk12 (A : S1024x2816.Idx → EReal) (t : Fin grid0.N) (i : Fin 1024) (k : Fin 2816) :
    (win0_12.blk t).view.read (Elt Ideal) A (ix2 i k) = A (ix2 i k) := by
  refine congrArg A (funext fun a => Fin.ext ?_)
  match a with
  | ⟨0, _⟩ => show win0_12.index t 0 * 1024 + 1 * i.val = i.val; rw [(idx_const t 0).2.2.2.2.1]; omega
  | ⟨1, _⟩ => show win0_12.index t 1 * 2816 + 1 * k.val = k.val; rw [(idx_const t 1).2.2.2.2.1]; omega

theorem blk13 (A : S1024x2816.Idx → EReal) (t : Fin grid0.N) (i : Fin 1024) (k : Fin 2816) :
    (win0_13.blk t).view.read (Elt Ideal) A (ix2 i k) = A (ix2 i k) := by
  refine congrArg A (funext fun a => Fin.ext ?_)
  match a with
  | ⟨0, _⟩ => show win0_13.index t 0 * 1024 + 1 * i.val = i.val; rw [(idx_const t 0).2.2.2.2.2.1]; omega
  | ⟨1, _⟩ => show win0_13.index t 1 * 2816 + 1 * k.val = k.val; rw [(idx_const t 1).2.2.2.2.2.1]; omega

theorem blk14 (A : S2816x1024.Idx → EReal) (t : Fin grid0.N) (i : Fin 2816) (k : Fin 1024) :
    (win0_14.blk t).view.read (Elt Ideal) A (ix2 i k) = A (ix2 i k) := by
  refine congrArg A (funext fun a => Fin.ext ?_)
  match a with
  | ⟨0, _⟩ => show win0_14.index t 0 * 2816 + 1 * i.val = i.val; rw [(idx_const t 0).2.2.2.2.2.2.1]; omega
  | ⟨1, _⟩ => show win0_14.index t 1 * 1024 + 1 * k.val = k.val; rw [(idx_const t 1).2.2.2.2.2.2.1]; omega

theorem blk15 (A : S1x1024.Idx → EReal) (t : Fin grid0.N) (k : Fin 1024) :
    (win0_15.blk t).view.read (Elt Ideal) A (ix2 0 k) = A (ix2 0 k) := by
  refine congrArg A (funext fun a => Fin.ext ?_)
  match a with
  | ⟨0, _⟩ => show win0_15.index t 0 * 1 + 1 * 0 = 0; rw [(idx_const t 0).2.2.2.2.2.2.2]
  | ⟨1, _⟩ => show win0_15.index t 1 * 1024 + 1 * k.val = k.val; rw [(idx_const t 1).2.2.2.2.2.2.2]; omega

/-! ## The staged arrays, read at an index of the arguments -/

theorem cast_mod (M : Vec Ideal S8x9216 .f32) (b : Fin 8) (k : Fin 9216) :
    shapeCast S8x1x9216 M shapeCasts_S8x9216_S8x1x9216 (ix3 b 0 k) = M (ix2 b k) := by
  pointwise

theorem cast_nw (W : Vec Ideal S1024 .f32) (k : Fin 1024) :
    shapeCast S1x1024 W shapeCasts_S1024_S1x1024 (ix2 0 k) = W (ix1 k) := by
  pointwise

/-- The batch of row `r` of tile `t`. -/
theorem batch {t r : ℕ} (hr : r < 512) : (t * 512 + r) / 2048 = t / 4 := by omega

theorem iblk0 (c : Dev nD) (t : Fin cfg0.N) (r : Fin 512) (k : Fin 1024) :
    iblk m c 0 t (ix2 r k) = m ((c : Thread nD τ).loc main_arg0)
      (ix2 ⟨t.val * 512 + r.val, by have : cfg0.N = 32 := N_0; omega⟩ k) :=
  (blk0 _ t r k).trans (congrFun (V_main_arg0 m c) _)

theorem iblk1 (c : Dev nD) (t : Fin cfg0.N) (r : Fin 512) (k : Fin 1024) :
    iblk m c 1 t (ix2 r k) = m ((c : Thread nD τ).loc main_arg1)
      (ix2 ⟨t.val * 512 + r.val, by have : cfg0.N = 32 := N_0; omega⟩ k) :=
  (blk1 _ t r k).trans (congrFun (V_main_arg1 m c) _)

theorem iblk2 (c : Dev nD) (t : Fin cfg0.N) (r : Fin 512) (k : Fin 1024) :
    iblk m c 2 t (ix2 r k) = m ((c : Thread nD τ).loc main_arg2)
      (ix2 ⟨t.val * 512 + r.val, by have : cfg0.N = 32 := N_0; omega⟩ k) :=
  (blk2 _ t r k).trans (congrFun (V_main_arg2 m c) _)

theorem iblk3 (c : Dev nD) (t : Fin cfg0.N) (r : Fin 512) (k : Fin 2048) :
    iblk m c 3 t (ix2 r k) = m ((c : Thread nD τ).loc main_arg3)
      (ix2 ⟨t.val * 512 + r.val, by have : cfg0.N = 32 := N_0; omega⟩ k) :=
  (blk3 _ t r k).trans (congrFun (V_main_arg3 m c) _)

theorem iblk4 (c : Dev nD) (t : Fin cfg0.N) (r : Fin 512) (k : Fin 1024) :
    iblk m c 4 t (ix3 0 0 k) = MixRef.modRow (m ((c : Thread nD τ).loc main_arg4))
      ⟨(t.val * 512 + r.val) / 2048, by have : cfg0.N = 32 := N_0; omega⟩ 5120 (by omega) k :=
  (blk4 _ t k).trans ((congrFun (V_v1 m c) _).trans ((cast_mod _ _ _).trans
    (congrArg (fun b => m ((c : Thread nD τ).loc main_arg4) (ix2 b _)) (Fin.ext (batch r.isLt).symm))))

theorem iblk5 (c : Dev nD) (t : Fin cfg0.N) (r : Fin 512) (k : Fin 1024) :
    iblk m c 5 t (ix3 0 0 k) = MixRef.modRow (m ((c : Thread nD τ).loc main_arg4))
      ⟨(t.val * 512 + r.val) / 2048, by have : cfg0.N = 32 := N_0; omega⟩ 6144 (by omega) k :=
  (blk5 _ t k).trans ((congrFun (V_v1 m c) _).trans ((cast_mod _ _ _).trans
    (congrArg (fun b => m ((c : Thread nD τ).loc main_arg4) (ix2 b _)) (Fin.ext (batch r.isLt).symm))))

theorem iblk6 (c : Dev nD) (t : Fin cfg0.N) (r : Fin 512) (k : Fin 1024) :
    iblk m c 6 t (ix3 0 0 k) = MixRef.modRow (m ((c : Thread nD τ).loc main_arg4))
      ⟨(t.val * 512 + r.val) / 2048, by have : cfg0.N = 32 := N_0; omega⟩ 7168 (by omega) k :=
  (blk6 _ t k).trans ((congrFun (V_v1 m c) _).trans ((cast_mod _ _ _).trans
    (congrArg (fun b => m ((c : Thread nD τ).loc main_arg4) (ix2 b _)) (Fin.ext (batch r.isLt).symm))))

theorem iblk7 (c : Dev nD) (t : Fin cfg0.N) (r : Fin 512) (k : Fin 1024) :
    iblk m c 7 t (ix3 0 0 k) = MixRef.modRow (m ((c : Thread nD τ).loc main_arg4))
      ⟨(t.val * 512 + r.val) / 2048, by have : cfg0.N = 32 := N_0; omega⟩ 8192 (by omega) k :=
  (blk7 _ t k).trans ((congrFun (V_v1 m c) _).trans ((cast_mod _ _ _).trans
    (congrArg (fun b => m ((c : Thread nD τ).loc main_arg4) (ix2 b _)) (Fin.ext (batch r.isLt).symm))))

theorem iblk8 (c : Dev nD) (t : Fin cfg0.N) (k : Fin 1024) :
    iblk m c 8 t (ix2 0 k) = m ((c : Thread nD τ).loc main_arg5) (ix1 k) :=
  (blk8 _ t k).trans ((congrFun (V_v0 m c) _).trans (cast_nw _ _))

theorem iblk15 (c : Dev nD) (t : Fin cfg0.N) (k : Fin 1024) :
    iblk m c 15 t (ix2 0 k) = m ((c : Thread nD τ).loc main_arg12) (ix1 k) :=
  (blk15 _ t k).trans ((congrFun (V_v2 m c) _).trans (cast_nw _ _))

theorem iblk9 (c : Dev nD) (t : Fin cfg0.N) (i : Fin 1024) (k : Fin 1024) :
    iblk m c 9 t (ix2 i k) = m ((c : Thread nD τ).loc main_arg6) (ix2 i k) :=
  (blk9 _ t i k).trans (congrFun (V_main_arg6 m c) _)

theorem iblk10 (c : Dev nD) (t : Fin cfg0.N) (i : Fin 1024) (k : Fin 1024) :
    iblk m c 10 t (ix2 i k) = m ((c : Thread nD τ).loc main_arg7) (ix2 i k) :=
  (blk10 _ t i k).trans (congrFun (V_main_arg7 m c) _)

theorem iblk11 (c : Dev nD) (t : Fin cfg0.N) (i : Fin 1024) (k : Fin 1024) :
    iblk m c 11 t (ix2 i k) = m ((c : Thread nD τ).loc main_arg8) (ix2 i k) :=
  (blk11 _ t i k).trans (congrFun (V_main_arg8 m c) _)

theorem iblk12 (c : Dev nD) (t : Fin cfg0.N) (i : Fin 1024) (k : Fin 2816) :
    iblk m c 12 t (ix2 i k) = m ((c : Thread nD τ).loc main_arg9) (ix2 i k) :=
  (blk12 _ t i k).trans (congrFun (V_main_arg9 m c) _)

theorem iblk13 (c : Dev nD) (t : Fin cfg0.N) (i : Fin 1024) (k : Fin 2816) :
    iblk m c 13 t (ix2 i k) = m ((c : Thread nD τ).loc main_arg10) (ix2 i k) :=
  (blk13 _ t i k).trans (congrFun (V_main_arg10 m c) _)

theorem iblk14 (c : Dev nD) (t : Fin cfg0.N) (i : Fin 2816) (k : Fin 1024) :
    iblk m c 14 t (ix2 i k) = m ((c : Thread nD τ).loc main_arg11) (ix2 i k) :=
  (blk14 _ t i k).trans (congrFun (V_main_arg11 m c) _)

/-- What point `t` writes back is block `t` of the reference's value. -/
theorem flushed_eq (c : Dev nD) (t : Fin cfg0.N) :
    (dats m 0 c).flushed 16 t = ((cfg0.win 16).blk t).view.read (Elt Ideal) (G m c) := by
  rw [MixIdeal.Value.flushed16]
  show (fun y : S512x1024.Idx => out0_16 (iblk m c 0 t) (iblk m c 1 t) (iblk m c 2 t) (iblk m c 3 t)
    (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y) = fun y : S512x1024.Idx => (win0_16.blk t).view.read (Elt Ideal) (G m c) y
  funext y
  obtain ⟨r, l, rfl⟩ : ∃ (r : Fin 512) (l : Fin 1024), y = ix2 r l := ⟨y 0, y 1, eq_ix2 y⟩
  rw [MixBlock.out_apply, blk16]
  refine Eq.trans ?_ (MixRef.res_apply _ _ _ _ _ _ _ _ _ _ _ _ _ _ l).symm
  rw [funext (iblk0 m c t r), funext (iblk1 m c t r), funext (iblk2 m c t r),
    funext fun k : Fin 1024 => iblk3 m c t r ⟨k.val, by omega⟩, funext fun k : Fin 1024 => iblk3 m c t r ⟨1024 + k.val, by omega⟩,
    funext (iblk4 m c t r), funext (iblk5 m c t r), funext (iblk6 m c t r), funext (iblk7 m c t r), funext (iblk8 m c t),
    funext (iblk15 m c t), funext fun k => funext (iblk9 m c t k), funext fun k => funext (iblk10 m c t k),
    funext fun k => funext (iblk11 m c t k), funext fun k => funext (iblk12 m c t k), funext fun k => funext (iblk13 m c t k),
    funext fun k => funext (iblk14 m c t k)]

/-- The blocks tile the result array. -/
theorem cover (i : S16384x1024.Idx) : ∃ t : Fin cfg0.N, (cfg0.win 16).flush t = true ∧ i ∈ ((cfg0.win 16).blk t).view.set := by
  have hN : cfg0.N = 32 := N_0
  have h0 : (i 0).val < 16384 := (i 0).isLt
  have h1 : (i 1).val < 1024 := (i 1).isLt
  refine ⟨⟨(i 0).val / 512, by omega⟩, flush0_16 _, ?_⟩
  generalize ht : (⟨(i 0).val / 512, by omega⟩ : Fin cfg0.N) = t
  have htv : t.val = (i 0).val / 512 := by rw [← ht]
  obtain ⟨-, -, -, -, e0, e1⟩ := idx_rows t
  show i ∈ ((View.whole main_v3).slice (win0_16.rect t)).set
  rw [View.set_slice_whole, Rect.mem_set_unit]
  intro a
  match a with
  | ⟨0, _⟩ =>
    show win0_16.index t 0 * 512 ≤ (i 0).val ∧ (i 0).val < win0_16.index t 0 * 512 + 512
    rw [e0]; omega
  | ⟨1, _⟩ =>
    show win0_16.index t 1 * 1024 ≤ (i 1).val ∧ (i 1).val < win0_16.index t 1 * 1024 + 1024
    rw [e1]; omega

/-- The result array ends holding the reference's value. -/
theorem final (c : Dev nD) : (dats m 0 c).arrAt 16 cfg0.N = G m c :=
  (dats m 0 c).arrAt_eq_of_cover 16 (G m c) (fun t _ => flushed_eq m c t) cover

end Cert.MixValue

end
-- ==== Proof.MixClaims.lean ====
module

public import proofs.«01_k».proof.Defs
public import proofs.«01_k».proof.Proof.Gen.Mix.Frame
public import proofs.«01_k».proof.Proof.Gen.MixReferenceIdeal.Run
public import proofs.«01_k».proof.Proof.MixValue
public import Idealize.ShloMosaic.Adequacy

@[expose] public section

/-! # The claims about the mixing -/

noncomputable section

namespace Cert.MixClaims

open Idealize.ShloMosaic

theorem frame : Cert.quiescent_Mix := fun m ρ _ => Cert.Mix.Gen.frame m ρ

theorem frame_ideal : Cert.quiescent_MixIdeal := fun m ρ _ => Cert.MixIdeal.Gen.frame m ρ

theorem frame_reference : Cert.quiescent_MixReferenceIdeal := fun m ρ _ =>
  (θ_run Cert.MixReferenceIdeal.defs _ _).mono (fun r h => ⟨fun c => (h c).2, sem_eq_zero_of_no_sems (by decide) r.2⟩)
    (Cert.MixReferenceIdeal.Value.run (F := Ideal) m ρ)

theorem preserves : Cert.preserves_Mix_MixIdeal := trivial

/-- Both programs end with the reference's value of the kernel's arguments. -/
theorem algebraic : Cert.algebraic_MixIdeal_MixReferenceIdeal := by
  intro m ρ m' ρ' _ hagree
  refine ⟨fun c => MixValue.G m c, ?_, ?_⟩
  · exact (θ_run Cert.MixIdeal.defs _ _).mono (fun _ h c => ⟨(h c).1.trans (MixValue.final m c), (h c).2⟩)
      (Cert.MixIdeal.Value.run_blocks (F := Ideal) m ρ)
  · refine (θ_run Cert.MixReferenceIdeal.defs _ _).mono (fun _ h c => ⟨(h c).1.trans ?_, (h c).2⟩)
      (Cert.MixReferenceIdeal.Value.run (F := Ideal) m' ρ')
    obtain ⟨h0, h1, h2, h3, h4, h5, h6, h7, h8, h9, h10, h11, h12⟩ := hagree c
    rw [Cert.MixReferenceIdeal.Read.val_main_v96_eq]
    show Cert.MixReferenceIdeal.Read.val_main_v96 (F := Ideal) _ _ _ _ _ _ _ _ _ _ _ _ _ = Cert.MixReferenceIdeal.Read.val_main_v96 (F := Ideal) _ _ _ _ _ _ _ _ _ _ _ _ _
    rw [h0, h1, h2, h3, h4, h5, h6, h7, h8, h9, h10, h11, h12]

end Cert.MixClaims

end
-- ==== Proof.InprojBlock.lean ====
module

public import proofs.«01_k».proof.Proof.Gen.InprojIdeal.Value
public import proofs.«01_k».proof.Proof.Rows

@[expose] public section

set_option maxRecDepth 16384

/-! # The input projection's blocks, row by row -/

noncomputable section

namespace Cert.InprojBlock

open Cert.InprojIdeal Cert.InprojIdeal.Gen Idealize.ShloMosaic

variable (x0 : Vec Ideal S512x1024 .f32) (x1 x2 : Vec Ideal S1x1x1024 .f32) (x3 : Vec Ideal S1x1024 .f32)
  (x4 : Vec Ideal S7440x1024 .bf16) (x5 : Vec Ideal S128x1024 .f32)

/-- The hidden row number `r` of the block. -/
abbrev hiddenRow (r : Fin 512) : Fin 1024 → EReal :=
  Rows.hidden (fun k => x0 (ix2 r k)) (fun k => x3 (ix2 0 k)) (fun k => x2 (ix3 0 0 k)) (fun k => x1 (ix3 0 0 k))

theorem hidden_apply (r : Fin 512) (k : Fin 1024) : k0_pay3 (F := Ideal) x0 x3 x2 x1 (ix2 r k) = hiddenRow x0 x1 x2 x3 r k := by
  pointwise [k0_pay3, Rows.hidden, Rows.norm, Rows.scaleOf]

/-- Row `r`'s inner product with row `j` of the weights. -/
abbrev dot (r : Fin 512) (j : Fin 7440) : EReal := ∑ k, hiddenRow x0 x1 x2 x3 r k * x4 (ix2 j k)

/-- The hidden rows as the products read them. -/
theorem operand_eq : k0_pay19 x0 x1 x2 x3 x4 x5 = truncf .bf16 (k0_pay3 (F := Ideal) x0 x3 x2 x1) bitsLt_bf16_f32 := by
  have hz2 : (![0, 0] : Fin 2 → ℕ) = fun _ => 0 := by funext a; fin_cases a <;> rfl
  have hz3 : (![0, 0, 0] : Fin 3 → ℕ) = fun _ => 0 := by funext a; fin_cases a <;> rfl
  have e0 : View.ld x0 r0_0 = x0 := View.ld_unit_zero hz2 _ x0
  have e1 : View.ld x1 r0_2 = x1 := View.ld_unit_zero hz3 _ x1
  have e2 : View.ld x2 r0_2 = x2 := View.ld_unit_zero hz3 _ x2
  have e3 : View.ld x3 r0_1 = x3 := View.ld_unit_zero hz2 _ x3
  unfold k0_pay19 k0_pay4
  rw [e0, e1, e2, e3]

theorem operand_apply (r : Fin 512) (k : Fin 1024) : k0_pay19 x0 x1 x2 x3 x4 x5 (ix2 r k) = hiddenRow x0 x1 x2 x3 r k := by
  rw [operand_eq, ← hidden_apply]
  rfl

/-- The product of the hidden rows with 512 rows of the weights. -/
def dots (H : FVec Ideal S512x1024 .bf16) (w : Vec Ideal S512x1024 .bf16) : FVec Ideal S512x512 .f32 :=
  matmul (φ₂ := .bf16) dot_S512x1024_S512x1024_S512x512_1_1_0_0_n_n none H w (constant S512x512 .f32 0x00000000#32)

theorem dots_apply (H : FVec Ideal S512x1024 .bf16) (w : Vec Ideal S512x1024 .bf16) (r j : Fin 512) :
    dots H w (ix2 r j) = ∑ k, H (ix2 r k) * w (ix2 j k) := by
  pointwise [dots]

/-- What a piece of 512 columns holds: the rows' products with the 512 rows of the weights starting at row `o`. -/
theorem piece_apply (o : ℕ) (inb : ∀ a, (![o, 0] : Fin 2 → ℕ) a + S512x1024.size a ≤ S7440x1024.size a) (z : S512x512.Idx)
    (r : Fin 512) (n : Fin 7440) (hr : r.val = 0 + 1 * (z 0).val) (hn : n.val = o + (z 1).val) :
    dots (k0_pay19 x0 x1 x2 x3 x4 x5) (View.ld x4 (Rect.unit (s := S7440x1024) ![o, 0] S512x1024.size inb)) z
      = dot x0 x1 x2 x3 x4 r n := by
  obtain ⟨a, b, rfl⟩ : ∃ (a b : Fin 512), z = ix2 a b := ⟨z 0, z 1, eq_ix2 z⟩
  have h0 : a = r := Fin.ext (by rw [hr]; show a.val = 0 + 1 * a.val; omega)
  have h1 : n.val = o + b.val := hn
  rw [dots_apply, h0]
  refine Finset.sum_congr rfl fun k _ => ?_
  rw [operand_apply]
  refine congrArg (_ * x4 ·) (funext fun a => Fin.ext ?_)
  match a with
  | ⟨0, _⟩ => show o + 1 * b.val = n.val; omega
  | ⟨1, _⟩ => show 0 + 1 * k.val = k.val; omega

theorem qkv_apply (r : Fin 512) (l : Fin 3072) :
    out0_6 (F := Ideal) x0 x1 x2 x3 x4 x5 (ix2 r l) = dot x0 x1 x2 x3 x4 r ⟨l.val, by omega⟩ := by
  let G : S512x3072.Idx → Elt Ideal .f32 := fun y => dot x0 x1 x2 x3 x4 (y 0) (Fin.castLE (by decide) (y 1))
  unfold out0_6
  refine View.canon_apply_of_pieces G _ (fun p hp z => ?_) (ix2 r l) (cover0_6 _ _ _ _ _ _ (ix2 r l))
  simp only [List.mem_cons, List.mem_nil_iff, or_false] at hp
  rcases hp with rfl | rfl | rfl | rfl | rfl | rfl <;>
  exact piece_apply x0 x1 x2 x3 x4 x5 _ _ z _ _ rfl (congrArg (_ + ·) (Nat.one_mul _))

theorem z_apply (r : Fin 512) (l : Fin 1024) : out0_7 (F := Ideal) x0 x1 x2 x3 x4 x5 (ix2 r l)
    = dot x0 x1 x2 x3 x4 r ⟨3072 + l.val, by omega⟩ * Ideal.logistic (dot x0 x1 x2 x3 x4 r ⟨3072 + l.val, by omega⟩) := by
  let col (y : S512x1024.Idx) : Fin 7440 := ⟨3072 + (y 1).val, by have h : (y 1).val < 1024 := (y 1).isLt; omega⟩
  let G : S512x1024.Idx → Elt Ideal .bf16 := fun y =>
    dot x0 x1 x2 x3 x4 (y 0) (col y) * Ideal.logistic (dot x0 x1 x2 x3 x4 (y 0) (col y))
  unfold out0_7
  refine View.canon_apply_of_pieces G _ (fun p hp z => ?_) (ix2 r l) (cover0_7 _ _ (ix2 r l))
  simp only [List.mem_cons, List.mem_nil_iff, or_false] at hp
  rcases hp with rfl | rfl
  · exact congrArg (fun v => v * Ideal.logistic v) (piece_apply x0 x1 x2 x3 x4 x5 3584 _ z _ (col (r0_18.emb z)) rfl
      (by show 3072 + (512 + 1 * (z 1).val) = 3584 + (z 1).val; omega))
  · exact congrArg (fun v => v * Ideal.logistic v) (piece_apply x0 x1 x2 x3 x4 x5 3072 _ z _ (col (r0_16.emb z)) rfl
      (by show 3072 + (0 + 1 * (z 1).val) = 3072 + (z 1).val; omega))

theorem q_apply (r : Fin 512) (l : Fin 1024) :
    out0_8 (F := Ideal) x0 x1 x2 x3 x4 x5 (ix2 r l) = dot x0 x1 x2 x3 x4 r ⟨4112 + l.val, by omega⟩ := by
  let col (y : S512x1024.Idx) : Fin 7440 := ⟨4112 + (y 1).val, by have h : (y 1).val < 1024 := (y 1).isLt; omega⟩
  let G : S512x1024.Idx → Elt Ideal .bf16 := fun y => dot x0 x1 x2 x3 x4 (y 0) (col y)
  unfold out0_8
  refine View.canon_apply_of_pieces G _ (fun p hp z => ?_) (ix2 r l) (cover0_8 _ _ (ix2 r l))
  simp only [List.mem_cons, List.mem_nil_iff, or_false] at hp
  rcases hp with rfl | rfl
  · exact piece_apply x0 x1 x2 x3 x4 x5 4624 _ z _ (col (r0_18.emb z)) rfl
      (by show 4112 + (512 + 1 * (z 1).val) = 4624 + (z 1).val; omega)
  · exact piece_apply x0 x1 x2 x3 x4 x5 4112 _ z _ (col (r0_16.emb z)) rfl
      (by show 4112 + (0 + 1 * (z 1).val) = 4112 + (z 1).val; omega)

theorem kv_apply (r : Fin 512) (l : Fin 256) :
    out0_9 (F := Ideal) x0 x1 x2 x3 x4 x5 (ix2 r l) = dot x0 x1 x2 x3 x4 r ⟨5136 + l.val, by omega⟩ := by
  have ho := operand_apply x0 x1 x2 x3 x4 x5 r
  unfold out0_9
  rw [View.canon_unit_zero (by funext a; fin_cases a <;> rfl)]
  generalize k0_pay19 x0 x1 x2 x3 x4 x5 = H at ho ⊢
  pointwise [k0_pay15, r0_21]
  simp only [ho]

theorem gates_apply (r : Fin 512) (l : Fin 2048) :
    out0_10 (F := Ideal) x0 x1 x2 x3 x4 x5 (ix2 r l) = dot x0 x1 x2 x3 x4 r ⟨5392 + l.val, by omega⟩ := by
  let col (y : S512x2048.Idx) : Fin 7440 := ⟨5392 + (y 1).val, by have h : (y 1).val < 2048 := (y 1).isLt; omega⟩
  let G : S512x2048.Idx → Elt Ideal .bf16 := fun y => dot x0 x1 x2 x3 x4 (y 0) (col y)
  unfold out0_10
  refine View.canon_apply_of_pieces G _ (fun p hp z => ?_) (ix2 r l) (cover0_10 _ _ _ _ (ix2 r l))
  simp only [List.mem_cons, List.mem_nil_iff, or_false] at hp
  rcases hp with rfl | rfl | rfl | rfl
  · exact piece_apply x0 x1 x2 x3 x4 x5 6928 _ z _ (col (r0_30.emb z)) rfl
      (by show 5392 + (1536 + 1 * (z 1).val) = 6928 + (z 1).val; omega)
  · exact piece_apply x0 x1 x2 x3 x4 x5 6416 _ z _ (col (r0_28.emb z)) rfl
      (by show 5392 + (1024 + 1 * (z 1).val) = 6416 + (z 1).val; omega)
  · exact piece_apply x0 x1 x2 x3 x4 x5 5904 _ z _ (col (r0_26.emb z)) rfl
      (by show 5392 + (512 + 1 * (z 1).val) = 5904 + (z 1).val; omega)
  · exact piece_apply x0 x1 x2 x3 x4 x5 5392 _ z _ (col (r0_24.emb z)) rfl
      (by show 5392 + (0 + 1 * (z 1).val) = 5392 + (z 1).val; omega)

/-- The two small projections' block: the high parts' product, plus the low parts' two cross products. -/
theorem ab_apply (r : Fin 512) (l : Fin 128) : out0_11 (F := Ideal) x0 x1 x2 x3 x4 x5 (ix2 r l)
    = (∑ k, hiddenRow x0 x1 x2 x3 r k * x5 (ix2 l k))
      + ((∑ k, (hiddenRow x0 x1 x2 x3 r k - hiddenRow x0 x1 x2 x3 r k) * x5 (ix2 l k))
        + ∑ k, hiddenRow x0 x1 x2 x3 r k * (x5 (ix2 l k) - x5 (ix2 l k))) := by
  have hz2 : (![0, 0] : Fin 2 → ℕ) = fun _ => 0 := by funext a; fin_cases a <;> rfl
  have hz3 : (![0, 0, 0] : Fin 3 → ℕ) = fun _ => 0 := by funext a; fin_cases a <;> rfl
  have e0 : View.ld x0 r0_0 = x0 := View.ld_unit_zero hz2 _ x0
  have e1 : View.ld x1 r0_2 = x1 := View.ld_unit_zero hz3 _ x1
  have e2 : View.ld x2 r0_2 = x2 := View.ld_unit_zero hz3 _ x2
  have e3 : View.ld x3 r0_1 = x3 := View.ld_unit_zero hz2 _ x3
  have e5 : View.ld x5 r0_31 = x5 := View.ld_unit_zero hz2 _ x5
  have hh := hidden_apply x0 x1 x2 x3 r
  unfold out0_11
  rw [View.canon_unit_zero hz2, e0, e1, e2, e3, e5]
  generalize k0_pay3 (F := Ideal) x0 x3 x2 x1 = H at hh ⊢
  pointwise [k0_pay2]
  simp only [hh]

end Cert.InprojBlock

end
-- ==== Proof.InprojRef.lean ====
module

public import proofs.«01_k».proof.Proof.Gen.InprojReferenceIdeal.Read
public import proofs.«01_k».proof.Proof.Rows

@[expose] public section

set_option maxRecDepth 16384

/-! # The input projection's reference, row by row -/

noncomputable section

namespace Cert.InprojRef

open Cert.InprojReferenceIdeal Cert.InprojReferenceIdeal.Read Idealize.ShloMosaic

/-- A row of the modulation array's slice starting at `o`: the numbers of batch `b`. -/
abbrev modRow (M : (⟨S8x9216, .f32⟩ : BufTy).Contents (Elt Ideal)) (b : Fin 8) (o : ℕ) (ho : o + 1024 ≤ 9216) (k : Fin 1024) : EReal :=
  M (ix2 b ⟨o + k.val, by omega⟩)

/-- The row number of token `t` of batch `b`. -/
abbrev row (b : Fin 8) (t : Fin 2048) : Fin 16384 := ⟨b.val * 2048 + t.val, by omega⟩

variable (X : (⟨S16384x1024, .f32⟩ : BufTy).Contents (Elt Ideal)) (M : (⟨S8x9216, .f32⟩ : BufTy).Contents (Elt Ideal))
  (W : (⟨S1024, .f32⟩ : BufTy).Contents (Elt Ideal)) (P : (⟨S7440x1024, .bf16⟩ : BufTy).Contents (Elt Ideal))
  (Q : (⟨S128x1024, .f32⟩ : BufTy).Contents (Elt Ideal))

/-- The hidden row number `r`, of batch `b`. -/
abbrev hiddenRow (r : Fin 16384) (b : Fin 8) : Fin 1024 → EReal :=
  Rows.hidden (fun k => X (ix2 r k)) (fun k => W (ix1 k)) (modRow M b 4096 (by omega)) (modRow M b 3072 (by omega))

theorem hidden_apply (b : Fin 8) (t : Fin 2048) (k : Fin 1024) :
    val_main_v39 (F := Ideal) X M W (ix3 b t k) = hiddenRow X M W (row b t) b k := by
  pointwise [val_main_v39, val_main_v38, val_main_v37, val_main_v36, val_main_v35, val_main_v34, val_main_v33, val_main_v32,
    val_main_v31, val_main_v30, val_main_v29, val_main_v28, val_main_v27, val_main_v26, val_main_v25, val_main_v24, val_main_v23,
    val_main_v22, val_main_v21, val_main_v16, val_main_v15, val_main_v7, val_main_v6, val_main_v0, val_main_cst, val_main_cst_0,
    val_main_cst_1, val_main_cst_2, Rows.hidden, Rows.norm, Rows.scaleOf, modRow, row]

/-- Row `r`'s inner product with row `j` of the weights. -/
abbrev dot (r : Fin 16384) (j : Fin 7440) : EReal := ∑ k, hiddenRow X M W r ⟨r.val / 2048, by omega⟩ k * P (ix2 j k)

theorem row_eq (r : Fin 16384) : row ⟨r.val / 2048, by omega⟩ ⟨r.val % 2048, by omega⟩ = r := Fin.ext (Nat.div_add_mod' r.val 2048)

theorem proj_apply (r : Fin 16384) (j : Fin 7440) : val_main_v41 (F := Ideal) X M W P (ix2 r j) = dot X M W P r j := by
  have hh := hidden_apply X M W ⟨r.val / 2048, by omega⟩ ⟨r.val % 2048, by omega⟩
  rw [row_eq] at hh
  unfold val_main_v41 val_main_v40
  generalize val_main_v39 (F := Ideal) X M W = H at hh ⊢
  pointwise [val_main_v2, val_main_v1]
  simp only [hh]

theorem qkv_apply (r : Fin 16384) (l : Fin 3072) :
    val_main_v42 (F := Ideal) X M W P (ix2 r l) = dot X M W P r ⟨l.val, by omega⟩ := by
  have hp := proj_apply X M W P r
  unfold val_main_v42
  generalize val_main_v41 (F := Ideal) X M W P = H at hp ⊢
  pointwise
  exact hp _

theorem z_apply (r : Fin 16384) (l : Fin 1024) : val_main_v55 (F := Ideal) X M W P (ix2 r l)
    = dot X M W P r ⟨3072 + l.val, by omega⟩ * Ideal.logistic (dot X M W P r ⟨3072 + l.val, by omega⟩) := by
  have hp := proj_apply X M W P r
  unfold val_main_v55 val_main_v54 val_main_call0_v5 val_main_call0_v3 val_main_call0_v1 val_main_call0_v0 val_main_v43
  generalize val_main_v41 (F := Ideal) X M W P = H at hp ⊢
  pointwise [val_main_call0_v2, val_main_call0_v4, val_main_call0_cst, val_main_call0_cst_0]
  simp only [hp, Ideal.logistic]

theorem q_apply (r : Fin 16384) (l : Fin 1024) :
    val_main_v56 (F := Ideal) X M W P (ix2 r l) = dot X M W P r ⟨4112 + l.val, by omega⟩ := by
  have hp := proj_apply X M W P r
  unfold val_main_v56 val_main_v46
  generalize val_main_v41 (F := Ideal) X M W P = H at hp ⊢
  pointwise
  exact hp _

theorem kv_apply (r : Fin 16384) (l : Fin 256) :
    val_main_v57 (F := Ideal) X M W P (ix2 r l) = dot X M W P r ⟨5136 + l.val, by omega⟩ := by
  have hp := proj_apply X M W P r
  unfold val_main_v57 val_main_v47 val_main_v48
  generalize val_main_v41 (F := Ideal) X M W P = H at hp ⊢
  pointwise
  simp only [hp]
  split
  · rfl
  · exact congrArg (dot X M W P r) (Fin.ext (by show 5264 + (l.val - 128) = 5136 + l.val; omega))

theorem gates_apply (r : Fin 16384) (l : Fin 2048) :
    val_main_v59 (F := Ideal) X M W P (ix2 r l) = dot X M W P r ⟨5392 + l.val, by omega⟩ := by
  have hp := proj_apply X M W P r
  unfold val_main_v59 val_main_v58 val_main_v49 val_main_v50
  generalize val_main_v41 (F := Ideal) X M W P = H at hp ⊢
  pointwise
  simp only [hp]
  split
  · rfl
  · exact congrArg (dot X M W P r) (Fin.ext (by show 6416 + (l.val - 1024) = 5392 + l.val; omega))

/-- Row `r`'s inner product with row `l` of the two small projections' weights. -/
theorem ab_apply (r : Fin 16384) (l : Fin 128) : val_main_v53 (F := Ideal) X M W Q (ix2 r l)
    = ∑ k, hiddenRow X M W r ⟨r.val / 2048, by omega⟩ k * Q (ix2 l k) := by
  have hh := hidden_apply X M W ⟨r.val / 2048, by omega⟩ ⟨r.val % 2048, by omega⟩
  rw [row_eq] at hh
  unfold val_main_v53 val_main_v52
  generalize val_main_v39 (F := Ideal) X M W = H at hh ⊢
  pointwise [val_main_v51]
  simp only [hh]

end Cert.InprojRef

end
-- ==== Proof.InprojValue.lean ====
module

public import proofs.«01_k».proof.Proof.InprojBlock
public import proofs.«01_k».proof.Proof.InprojRef
public import proofs.«01_k».proof.Proof.Finite

@[expose] public section

set_option maxRecDepth 16384

/-! # The input projection's six result arrays are the reference's -/

noncomputable section

namespace Cert.InprojValue

open Cert.InprojIdeal Cert.InprojIdeal.Gen Idealize.ShloMosaic Idealize.ShloMosaic.TcCoe Idealize.SL.Sem
open Idealize.ShloMosaic.Pipeline (Dat)

variable (m : (ℓ : Loc nD τ sig) → Buf (Elt Ideal) ℓ)

/-! ## The reference's values of device `c`'s arguments: what the kernel's result arrays are shown to hold -/

abbrev X (c : Dev nD) : (⟨S16384x1024, .f32⟩ : BufTy).Contents (Elt Ideal) := m ((c : Thread nD τ).loc main_arg0)
abbrev M (c : Dev nD) : (⟨S8x9216, .f32⟩ : BufTy).Contents (Elt Ideal) := m ((c : Thread nD τ).loc main_arg1)
abbrev W (c : Dev nD) : (⟨S1024, .f32⟩ : BufTy).Contents (Elt Ideal) := m ((c : Thread nD τ).loc main_arg2)
abbrev P (c : Dev nD) : (⟨S7440x1024, .bf16⟩ : BufTy).Contents (Elt Ideal) := m ((c : Thread nD τ).loc main_arg3)
abbrev Q (c : Dev nD) : (⟨S128x1024, .f32⟩ : BufTy).Contents (Elt Ideal) := m ((c : Thread nD τ).loc main_arg4)

abbrev G6 (c : Dev nD) : (⟨S16384x3072, .f32⟩ : BufTy).Contents (Elt Ideal) :=
  InprojReferenceIdeal.Read.val_main_v42 (F := Ideal) (X m c) (M m c) (W m c) (P m c)
abbrev G7 (c : Dev nD) : (⟨S16384x1024, .bf16⟩ : BufTy).Contents (Elt Ideal) :=
  InprojReferenceIdeal.Read.val_main_v55 (F := Ideal) (X m c) (M m c) (W m c) (P m c)
abbrev G8 (c : Dev nD) : (⟨S16384x1024, .bf16⟩ : BufTy).Contents (Elt Ideal) :=
  InprojReferenceIdeal.Read.val_main_v56 (F := Ideal) (X m c) (M m c) (W m c) (P m c)
abbrev G9 (c : Dev nD) : (⟨S16384x256, .f32⟩ : BufTy).Contents (Elt Ideal) :=
  InprojReferenceIdeal.Read.val_main_v57 (F := Ideal) (X m c) (M m c) (W m c) (P m c)
abbrev G10 (c : Dev nD) : (⟨S16384x2048, .bf16⟩ : BufTy).Contents (Elt Ideal) :=
  InprojReferenceIdeal.Read.val_main_v59 (F := Ideal) (X m c) (M m c) (W m c) (P m c)
abbrev G11 (c : Dev nD) : (⟨S16384x128, .f32⟩ : BufTy).Contents (Elt Ideal) :=
  InprojReferenceIdeal.Read.val_main_v53 (F := Ideal) (X m c) (M m c) (W m c) (Q m c)

/-! ## The arrays the windows stage -/

theorem V_v0 (c : Dev nD) : V m c main_v0 = shapeCast S8x1x9216 (M m c) shapeCasts_S8x9216_S8x1x9216 := by
  unfold_abbrev_sides
  after_results
  rfl

theorem V_v1 (c : Dev nD) : V m c main_v1 = shapeCast S1x1024 (W m c) shapeCasts_S1024_S1x1024 := by
  unfold_abbrev_sides
  after_results
  rfl

/-! ## The windows' places on the grid -/

/-- The windows of 512 rows move with the point. -/
theorem idx_rows : ∀ t : Fin grid0.N, (win0_0.index t 0 = t.val ∧ win0_0.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) ∧ (win0_9.index t 0 = t.val ∧ win0_9.index t 1 = 0)
    ∧ (win0_10.index t 0 = t.val ∧ win0_10.index t 1 = 0) ∧ (win0_11.index t 0 = t.val ∧ win0_11.index t 1 = 0) := by
  decide +kernel

/-- The modulation windows move once in four points, with the batch. -/
theorem idx_mod : ∀ t : Fin grid0.N, (win0_1.index t 0 = t.val / 4 ∧ win0_1.index t 1 = 0 ∧ win0_1.index t 2 = 3)
    ∧ (win0_2.index t 0 = t.val / 4 ∧ win0_2.index t 1 = 0 ∧ win0_2.index t 2 = 4) := by
  decide +kernel

/-- The weights' windows stay. -/
theorem idx_const : ∀ t : Fin grid0.N, ∀ a : Fin 2, win0_3.index t a = 0 ∧ win0_4.index t a = 0 ∧ win0_5.index t a = 0 := by
  decide +kernel

/-! ## A window's block is its array at the block's place -/

/-- Row `r` of tile `t`. -/
abbrev tileRow (t : Fin grid0.N) (r : Fin 512) : Fin 16384 := ⟨t.val * 512 + r.val, by have : grid0.N = 32 := N_0; omega⟩

/-- The batch of the rows of tile `t`. -/
abbrev tileBatch (t : Fin grid0.N) (r : Fin 512) : Fin 8 := ⟨(tileRow t r).val / 2048, by have : grid0.N = 32 := N_0; omega⟩

theorem tileBatch_eq (t : Fin grid0.N) (r : Fin 512) : t.val / 4 = (tileBatch t r).val := by
  show t.val / 4 = (t.val * 512 + r.val) / 2048
  omega

theorem cast_mod (M : Vec Ideal S8x9216 .f32) (b : Fin 8) (k : Fin 9216) :
    shapeCast S8x1x9216 M shapeCasts_S8x9216_S8x1x9216 (ix3 b 0 k) = M (ix2 b k) := by
  pointwise

theorem cast_nw (W : Vec Ideal S1024 .f32) (k : Fin 1024) :
    shapeCast S1x1024 W shapeCasts_S1024_S1x1024 (ix2 0 k) = W (ix1 k) := by
  pointwise

theorem blk0 (A : S16384x1024.Idx → EReal) (t : Fin grid0.N) (r : Fin 512) (k : Fin 1024) :
    (win0_0.blk t).view.read (Elt Ideal) A (ix2 r k) = A (ix2 (tileRow t r) k) := by
  refine congrArg A (funext fun a => Fin.ext ?_)
  obtain ⟨h0, h1⟩ := (idx_rows t).1
  match a with
  | ⟨0, _⟩ => show win0_0.index t 0 * 512 + 1 * r.val = t.val * 512 + r.val; rw [h0]; omega
  | ⟨1, _⟩ => show win0_0.index t 1 * 1024 + 1 * k.val = k.val; rw [h1]; omega

theorem blk6 (A : S16384x3072.Idx → EReal) (t : Fin grid0.N) (r : Fin 512) (k : Fin 3072) :
    (win0_6.blk t).view.read (Elt Ideal) A (ix2 r k) = A (ix2 (tileRow t r) k) := by
  refine congrArg A (funext fun a => Fin.ext ?_)
  obtain ⟨h0, h1⟩ := (idx_rows t).2.1
  match a with
  | ⟨0, _⟩ => show win0_6.index t 0 * 512 + 1 * r.val = t.val * 512 + r.val; rw [h0]; omega
  | ⟨1, _⟩ => show win0_6.index t 1 * 3072 + 1 * k.val = k.val; rw [h1]; omega

theorem blk7 (A : S16384x1024.Idx → EReal) (t : Fin grid0.N) (r : Fin 512) (k : Fin 1024) :
    (win0_7.blk t).view.read (Elt Ideal) A (ix2 r k) = A (ix2 (tileRow t r) k) := by
  refine congrArg A (funext fun a => Fin.ext ?_)
  obtain ⟨h0, h1⟩ := (idx_rows t).2.2.1
  match a with
  | ⟨0, _⟩ => show win0_7.index t 0 * 512 + 1 * r.val = t.val * 512 + r.val; rw [h0]; omega
  | ⟨1, _⟩ => show win0_7.index t 1 * 1024 + 1 * k.val = k.val; rw [h1]; omega

theorem blk8 (A : S16384x1024.Idx → EReal) (t : Fin grid0.N) (r : Fin 512) (k : Fin 1024) :
    (win0_8.blk t).view.read (Elt Ideal) A (ix2 r k) = A (ix2 (tileRow t r) k) := by
  refine congrArg A (funext fun a => Fin.ext ?_)
  obtain ⟨h0, h1⟩ := (idx_rows t).2.2.2.1
  match a with
  | ⟨0, _⟩ => show win0_8.index t 0 * 512 + 1 * r.val = t.val * 512 + r.val; rw [h0]; omega
  | ⟨1, _⟩ => show win0_8.index t 1 * 1024 + 1 * k.val = k.val; rw [h1]; omega

theorem blk9 (A : S16384x256.Idx → EReal) (t : Fin grid0.N) (r : Fin 512) (k : Fin 256) :
    (win0_9.blk t).view.read (Elt Ideal) A (ix2 r k) = A (ix2 (tileRow t r) k) := by
  refine congrArg A (funext fun a => Fin.ext ?_)
  obtain ⟨h0, h1⟩ := (idx_rows t).2.2.2.2.1
  match a with
  | ⟨0, _⟩ => show win0_9.index t 0 * 512 + 1 * r.val = t.val * 512 + r.val; rw [h0]; omega
  | ⟨1, _⟩ => show win0_9.index t 1 * 256 + 1 * k.val = k.val; rw [h1]; omega

theorem blk10 (A : S16384x2048.Idx → EReal) (t : Fin grid0.N) (r : Fin 512) (k : Fin 2048) :
    (win0_10.blk t).view.read (Elt Ideal) A (ix2 r k) = A (ix2 (tileRow t r) k) := by
  refine congrArg A (funext fun a => Fin.ext ?_)
  obtain ⟨h0, h1⟩ := (idx_rows t).2.2.2.2.2.1
  match a with
  | ⟨0, _⟩ => show win0_10.index t 0 * 512 + 1 * r.val = t.val * 512 + r.val; rw [h0]; omega
  | ⟨1, _⟩ => show win0_10.index t 1 * 2048 + 1 * k.val = k.val; rw [h1]; omega

theorem blk11 (A : S16384x128.Idx → EReal) (t : Fin grid0.N) (r : Fin 512) (k : Fin 128) :
    (win0_11.blk t).view.read (Elt Ideal) A (ix2 r k) = A (ix2 (tileRow t r) k) := by
  refine congrArg A (funext fun a => Fin.ext ?_)
  obtain ⟨h0, h1⟩ := (idx_rows t).2.2.2.2.2.2
  match a with
  | ⟨0, _⟩ => show win0_11.index t 0 * 512 + 1 * r.val = t.val * 512 + r.val; rw [h0]; omega
  | ⟨1, _⟩ => show win0_11.index t 1 * 128 + 1 * k.val = k.val; rw [h1]; omega

theorem blk1 (A : S8x1x9216.Idx → EReal) (t : Fin grid0.N) (r : Fin 512) (k : Fin 1024) :
    (win0_1.blk t).view.read (Elt Ideal) A (ix3 0 0 k) = A (ix3 (tileBatch t r) 0 ⟨3072 + k.val, by omega⟩) := by
  refine congrArg A (funext fun a => Fin.ext ?_)
  obtain ⟨h0, h1, h2⟩ := (idx_mod t).1
  match a with
  | ⟨0, _⟩ => show win0_1.index t 0 * 1 + 1 * 0 = (tileBatch t r).val; rw [h0, ← tileBatch_eq]; omega
  | ⟨1, _⟩ => show win0_1.index t 1 * 1 + 1 * 0 = 0; rw [h1]
  | ⟨2, _⟩ => show win0_1.index t 2 * 1024 + 1 * k.val = 3072 + k.val; rw [h2]; omega

theorem blk2 (A : S8x1x9216.Idx → EReal) (t : Fin grid0.N) (r : Fin 512) (k : Fin 1024) :
    (win0_2.blk t).view.read (Elt Ideal) A (ix3 0 0 k) = A (ix3 (tileBatch t r) 0 ⟨4096 + k.val, by omega⟩) := by
  refine congrArg A (funext fun a => Fin.ext ?_)
  obtain ⟨h0, h1, h2⟩ := (idx_mod t).2
  match a with
  | ⟨0, _⟩ => show win0_2.index t 0 * 1 + 1 * 0 = (tileBatch t r).val; rw [h0, ← tileBatch_eq]; omega
  | ⟨1, _⟩ => show win0_2.index t 1 * 1 + 1 * 0 = 0; rw [h1]
  | ⟨2, _⟩ => show win0_2.index t 2 * 1024 + 1 * k.val = 4096 + k.val; rw [h2]; omega

theorem blk3 (A : S1x1024.Idx → EReal) (t : Fin grid0.N) (i : Fin 1) (k : Fin 1024) :
    (win0_3.blk t).view.read (Elt Ideal) A (ix2 i k) = A (ix2 i k) := by
  refine congrArg A (funext fun a => Fin.ext ?_)
  match a with
  | ⟨0, _⟩ => show win0_3.index t 0 * 1 + 1 * i.val = i.val; rw [(idx_const t 0).1]; omega
  | ⟨1, _⟩ => show win0_3.index t 1 * 1024 + 1 * k.val = k.val; rw [(idx_const t 1).1]; omega

theorem blk4 (A : S7440x1024.Idx → EReal) (t : Fin grid0.N) (i : Fin 7440) (k : Fin 1024) :
    (win0_4.blk t).view.read (Elt Ideal) A (ix2 i k) = A (ix2 i k) := by
  refine congrArg A (funext fun a => Fin.ext ?_)
  match a with
  | ⟨0, _⟩ => show win0_4.index t 0 * 7440 + 1 * i.val = i.val; rw [(idx_const t 0).2.1]; omega
  | ⟨1, _⟩ => show win0_4.index t 1 * 1024 + 1 * k.val = k.val; rw [(idx_const t 1).2.1]; omega

theorem blk5 (A : S128x1024.Idx → EReal) (t : Fin grid0.N) (i : Fin 128) (k : Fin 1024) :
    (win0_5.blk t).view.read (Elt Ideal) A (ix2 i k) = A (ix2 i k) := by
  refine congrArg A (funext fun a => Fin.ext ?_)
  match a with
  | ⟨0, _⟩ => show win0_5.index t 0 * 128 + 1 * i.val = i.val; rw [(idx_const t 0).2.2]; omega
  | ⟨1, _⟩ => show win0_5.index t 1 * 1024 + 1 * k.val = k.val; rw [(idx_const t 1).2.2]; omega

/-! ## The rows of the tile -/

/-- The hidden rows of tile `t` are the reference's. -/
theorem hidden_eq (c : Dev nD) (t : Fin cfg0.N) (r : Fin 512) :
    InprojBlock.hiddenRow (iblk m c 0 t) (iblk m c 1 t) (iblk m c 2 t) (iblk m c 3 t) r
      = InprojRef.hiddenRow (X m c) (M m c) (W m c) (tileRow t r) (tileBatch t r) := by
  have e0 : ∀ k : Fin 1024, iblk m c 0 t (ix2 r k) = X m c (ix2 (tileRow t r) k) :=
    fun k => (blk0 _ t r k).trans (congrFun (V_main_arg0 m c) _)
  have e1 : ∀ k : Fin 1024, iblk m c 1 t (ix3 0 0 k) = InprojRef.modRow (M m c) (tileBatch t r) 3072 (by omega) k :=
    fun k => (blk1 _ t r k).trans ((congrFun (V_v0 m c) _).trans (cast_mod _ _ _))
  have e2 : ∀ k : Fin 1024, iblk m c 2 t (ix3 0 0 k) = InprojRef.modRow (M m c) (tileBatch t r) 4096 (by omega) k :=
    fun k => (blk2 _ t r k).trans ((congrFun (V_v0 m c) _).trans (cast_mod _ _ _))
  have e3 : ∀ k : Fin 1024, iblk m c 3 t (ix2 0 k) = W m c (ix1 k) :=
    fun k => (blk3 _ t 0 k).trans ((congrFun (V_v1 m c) _).trans (cast_nw _ _))
  show Rows.hidden _ _ _ _ = Rows.hidden _ _ _ _
  rw [funext e0, funext e1, funext e2, funext e3]

/-- So are their inner products with the weights' rows. -/
theorem dot_eq (c : Dev nD) (t : Fin cfg0.N) (r : Fin 512) (j : Fin 7440) :
    InprojBlock.dot (iblk m c 0 t) (iblk m c 1 t) (iblk m c 2 t) (iblk m c 3 t) (iblk m c 4 t) r j
      = InprojRef.dot (X m c) (M m c) (W m c) (P m c) (tileRow t r) j := by
  refine Finset.sum_congr rfl fun k _ => ?_
  have e4 : iblk m c 4 t (ix2 j k) = P m c (ix2 j k) := (blk4 _ t j k).trans (congrFun (V_main_arg3 m c) _)
  rw [hidden_eq, e4]

/-! ## What a point writes back is its block of the reference's value -/

theorem flushed6_eq (c : Dev nD) (t : Fin cfg0.N) :
    (dats m 0 c).flushed 6 t = ((cfg0.win 6).blk t).view.read (Elt Ideal) (G6 m c) := by
  rw [InprojIdeal.Value.flushed6]
  show (fun y : S512x3072.Idx => out0_6 (iblk m c 0 t) (iblk m c 1 t) (iblk m c 2 t) (iblk m c 3 t) (iblk m c 4 t) (iblk m c 5 t) y)
    = fun y : S512x3072.Idx => (win0_6.blk t).view.read (Elt Ideal) (G6 m c) y
  funext y
  obtain ⟨r, l, rfl⟩ : ∃ (r : Fin 512) (l : Fin 3072), y = ix2 r l := ⟨y 0, y 1, eq_ix2 y⟩
  rw [InprojBlock.qkv_apply, blk6]
  refine Eq.trans ?_ (InprojRef.qkv_apply _ _ _ _ _ l).symm
  exact dot_eq m c t r _

theorem flushed7_eq (c : Dev nD) (t : Fin cfg0.N) :
    (dats m 0 c).flushed 7 t = ((cfg0.win 7).blk t).view.read (Elt Ideal) (G7 m c) := by
  rw [InprojIdeal.Value.flushed7]
  show (fun y : S512x1024.Idx => out0_7 (iblk m c 0 t) (iblk m c 1 t) (iblk m c 2 t) (iblk m c 3 t) (iblk m c 4 t) (iblk m c 5 t) y)
    = fun y : S512x1024.Idx => (win0_7.blk t).view.read (Elt Ideal) (G7 m c) y
  funext y
  obtain ⟨r, l, rfl⟩ : ∃ (r : Fin 512) (l : Fin 1024), y = ix2 r l := ⟨y 0, y 1, eq_ix2 y⟩
  rw [InprojBlock.z_apply, blk7]
  refine Eq.trans ?_ (InprojRef.z_apply _ _ _ _ _ l).symm
  rw [dot_eq]

theorem flushed8_eq (c : Dev nD) (t : Fin cfg0.N) :
    (dats m 0 c).flushed 8 t = ((cfg0.win 8).blk t).view.read (Elt Ideal) (G8 m c) := by
  rw [InprojIdeal.Value.flushed8]
  show (fun y : S512x1024.Idx => out0_8 (iblk m c 0 t) (iblk m c 1 t) (iblk m c 2 t) (iblk m c 3 t) (iblk m c 4 t) (iblk m c 5 t) y)
    = fun y : S512x1024.Idx => (win0_8.blk t).view.read (Elt Ideal) (G8 m c) y
  funext y
  obtain ⟨r, l, rfl⟩ : ∃ (r : Fin 512) (l : Fin 1024), y = ix2 r l := ⟨y 0, y 1, eq_ix2 y⟩
  rw [InprojBlock.q_apply, blk8]
  refine Eq.trans ?_ (InprojRef.q_apply _ _ _ _ _ l).symm
  exact dot_eq m c t r _

theorem flushed9_eq (c : Dev nD) (t : Fin cfg0.N) :
    (dats m 0 c).flushed 9 t = ((cfg0.win 9).blk t).view.read (Elt Ideal) (G9 m c) := by
  rw [InprojIdeal.Value.flushed9]
  show (fun y : S512x256.Idx => out0_9 (iblk m c 0 t) (iblk m c 1 t) (iblk m c 2 t) (iblk m c 3 t) (iblk m c 4 t) (iblk m c 5 t) y)
    = fun y : S512x256.Idx => (win0_9.blk t).view.read (Elt Ideal) (G9 m c) y
  funext y
  obtain ⟨r, l, rfl⟩ : ∃ (r : Fin 512) (l : Fin 256), y = ix2 r l := ⟨y 0, y 1, eq_ix2 y⟩
  rw [InprojBlock.kv_apply, blk9]
  refine Eq.trans ?_ (InprojRef.kv_apply _ _ _ _ _ l).symm
  exact dot_eq m c t r _

theorem flushed10_eq (c : Dev nD) (t : Fin cfg0.N) :
    (dats m 0 c).flushed 10 t = ((cfg0.win 10).blk t).view.read (Elt Ideal) (G10 m c) := by
  rw [InprojIdeal.Value.flushed10]
  show (fun y : S512x2048.Idx => out0_10 (iblk m c 0 t) (iblk m c 1 t) (iblk m c 2 t) (iblk m c 3 t) (iblk m c 4 t) (iblk m c 5 t) y)
    = fun y : S512x2048.Idx => (win0_10.blk t).view.read (Elt Ideal) (G10 m c) y
  funext y
  obtain ⟨r, l, rfl⟩ : ∃ (r : Fin 512) (l : Fin 2048), y = ix2 r l := ⟨y 0, y 1, eq_ix2 y⟩
  rw [InprojBlock.gates_apply, blk10]
  refine Eq.trans ?_ (InprojRef.gates_apply _ _ _ _ _ l).symm
  exact dot_eq m c t r _

theorem flushed11_eq (c : Dev nD) (hM : ∀ (b : Fin 8) (k : Fin 2048), Finite.Num (M m c (ix2 b ⟨3072 + k.val, by omega⟩)))
    (hW : ∀ k : Fin 1024, Finite.Num (W m c (ix1 k))) (hQ : ∀ (j : Fin 128) (k : Fin 1024), Finite.Num (Q m c (ix2 j k))) (t : Fin cfg0.N) :
    (dats m 0 c).flushed 11 t = ((cfg0.win 11).blk t).view.read (Elt Ideal) (G11 m c) := by
  rw [InprojIdeal.Value.flushed11]
  show (fun y : S512x128.Idx => out0_11 (iblk m c 0 t) (iblk m c 1 t) (iblk m c 2 t) (iblk m c 3 t) (iblk m c 4 t) (iblk m c 5 t) y)
    = fun y : S512x128.Idx => (win0_11.blk t).view.read (Elt Ideal) (G11 m c) y
  funext y
  obtain ⟨r, l, rfl⟩ : ∃ (r : Fin 512) (l : Fin 128), y = ix2 r l := ⟨y 0, y 1, eq_ix2 y⟩
  rw [InprojBlock.ab_apply, blk11]
  refine Eq.trans ?_ (InprojRef.ab_apply _ _ _ _ _ l).symm
  have e5 : ∀ k : Fin 1024, iblk m c 5 t (ix2 l k) = Q m c (ix2 l k) := fun k => (blk5 _ t l k).trans (congrFun (V_main_arg4 m c) _)
  rw [hidden_eq]
  simp only [e5]
  exact Finite.split_sum _ _ (Finite.num_hidden _ _ _ _ hW
      (fun k => by simpa [← Nat.add_assoc] using hM (tileBatch t r) ⟨1024 + k.val, by omega⟩)
      (fun k => hM (tileBatch t r) ⟨k.val, by omega⟩)) (hQ l)

/-! ## The blocks tile the result arrays, which so end holding the reference's values -/

theorem cover6 (i : S16384x3072.Idx) : ∃ t : Fin cfg0.N, (cfg0.win 6).flush t = true ∧ i ∈ ((cfg0.win 6).blk t).view.set := by
  have hN : cfg0.N = 32 := N_0
  have h0 : (i 0).val < 16384 := (i 0).isLt
  have h1 : (i 1).val < 3072 := (i 1).isLt
  refine ⟨⟨(i 0).val / 512, by omega⟩, flush0_6 _, ?_⟩
  generalize ht : (⟨(i 0).val / 512, by omega⟩ : Fin cfg0.N) = t
  have htv : t.val = (i 0).val / 512 := by rw [← ht]
  obtain ⟨e0, e1⟩ := (idx_rows t).2.1
  show i ∈ ((View.whole main_v2_0).slice (win0_6.rect t)).set
  rw [View.set_slice_whole, Rect.mem_set_unit]
  intro a
  match a with
  | ⟨0, _⟩ =>
    show win0_6.index t 0 * 512 ≤ (i 0).val ∧ (i 0).val < win0_6.index t 0 * 512 + 512
    rw [e0]; omega
  | ⟨1, _⟩ =>
    show win0_6.index t 1 * 3072 ≤ (i 1).val ∧ (i 1).val < win0_6.index t 1 * 3072 + 3072
    rw [e1]; omega

theorem final6 (c : Dev nD) : (dats m 0 c).arrAt 6 cfg0.N = G6 m c :=
  (dats m 0 c).arrAt_eq_of_cover 6 (G6 m c) (fun t _ => flushed6_eq m c t) cover6

theorem cover7 (i : S16384x1024.Idx) : ∃ t : Fin cfg0.N, (cfg0.win 7).flush t = true ∧ i ∈ ((cfg0.win 7).blk t).view.set := by
  have hN : cfg0.N = 32 := N_0
  have h0 : (i 0).val < 16384 := (i 0).isLt
  have h1 : (i 1).val < 1024 := (i 1).isLt
  refine ⟨⟨(i 0).val / 512, by omega⟩, flush0_7 _, ?_⟩
  generalize ht : (⟨(i 0).val / 512, by omega⟩ : Fin cfg0.N) = t
  have htv : t.val = (i 0).val / 512 := by rw [← ht]
  obtain ⟨e0, e1⟩ := (idx_rows t).2.2.1
  show i ∈ ((View.whole main_v2_1).slice (win0_7.rect t)).set
  rw [View.set_slice_whole, Rect.mem_set_unit]
  intro a
  match a with
  | ⟨0, _⟩ =>
    show win0_7.index t 0 * 512 ≤ (i 0).val ∧ (i 0).val < win0_7.index t 0 * 512 + 512
    rw [e0]; omega
  | ⟨1, _⟩ =>
    show win0_7.index t 1 * 1024 ≤ (i 1).val ∧ (i 1).val < win0_7.index t 1 * 1024 + 1024
    rw [e1]; omega

theorem final7 (c : Dev nD) : (dats m 0 c).arrAt 7 cfg0.N = G7 m c :=
  (dats m 0 c).arrAt_eq_of_cover 7 (G7 m c) (fun t _ => flushed7_eq m c t) cover7

theorem cover8 (i : S16384x1024.Idx) : ∃ t : Fin cfg0.N, (cfg0.win 8).flush t = true ∧ i ∈ ((cfg0.win 8).blk t).view.set := by
  have hN : cfg0.N = 32 := N_0
  have h0 : (i 0).val < 16384 := (i 0).isLt
  have h1 : (i 1).val < 1024 := (i 1).isLt
  refine ⟨⟨(i 0).val / 512, by omega⟩, flush0_8 _, ?_⟩
  generalize ht : (⟨(i 0).val / 512, by omega⟩ : Fin cfg0.N) = t
  have htv : t.val = (i 0).val / 512 := by rw [← ht]
  obtain ⟨e0, e1⟩ := (idx_rows t).2.2.2.1
  show i ∈ ((View.whole main_v2_2).slice (win0_8.rect t)).set
  rw [View.set_slice_whole, Rect.mem_set_unit]
  intro a
  match a with
  | ⟨0, _⟩ =>
    show win0_8.index t 0 * 512 ≤ (i 0).val ∧ (i 0).val < win0_8.index t 0 * 512 + 512
    rw [e0]; omega
  | ⟨1, _⟩ =>
    show win0_8.index t 1 * 1024 ≤ (i 1).val ∧ (i 1).val < win0_8.index t 1 * 1024 + 1024
    rw [e1]; omega

theorem final8 (c : Dev nD) : (dats m 0 c).arrAt 8 cfg0.N = G8 m c :=
  (dats m 0 c).arrAt_eq_of_cover 8 (G8 m c) (fun t _ => flushed8_eq m c t) cover8

theorem cover9 (i : S16384x256.Idx) : ∃ t : Fin cfg0.N, (cfg0.win 9).flush t = true ∧ i ∈ ((cfg0.win 9).blk t).view.set := by
  have hN : cfg0.N = 32 := N_0
  have h0 : (i 0).val < 16384 := (i 0).isLt
  have h1 : (i 1).val < 256 := (i 1).isLt
  refine ⟨⟨(i 0).val / 512, by omega⟩, flush0_9 _, ?_⟩
  generalize ht : (⟨(i 0).val / 512, by omega⟩ : Fin cfg0.N) = t
  have htv : t.val = (i 0).val / 512 := by rw [← ht]
  obtain ⟨e0, e1⟩ := (idx_rows t).2.2.2.2.1
  show i ∈ ((View.whole main_v2_3).slice (win0_9.rect t)).set
  rw [View.set_slice_whole, Rect.mem_set_unit]
  intro a
  match a with
  | ⟨0, _⟩ =>
    show win0_9.index t 0 * 512 ≤ (i 0).val ∧ (i 0).val < win0_9.index t 0 * 512 + 512
    rw [e0]; omega
  | ⟨1, _⟩ =>
    show win0_9.index t 1 * 256 ≤ (i 1).val ∧ (i 1).val < win0_9.index t 1 * 256 + 256
    rw [e1]; omega

theorem final9 (c : Dev nD) : (dats m 0 c).arrAt 9 cfg0.N = G9 m c :=
  (dats m 0 c).arrAt_eq_of_cover 9 (G9 m c) (fun t _ => flushed9_eq m c t) cover9

theorem cover10 (i : S16384x2048.Idx) : ∃ t : Fin cfg0.N, (cfg0.win 10).flush t = true ∧ i ∈ ((cfg0.win 10).blk t).view.set := by
  have hN : cfg0.N = 32 := N_0
  have h0 : (i 0).val < 16384 := (i 0).isLt
  have h1 : (i 1).val < 2048 := (i 1).isLt
  refine ⟨⟨(i 0).val / 512, by omega⟩, flush0_10 _, ?_⟩
  generalize ht : (⟨(i 0).val / 512, by omega⟩ : Fin cfg0.N) = t
  have htv : t.val = (i 0).val / 512 := by rw [← ht]
  obtain ⟨e0, e1⟩ := (idx_rows t).2.2.2.2.2.1
  show i ∈ ((View.whole main_v2_4).slice (win0_10.rect t)).set
  rw [View.set_slice_whole, Rect.mem_set_unit]
  intro a
  match a with
  | ⟨0, _⟩ =>
    show win0_10.index t 0 * 512 ≤ (i 0).val ∧ (i 0).val < win0_10.index t 0 * 512 + 512
    rw [e0]; omega
  | ⟨1, _⟩ =>
    show win0_10.index t 1 * 2048 ≤ (i 1).val ∧ (i 1).val < win0_10.index t 1 * 2048 + 2048
    rw [e1]; omega

theorem final10 (c : Dev nD) : (dats m 0 c).arrAt 10 cfg0.N = G10 m c :=
  (dats m 0 c).arrAt_eq_of_cover 10 (G10 m c) (fun t _ => flushed10_eq m c t) cover10

theorem cover11 (i : S16384x128.Idx) : ∃ t : Fin cfg0.N, (cfg0.win 11).flush t = true ∧ i ∈ ((cfg0.win 11).blk t).view.set := by
  have hN : cfg0.N = 32 := N_0
  have h0 : (i 0).val < 16384 := (i 0).isLt
  have h1 : (i 1).val < 128 := (i 1).isLt
  refine ⟨⟨(i 0).val / 512, by omega⟩, flush0_11 _, ?_⟩
  generalize ht : (⟨(i 0).val / 512, by omega⟩ : Fin cfg0.N) = t
  have htv : t.val = (i 0).val / 512 := by rw [← ht]
  obtain ⟨e0, e1⟩ := (idx_rows t).2.2.2.2.2.2
  show i ∈ ((View.whole main_v2_5).slice (win0_11.rect t)).set
  rw [View.set_slice_whole, Rect.mem_set_unit]
  intro a
  match a with
  | ⟨0, _⟩ =>
    show win0_11.index t 0 * 512 ≤ (i 0).val ∧ (i 0).val < win0_11.index t 0 * 512 + 512
    rw [e0]; omega
  | ⟨1, _⟩ =>
    show win0_11.index t 1 * 128 ≤ (i 1).val ∧ (i 1).val < win0_11.index t 1 * 128 + 128
    rw [e1]; omega

theorem final11 (c : Dev nD) (hM : ∀ (b : Fin 8) (k : Fin 2048), Finite.Num (M m c (ix2 b ⟨3072 + k.val, by omega⟩)))
    (hW : ∀ k : Fin 1024, Finite.Num (W m c (ix1 k))) (hQ : ∀ (j : Fin 128) (k : Fin 1024), Finite.Num (Q m c (ix2 j k))) : (dats m 0 c).arrAt 11 cfg0.N = G11 m c :=
  (dats m 0 c).arrAt_eq_of_cover 11 (G11 m c) (fun t _ => flushed11_eq m c hM hW hQ t) cover11

end Cert.InprojValue

end
-- ==== Proof.InprojPre.lean ====
module

public import proofs.«01_k».proof.Pre_finite_ab
public import proofs.«01_k».proof.Proof.Gen.Pre_finite_ab
public import proofs.«01_k».proof.Proof.Finite

@[expose] public section

set_option maxRecDepth 16384

/-! # What the input projection's precondition says -/

noncomputable section

namespace Cert.InprojPre

open Cert.Pre_finite_ab Idealize.ShloMosaic

variable (X : FVec Ideal S16384x1024 .f32) (M : FVec Ideal S8x9216 .f32) (W : FVec Ideal S1024 .f32)
  (P : FVec Ideal S7440x1024 .bf16) (Q : FVec Ideal S128x1024 .f32)

variable {X M W P Q} (h : fn X M W P Q = fun _ => 1#1)
include h

theorem num_mod (b : Fin 8) (k : Fin 2048) : Finite.Num (M (ix2 b ⟨3072 + k.val, by omega⟩)) := by
  have e := congrFun h (ix1 ⟨b.val * 2048 + k.val, by omega⟩)
  refine Finite.num_of_test (Eq.trans (Eq.symm ?_) e)
  pointwise [fn]
  rw [dif_pos (by omega)]

theorem num_nw (k : Fin 1024) : Finite.Num (W (ix1 k)) := by
  have e := congrFun h (ix1 ⟨16384 + k.val, by omega⟩)
  refine Finite.num_of_test (Eq.trans (Eq.symm ?_) e)
  pointwise [fn]

theorem num_wab (j : Fin 128) (k : Fin 1024) : Finite.Num (Q (ix2 j k)) := by
  have e := congrFun h (ix1 ⟨17408 + (j.val * 1024 + k.val), by omega⟩)
  refine Finite.num_of_test (Eq.trans (Eq.symm ?_) e)
  pointwise [fn]
  rw [dif_neg (by omega), dif_neg (by omega)]
  have e1 : (17408 + (j.val * 1024 + k.val) - 16384 - 1024) / 1024 = j.val := by omega
  have e2 : (17408 + (j.val * 1024 + k.val) - 16384 - 1024) % 1024 = k.val := by omega
  simp only [e1, e2]

end Cert.InprojPre

end
-- ==== Proof.InprojClaims.lean ====
module

public import proofs.«01_k».proof.Defs
public import proofs.«01_k».proof.Proof.Gen.Inproj.Frame
public import proofs.«01_k».proof.Proof.Gen.InprojIdeal.Value
public import proofs.«01_k».proof.Proof.Gen.InprojReferenceIdeal.Run
public import proofs.«01_k».proof.Proof.InprojValue
public import proofs.«01_k».proof.Proof.InprojPre
public import Idealize.ShloMosaic.Adequacy

@[expose] public section

/-! # The claims about the input projection -/

noncomputable section

namespace Cert.InprojClaims

open Idealize.ShloMosaic

theorem frame : Cert.quiescent_Inproj := fun m ρ _ => Cert.Inproj.Gen.frame m ρ

theorem frame_ideal : Cert.quiescent_InprojIdeal := fun m ρ _ => Cert.InprojIdeal.Gen.frame m ρ

theorem frame_reference : Cert.quiescent_InprojReferenceIdeal := fun m ρ _ =>
  (θ_run Cert.InprojReferenceIdeal.defs _ _).mono (fun r h => ⟨fun c => (h c).2.2.2.2.2.2, sem_eq_zero_of_no_sems (by decide) r.2⟩)
    (Cert.InprojReferenceIdeal.Value.run (F := Ideal) m ρ)

/-- The two frames again, of the memories the precondition holds of. -/
theorem frame_ideal_pre : Cert.quiescent_InprojIdeal_pre_finite_ab := fun m ρ _ => frame_ideal m ρ trivial

theorem frame_reference_pre : Cert.quiescent_InprojReferenceIdeal_pre_finite_ab := fun m ρ _ => frame_reference m ρ trivial

theorem preserves : Cert.preserves_Inproj_InprojIdeal := trivial

/-- Both programs end with the reference's values of the kernel's arguments. -/
theorem algebraic : Cert.algebraic_InprojIdeal_InprojReferenceIdeal_pre_finite_ab := by
  intro m ρ m' ρ' hpre hagree
  refine ⟨fun c => InprojValue.G6 m c, fun c => InprojValue.G7 m c, fun c => InprojValue.G8 m c, fun c => InprojValue.G9 m c,
    fun c => InprojValue.G10 m c, fun c => InprojValue.G11 m c, ?_, ?_⟩
  · refine (θ_run Cert.InprojIdeal.defs _ _).mono (fun _ h c => ?_) (Cert.InprojIdeal.Value.run_blocks (F := Ideal) m ρ)
    obtain ⟨h6, h7, h8, h9, h10, h11, hrest⟩ := h c
    exact ⟨h6.trans (InprojValue.final6 m c), h7.trans (InprojValue.final7 m c), h8.trans (InprojValue.final8 m c),
      h9.trans (InprojValue.final9 m c), h10.trans (InprojValue.final10 m c),
      h11.trans (InprojValue.final11 m c (InprojPre.num_mod (hpre c)) (InprojPre.num_nw (hpre c)) (InprojPre.num_wab (hpre c))),
      hrest⟩
  · refine (θ_run Cert.InprojReferenceIdeal.defs _ _).mono (fun _ h c => ?_)
      (Cert.InprojReferenceIdeal.Value.run (F := Ideal) m' ρ')
    obtain ⟨e0, e1, e2, e3, e4⟩ := hagree c
    obtain ⟨h6, h7, h8, h9, h10, h11, hrest⟩ := h c
    refine ⟨h6.trans ?_, h7.trans ?_, h8.trans ?_, h9.trans ?_, h10.trans ?_, h11.trans ?_, hrest⟩
    · rw [Cert.InprojReferenceIdeal.Read.val_main_v42_eq]
      show Cert.InprojReferenceIdeal.Read.val_main_v42 (F := Ideal) _ _ _ _ = Cert.InprojReferenceIdeal.Read.val_main_v42 _ _ _ _
      rw [e0, e1, e2, e3]
    · rw [Cert.InprojReferenceIdeal.Read.val_main_v55_eq]
      show Cert.InprojReferenceIdeal.Read.val_main_v55 (F := Ideal) _ _ _ _ = Cert.InprojReferenceIdeal.Read.val_main_v55 _ _ _ _
      rw [e0, e1, e2, e3]
    · rw [Cert.InprojReferenceIdeal.Read.val_main_v56_eq]
      show Cert.InprojReferenceIdeal.Read.val_main_v56 (F := Ideal) _ _ _ _ = Cert.InprojReferenceIdeal.Read.val_main_v56 _ _ _ _
      rw [e0, e1, e2, e3]
    · rw [Cert.InprojReferenceIdeal.Read.val_main_v57_eq]
      show Cert.InprojReferenceIdeal.Read.val_main_v57 (F := Ideal) _ _ _ _ = Cert.InprojReferenceIdeal.Read.val_main_v57 _ _ _ _
      rw [e0, e1, e2, e3]
    · rw [Cert.InprojReferenceIdeal.Read.val_main_v59_eq]
      show Cert.InprojReferenceIdeal.Read.val_main_v59 (F := Ideal) _ _ _ _ = Cert.InprojReferenceIdeal.Read.val_main_v59 _ _ _ _
      rw [e0, e1, e2, e3]
    · rw [Cert.InprojReferenceIdeal.Read.val_main_v53_eq]
      show Cert.InprojReferenceIdeal.Read.val_main_v53 (F := Ideal) _ _ _ _ = Cert.InprojReferenceIdeal.Read.val_main_v53 _ _ _ _
      rw [e0, e1, e2, e4]

end Cert.InprojClaims

end
-- ==== Proof.StepStage.lean ====
module

public import proofs.«01_k».proof.Proof.Gen.StepIdeal.Value
public import Idealize.ShloMosaic.Lib.Pointwise

@[expose] public section

set_option maxRecDepth 16384

/-! # The delta rule's step: what is stored, sample by sample

The body takes 128 samples of one head through the same computation, and leaves each sample's output row in a scratch. -/

noncomputable section

namespace Cert.StepStage

open Cert.StepIdeal Cert.StepIdeal.Gen Idealize.ShloMosaic Idealize.ShloMosaic.TcCoe Idealize.SL.Sem

/-- Sample `b`'s state. -/
abbrev slab (b : Fin 128) : Rect S128x1x128x128 :=
  Rect.unit (s := S128x1x128x128) ![b.val, 0, 0, 0] S1x1x128x128.size (by
    intro a
    match a with
    | ⟨0, _⟩ => show b.val + 1 ≤ 128; omega
    | ⟨1, _⟩ => show 0 + 1 ≤ 1; omega
    | ⟨2, _⟩ => show 0 + 128 ≤ 128; omega
    | ⟨3, _⟩ => show 0 + 128 ≤ 128; omega)

/-- Sample `b`'s row. -/
abbrev row (b : Fin 128) : Rect S128x128 :=
  Rect.unit (s := S128x128) ![b.val, 0] S1x128.size (by
    intro a
    match a with
    | ⟨0, _⟩ => show b.val + 1 ≤ 128; omega
    | ⟨1, _⟩ => show 0 + 128 ≤ 128; omega)

abbrev all3 : Rect S1x128x128 := Rect.unit (s := S1x128x128) ![0, 0, 0] S1x128x128.size inb_S1x128x128_S1x128x128_0_0_0
abbrev all2 : Rect S128x128 := Rect.unit (s := S128x128) ![0, 0] S128x128.size inb_S128x128_S128x128_0_0
abbrev all1 : Rect S1x128 := Rect.unit (s := S1x128) ![0, 0] S1x128.size inb_S1x128_S1x128_0_0

theorem slices_col : ∀ b : Fin 128, S128x128.Slices ![0, b.val] S128x1 := by decide

/-- Column `b` of a head's queries or keys. -/
def col (x : Vec Ideal S1x128x128 .f32) (b : Fin 128) : FVec Ideal S128x1 .f32 :=
  extractStridedSlice S128x1 ![0, b.val] (k0_pay2 x) (slices_col b)

variable (x0 : Vec Ideal S128x1x128x128 .f32) (x1 x2 : Vec Ideal S1x128x128 .f32) (x3 x4 x5 : Vec Ideal S128x128 .f32)
  (x6 : Vec Ideal S128x128 .bf16) (x7 : Vec Ideal S1x128 .f32)

/-- What is stored of sample `b`'s state. -/
def statePiece (b : Fin 128) : View.Piece (Elt Ideal) S128x1x128x128 .f32 :=
  ⟨slab b, k0_pay13 (col (View.ld x2 all3) b) (k0_pay11 (View.ld x0 (slab b))) (View.ld x4 (row b)) (View.ld x3 (row b)) (View.ld x5 (row b))⟩

/-- What is stored of sample `b`'s output row. -/
def rowPiece (b : Fin 128) : View.Piece (Elt Ideal) S128x128 .f32 :=
  ⟨row b, k0_pay14 (col (View.ld x2 all3) b) (col (View.ld x1 all3) b) (k0_pay11 (View.ld x0 (slab b))) (View.ld x4 (row b)) (View.ld x3 (row b))
    (View.ld x5 (row b))⟩

/-- The samples, last first. -/
abbrev samples : List (Fin 128) := [127, 126, 125, 124, 123, 122, 121, 120, 119, 118, 117, 116, 115, 114, 113, 112, 111, 110, 109, 108, 107, 106, 105,
  104, 103, 102, 101, 100, 99, 98, 97, 96, 95, 94, 93, 92, 91, 90, 89, 88, 87, 86, 85, 84, 83, 82, 81, 80, 79, 78, 77, 76, 75, 74, 73, 72, 71, 70, 69,
  68, 67, 66, 65, 64, 63, 62, 61, 60, 59, 58, 57, 56, 55, 54, 53, 52, 51, 50, 49, 48, 47, 46, 45, 44, 43, 42, 41, 40, 39, 38, 37, 36, 35, 34, 33, 32, 31,
  30, 29, 28, 27, 26, 25, 24, 23, 22, 21, 20, 19, 18, 17, 16, 15, 14, 13, 12, 11, 10, 9, 8, 7, 6, 5, 4, 3, 2, 1, 0]

section run

variable (c : Dev nD) (i : grid0.Coords) (arg1 : Memref sig .tc .vmem S128x1x128x128 .f32) (harg1 : arg1.IsWhole)
  (arg2 : Memref sig .tc .vmem S1x128x128 .f32) (harg2 : arg2.IsWhole) (arg3 : Memref sig .tc .vmem S1x128x128 .f32) (harg3 : arg3.IsWhole)
  (arg4 : Memref sig .tc .vmem S128x128 .f32) (harg4 : arg4.IsWhole) (arg5 : Memref sig .tc .vmem S128x128 .f32) (harg5 : arg5.IsWhole)
  (arg6 : Memref sig .tc .vmem S128x128 .f32) (harg6 : arg6.IsWhole) (arg7 : Memref sig .tc .vmem S128x128 .bf16) (harg7 : arg7.IsWhole)
  (arg8 : Memref sig .tc .vmem S1x128 .f32) (harg8 : arg8.IsWhole) (arg9 : Memref sig .tc .vmem S128x1x128x128 .f32) (harg9 : arg9.IsWhole)
  (arg10 : Memref sig .tc .vmem S128x128 .bf16) (harg10 : arg10.IsWhole) (arg11 : Memref sig .tc .vmem S128x128 .f32) (harg11 : arg11.IsWhole)

/-- The states' stores. -/
theorem states_eq :
    (kernelRun0_A (F := Ideal) c i arg1 harg1 arg2 harg2 arg3 harg3 arg4 harg4 arg5 harg5 arg6 harg6 arg7 harg7 arg8 harg8 arg9 harg9 arg10 harg10
      arg11 harg11 x0 x1 x2 x3 x4 x5 x6 x7).1
      = samples.map (statePiece (View.read (Elt Ideal) arg1.view (harg1.unread x0)) (View.read (Elt Ideal) arg3.view (harg3.unread x2))
        (View.read (Elt Ideal) arg4.view (harg4.unread x3)) (View.read (Elt Ideal) arg5.view (harg5.unread x4))
        (View.read (Elt Ideal) arg6.view (harg6.unread x5))) := by
  sl_kernel_rfl

/-- The outputs' one store, of the rows the scratch holds by then. -/
theorem out_eq :
    (kernelRun0_A (F := Ideal) c i arg1 harg1 arg2 harg2 arg3 harg3 arg4 harg4 arg5 harg5 arg6 harg6 arg7 harg7 arg8 harg8 arg9 harg9 arg10 harg10
      arg11 harg11 x0 x1 x2 x3 x4 x5 x6 x7).2.1
      = [⟨all2, k0_pay629 (k0_pay628 (View.readCov (Val := Elt Ideal) arg11.view
          (samples.map (rowPiece (View.read (Elt Ideal) arg1.view (harg1.unread x0)) (View.read (Elt Ideal) arg2.view (harg2.unread x1))
            (View.read (Elt Ideal) arg3.view (harg3.unread x2)) (View.read (Elt Ideal) arg4.view (harg4.unread x3))
            (View.read (Elt Ideal) arg5.view (harg5.unread x4)) (View.read (Elt Ideal) arg6.view (harg6.unread x5)))) all2.toLoadRect))
          (View.ld (View.read (Elt Ideal) arg8.view (harg8.unread x7)) all1) (View.ld (View.read (Elt Ideal) arg7.view (harg7.unread x6)) all2)⟩] := by
  sl_kernel_rfl

end run

end Cert.StepStage

end
-- ==== Proof.StepBlock.lean ====
module

public import proofs.«01_k».proof.Proof.StepStage

@[expose] public section

set_option maxRecDepth 16384

/-! # The delta rule's step: one head's block, element by element -/

noncomputable section

namespace Cert.StepBlock

open Cert.StepIdeal Cert.StepIdeal.Gen Cert.StepStage Idealize.ShloMosaic Idealize.ShloMosaic.TcCoe Idealize.SL.Sem

/-! ## One sample's step, over the extended reals -/

/-- The state after one token of keys `k`, values `v`, decays `a` and rates `b`. -/
abbrev stateAt (k : Fin 128 → EReal) (S : Fin 128 → Fin 128 → EReal) (a v b : Fin 128 → EReal) (i l : Fin 128) : EReal :=
  S i l * a l + k i * ((v l - ∑ j, S j l * a l * k j) * b l)

/-- The token's row: the new state read by the queries `q`. -/
abbrev rowAt (q k : Fin 128 → EReal) (S : Fin 128 → Fin 128 → EReal) (a v b : Fin 128 → EReal) (l : Fin 128) : EReal :=
  ∑ i, stateAt k S a v b i l * q i

/-- The row, normalized, weighted by `w` and gated by `z`. -/
abbrev gated (r w z : Fin 128 → EReal) (l : Fin 128) : EReal :=
  r l * Ideal.rsqrt (Ideal.div (∑ j, r j * r j) (Ideal.ofBits .f32 0x43000000#32) + Ideal.ofBits .f32 0x358637BD#32) * w l * z l

theorem stateAt_congr {k k' : Fin 128 → EReal} {S S' : Fin 128 → Fin 128 → EReal} {a a' v v' b b' : Fin 128 → EReal} (hk : ∀ i, k i = k' i)
    (hS : ∀ i l, S i l = S' i l) (ha : ∀ l, a l = a' l) (hv : ∀ l, v l = v' l) (hb : ∀ l, b l = b' l) (i l : Fin 128) :
    stateAt k S a v b i l = stateAt k' S' a' v' b' i l := by
  obtain rfl := funext hk
  obtain rfl := funext fun i => funext (hS i)
  obtain rfl := funext ha
  obtain rfl := funext hv
  obtain rfl := funext hb
  rfl

theorem rowAt_congr {q q' k k' : Fin 128 → EReal} {S S' : Fin 128 → Fin 128 → EReal} {a a' v v' b b' : Fin 128 → EReal} (hq : ∀ i, q i = q' i)
    (hk : ∀ i, k i = k' i) (hS : ∀ i l, S i l = S' i l) (ha : ∀ l, a l = a' l) (hv : ∀ l, v l = v' l) (hb : ∀ l, b l = b' l) (l : Fin 128) :
    rowAt q k S a v b l = rowAt q' k' S' a' v' b' l :=
  Finset.sum_congr rfl fun i _ => congrArg₂ (fun x y : EReal => x * y) (stateAt_congr hk hS ha hv hb i l) (hq i)

theorem gated_congr {r r' w w' z z' : Fin 128 → EReal} (hr : ∀ l, r l = r' l) (hw : ∀ l, w l = w' l) (hz : ∀ l, z l = z' l) (l : Fin 128) :
    gated r w z l = gated r' w' z' l := by
  obtain rfl := funext hr
  obtain rfl := funext hw
  obtain rfl := funext hz
  rfl

/-! ## The payloads -/

theorem col_apply (x : Vec Ideal S1x128x128 .f32) (b i : Fin 128) (o : Fin 1) : col x b (ix2 i o) = x (ix3 0 i b) := by
  unfold col
  refine (extractStridedSlice_apply (![0, b.val] : Fin 2 → Nat) _ _ _ (ix2 i b) (fun a => ?_)).trans ?_
  · match a with
    | ⟨0, _⟩ => show i.val = 0 + i.val; omega
    | ⟨1, _⟩ => show b.val = b.val + o.val; omega
  · pointwise [k0_pay2]

theorem state_apply (k : FVec Ideal S128x1 .f32) (S : Vec Ideal S1x1x128x128 .f32) (a v b : Vec Ideal S1x128 .f32) (i l : Fin 128) :
    k0_pay12 k (k0_pay11 S) a v b (ix2 i l)
      = stateAt (fun i => k (ix2 i 0)) (fun i l => S (ix4 0 0 i l)) (fun l => a (ix2 0 l)) (fun l => v (ix2 0 l)) (fun l => b (ix2 0 l)) i l := by
  pointwise [k0_pay12, k0_pay11]

theorem row_apply (k q : FVec Ideal S128x1 .f32) (S : Vec Ideal S1x1x128x128 .f32) (a v b : Vec Ideal S1x128 .f32) (o : Fin 1) (l : Fin 128) :
    k0_pay14 k q (k0_pay11 S) a v b (ix2 o l)
      = rowAt (fun i => q (ix2 i 0)) (fun i => k (ix2 i 0)) (fun i l => S (ix4 0 0 i l)) (fun l => a (ix2 0 l)) (fun l => v (ix2 0 l))
        (fun l => b (ix2 0 l)) l := by
  unfold rowAt
  simp only [← state_apply]
  unfold k0_pay14
  generalize k0_pay12 k (k0_pay11 S) a v b = N
  pointwise

theorem stored_apply (k : FVec Ideal S128x1 .f32) (S : Vec Ideal S1x1x128x128 .f32) (a v b : Vec Ideal S1x128 .f32) (o p : Fin 1) (i l : Fin 128) :
    k0_pay13 k (k0_pay11 S) a v b (ix4 o p i l) = k0_pay12 k (k0_pay11 S) a v b (ix2 i l) := by
  unfold k0_pay13
  generalize k0_pay12 k (k0_pay11 S) a v b = N
  pointwise

theorem gated_apply (r : Vec Ideal S128x128 .f32) (w : Vec Ideal S1x128 .f32) (z : Vec Ideal S128x128 .bf16) (b l : Fin 128) :
    k0_pay629 (k0_pay628 r) w z (ix2 b l) = gated (fun l => r (ix2 b l)) (fun l => w (ix2 0 l)) (fun l => z (ix2 b l)) l := by
  pointwise [k0_pay629, k0_pay628]

/-! ## The loads -/

theorem ld_slab (x : Vec Ideal S128x1x128x128 .f32) (b i l : Fin 128) : View.ld x (slab b) (ix4 0 0 i l) = x (ix4 b 0 i l) := by
  refine congrArg x (funext fun a => Fin.ext ?_)
  match a with
  | ⟨0, _⟩ => show b.val + 1 * 0 = b.val; omega
  | ⟨1, _⟩ => show 0 + 1 * 0 = 0; omega
  | ⟨2, _⟩ => show 0 + 1 * i.val = i.val; omega
  | ⟨3, _⟩ => show 0 + 1 * l.val = l.val; omega

theorem ld_row (x : Vec Ideal S128x128 .f32) (b l : Fin 128) : View.ld x (row b) (ix2 0 l) = x (ix2 b l) := by
  refine congrArg x (funext fun a => Fin.ext ?_)
  match a with
  | ⟨0, _⟩ => show b.val + 1 * 0 = b.val; omega
  | ⟨1, _⟩ => show 0 + 1 * l.val = l.val; omega

theorem ld_all3 (x : Vec Ideal S1x128x128 .f32) (i l : Fin 128) : View.ld x all3 (ix3 0 i l) = x (ix3 0 i l) := by
  refine congrArg x (funext fun a => Fin.ext ?_)
  match a with
  | ⟨0, _⟩ => show 0 + 1 * 0 = 0; omega
  | ⟨1, _⟩ => show 0 + 1 * i.val = i.val; omega
  | ⟨2, _⟩ => show 0 + 1 * l.val = l.val; omega

theorem emb_all2 (b l : Fin 128) : all2.emb (ix2 b l) = ix2 b l := by
  refine funext fun a => Fin.ext ?_
  match a with
  | ⟨0, _⟩ => show 0 + 1 * b.val = b.val; omega
  | ⟨1, _⟩ => show 0 + 1 * l.val = l.val; omega

theorem ld_all1 (x : Vec Ideal S1x128 .f32) (l : Fin 128) : View.ld x all1 (ix2 0 l) = x (ix2 0 l) := by
  refine congrArg x (funext fun a => Fin.ext ?_)
  match a with
  | ⟨0, _⟩ => show 0 + 1 * 0 = 0; omega
  | ⟨1, _⟩ => show 0 + 1 * l.val = l.val; omega

theorem emb_slab (b : Fin 128) (z : S1x1x128x128.Idx) : (slab b).emb z = ix4 b 0 (z 2) (z 3) := by
  refine funext fun a => Fin.ext ?_
  match a with
  | ⟨0, _⟩ => show b.val + 1 * (z 0).val = b.val; have h : (z 0).val < 1 := (z 0).isLt; omega
  | ⟨1, _⟩ => show 0 + 1 * (z 1).val = 0; have h : (z 1).val < 1 := (z 1).isLt; omega
  | ⟨2, _⟩ => show 0 + 1 * (z 2).val = (z 2).val; omega
  | ⟨3, _⟩ => show 0 + 1 * (z 3).val = (z 3).val; omega

theorem emb_row (b : Fin 128) (z : S1x128.Idx) : (row b).emb z = ix2 b (z 1) := by
  refine funext fun a => Fin.ext ?_
  match a with
  | ⟨0, _⟩ => show b.val + 1 * (z 0).val = b.val; have h : (z 0).val < 1 := (z 0).isLt; omega
  | ⟨1, _⟩ => show 0 + 1 * (z 1).val = (z 1).val; omega

theorem mem_samples : ∀ b : Fin 128, b ∈ samples := by decide

/-! ## The block -/

variable (x0 : Vec Ideal S128x1x128x128 .f32) (x1 x2 : Vec Ideal S1x128x128 .f32) (x3 x4 x5 : Vec Ideal S128x128 .f32)
  (x6 : Vec Ideal S128x128 .bf16) (x7 : Vec Ideal S1x128 .f32)

/-- Sample `b`'s new state, of the block's keys, states, decays, values and rates. -/
abbrev stateOf (b i l : Fin 128) : EReal :=
  stateAt (fun i => x2 (ix3 0 i b)) (fun i l => x0 (ix4 b 0 i l)) (fun l => x4 (ix2 b l)) (fun l => x3 (ix2 b l)) (fun l => x5 (ix2 b l)) i l

/-- Sample `b`'s row. -/
abbrev rowOf (b l : Fin 128) : EReal :=
  rowAt (fun i => x1 (ix3 0 i b)) (fun i => x2 (ix3 0 i b)) (fun i l => x0 (ix4 b 0 i l)) (fun l => x4 (ix2 b l)) (fun l => x3 (ix2 b l))
    (fun l => x5 (ix2 b l)) l

theorem state_canon (b : Fin 128) (o : Fin 1) (i l : Fin 128) :
    View.canon (samples.map (statePiece x0 x2 x3 x4 x5)) (ix4 b o i l) = stateOf x0 x2 x3 x4 x5 b i l := by
  refine View.canon_apply_of_pieces (fun y : S128x1x128x128.Idx => (stateOf x0 x2 x3 x4 x5 (y 0) (y 2) (y 3) : Elt Ideal .f32)) _ (fun p hp z => ?_) _
    ⟨statePiece x0 x2 x3 x4 x5 b, List.mem_map.2 ⟨b, mem_samples _, rfl⟩, ?_⟩
  · obtain ⟨b, -, rfl⟩ := List.mem_map.1 hp
    obtain ⟨o, p, i, l, rfl⟩ : ∃ (o p : Fin 1) (i l : Fin 128), z = ix4 o p i l := ⟨z 0, z 1, z 2, z 3, eq_ix4 z⟩
    show k0_pay13 (F := Ideal) _ _ _ _ _ _ = stateOf x0 x2 x3 x4 x5 ((slab b).emb (ix4 o p i l) 0) ((slab b).emb (ix4 o p i l) 2) ((slab b).emb (ix4 o p i l) 3)
    rw [emb_slab, stored_apply, state_apply]
    exact stateAt_congr (fun i => (col_apply _ b i 0).trans (ld_all3 x2 i b)) (ld_slab x0 b) (ld_row x4 b) (ld_row x3 b) (ld_row x5 b) i l
  · show ix4 b o i l ∈ (slab b).set
    rw [Rect.mem_set_unit]
    intro a
    match a with
    | ⟨0, _⟩ => show b.val ≤ b.val ∧ b.val < b.val + 1; omega
    | ⟨1, _⟩ => show 0 ≤ o.val ∧ o.val < 0 + 1; omega
    | ⟨2, _⟩ => show 0 ≤ i.val ∧ i.val < 0 + 128; omega
    | ⟨3, _⟩ => show 0 ≤ l.val ∧ l.val < 0 + 128; omega

theorem row_canon (b l : Fin 128) :
    View.canon (samples.map (rowPiece x0 x1 x2 x3 x4 x5)) (ix2 b l) = rowOf x0 x1 x2 x3 x4 x5 b l := by
  refine View.canon_apply_of_pieces (fun y : S128x128.Idx => (rowOf x0 x1 x2 x3 x4 x5 (y 0) (y 1) : Elt Ideal .f32)) _ (fun p hp z => ?_) _
    ⟨rowPiece x0 x1 x2 x3 x4 x5 b, List.mem_map.2 ⟨b, mem_samples _, rfl⟩, ?_⟩
  · obtain ⟨b, -, rfl⟩ := List.mem_map.1 hp
    obtain ⟨o, l, rfl⟩ : ∃ (o : Fin 1) (l : Fin 128), z = ix2 o l := ⟨z 0, z 1, eq_ix2 z⟩
    show k0_pay14 (F := Ideal) _ _ _ _ _ _ _ = rowOf x0 x1 x2 x3 x4 x5 ((row b).emb (ix2 o l) 0) ((row b).emb (ix2 o l) 1)
    rw [emb_row, row_apply]
    exact rowAt_congr (fun i => (col_apply _ b i 0).trans (ld_all3 x1 i b)) (fun i => (col_apply _ b i 0).trans (ld_all3 x2 i b)) (ld_slab x0 b)
      (ld_row x4 b) (ld_row x3 b) (ld_row x5 b) l
  · show ix2 b l ∈ (row b).set
    rw [Rect.mem_set_unit]
    intro a
    match a with
    | ⟨0, _⟩ => show b.val ≤ b.val ∧ b.val < b.val + 1; omega
    | ⟨1, _⟩ => show 0 ≤ l.val ∧ l.val < 0 + 128; omega

theorem out_canon (v : View sig .tc .vmem S128x128 .f32) (b l : Fin 128) :
    View.canon [(⟨all2, k0_pay629 (k0_pay628 (View.readCov (Val := Elt Ideal) v (samples.map (rowPiece x0 x1 x2 x3 x4 x5)) all2.toLoadRect))
      (View.ld x7 all1) (View.ld x6 all2)⟩ : View.Piece (Elt Ideal) S128x128 .bf16)] (ix2 b l)
      = gated (rowOf x0 x1 x2 x3 x4 x5 b) (fun l => x7 (ix2 0 l)) (fun l => x6 (ix2 b l)) l := by
  refine View.canon_apply_of_pieces (Val := Elt Ideal) (e := .bf16) (fun y : S128x128.Idx => (gated (rowOf x0 x1 x2 x3 x4 x5 (y 0)) (fun l => x7 (ix2 0 l))
    (fun l => x6 (ix2 (y 0) l)) (y 1) : Elt Ideal .bf16)) _ (fun p hp z => ?_) _ ⟨_, List.mem_singleton.2 rfl, ?_⟩
  · obtain rfl := List.mem_singleton.1 hp
    obtain ⟨b, l, rfl⟩ : ∃ (b l : Fin 128), z = ix2 b l := ⟨z 0, z 1, eq_ix2 z⟩
    show k0_pay629 (F := Ideal) _ _ _ _ = gated (rowOf x0 x1 x2 x3 x4 x5 (all2.emb (ix2 b l) 0)) _ (fun l' => x6 (ix2 (all2.emb (ix2 b l) 0) l')) (all2.emb (ix2 b l) 1)
    rw [emb_all2, gated_apply, View.readCov_eq_canon']
    have hr : ∀ l, View.canon (samples.map (rowPiece x0 x1 x2 x3 x4 x5)) (all2.toLoadRect.idx (ix2 b l)) = rowOf x0 x1 x2 x3 x4 x5 b l := fun l =>
      (congrArg _ (emb_all2 b l)).trans (row_canon x0 x1 x2 x3 x4 x5 b l)
    have hz : ∀ l, View.ld x6 all2 (ix2 b l) = x6 (ix2 b l) := fun l => congrArg x6 (emb_all2 b l)
    exact gated_congr hr (ld_all1 x7) hz l
  · show ix2 b l ∈ all2.set
    rw [Rect.mem_set_unit]
    intro a
    match a with
    | ⟨0, _⟩ => show 0 ≤ b.val ∧ b.val < 0 + 128; omega
    | ⟨1, _⟩ => show 0 ≤ l.val ∧ l.val < 0 + 128; omega

end Cert.StepBlock

end
-- ==== Proof.StepRef.lean ====
module

public import proofs.«01_k».proof.Proof.Gen.StepReferenceIdeal.Read
public import proofs.«01_k».proof.Proof.StepBlock
public import Idealize.ShloMosaic.Lib.Pointwise

@[expose] public section

set_option maxRecDepth 16384

/-! # The delta rule's step: the reference, element by element -/

noncomputable section

namespace Cert.StepRef

open Cert.StepReferenceIdeal Cert.StepReferenceIdeal.Gen Cert.StepReferenceIdeal.Read Idealize.ShloMosaic Idealize.ShloMosaic.TcCoe
open Cert.StepBlock (stateAt rowAt gated)

variable (S : (⟨S128x8x128x128, .f32⟩ : BufTy).Contents (Elt Ideal)) (q k : (⟨S8x128x128, .f32⟩ : BufTy).Contents (Elt Ideal))
  (v a r : (⟨S128x1024, .f32⟩ : BufTy).Contents (Elt Ideal)) (z : (⟨S128x1024, .bf16⟩ : BufTy).Contents (Elt Ideal))
  (w : (⟨S128, .f32⟩ : BufTy).Contents (Elt Ideal)) (b : Fin 128) (h : Fin 8)

/-- Lane `l` of head `h` in a row of all heads. -/
abbrev lane (h : Fin 8) (l : Fin 128) : Fin 1024 := ⟨h.val * 128 + l.val, by omega⟩

theorem heads_apply (X : Vec Ideal S128x1024 .f32) (l : Fin 128) :
    shapeCast S128x8x128 X shapeCasts_S128x1024_S128x8x128 (ix3 b h l) = X (ix2 b (lane h l)) := by
  pointwise

theorem decayed_apply (i l : Fin 128) : val_main_v9 (F := Ideal) S a (ix4 b h i l) = S (ix4 b h i l) * a (ix2 b (lane h l)) := by
  rw [val_main_v9_apply, val_main_v8_apply, val_main_v7_apply]
  exact congrArg₂ (fun x y : EReal => x * y) rfl ((congrArg _ (eq_ix3 _)).trans (heads_apply b h a l))

theorem key_apply (i : Fin 128) : val_main_v1 (F := Ideal) k (ix3 b h i) = k (ix3 h i b) := by
  rw [val_main_v1_apply]
  exact congrArg k (eq_ix3 _)

theorem query_apply (i : Fin 128) : val_main_v0 (F := Ideal) q (ix3 b h i) = q (ix3 h i b) := by
  rw [val_main_v0_apply]
  exact congrArg q (eq_ix3 _)

theorem read_apply (l : Fin 128) : val_main_v10 (F := Ideal) S k a (ix3 b h l)
    = ∑ j : Fin 128, S (ix4 b h j l) * a (ix2 b (lane h l)) * k (ix3 h j b) := by
  rw [val_main_v10_apply]
  refine Finset.sum_congr rfl fun j _ => ?_
  refine Eq.trans (congrArg₂ (fun x y : EReal => x * y) ((congrArg _ (eq_ix3 _)).trans (key_apply k b h j))
    ((congrArg _ (eq_ix4 _)).trans (decayed_apply S a b h j l))) (mul_comm _ _)

theorem change_apply (l : Fin 128) : val_main_v13 (F := Ideal) S k v a r (ix3 b h l)
    = (v (ix2 b (lane h l)) - ∑ j : Fin 128, S (ix4 b h j l) * a (ix2 b (lane h l)) * k (ix3 h j b)) * r (ix2 b (lane h l)) := by
  rw [val_main_v13_apply, val_main_v12_apply]
  exact congrArg₂ (fun x y : EReal => x * y) (congrArg₂ (fun x y : EReal => x - y) (heads_apply b h v l) (read_apply S k a b h l)) (heads_apply b h r l)

/-- The new state. -/
theorem state_apply (i l : Fin 128) : val_main_v18 (F := Ideal) S k v a r (ix4 b h i l)
    = stateAt (fun i => k (ix3 h i b)) (fun i l => S (ix4 b h i l)) (fun l => a (ix2 b (lane h l))) (fun l => v (ix2 b (lane h l)))
      (fun l => r (ix2 b (lane h l))) i l := by
  rw [val_main_v18_apply, val_main_v17_apply, val_main_v16_apply, val_main_v15_apply, val_main_v14_apply, val_main_v11_apply]
  exact congrArg₂ (fun x y : EReal => x + y) (decayed_apply S a b h i l)
    (congrArg₂ (fun x y : EReal => x * y) ((congrArg _ (eq_ix3 _)).trans (key_apply k b h i))
      ((congrArg _ (eq_ix3 _)).trans (change_apply S k v a r b h l)))

/-- The token's row of one head. -/
abbrev rowOf (l : Fin 128) : EReal :=
  rowAt (fun i => q (ix3 h i b)) (fun i => k (ix3 h i b)) (fun i l => S (ix4 b h i l)) (fun l => a (ix2 b (lane h l)))
    (fun l => v (ix2 b (lane h l))) (fun l => r (ix2 b (lane h l))) l

theorem row_apply (l : Fin 128) : val_main_v19 (F := Ideal) S q k v a r (ix3 b h l) = rowOf S q k v a r b h l := by
  rw [val_main_v19_apply]
  refine Finset.sum_congr rfl fun i _ => ?_
  exact Eq.trans (congrArg₂ (fun x y : EReal => x * y) ((congrArg _ (eq_ix3 _)).trans (query_apply q b h i))
    ((congrArg _ (eq_ix4 _)).trans (state_apply S k v a r b h i l))) (mul_comm _ _)

theorem squares_apply : val_main_v21 (F := Ideal) S q k v a r (ix2 b h)
    = ∑ l : Fin 128, rowOf S q k v a r b h l * rowOf S q k v a r b h l := by
  rw [val_main_v21_apply]
  refine Eq.trans (congrArg₂ (fun x y : EReal => x + y) Ideal.ofBits_zero_f32 (Finset.sum_congr rfl fun l _ => ?_)) (zero_add _)
  rw [val_main_v20_apply]
  have e : val_main_v19 (F := Ideal) S q k v a r (idx_main_v21 (ix2 b h) l) = rowOf S q k v a r b h l :=
    (congrArg _ (eq_ix3 _)).trans (row_apply S q k v a r b h l)
  exact congrArg₂ (fun x y : EReal => x * y) e e

theorem scale_apply (l : Fin 128) : val_main_v28 (F := Ideal) S q k v a r (ix3 b h l)
    = Ideal.rsqrt (Ideal.div (∑ j : Fin 128, rowOf S q k v a r b h j * rowOf S q k v a r b h j) (Ideal.ofBits .f32 0x43000000#32)
      + Ideal.ofBits .f32 0x358637BD#32) := by
  rw [val_main_v28_apply, val_main_v27_apply, val_main_v26_apply, val_main_v25_apply, val_main_v24_apply, val_main_v23_apply, val_main_v22_apply]
  have e : val_main_v21 (F := Ideal) S q k v a r (idx_main_v22 (idx_main_v28 (ix3 b h l))) = _ :=
    (congrArg _ (eq_ix2 _)).trans (squares_apply S q k v a r b h)
  exact congrArg (fun x => Ideal.rsqrt (Ideal.div x (Ideal.ofBits .f32 0x43000000#32) + Ideal.ofBits .f32 0x358637BD#32)) e

/-- The token's output. -/
theorem out_apply (l : Fin 128) : val_main_v35 (F := Ideal) S q k v a r z w (ix2 b (lane h l))
    = gated (rowOf S q k v a r b h) (fun l => w (ix1 l)) (fun l => z (ix2 b (lane h l))) l := by
  rw [val_main_v35_apply, val_main_v34_apply]
  have e : idx_main_v34 (ix2 b (lane h l)) = ix3 b h l := by
    refine (eq_ix3 _).trans (congr (congrArg₂ (fun x y => ix3 x y) (Fin.ext ?_) (Fin.ext ?_)) (Fin.ext ?_))
    · show (b.val * 1024 + (h.val * 128 + l.val)) / 1024 = b.val; omega
    · show (b.val * 1024 + (h.val * 128 + l.val)) / 128 % 8 = h.val; omega
    · show (b.val * 1024 + (h.val * 128 + l.val)) % 128 = l.val; omega
  rw [e, val_main_v33_apply, val_main_v32_apply, val_main_v31_apply, val_main_v30_apply, val_main_v29_apply]
  exact congrArg₂ (fun x y : EReal => x * y)
    (congrArg₂ (fun x y : EReal => x * y)
      (congrArg₂ (fun x y : EReal => x * y) (row_apply S q k v a r b h l) (scale_apply S q k v a r b h l)) (congrArg w (eq_ix1 _)))
    (heads_apply b h z l)

end Cert.StepRef

end
-- ==== Proof.StepValue.lean ====
module

public import proofs.«01_k».proof.Proof.StepBlock
public import proofs.«01_k».proof.Proof.StepRef
public import proofs.«01_k».proof.Proof.Gen.StepIdeal.Value

@[expose] public section

set_option maxRecDepth 16384

/-! # The delta rule's step: the new states and the outputs are the reference's -/

noncomputable section

namespace Cert.StepValue

open Cert.StepIdeal Cert.StepIdeal.Gen Idealize.ShloMosaic Idealize.ShloMosaic.TcCoe Idealize.SL.Sem
open Idealize.ShloMosaic.Pipeline (Dat)
open Cert.StepRef (lane)

/-! ## The block the body leaves -/

section block

variable (c : Dev nD) (i : grid0.Coords) (arg1 : Memref sig .tc .vmem S128x1x128x128 .f32) (harg1 : arg1.IsWhole)
  (arg2 : Memref sig .tc .vmem S1x128x128 .f32) (harg2 : arg2.IsWhole) (arg3 : Memref sig .tc .vmem S1x128x128 .f32) (harg3 : arg3.IsWhole)
  (arg4 : Memref sig .tc .vmem S128x128 .f32) (harg4 : arg4.IsWhole) (arg5 : Memref sig .tc .vmem S128x128 .f32) (harg5 : arg5.IsWhole)
  (arg6 : Memref sig .tc .vmem S128x128 .f32) (harg6 : arg6.IsWhole) (arg7 : Memref sig .tc .vmem S128x128 .bf16) (harg7 : arg7.IsWhole)
  (arg8 : Memref sig .tc .vmem S1x128 .f32) (harg8 : arg8.IsWhole) (arg9 : Memref sig .tc .vmem S128x1x128x128 .f32) (harg9 : arg9.IsWhole)
  (arg10 : Memref sig .tc .vmem S128x128 .bf16) (harg10 : arg10.IsWhole) (arg11 : Memref sig .tc .vmem S128x128 .f32) (harg11 : arg11.IsWhole)
  (x0 : Vec Ideal S128x1x128x128 .f32) (x1 x2 : Vec Ideal S1x128x128 .f32) (x3 x4 x5 : Vec Ideal S128x128 .f32)
  (x6 : Vec Ideal S128x128 .bf16) (x7 : Vec Ideal S1x128 .f32)

theorem block_state (b : Fin 128) (o : Fin 1) (k l : Fin 128) :
    out0_A_8 (F := Ideal) c i arg1 harg1 arg2 harg2 arg3 harg3 arg4 harg4 arg5 harg5 arg6 harg6 arg7 harg7 arg8 harg8 arg9 harg9 arg10 harg10
      arg11 harg11 x0 x1 x2 x3 x4 x5 x6 x7 (ix4 b o k l) = StepBlock.stateOf x0 x2 x3 x4 x5 b k l := by
  unfold out0_A_8
  rw [View.read_writes_eq_canon _ _ _ (fun z => cover0_A_8 c i arg1 harg1 arg2 harg2 arg3 harg3 arg4 harg4 arg5 harg5 arg6 harg6 arg7 harg7 arg8
    harg8 arg9 harg9 arg10 harg10 arg11 harg11 x0 x1 x2 x3 x4 x5 x6 x7 z), StepStage.states_eq]
  simp only [Memref.IsWhole.read_unread]
  exact StepBlock.state_canon x0 x2 x3 x4 x5 b o k l

theorem block_out (b l : Fin 128) :
    out0_A_9 (F := Ideal) c i arg1 harg1 arg2 harg2 arg3 harg3 arg4 harg4 arg5 harg5 arg6 harg6 arg7 harg7 arg8 harg8 arg9 harg9 arg10 harg10
      arg11 harg11 x0 x1 x2 x3 x4 x5 x6 x7 (ix2 b l)
      = StepBlock.gated (StepBlock.rowOf x0 x1 x2 x3 x4 x5 b) (fun l => x7 (ix2 0 l)) (fun l => x6 (ix2 b l)) l := by
  unfold out0_A_9
  rw [View.read_writes_eq_canon _ _ _ (fun z => cover0_A_9 c i arg1 harg1 arg2 harg2 arg3 harg3 arg4 harg4 arg5 harg5 arg6 harg6 arg7 harg7 arg8
    harg8 arg9 harg9 arg10 harg10 arg11 harg11 x0 x1 x2 x3 x4 x5 x6 x7 z), StepStage.out_eq]
  simp only [Memref.IsWhole.read_unread]
  exact StepBlock.out_canon x0 x1 x2 x3 x4 x5 x6 x7 arg11.view b l

end block

variable (m : (ℓ : Loc nD τ sig) → Buf (Elt Ideal) ℓ)

/-! ## The reference's values of device `c`'s arguments -/

abbrev S (c : Dev nD) : (⟨S128x8x128x128, .f32⟩ : BufTy).Contents (Elt Ideal) := m ((c : Thread nD τ).loc main_arg0)
abbrev Q (c : Dev nD) : (⟨S8x128x128, .f32⟩ : BufTy).Contents (Elt Ideal) := m ((c : Thread nD τ).loc main_arg1)
abbrev K (c : Dev nD) : (⟨S8x128x128, .f32⟩ : BufTy).Contents (Elt Ideal) := m ((c : Thread nD τ).loc main_arg2)
abbrev X (c : Dev nD) : (⟨S128x1024, .f32⟩ : BufTy).Contents (Elt Ideal) := m ((c : Thread nD τ).loc main_arg3)
abbrev A (c : Dev nD) : (⟨S128x1024, .f32⟩ : BufTy).Contents (Elt Ideal) := m ((c : Thread nD τ).loc main_arg4)
abbrev B (c : Dev nD) : (⟨S128x1024, .f32⟩ : BufTy).Contents (Elt Ideal) := m ((c : Thread nD τ).loc main_arg5)
abbrev Z (c : Dev nD) : (⟨S128x1024, .bf16⟩ : BufTy).Contents (Elt Ideal) := m ((c : Thread nD τ).loc main_arg6)
abbrev W (c : Dev nD) : (⟨S128, .f32⟩ : BufTy).Contents (Elt Ideal) := m ((c : Thread nD τ).loc main_arg7)

abbrev G8 (c : Dev nD) : (⟨S128x8x128x128, .f32⟩ : BufTy).Contents (Elt Ideal) :=
  StepReferenceIdeal.Read.val_main_v18 (F := Ideal) (S m c) (K m c) (X m c) (A m c) (B m c)
abbrev G9 (c : Dev nD) : (⟨S128x1024, .bf16⟩ : BufTy).Contents (Elt Ideal) :=
  StepReferenceIdeal.Read.val_main_v35 (F := Ideal) (S m c) (Q m c) (K m c) (X m c) (A m c) (B m c) (Z m c) (W m c)

theorem V_v0 (c : Dev nD) : V m c main_v0 = shapeCast S1x128 (W m c) shapeCasts_S128_S1x128 := by
  unfold_abbrev_sides
  after_results
  rfl

theorem cast_w (W : Vec Ideal S128 .f32) (l : Fin 128) : shapeCast S1x128 W shapeCasts_S128_S1x128 (ix2 0 l) = W (ix1 l) := by
  pointwise

/-! ## The windows' places on the grid -/

/-- The states' windows take the point's head. -/
theorem idx_state : ∀ t : Fin grid0.N, (win0_0.index t 0 = 0 ∧ win0_0.index t 1 = t.val ∧ win0_0.index t 2 = 0 ∧ win0_0.index t 3 = 0)
    ∧ (win0_8.index t 0 = 0 ∧ win0_8.index t 1 = t.val ∧ win0_8.index t 2 = 0 ∧ win0_8.index t 3 = 0) := by
  decide +kernel

theorem idx_keys : ∀ t : Fin grid0.N, (win0_1.index t 0 = t.val ∧ win0_1.index t 1 = 0 ∧ win0_1.index t 2 = 0)
    ∧ (win0_2.index t 0 = t.val ∧ win0_2.index t 1 = 0 ∧ win0_2.index t 2 = 0) := by
  decide +kernel

theorem idx_rows : ∀ t : Fin grid0.N, (win0_3.index t 0 = 0 ∧ win0_3.index t 1 = t.val) ∧ (win0_4.index t 0 = 0 ∧ win0_4.index t 1 = t.val)
    ∧ (win0_5.index t 0 = 0 ∧ win0_5.index t 1 = t.val) ∧ (win0_6.index t 0 = 0 ∧ win0_6.index t 1 = t.val)
    ∧ (win0_7.index t 0 = 0 ∧ win0_7.index t 1 = 0) ∧ (win0_9.index t 0 = 0 ∧ win0_9.index t 1 = t.val) := by
  decide +kernel

/-- The head of point `t`. -/
abbrev headOf (t : Fin grid0.N) : Fin 8 := ⟨t.val, by have : grid0.N = 8 := N_0; omega⟩

theorem blk0 (A : S128x8x128x128.Idx → EReal) (t : Fin grid0.N) (b : Fin 128) (o : Fin 1) (k l : Fin 128) :
    (win0_0.blk t).view.read (Elt Ideal) A (ix4 b o k l) = A (ix4 b (headOf t) k l) := by
  refine congrArg A (funext fun a => Fin.ext ?_)
  obtain ⟨h0, h1, h2, h3⟩ := (idx_state t).1
  match a with
  | ⟨0, _⟩ => show win0_0.index t 0 * 128 + 1 * b.val = b.val; rw [h0]; omega
  | ⟨1, _⟩ => show win0_0.index t 1 * 1 + 1 * o.val = t.val; rw [h1]; omega
  | ⟨2, _⟩ => show win0_0.index t 2 * 128 + 1 * k.val = k.val; rw [h2]; omega
  | ⟨3, _⟩ => show win0_0.index t 3 * 128 + 1 * l.val = l.val; rw [h3]; omega

theorem blk8 (A : S128x8x128x128.Idx → EReal) (t : Fin grid0.N) (b : Fin 128) (o : Fin 1) (k l : Fin 128) :
    (win0_8.blk t).view.read (Elt Ideal) A (ix4 b o k l) = A (ix4 b (headOf t) k l) := by
  refine congrArg A (funext fun a => Fin.ext ?_)
  obtain ⟨h0, h1, h2, h3⟩ := (idx_state t).2
  match a with
  | ⟨0, _⟩ => show win0_8.index t 0 * 128 + 1 * b.val = b.val; rw [h0]; omega
  | ⟨1, _⟩ => show win0_8.index t 1 * 1 + 1 * o.val = t.val; rw [h1]; omega
  | ⟨2, _⟩ => show win0_8.index t 2 * 128 + 1 * k.val = k.val; rw [h2]; omega
  | ⟨3, _⟩ => show win0_8.index t 3 * 128 + 1 * l.val = l.val; rw [h3]; omega

theorem blk1 (A : S8x128x128.Idx → EReal) (t : Fin grid0.N) (k b : Fin 128) :
    (win0_1.blk t).view.read (Elt Ideal) A (ix3 0 k b) = A (ix3 (headOf t) k b) := by
  refine congrArg A (funext fun a => Fin.ext ?_)
  obtain ⟨h0, h1, h2⟩ := (idx_keys t).1
  match a with
  | ⟨0, _⟩ => show win0_1.index t 0 * 1 + 1 * 0 = t.val; rw [h0]; omega
  | ⟨1, _⟩ => show win0_1.index t 1 * 128 + 1 * k.val = k.val; rw [h1]; omega
  | ⟨2, _⟩ => show win0_1.index t 2 * 128 + 1 * b.val = b.val; rw [h2]; omega

theorem blk2 (A : S8x128x128.Idx → EReal) (t : Fin grid0.N) (k b : Fin 128) :
    (win0_2.blk t).view.read (Elt Ideal) A (ix3 0 k b) = A (ix3 (headOf t) k b) := by
  refine congrArg A (funext fun a => Fin.ext ?_)
  obtain ⟨h0, h1, h2⟩ := (idx_keys t).2
  match a with
  | ⟨0, _⟩ => show win0_2.index t 0 * 1 + 1 * 0 = t.val; rw [h0]; omega
  | ⟨1, _⟩ => show win0_2.index t 1 * 128 + 1 * k.val = k.val; rw [h1]; omega
  | ⟨2, _⟩ => show win0_2.index t 2 * 128 + 1 * b.val = b.val; rw [h2]; omega

/-- A window of one head's lanes, at row and column blocks `i`, `j` with `i = 0` and `j` the point. -/
theorem blk_rows (A : S128x1024.Idx → EReal) (t : Fin grid0.N) (b l : Fin 128) (i : S128x1024.Idx)
    {p q : ℕ} (hp : p = 0) (hq : q = t.val) (h0 : (i 0).val = p * 128 + 1 * b.val) (h1 : (i 1).val = q * 128 + 1 * l.val) :
    A i = A (ix2 b (lane (headOf t) l)) := by
  refine congrArg A ((eq_ix2 i).trans (congrArg₂ (fun x y => ix2 x y) (Fin.ext ?_) (Fin.ext ?_)))
  · rw [h0, hp]; omega
  · rw [h1, hq]; show t.val * 128 + 1 * l.val = t.val * 128 + l.val; omega

theorem blk3 (A : S128x1024.Idx → EReal) (t : Fin grid0.N) (b l : Fin 128) :
    (win0_3.blk t).view.read (Elt Ideal) A (ix2 b l) = A (ix2 b (lane (headOf t) l)) :=
  blk_rows A t b l _ (idx_rows t).1.1 (idx_rows t).1.2 rfl rfl

theorem blk4 (A : S128x1024.Idx → EReal) (t : Fin grid0.N) (b l : Fin 128) :
    (win0_4.blk t).view.read (Elt Ideal) A (ix2 b l) = A (ix2 b (lane (headOf t) l)) :=
  blk_rows A t b l _ (idx_rows t).2.1.1 (idx_rows t).2.1.2 rfl rfl

theorem blk5 (A : S128x1024.Idx → EReal) (t : Fin grid0.N) (b l : Fin 128) :
    (win0_5.blk t).view.read (Elt Ideal) A (ix2 b l) = A (ix2 b (lane (headOf t) l)) :=
  blk_rows A t b l _ (idx_rows t).2.2.1.1 (idx_rows t).2.2.1.2 rfl rfl

theorem blk6 (A : S128x1024.Idx → EReal) (t : Fin grid0.N) (b l : Fin 128) :
    (win0_6.blk t).view.read (Elt Ideal) A (ix2 b l) = A (ix2 b (lane (headOf t) l)) :=
  blk_rows A t b l _ (idx_rows t).2.2.2.1.1 (idx_rows t).2.2.2.1.2 rfl rfl

theorem blk9 (A : S128x1024.Idx → EReal) (t : Fin grid0.N) (b l : Fin 128) :
    (win0_9.blk t).view.read (Elt Ideal) A (ix2 b l) = A (ix2 b (lane (headOf t) l)) :=
  blk_rows A t b l _ (idx_rows t).2.2.2.2.2.1 (idx_rows t).2.2.2.2.2.2 rfl rfl

theorem blk7 (A : S1x128.Idx → EReal) (t : Fin grid0.N) (l : Fin 128) : (win0_7.blk t).view.read (Elt Ideal) A (ix2 0 l) = A (ix2 0 l) := by
  refine congrArg A (funext fun a => Fin.ext ?_)
  obtain ⟨h0, h1⟩ := (idx_rows t).2.2.2.2.1
  match a with
  | ⟨0, _⟩ => show win0_7.index t 0 * 1 + 1 * 0 = 0; rw [h0]
  | ⟨1, _⟩ => show win0_7.index t 1 * 128 + 1 * l.val = l.val; rw [h1]; omega

/-! ## The blocks at a point, over the arrays -/

theorem in0 (c : Dev nD) (t : Fin cfg0.N) (b k l : Fin 128) :
    (iblk m c 0 t : Vec Ideal S128x1x128x128 .f32) (ix4 b 0 k l) = S m c (ix4 b (headOf t) k l) :=
  (blk0 _ t b 0 k l).trans (congrFun (V_main_arg0 m c) _)

theorem in1 (c : Dev nD) (t : Fin cfg0.N) (b k : Fin 128) :
    (iblk m c 1 t : Vec Ideal S1x128x128 .f32) (ix3 0 k b) = Q m c (ix3 (headOf t) k b) :=
  (blk1 _ t k b).trans (congrFun (V_main_arg1 m c) _)

theorem in2 (c : Dev nD) (t : Fin cfg0.N) (b k : Fin 128) :
    (iblk m c 2 t : Vec Ideal S1x128x128 .f32) (ix3 0 k b) = K m c (ix3 (headOf t) k b) :=
  (blk2 _ t k b).trans (congrFun (V_main_arg2 m c) _)

theorem in3 (c : Dev nD) (t : Fin cfg0.N) (b l : Fin 128) :
    (iblk m c 3 t : Vec Ideal S128x128 .f32) (ix2 b l) = X m c (ix2 b (lane (headOf t) l)) :=
  (blk3 _ t b l).trans (congrFun (V_main_arg3 m c) _)

theorem in4 (c : Dev nD) (t : Fin cfg0.N) (b l : Fin 128) :
    (iblk m c 4 t : Vec Ideal S128x128 .f32) (ix2 b l) = A m c (ix2 b (lane (headOf t) l)) :=
  (blk4 _ t b l).trans (congrFun (V_main_arg4 m c) _)

theorem in5 (c : Dev nD) (t : Fin cfg0.N) (b l : Fin 128) :
    (iblk m c 5 t : Vec Ideal S128x128 .f32) (ix2 b l) = B m c (ix2 b (lane (headOf t) l)) :=
  (blk5 _ t b l).trans (congrFun (V_main_arg5 m c) _)

theorem in6 (c : Dev nD) (t : Fin cfg0.N) (b l : Fin 128) :
    (iblk m c 6 t : Vec Ideal S128x128 .bf16) (ix2 b l) = Z m c (ix2 b (lane (headOf t) l)) :=
  (blk6 _ t b l).trans (congrFun (V_main_arg6 m c) _)

theorem in7 (c : Dev nD) (t : Fin cfg0.N) (l : Fin 128) : (iblk m c 7 t : Vec Ideal S1x128 .f32) (ix2 0 l) = W m c (ix1 l) :=
  (blk7 _ t l).trans ((congrFun (V_v0 m c) _).trans (cast_w (W m c) l))

/-! ## What a point writes back is its block of the reference's value -/

theorem flushed8_eq (c : Dev nD) (t : Fin cfg0.N) : (dats m 0 c).flushed 8 t = ((cfg0.win 8).blk t).view.read (Elt Ideal) (G8 m c) := by
  rw [StepIdeal.Value.flushed8_A]
  show (fun y : S128x1x128x128.Idx => out0_A_8 (F := Ideal) c (grid0.coords t) (ms0_0 t) (hs0_0 t) (ms0_1 t) (hs0_1 t) (ms0_2 t) (hs0_2 t) (ms0_3 t)
      (hs0_3 t) (ms0_4 t) (hs0_4 t) (ms0_5 t) (hs0_5 t) (ms0_6 t) (hs0_6 t) (ms0_7 t) (hs0_7 t) (ms0_8 t) (hs0_8 t) (ms0_9 t) (hs0_9 t) scM0_0
      (Memref.isWhole_whole _) (iblk m c 0 t) (iblk m c 1 t) (iblk m c 2 t) (iblk m c 3 t) (iblk m c 4 t) (iblk m c 5 t) (iblk m c 6 t)
      (iblk m c 7 t) y)
    = fun y : S128x1x128x128.Idx => (win0_8.blk t).view.read (Elt Ideal) (G8 m c) y
  funext y
  obtain ⟨b, o, k, l, rfl⟩ : ∃ (b : Fin 128) (o : Fin 1) (k l : Fin 128), y = ix4 b o k l := ⟨y 0, y 1, y 2, y 3, eq_ix4 y⟩
  rw [block_state, blk8]
  refine Eq.trans ?_ (StepRef.state_apply (S m c) (K m c) (X m c) (A m c) (B m c) b (headOf t) k l).symm
  exact StepBlock.stateAt_congr (in2 m c t b) (in0 m c t b) (in4 m c t b) (in3 m c t b) (in5 m c t b) k l

theorem flushed9_eq (c : Dev nD) (t : Fin cfg0.N) : (dats m 0 c).flushed 9 t = ((cfg0.win 9).blk t).view.read (Elt Ideal) (G9 m c) := by
  rw [StepIdeal.Value.flushed9_A]
  show (fun y : S128x128.Idx => out0_A_9 (F := Ideal) c (grid0.coords t) (ms0_0 t) (hs0_0 t) (ms0_1 t) (hs0_1 t) (ms0_2 t) (hs0_2 t) (ms0_3 t)
      (hs0_3 t) (ms0_4 t) (hs0_4 t) (ms0_5 t) (hs0_5 t) (ms0_6 t) (hs0_6 t) (ms0_7 t) (hs0_7 t) (ms0_8 t) (hs0_8 t) (ms0_9 t) (hs0_9 t) scM0_0
      (Memref.isWhole_whole _) (iblk m c 0 t) (iblk m c 1 t) (iblk m c 2 t) (iblk m c 3 t) (iblk m c 4 t) (iblk m c 5 t) (iblk m c 6 t)
      (iblk m c 7 t) y)
    = fun y : S128x128.Idx => (win0_9.blk t).view.read (Elt Ideal) (G9 m c) y
  funext y
  obtain ⟨b, l, rfl⟩ : ∃ (b l : Fin 128), y = ix2 b l := ⟨y 0, y 1, eq_ix2 y⟩
  rw [block_out, blk9]
  refine Eq.trans ?_ (StepRef.out_apply (S m c) (Q m c) (K m c) (X m c) (A m c) (B m c) (Z m c) (W m c) b (headOf t) l).symm
  exact StepBlock.gated_congr
    (StepBlock.rowAt_congr (in1 m c t b) (in2 m c t b) (in0 m c t b) (in4 m c t b) (in3 m c t b) (in5 m c t b))
    (in7 m c t) (in6 m c t b) l

/-! ## The points' blocks cover the arrays -/

theorem cover8 (i : S128x8x128x128.Idx) : ∃ t : Fin cfg0.N, (cfg0.win 8).flush t = true ∧ i ∈ ((cfg0.win 8).blk t).view.set := by
  have hN : cfg0.N = 8 := N_0
  have h0 : (i 0).val < 128 := (i 0).isLt
  have h1 : (i 1).val < 8 := (i 1).isLt
  have h2 : (i 2).val < 128 := (i 2).isLt
  have h3 : (i 3).val < 128 := (i 3).isLt
  refine ⟨⟨(i 1).val, by omega⟩, flush0_8 _, ?_⟩
  generalize ht : (⟨(i 1).val, by omega⟩ : Fin cfg0.N) = t
  have htv : t.val = (i 1).val := by rw [← ht]
  obtain ⟨e0, e1, e2, e3⟩ := (idx_state t).2
  show i ∈ ((View.whole main_v1_0).slice (win0_8.rect t)).set
  rw [View.set_slice_whole, Rect.mem_set_unit]
  intro a
  match a with
  | ⟨0, _⟩ =>
    show win0_8.index t 0 * 128 ≤ (i 0).val ∧ (i 0).val < win0_8.index t 0 * 128 + 128
    rw [e0]; omega
  | ⟨1, _⟩ =>
    show win0_8.index t 1 * 1 ≤ (i 1).val ∧ (i 1).val < win0_8.index t 1 * 1 + 1
    rw [e1]; omega
  | ⟨2, _⟩ =>
    show win0_8.index t 2 * 128 ≤ (i 2).val ∧ (i 2).val < win0_8.index t 2 * 128 + 128
    rw [e2]; omega
  | ⟨3, _⟩ =>
    show win0_8.index t 3 * 128 ≤ (i 3).val ∧ (i 3).val < win0_8.index t 3 * 128 + 128
    rw [e3]; omega

theorem cover9 (i : S128x1024.Idx) : ∃ t : Fin cfg0.N, (cfg0.win 9).flush t = true ∧ i ∈ ((cfg0.win 9).blk t).view.set := by
  have hN : cfg0.N = 8 := N_0
  have h0 : (i 0).val < 128 := (i 0).isLt
  have h1 : (i 1).val < 1024 := (i 1).isLt
  refine ⟨⟨(i 1).val / 128, by omega⟩, flush0_9 _, ?_⟩
  generalize ht : (⟨(i 1).val / 128, by omega⟩ : Fin cfg0.N) = t
  have htv : t.val = (i 1).val / 128 := by rw [← ht]
  obtain ⟨e0, e1⟩ := (idx_rows t).2.2.2.2.2
  show i ∈ ((View.whole main_v1_1).slice (win0_9.rect t)).set
  rw [View.set_slice_whole, Rect.mem_set_unit]
  intro a
  match a with
  | ⟨0, _⟩ =>
    show win0_9.index t 0 * 128 ≤ (i 0).val ∧ (i 0).val < win0_9.index t 0 * 128 + 128
    rw [e0]; omega
  | ⟨1, _⟩ =>
    show win0_9.index t 1 * 128 ≤ (i 1).val ∧ (i 1).val < win0_9.index t 1 * 128 + 128
    rw [e1]; omega

theorem final8 (c : Dev nD) : (dats m 0 c).arrAt 8 cfg0.N = G8 m c :=
  (dats m 0 c).arrAt_eq_of_cover 8 (G8 m c) (fun t _ => flushed8_eq m c t) cover8

theorem final9 (c : Dev nD) : (dats m 0 c).arrAt 9 cfg0.N = G9 m c :=
  (dats m 0 c).arrAt_eq_of_cover 9 (G9 m c) (fun t _ => flushed9_eq m c t) cover9

end Cert.StepValue

end
-- ==== Proof.StepClaims.lean ====
module

public import proofs.«01_k».proof.Defs
public import proofs.«01_k».proof.Proof.Gen.Step.Frame
public import proofs.«01_k».proof.Proof.Gen.StepIdeal.Value
public import proofs.«01_k».proof.Proof.Gen.StepReferenceIdeal.Run
public import proofs.«01_k».proof.Proof.StepValue
public import Idealize.ShloMosaic.Adequacy

@[expose] public section

/-! # The claims about the samples' delta rule step -/

noncomputable section

namespace Cert.StepClaims

open Idealize.ShloMosaic

theorem frame : Cert.quiescent_Step := fun m ρ _ => Cert.Step.Gen.frame m ρ

theorem frame_ideal : Cert.quiescent_StepIdeal := fun m ρ _ => Cert.StepIdeal.Gen.frame m ρ

theorem frame_reference : Cert.quiescent_StepReferenceIdeal := fun m ρ _ =>
  (θ_run Cert.StepReferenceIdeal.defs _ _).mono (fun r h => ⟨fun c => (h c).2.2, sem_eq_zero_of_no_sems (by decide) r.2⟩)
    (Cert.StepReferenceIdeal.Value.run (F := Ideal) m ρ)

theorem preserves : Cert.preserves_Step_StepIdeal := trivial

/-- Both programs end with the reference's values of the kernel's arguments. -/
theorem algebraic : Cert.algebraic_StepIdeal_StepReferenceIdeal := by
  intro m ρ m' ρ' _ hagree
  refine ⟨fun c => StepValue.G8 m c, fun c => StepValue.G9 m c, ?_, ?_⟩
  · refine (θ_run Cert.StepIdeal.defs _ _).mono (fun _ h c => ?_) (Cert.StepIdeal.Value.run_blocks (F := Ideal) m ρ)
    obtain ⟨h8, h9, hrest⟩ := h c
    exact ⟨h8.trans (StepValue.final8 m c), h9.trans (StepValue.final9 m c), hrest⟩
  · refine (θ_run Cert.StepReferenceIdeal.defs _ _).mono (fun _ h c => ?_) (Cert.StepReferenceIdeal.Value.run (F := Ideal) m' ρ')
    obtain ⟨e0, e1, e2, e3, e4, e5, e6, e7⟩ := hagree c
    obtain ⟨h8, h9, hrest⟩ := h c
    refine ⟨h8.trans ?_, h9.trans ?_, hrest⟩
    · refine (Cert.StepReferenceIdeal.Read.val_main_v18_eq (F := Ideal) _ _ _ _ _).trans ?_
      show Cert.StepReferenceIdeal.Read.val_main_v18 (F := Ideal) _ _ _ _ _ = Cert.StepReferenceIdeal.Read.val_main_v18 _ _ _ _ _
      rw [e0, e2, e3, e4, e5]
    · rw [Cert.StepReferenceIdeal.Read.val_main_v35_eq]
      show Cert.StepReferenceIdeal.Read.val_main_v35 (F := Ideal) _ _ _ _ _ _ _ _ = Cert.StepReferenceIdeal.Read.val_main_v35 _ _ _ _ _ _ _ _
      rw [e0, e1, e2, e3, e4, e5, e6, e7]

end Cert.StepClaims

end
-- ==== Proof.WinStage.lean ====
module

public import proofs.«01_k».proof.Proof.Gen.WinIdeal.Value
public import Idealize.ShloMosaic.Lib.Pointwise

@[expose] public section

set_option maxRecDepth 16384

/-! # The sample attention's stores, sample by sample

The body works on sixteen samples, each the same computation on its own rows. It is spelt out here once, and the three
outputs' stores are its instances. -/

noncomputable section

namespace Cert.WinStage

open Cert.WinIdeal Cert.WinIdeal.Gen Idealize.ShloMosaic Idealize.ShloMosaic.TcCoe Idealize.SL.Sem

/-- Sample `b`'s slab of a cache. -/
abbrev slab (b : Fin 16) : Rect S16x128x128 :=
  Rect.unit (s := S16x128x128) ![b.val, 0, 0] S1x128x128.size (by
    intro a
    match a with
    | ⟨0, _⟩ => show b.val + 1 ≤ 16; omega
    | ⟨1, _⟩ => show 0 + 128 ≤ 128; omega
    | ⟨2, _⟩ => show 0 + 128 ≤ 128; omega)

/-- Sample `b`'s slab of the queries. -/
abbrev slabQ (b : Fin 16) : Rect S16x8x128 :=
  Rect.unit (s := S16x8x128) ![b.val, 0, 0] S1x8x128.size (by
    intro a
    match a with
    | ⟨0, _⟩ => show b.val + 1 ≤ 16; omega
    | ⟨1, _⟩ => show 0 + 8 ≤ 8; omega
    | ⟨2, _⟩ => show 0 + 128 ≤ 128; omega)

/-- Sample `b`'s new key (`c = 0`) or value (`c = 1`). -/
abbrev fresh (b : Fin 16) (c : Fin 2) : Rect S16x256 :=
  Rect.unit (s := S16x256) ![b.val, 128 * c.val] S1x128.size (by
    intro a
    match a with
    | ⟨0, _⟩ => show b.val + 1 ≤ 16; omega
    | ⟨1, _⟩ => show 128 * c.val + 128 ≤ 256; omega)

abbrev all8 : Rect S8x128 := Rect.unit (s := S8x128) ![0, 0] S8x128.size inb_S8x128_S8x128_0_0

/-- A cache moved on by one token: its rows from the second on, then the new one. -/
def moved (n : Vec Ideal S1x128 .f32) (o : Vec Ideal S1x128x128 .f32) : FVec Ideal S128x128 .f32 := k0_pay6 n o

/-- The keys in four groups: each head of keys in the low lanes, then each in the high. -/
def keyCat (k : FVec Ideal S128x128 .f32) : FVec Ideal S512x128 .f32 :=
  k0_pay198 (k0_pay91 k0_pay3 k) (k0_pay92 k0_pay3 k) (k0_pay93 k0_pay3 k) (k0_pay94 k0_pay3 k)

/-- The values' heads side by side, each in both halves of its lanes. -/
def valCat (v : FVec Ideal S128x128 .f32) : FVec Ideal S128x256 .f32 := k0_pay214 (k0_pay95 k0_pay3 v) (k0_pay96 k0_pay3 v)

def scores (k : FVec Ideal S128x128 .f32) (q : Vec Ideal S1x8x128 .bf16) : FVec Ideal S8x512 .f32 := k0_pay230 (keyCat k) q

/-- One sample's output from its scores, its values and the two rows of sinks. -/
def attend (sc : FVec Ideal S8x512 .f32) (v : FVec Ideal S128x128 .f32) (k1 k2 : Vec Ideal S8x128 .f32) : FVec Ideal S1x8x128 .bf16 :=
  k0_pay452 k0_pay4 k0_pay5 (k0_pay274 k0_pay4 sc k1) (k0_pay279 k0_pay4 sc k2)
    (k0_pay433 (valCat v) (k0_pay280 k0_pay4 sc (k0_pay273 k0_pay4 sc k1) k2))

variable (x0 : Vec Ideal S16x8x128 .bf16) (x1 : Vec Ideal S16x256 .f32) (x2 x3 : Vec Ideal S16x128x128 .f32) (x4 x5 : Vec Ideal S8x128 .f32)

/-- What is stored of sample `b`'s keys (`c = 0`) or values (`c = 1`). -/
def cachePiece (c : Fin 2) (x : Vec Ideal S16x128x128 .f32) (b : Fin 16) : View.Piece (Elt Ideal) S16x128x128 .f32 :=
  ⟨slab b, k0_pay41 (moved (View.ld x1 (fresh b c)) (View.ld x (slab b)))⟩

/-- What is stored of sample `b`'s output. -/
def outPiece (b : Fin 16) : View.Piece (Elt Ideal) S16x8x128 .bf16 :=
  ⟨slabQ b, attend (scores (moved (View.ld x1 (fresh b 0)) (View.ld x2 (slab b))) (View.ld x0 (slabQ b)))
    (moved (View.ld x1 (fresh b 1)) (View.ld x3 (slab b))) (View.ld x4 all8) (View.ld x5 all8)⟩

/-- The samples, last first. -/
abbrev samples : List (Fin 16) := [15, 14, 13, 12, 11, 10, 9, 8, 7, 6, 5, 4, 3, 2, 1, 0]

theorem keys_eq : out0_7 (F := Ideal) x0 x1 x2 x3 x4 x5 = View.canon (samples.map (cachePiece x1 0 x2)) := by
  sl_kernel_rfl

theorem vals_eq : out0_8 (F := Ideal) x0 x1 x2 x3 x4 x5 = View.canon (samples.map (cachePiece x1 1 x3)) := by
  sl_kernel_rfl

theorem out_eq : out0_6 (F := Ideal) x0 x1 x2 x3 x4 x5 = View.canon (samples.map (outPiece x0 x1 x2 x3 x4 x5)) := by
  sl_kernel_rfl

end Cert.WinStage

end
-- ==== Proof.WinBlock.lean ====
module

public import proofs.«01_k».proof.Proof.WinStage
public import proofs.«01_k».proof.Proof.SwaBlock

@[expose] public section

set_option maxRecDepth 16384

/-! # The sample attention's block, element by element -/

noncomputable section

namespace Cert.WinBlock

open Cert.WinIdeal Cert.WinIdeal.Gen Cert.WinStage Idealize.ShloMosaic Idealize.ShloMosaic.TcCoe Idealize.SL.Sem
open Idealize.ShloMosaic.WordCmp
open Cert.SwaBlock (laneOf select_lane)

/-! ## The caches -/

/-- Row `u` of a cache moved on by one token. -/
abbrev movedAt (new : Fin 128 → EReal) (old : Fin 128 → Fin 128 → EReal) (u x : Fin 128) : EReal :=
  if u.val = 127 then new x else old ⟨(u.val + 1) % 128, by omega⟩ x

theorem select_last {α : Type} (u : Fin 128) (x y : α) :
    Scalar.select (IntOp.cmpi .eq (BitVec.ofNat 32 u.val) 127#32) x y = if u.val = 127 then x else y := by
  rw [show (127#32 : BitVec 32) = BitVec.ofNat 32 127 from rfl, cmpi_eq_ofNat (by norm_num; omega) (by norm_num), SwaBlock.select_ofBool]
  simp only [decide_eq_true_eq]

theorem moved_apply (n : Vec Ideal S1x128 .f32) (o : Vec Ideal S1x128x128 .f32) (u x : Fin 128) :
    moved n o (ix2 u x) = movedAt (fun x => n (ix2 0 x)) (fun u x => o (ix3 0 u x)) u x := by
  pointwise [moved, k0_pay6, k0_pay2]
  rw [select_last]
  rfl

theorem ld_slab (x : Vec Ideal S16x128x128 .f32) (b : Fin 16) (u l : Fin 128) : View.ld x (slab b) (ix3 0 u l) = x (ix3 b u l) := by
  refine congrArg x (funext fun a => Fin.ext ?_)
  match a with
  | ⟨0, _⟩ => show b.val + 1 * 0 = b.val; omega
  | ⟨1, _⟩ => show 0 + 1 * u.val = u.val; omega
  | ⟨2, _⟩ => show 0 + 1 * l.val = l.val; omega

theorem ld_fresh (x : Vec Ideal S16x256 .f32) (b : Fin 16) (c : Fin 2) (l : Fin 128) :
    View.ld x (fresh b c) (ix2 0 l) = x (ix2 b ⟨c.val * 128 + l.val, by omega⟩) := by
  refine congrArg x (funext fun a => Fin.ext ?_)
  match a with
  | ⟨0, _⟩ => show b.val + 1 * 0 = b.val; omega
  | ⟨1, _⟩ => show 128 * c.val + 1 * l.val = c.val * 128 + l.val; omega

theorem ld_slabQ (x : Vec Ideal S16x8x128 .bf16) (b : Fin 16) (j : Fin 8) (l : Fin 128) : View.ld x (slabQ b) (ix3 0 j l) = x (ix3 b j l) := by
  refine congrArg x (funext fun a => Fin.ext ?_)
  match a with
  | ⟨0, _⟩ => show b.val + 1 * 0 = b.val; omega
  | ⟨1, _⟩ => show 0 + 1 * j.val = j.val; omega
  | ⟨2, _⟩ => show 0 + 1 * l.val = l.val; omega

theorem ld_all8 (x : Vec Ideal S8x128 .f32) (j : Fin 8) (l : Fin 128) : View.ld x all8 (ix2 j l) = x (ix2 j l) := by
  refine congrArg x (funext fun a => Fin.ext ?_)
  match a with
  | ⟨0, _⟩ => show 0 + 1 * j.val = j.val; omega
  | ⟨1, _⟩ => show 0 + 1 * l.val = l.val; omega

/-- Sample `b`'s keys (`c = 0`) or values (`c = 1`) with the new token's. -/
abbrev cacheAt (x1 : Vec Ideal S16x256 .f32) (c : Fin 2) (x : Vec Ideal S16x128x128 .f32) (b : Fin 16) (u l : Fin 128) : EReal :=
  movedAt (fun l => x1 (ix2 b ⟨c.val * 128 + l.val, by omega⟩)) (fun u l => x (ix3 b u l)) u l

theorem moved_ld (x1 : Vec Ideal S16x256 .f32) (c : Fin 2) (x : Vec Ideal S16x128x128 .f32) (b : Fin 16) (u l : Fin 128) :
    moved (View.ld x1 (fresh b c)) (View.ld x (slab b)) (ix2 u l) = cacheAt x1 c x b u l := by
  rw [moved_apply]
  exact if_congr Iff.rfl (ld_fresh x1 b c l) (ld_slab x b _ l)

/-- A block of a cache as the body leaves it. -/
abbrev cacheOut (x1 : Vec Ideal S16x256 .f32) (c : Fin 2) (x : Vec Ideal S16x128x128 .f32) (y : S16x128x128.Idx) : Elt Ideal .f32 :=
  cacheAt x1 c x (y 0) (y 1) (y 2)

theorem emb_slab (b : Fin 16) (z : S1x128x128.Idx) : (slab b).emb z = ix3 b (z 1) (z 2) := by
  refine funext fun a => Fin.ext ?_
  match a with
  | ⟨0, _⟩ => show b.val + 1 * (z 0).val = b.val; have h : (z 0).val < 1 := (z 0).isLt; omega
  | ⟨1, _⟩ => show 0 + 1 * (z 1).val = (z 1).val; omega
  | ⟨2, _⟩ => show 0 + 1 * (z 2).val = (z 2).val; omega

theorem emb_slabQ (b : Fin 16) (z : S1x8x128.Idx) : (slabQ b).emb z = ix3 b (z 1) (z 2) := by
  refine funext fun a => Fin.ext ?_
  match a with
  | ⟨0, _⟩ => show b.val + 1 * (z 0).val = b.val; have h : (z 0).val < 1 := (z 0).isLt; omega
  | ⟨1, _⟩ => show 0 + 1 * (z 1).val = (z 1).val; omega
  | ⟨2, _⟩ => show 0 + 1 * (z 2).val = (z 2).val; omega

theorem mem_samples : ∀ b : Fin 16, b ∈ samples := by decide

theorem cache_piece (x1 : Vec Ideal S16x256 .f32) (c : Fin 2) (x : Vec Ideal S16x128x128 .f32) (b : Fin 16) (z : S1x128x128.Idx) :
    (cachePiece x1 c x b).2 z = cacheOut x1 c x ((slab b).emb z) := by
  rw [emb_slab]
  obtain ⟨o, u, l, rfl⟩ : ∃ (o : Fin 1) (u l : Fin 128), z = ix3 o u l := ⟨z 0, z 1, z 2, eq_ix3 z⟩
  refine Eq.trans ?_ (moved_ld x1 c x b u l)
  show k0_pay41 (moved (View.ld x1 (fresh b c)) (View.ld x (slab b))) (ix3 o u l) = _
  generalize moved (View.ld x1 (fresh b c)) (View.ld x (slab b)) = A
  pointwise [k0_pay41]

theorem cache_canon (x1 : Vec Ideal S16x256 .f32) (c : Fin 2) (x : Vec Ideal S16x128x128 .f32) (y : S16x128x128.Idx) :
    View.canon (samples.map (cachePiece x1 c x)) y = cacheOut x1 c x y := by
  refine View.canon_apply_of_pieces (cacheOut x1 c x) _ (fun p hp z => ?_) y
    ⟨cachePiece x1 c x (y 0), List.mem_map.2 ⟨y 0, mem_samples _, rfl⟩, ?_⟩
  · obtain ⟨b, -, rfl⟩ := List.mem_map.1 hp
    exact cache_piece x1 c x b z
  · show y ∈ (slab (y 0)).set
    rw [Rect.mem_set_unit]
    intro a
    match a with
    | ⟨0, _⟩ => show (y 0).val ≤ (y 0).val ∧ (y 0).val < (y 0).val + 1; omega
    | ⟨1, _⟩ => show 0 ≤ (y 1).val ∧ (y 1).val < 0 + 128; have h : (y 1).val < 128 := (y 1).isLt; omega
    | ⟨2, _⟩ => show 0 ≤ (y 2).val ∧ (y 2).val < 0 + 128; have h : (y 2).val < 128 := (y 2).isLt; omega

/-! ## The scores and the values -/

/-- Head `c` of the keys of row `u` against the query lanes `64 * h …` of pair `j`. -/
abbrev score (h c : Fin 2) (q : Fin 128 → EReal) (k : Fin 128 → Fin 128 → EReal) (u : Fin 128) : EReal :=
  (∑ d : Fin 64, k u ⟨c.val * 64 + d.val, by omega⟩ * q ⟨h.val * 64 + d.val, by omega⟩) * Ideal.ofBits .f32 1040187392#32

theorem products (kc : FVec Ideal S512x128 .f32) (q : Vec Ideal S1x8x128 .bf16) (j : Fin 8) (t : Fin 512) :
    k0_pay230 kc q (ix2 j t) = ∑ x, q (ix3 0 j x) * Ideal.ofBits .bf16 15872#16 * kc (ix2 t x) := by
  pointwise [k0_pay230]

theorem keys_apply (k : FVec Ideal S128x128 .f32) (u x : Fin 128) :
    keyCat k (ix2 ⟨u.val, by omega⟩ x) = (if x.val < 64 then k (ix2 u (laneOf 0 x)) else 0)
    ∧ keyCat k (ix2 ⟨128 + u.val, by omega⟩ x) = (if x.val < 64 then k (ix2 u (laneOf 1 x)) else 0)
    ∧ keyCat k (ix2 ⟨256 + u.val, by omega⟩ x) = (if x.val < 64 then 0 else k (ix2 u (laneOf 0 x)))
    ∧ keyCat k (ix2 ⟨384 + u.val, by omega⟩ x) = (if x.val < 64 then 0 else k (ix2 u (laneOf 1 x))) := by
  pointwise [keyCat, k0_pay198, k0_pay91, k0_pay92, k0_pay93, k0_pay94, k0_pay89, k0_pay3]
  simp only [select_lane]
  have e3 : ∀ h, (⟨256 + u.val - 128 - 128, h⟩ : Fin 128) = u := fun h => Fin.ext (by show 256 + u.val - 128 - 128 = u.val; omega)
  have e4 : ∀ h, (⟨384 + u.val - 128 - 128 - 128, h⟩ : Fin 128) = u := fun h => Fin.ext (by show 384 + u.val - 128 - 128 - 128 = u.val; omega)
  refine ⟨?_, ?_, ?_, ?_⟩
  · exact SwaBlock.low_half x fun h => congrArg (fun b => k (ix2 u b)) (SwaBlock.lane_lo0 x h)
  · exact SwaBlock.low_half x fun h => congrArg (fun b => k (ix2 u b)) (SwaBlock.lane_lo1 x h _)
  · rw [dif_neg (by omega), dif_neg (by omega), dif_pos (by omega), e3]
    exact SwaBlock.high_half x fun h => congrArg (fun b => k (ix2 u b)) (SwaBlock.lane_hi0 x h _)
  · rw [dif_neg (by omega), dif_neg (by omega), dif_neg (by omega), e4]
    exact SwaBlock.high_half x fun h => congrArg (fun b => k (ix2 u b)) (SwaBlock.lane_hi1 x h)

theorem vals_apply (v : FVec Ideal S128x128 .f32) (u x : Fin 128) :
    valCat v (ix2 u ⟨x.val, by omega⟩) = v (ix2 u (laneOf 0 x)) ∧ valCat v (ix2 u ⟨128 + x.val, by omega⟩) = v (ix2 u (laneOf 1 x)) := by
  pointwise [valCat, k0_pay214, k0_pay95, k0_pay96, k0_pay90, k0_pay3]
  simp only [select_lane]
  by_cases h : x.val < 64
  · rw [if_pos h, if_pos h, ← SwaBlock.lane_lo0 x h, SwaBlock.lane_lo1 x h]
    exact ⟨rfl, rfl⟩
  · rw [if_neg h, if_neg h, SwaBlock.lane_hi0 x h, ← SwaBlock.lane_hi1 x h]
    exact ⟨rfl, rfl⟩

/-- The products with keys that fill the low lanes are the first head's scores. -/
theorem lo_score (c : Fin 2) (q : Fin 128 → EReal) (k : Fin 128 → Fin 128 → EReal) (u : Fin 128) :
    ∑ x : Fin 128, q x * Ideal.ofBits .bf16 15872#16 * (if x.val < 64 then k u (laneOf c x) else 0) = score 0 c q k u := by
  rw [SwaBlock.sum_lo (fun x => q x * Ideal.ofBits .bf16 15872#16) fun x => k u (laneOf c x)]
  simp only [SwaBlock.mod_lo]
  rw [SwaBlock.scaled (fun d : Fin 64 => q (Fin.castAdd 64 d)) fun d => k u ⟨c.val * 64 + d.val, by omega⟩]
  refine congrArg (· * _) (Finset.sum_congr rfl fun d _ => congrArg (fun b => k u ⟨c.val * 64 + d.val, by omega⟩ * q b) (Fin.ext ?_))
  show d.val = 0 * 64 + d.val
  omega

/-- The products with keys that fill the high lanes are the second head's scores. -/
theorem hi_score (c : Fin 2) (q : Fin 128 → EReal) (k : Fin 128 → Fin 128 → EReal) (u : Fin 128) :
    ∑ x : Fin 128, q x * Ideal.ofBits .bf16 15872#16 * (if x.val < 64 then 0 else k u (laneOf c x)) = score 1 c q k u := by
  rw [SwaBlock.sum_hi (fun x => q x * Ideal.ofBits .bf16 15872#16) fun x => k u (laneOf c x)]
  simp only [SwaBlock.mod_hi]
  rw [SwaBlock.scaled (fun d : Fin 64 => q (Fin.natAdd 64 d)) fun d => k u ⟨c.val * 64 + d.val, by omega⟩]
  refine congrArg (· * _) (Finset.sum_congr rfl fun d _ => congrArg (fun b => k u ⟨c.val * 64 + d.val, by omega⟩ * q b) (Fin.ext ?_))
  show 64 + d.val = 1 * 64 + d.val
  omega

/-- The key head of pair `j`. -/
abbrev keyHead (j : Fin 8) : Fin 2 := ⟨j.val / 4, by omega⟩

theorem select_head {α : Type} (j : Fin 8) (f : Fin 2 → α) :
    Scalar.select (IntOp.cmpi .slt (BitVec.ofNat 32 j.val) 4#32) (f 0) (f 1) = f (keyHead j) := by
  rw [show (4#32 : BitVec 32) = BitVec.ofNat 32 4 from rfl, cmpi_slt_ofNat (by norm_num; omega) (by norm_num), SwaBlock.select_ofBool]
  simp only [decide_eq_true_eq]
  by_cases h : j.val < 4
  · rw [if_pos h]; exact congrArg f (Fin.ext (by show 0 = j.val / 4; omega))
  · rw [if_neg h]; exact congrArg f (Fin.ext (by show 1 = j.val / 4; omega))

theorem scores_lo (k : FVec Ideal S128x128 .f32) (q : Vec Ideal S1x8x128 .bf16) (j : Fin 8) (u : Fin 128) :
    k0_pay270 k0_pay4 (scores k q) (ix2 j u) = score 0 (keyHead j) (fun x => q (ix3 0 j x)) (fun u x => k (ix2 u x)) u := by
  have hp := products (keyCat k) q j
  have hk := keys_apply k u
  unfold scores
  generalize k0_pay230 (keyCat k) q = S at hp ⊢
  pointwise [k0_pay270, k0_pay4]
  rw [hp, hp]
  simp only [(hk _).1, (hk _).2.1]
  refine Eq.trans (select_head j fun c => ∑ x : Fin 128, q (ix3 0 j x) * Ideal.ofBits .bf16 15872#16 * (if x.val < 64 then k (ix2 u (laneOf c x)) else 0)) ?_
  exact lo_score (keyHead j) (fun x => q (ix3 0 j x)) (fun u x => k (ix2 u x)) u

theorem scores_hi (k : FVec Ideal S128x128 .f32) (q : Vec Ideal S1x8x128 .bf16) (j : Fin 8) (u : Fin 128) :
    k0_pay275 k0_pay4 (scores k q) (ix2 j u) = score 1 (keyHead j) (fun x => q (ix3 0 j x)) (fun u x => k (ix2 u x)) u := by
  have hp := products (keyCat k) q j
  have hk := keys_apply k u
  unfold scores
  generalize k0_pay230 (keyCat k) q = S at hp ⊢
  pointwise [k0_pay275, k0_pay4]
  rw [hp, hp]
  simp only [(hk _).2.2.1, (hk _).2.2.2]
  refine Eq.trans (select_head j fun c => ∑ x : Fin 128, q (ix3 0 j x) * Ideal.ofBits .bf16 15872#16 * (if x.val < 64 then 0 else k (ix2 u (laneOf c x)))) ?_
  exact hi_score (keyHead j) (fun x => q (ix3 0 j x)) (fun u x => k (ix2 u x)) u

/-! ## A sample's attention -/

section attend

variable (sc : FVec Ideal S8x512 .f32) (v : FVec Ideal S128x128 .f32) (k1 k2 : Vec Ideal S8x128 .f32) (j : Fin 8)

theorem weight_lo (u : Fin 128) : k0_pay273 k0_pay4 sc k1 (ix2 j u)
    = Ideal.exp (k0_pay270 k0_pay4 sc (ix2 j u) - SwaRow.top (fun u => k0_pay270 k0_pay4 sc (ix2 j u)) (k1 (ix2 j u))) := by
  unfold k0_pay273 k0_pay272
  generalize k0_pay270 k0_pay4 sc = s
  pointwise [k0_pay271]
  simp only [SwaBlock.neg_inf]
  rfl

theorem weight_hi (u : Fin 128) : k0_pay278 k0_pay4 sc k2 (ix2 j u)
    = Ideal.exp (k0_pay275 k0_pay4 sc (ix2 j u) - SwaRow.top (fun u => k0_pay275 k0_pay4 sc (ix2 j u)) (k2 (ix2 j u))) := by
  unfold k0_pay278 k0_pay277
  generalize k0_pay275 k0_pay4 sc = s
  pointwise [k0_pay276]
  simp only [SwaBlock.neg_inf]
  rfl

theorem den_lo (k : EReal) (hk : ∀ l, k1 (ix2 j l) = k) (x : Fin 128) :
    k0_pay274 k0_pay4 sc k1 (ix2 j x) = SwaRow.den (fun u => k0_pay270 k0_pay4 sc (ix2 j u)) k := by
  have hw := fun u => (weight_lo sc k1 j u).trans (by rw [hk])
  unfold k0_pay274 k0_pay272
  generalize k0_pay273 k0_pay4 sc k1 = w at hw ⊢
  generalize k0_pay270 k0_pay4 sc = s at hw ⊢
  pointwise [k0_pay271]
  simp only [SwaBlock.neg_inf, hk, hw]
  rfl

theorem den_hi (k : EReal) (hk : ∀ l, k2 (ix2 j l) = k) (x : Fin 128) :
    k0_pay279 k0_pay4 sc k2 (ix2 j x) = SwaRow.den (fun u => k0_pay275 k0_pay4 sc (ix2 j u)) k := by
  have hw := fun u => (weight_hi sc k2 j u).trans (by rw [hk])
  unfold k0_pay279 k0_pay277
  generalize k0_pay278 k0_pay4 sc k2 = w at hw ⊢
  generalize k0_pay275 k0_pay4 sc = s at hw ⊢
  pointwise [k0_pay276]
  simp only [SwaBlock.neg_inf, hk, hw]
  rfl

/-- One head's output: the weighted sum of the values over the weights' sum. -/
abbrev rowOut (s : Fin 128 → EReal) (k : EReal) (v : Fin 128 → EReal) : EReal :=
  Ideal.div (∑ u, Ideal.exp (s u - SwaRow.top s k) * v u) (SwaRow.den s k)

/-- The two heads' weights, stacked, times the values. -/
theorem product_apply (w1 w2 : FVec Ideal S8x128 .f32) (vc : FVec Ideal S128x256 .f32) (t : Fin 256)
    (hc : Shape.Concatenates [S8x128, S8x128] S16x128 0) :
    k0_pay433 vc (concatenate S16x128 0 [⟨S8x128, w1⟩, ⟨S8x128, w2⟩] hc) (ix2 ⟨j.val, by omega⟩ t) = ∑ u, w1 (ix2 j u) * vc (ix2 u t)
    ∧ k0_pay433 vc (concatenate S16x128 0 [⟨S8x128, w1⟩, ⟨S8x128, w2⟩] hc) (ix2 ⟨8 + j.val, by omega⟩ t) = ∑ u, w2 (ix2 j u) * vc (ix2 u t) := by
  pointwise [k0_pay433]

theorem attend_apply (k : Fin 2 → EReal) (h1 : ∀ l, k1 (ix2 j l) = k 0) (h2 : ∀ l, k2 (ix2 j l) = k 1) (S : Fin 2 → Fin 128 → EReal)
    (e1 : ∀ u, k0_pay270 k0_pay4 sc (ix2 j u) = S 0 u) (e2 : ∀ u, k0_pay275 k0_pay4 sc (ix2 j u) = S 1 u) (x : Fin 128) :
    attend sc v k1 k2 (ix3 0 j x)
      = rowOut (S ⟨x.val / 64, by omega⟩) (k ⟨x.val / 64, by omega⟩) (fun u => v (ix2 u (laneOf (keyHead j) x))) := by
  have d1 := den_lo sc k1 j (k 0) h1 x
  have d2 := den_hi sc k2 j (k 1) h2 x
  have w1 := fun u => (weight_lo sc k1 j u).trans (by rw [h1])
  have w2 := fun u => (weight_hi sc k2 j u).trans (by rw [h2])
  simp only [e1] at d1 w1
  simp only [e2] at d2 w2
  have hp := fun t => product_apply j (k0_pay273 k0_pay4 sc k1) (k0_pay278 k0_pay4 sc k2) (valCat v) t concatenates_S8x128_S8x128_S16x128_d0
  simp only [w1, w2] at hp
  have hv := fun u => vals_apply v u x
  unfold attend k0_pay280
  generalize k0_pay433 (valCat v) _ = P at hp ⊢
  generalize k0_pay274 k0_pay4 sc k1 = D1 at d1 ⊢
  generalize k0_pay279 k0_pay4 sc k2 = D2 at d2 ⊢
  pointwise [k0_pay452, k0_pay4, k0_pay5]
  rw [select_lane, d1, d2, (hp _).1, (hp _).1, (hp _).2, (hp _).2]
  simp only [(hv _).1, (hv _).2]
  rw [select_head j fun c => ∑ u, Ideal.exp (S 0 u - SwaRow.top (S 0) (k 0)) * v (ix2 u (laneOf c x)),
    select_head j fun c => ∑ u, Ideal.exp (S 1 u - SwaRow.top (S 1) (k 1)) * v (ix2 u (laneOf c x))]
  by_cases hx : x.val < 64
  · rw [if_pos hx]
    have e : (⟨x.val / 64, by omega⟩ : Fin 2) = 0 := Fin.ext (by show x.val / 64 = 0; omega)
    rw [e]
  · rw [if_neg hx]
    have e : (⟨x.val / 64, by omega⟩ : Fin 2) = 1 := Fin.ext (by show x.val / 64 = 1; omega)
    rw [e]

end attend

/-! ## The block of the output -/

section block

variable (x0 : Vec Ideal S16x8x128 .bf16) (x1 : Vec Ideal S16x256 .f32) (x2 x3 : Vec Ideal S16x128x128 .f32) (x4 x5 : Vec Ideal S8x128 .f32)
  (T : Fin 8 → Fin 2 → EReal)

/-- Sample `b`'s output at pair `j` and lane `x`, the pair's sinks being `T j`. -/
abbrev outAt (b : Fin 16) (j : Fin 8) (x : Fin 128) : EReal :=
  rowOut (score ⟨x.val / 64, by omega⟩ (keyHead j) (fun x => x0 (ix3 b j x)) (cacheAt x1 0 x2 b)) (T j ⟨x.val / 64, by omega⟩)
    (fun u => cacheAt x1 1 x3 b u (laneOf (keyHead j) x))

abbrev blockOut (y : S16x8x128.Idx) : Elt Ideal .bf16 := outAt x0 x1 x2 x3 T (y 0) (y 1) (y 2)

theorem out_piece (h1 : ∀ j l, x4 (ix2 j l) = T j 0) (h2 : ∀ j l, x5 (ix2 j l) = T j 1) (b : Fin 16) (z : S1x8x128.Idx) :
    (outPiece x0 x1 x2 x3 x4 x5 b).2 z = blockOut x0 x1 x2 x3 T ((slabQ b).emb z) := by
  rw [emb_slabQ]
  obtain ⟨o, j, x, rfl⟩ : ∃ (o : Fin 1) (j : Fin 8) (x : Fin 128), z = ix3 o j x := ⟨z 0, z 1, z 2, eq_ix3 z⟩
  obtain rfl : o = 0 := Subsingleton.elim _ _
  have hs := fun h : Fin 2 => show score h (keyHead j) (fun x => View.ld x0 (slabQ b) (ix3 0 j x))
      (fun u x => moved (View.ld x1 (fresh b 0)) (View.ld x2 (slab b)) (ix2 u x)) = score h (keyHead j) (fun x => x0 (ix3 b j x)) (cacheAt x1 0 x2 b) from
    congrArg₂ (score h (keyHead j)) (funext fun x => ld_slabQ x0 b j x) (funext fun u => funext fun x => moved_ld x1 0 x2 b u x)
  refine (attend_apply (scores (moved (View.ld x1 (fresh b 0)) (View.ld x2 (slab b))) (View.ld x0 (slabQ b)))
    (moved (View.ld x1 (fresh b 1)) (View.ld x3 (slab b))) (View.ld x4 all8) (View.ld x5 all8) j (T j)
    (fun l => (ld_all8 x4 j l).trans (h1 j l)) (fun l => (ld_all8 x5 j l).trans (h2 j l))
    (fun h => score h (keyHead j) (fun x => x0 (ix3 b j x)) (cacheAt x1 0 x2 b))
    (fun u => (scores_lo _ _ j u).trans (congrFun (hs 0) u)) (fun u => (scores_hi _ _ j u).trans (congrFun (hs 1) u)) x).trans ?_
  exact congrArg (rowOut _ _) (funext fun u => moved_ld x1 1 x3 b u _)

theorem out_canon (h1 : ∀ j l, x4 (ix2 j l) = T j 0) (h2 : ∀ j l, x5 (ix2 j l) = T j 1) (y : S16x8x128.Idx) :
    View.canon (samples.map (outPiece x0 x1 x2 x3 x4 x5)) y = blockOut x0 x1 x2 x3 T y := by
  refine View.canon_apply_of_pieces (blockOut x0 x1 x2 x3 T) _ (fun p hp z => ?_) y
    ⟨outPiece x0 x1 x2 x3 x4 x5 (y 0), List.mem_map.2 ⟨y 0, mem_samples _, rfl⟩, ?_⟩
  · obtain ⟨b, -, rfl⟩ := List.mem_map.1 hp
    exact out_piece x0 x1 x2 x3 x4 x5 T h1 h2 b z
  · show y ∈ (slabQ (y 0)).set
    rw [Rect.mem_set_unit]
    intro a
    match a with
    | ⟨0, _⟩ => show (y 0).val ≤ (y 0).val ∧ (y 0).val < (y 0).val + 1; omega
    | ⟨1, _⟩ => show 0 ≤ (y 1).val ∧ (y 1).val < 0 + 8; have h : (y 1).val < 8 := (y 1).isLt; omega
    | ⟨2, _⟩ => show 0 ≤ (y 2).val ∧ (y 2).val < 0 + 128; have h : (y 2).val < 128 := (y 2).isLt; omega

end block

end Cert.WinBlock

end
-- ==== Proof.WinRef.lean ====
module

public import proofs.«01_k».proof.Proof.Gen.WinReferenceIdeal.Read
public import proofs.«01_k».proof.Proof.WinBlock
public import proofs.«01_k».proof.Proof.SwaRef

@[expose] public section

set_option maxRecDepth 16384

/-! # The sample attention's reference, row by row

The reference weighs 129 keys, the first of them out of sight; the kernel weighs the other 128. -/

noncomputable section

namespace Cert.WinRef

open Cert.WinReferenceIdeal Cert.WinReferenceIdeal.Read Idealize.ShloMosaic Idealize.ShloMosaic.WordCmp
open Cert.WinBlock (movedAt rowOut score keyHead)
open Cert.SwaBlock (laneOf)

/-! ## A key out of sight weighs nothing -/

section drop

variable {n : ℕ} {S : Fin (n + 1) → EReal} (h : S 0 = ⊥) (k : EReal)
include h

theorem top_succ : SwaRow.top S k = SwaRow.top (fun u => S u.succ) k := by
  unfold SwaRow.top
  rw [Fin.univ_succ, Finset.sup_cons, h, bot_sup_eq, Finset.sup_map]
  rfl

theorem den_succ : SwaRow.den S k = SwaRow.den (fun u => S u.succ) k := by
  unfold SwaRow.den
  rw [top_succ h, Fin.sum_univ_succ, h, SwaRow.exp_bot, zero_add]

theorem sum_succ (v : Fin (n + 1) → EReal) : ∑ u, Ideal.exp (S u - SwaRow.top S k) * v u
    = ∑ u : Fin n, Ideal.exp (S u.succ - SwaRow.top (fun u => S u.succ) k) * v u.succ := by
  rw [top_succ h, Fin.sum_univ_succ, h, SwaRow.exp_bot, zero_mul, zero_add]

end drop

variable (Q : (⟨S128x1024, .bf16⟩ : BufTy).Contents (Elt Ideal)) (K : (⟨S128x256, .f32⟩ : BufTy).Contents (Elt Ideal))
  (A B : (⟨S128x128x2x64, .f32⟩ : BufTy).Contents (Elt Ideal)) (T : (⟨S16, .f32⟩ : BufTy).Contents (Elt Ideal))

/-! ## The caches -/

/-- Head and lane of a lane of the two heads side by side. -/
abbrev headOf (l : Fin 128) : Fin 2 := ⟨l.val / 64, by omega⟩
abbrev inHead (l : Fin 128) : Fin 64 := ⟨l.val % 64, by omega⟩

/-- Sample `b`'s keys, the two heads side by side, with the new token's. -/
abbrev keysNow (b u l : Fin 128) : EReal := movedAt (fun l => K (ix2 b ⟨0 * 128 + l.val, by omega⟩)) (fun u l => A (ix4 b u (headOf l) (inHead l))) u l

abbrev valsNow (b u l : Fin 128) : EReal := movedAt (fun l => K (ix2 b ⟨1 * 128 + l.val, by omega⟩)) (fun u l => B (ix4 b u (headOf l) (inHead l))) u l

theorem keys_apply (b u l : Fin 128) : val_main_v4 (F := Ideal) K A (ix4 b u.succ (headOf l) (inHead l)) = keysNow K A b u l := by
  unfold keysNow movedAt
  pointwise [val_main_v4, val_main_v1, val_main_v0]
  by_cases h : u.val = 127
  · rw [if_pos h, dif_neg (by show ¬ u.val + 1 < 128; omega)]
  · rw [if_neg h, dif_pos (by show u.val + 1 < 128; omega)]
    exact congrArg (fun x => A (ix4 b x (headOf l) (inHead l))) (Fin.ext (by show u.val + 1 = (u.val + 1) % 128; omega))

theorem vals_apply (b u l : Fin 128) : val_main_v5 (F := Ideal) K B (ix4 b u.succ (headOf l) (inHead l)) = valsNow K B b u l := by
  unfold valsNow movedAt
  pointwise [val_main_v5, val_main_v3, val_main_v2]
  by_cases h : u.val = 127
  · rw [if_pos h, dif_neg (by show ¬ u.val + 1 < 128; omega)]
  · rw [if_neg h, dif_pos (by show u.val + 1 < 128; omega)]
    exact congrArg (fun x => B (ix4 b x (headOf l) (inHead l))) (Fin.ext (by show u.val + 1 = (u.val + 1) % 128; omega))

theorem cacheK_apply (b u l : Fin 128) : val_main_v50 (F := Ideal) K A (ix3 b u l) = keysNow K A b u l := by
  rw [← keys_apply]
  unfold val_main_v50 val_main_v49
  generalize val_main_v4 (F := Ideal) K A = X
  pointwise
  exact congrArg (fun x => X (ix4 b x (headOf l) (inHead l))) (Fin.ext (Nat.add_comm 1 u.val))

theorem cacheV_apply (b u l : Fin 128) : val_main_v52 (F := Ideal) K B (ix3 b u l) = valsNow K B b u l := by
  rw [← vals_apply]
  unfold val_main_v52 val_main_v51
  generalize val_main_v5 (F := Ideal) K B = X
  pointwise
  exact congrArg (fun x => X (ix4 b x (headOf l) (inHead l))) (Fin.ext (Nat.add_comm 1 u.val))

/-! ## The scores -/

abbrev query (b : Fin 128) (j : Fin 8) (x : Fin 128) : EReal := Q (ix2 b ⟨j.val * 128 + x.val, by omega⟩)

theorem mask_bits (s : Fin 129) : val_main_v24 (F := Ideal) (ix2 0 s) = BitVec.ofBool (decide (0 < s.val)) := by
  have e : IntOp.subi (IntOp.addi (BitVec.ofNat 32 0) 128#32) (BitVec.ofNat 32 s.val) = BitVec.ofNat 32 (128 - s.val) := by
    show (BitVec.ofNat 32 128) - BitVec.ofNat 32 s.val = _
    rw [BitVec.ofNat_sub_ofNat_of_le _ _ (by omega) (by omega)]
  pointwise [val_main_v24, val_main_v23, val_main_v22, val_main_v21, val_main_v20, val_main_v19, val_main_v18, val_main_v17, val_main_v16,
    val_main_v15, val_main_v14, val_main_v13, val_main_v12, val_main_c, val_main_c_0, val_main_c_1]
  rw [e, cmpi_sge_eq, cmpi_slt_eq, andi_ofBool]
  refine congrArg BitVec.ofBool ?_
  have t : (BitVec.ofNat 32 (128 - s.val)).toInt = ((128 - s.val : ℕ) : ℤ) := by
    rw [← BitVec.ofInt_natCast, BitVec.toInt_ofInt]; exact Int.bmod_eq_of_le (by omega) (by omega)
  rw [t, show (0#32 : BitVec 32).toInt = 0 from rfl, show (128#32 : BitVec 32).toInt = 128 from rfl, ← Bool.decide_and, decide_eq_decide]
  omega

/-- A score, `⊥` where the mask is not set. -/
theorem masked (b : Fin 128) (c : Fin 2) (g : Fin 8) (s : Fin 129) :
    val_main_v25 (F := Ideal) Q K A (ix5 b c g 0 s)
      = if 0 < s.val
        then (∑ d : Fin 64, val_main_v4 (F := Ideal) K A (ix4 b s c d) * Q (ix2 b ⟨(c.val * 8 + g.val) * 64 + d.val, by omega⟩))
          * Ideal.ofBits .f32 1040187392#32 else ⊥ := by
  have hm := mask_bits s
  unfold val_main_v25 val_main_v11 val_main_v9 val_main_v8 val_main_call0_v1
  generalize val_main_v4 (F := Ideal) K A = X
  generalize val_main_v24 (F := Ideal) = M at hm ⊢
  pointwise [val_main_v7, val_main_v6, val_main_v10, val_main_cst, val_main_call0_v2, val_main_call0_v0, val_main_cst_2]
  rw [hm, select_ofBool]
  simp only [decide_eq_true_eq]
  rw [show (id (constant (F := Ideal) S_ FTy.f32 4286578688#32) ix0 : EReal) = ⊥ from SwaRef.neg_inf]
  refine ite_congr rfl (fun _ => ?_) fun _ => rfl
  refine congrArg (· * _) (Finset.sum_congr rfl fun d _ => congrArg (fun x => X (ix4 b s c d) * Q (ix2 b x)) (Fin.ext ?_))
  show c.val * 512 + g.val * 64 + d.val = (c.val * 8 + g.val) * 64 + d.val
  omega

/-- The scores of one query against the 129 keys. -/
abbrev rowScores (b : Fin 128) (c : Fin 2) (g : Fin 8) (s : Fin 129) : EReal := val_main_v25 (F := Ideal) Q K A (ix5 b c g 0 s)

/-- The sink of query head `c, g`. -/
abbrev sink (c : Fin 2) (g : Fin 8) : EReal := T (ix1 ⟨c.val * 8 + g.val, by omega⟩)

theorem sink_apply (c : Fin 2) (g : Fin 8) : val_main_v27 (F := Ideal) T (ix4 c g 0 0) = sink T c g := by
  pointwise [val_main_v27, val_main_v26]

theorem max_apply (b : Fin 128) (c : Fin 2) (g : Fin 8) :
    val_main_v28 (F := Ideal) Q K A (ix4 b c g 0) = Finset.univ.sup (rowScores Q K A b c g) := by
  unfold rowScores val_main_v28
  generalize val_main_v25 (F := Ideal) Q K A = X
  rw [Host.reduce_eq_fold_single _ _ _ _ (by decide)]
  rw [show val_main_cst_3 (F := Ideal) (Shape.Idx.first Gen.h_S_) = (⊥ : EReal) from SwaRef.neg_inf]
  refine congrArg (fun f => Finset.fold max (⊥ : EReal) f Finset.univ) (funext fun s => ?_)
  exact congrArg X (eq_ix5 _)

theorem top_apply (b : Fin 128) (c : Fin 2) (g : Fin 8) :
    val_main_v32 (F := Ideal) Q K A T (ix5 b c g 0 0) = SwaRow.top (rowScores Q K A b c g) (sink T c g) := by
  rw [val_main_v32_apply, val_main_v29_apply, val_main_v31_apply, val_main_v30_apply]
  exact congrArg₂ max ((congrArg _ (eq_ix4 _)).trans (max_apply Q K A b c g)) ((congrArg _ (eq_ix4 _)).trans (sink_apply T c g))

theorem exp_apply (b : Fin 128) (c : Fin 2) (g : Fin 8) (s : Fin 129) : val_main_v35 (F := Ideal) Q K A T (ix5 b c g 0 s)
      = Ideal.exp (rowScores Q K A b c g s - SwaRow.top (rowScores Q K A b c g) (sink T c g)) := by
  have e : val_main_v32 (F := Ideal) Q K A T (idx_main_v33 (ix5 b c g 0 s)) = SwaRow.top (rowScores Q K A b c g) (sink T c g) :=
    (congrArg _ (eq_ix5 _)).trans (top_apply Q K A T b c g)
  rw [val_main_v35_apply, val_main_v34_apply, val_main_v33_apply, e]
  rfl

theorem den_apply (b : Fin 128) (c : Fin 2) (g : Fin 8) :
    val_main_v42 (F := Ideal) Q K A T (ix5 b c g 0 0) = SwaRow.den (rowScores Q K A b c g) (sink T c g) := by
  rw [val_main_v42_apply, val_main_v37_apply, val_main_v36_apply, val_main_v41_apply, val_main_v40_apply, top_apply, val_main_v39_apply,
    val_main_v38_apply]
  rw [show val_main_cst_4 (F := Ideal) (Shape.Idx.first Gen.h_S_) = (0 : EReal) from SwaRef.zero_bits, zero_add]
  refine congrArg₂ (· + ·) (Finset.sum_congr rfl fun s _ => ?_) ?_
  · rw [← exp_apply]
    exact congrArg _ (eq_ix5 _)
  · rw [← sink_apply]
    exact congrArg (fun x => Ideal.exp (x - _)) (congrArg _ (eq_ix4 _))

theorem weights (b : Fin 128) (c : Fin 2) (g : Fin 8) (s : Fin 129) : val_main_v44 (F := Ideal) Q K A T (ix5 b c g 0 s)
      = Ideal.div (Ideal.exp (rowScores Q K A b c g s - SwaRow.top (rowScores Q K A b c g) (sink T c g)))
        (SwaRow.den (rowScores Q K A b c g) (sink T c g)) := by
  rw [val_main_v44_apply, val_main_v43_apply, exp_apply, ← den_apply]
  exact congrArg (Ideal.div _) (congrArg _ (eq_ix5 _))

/-! ## The result -/

/-- A query head's place among its key head's eight. -/
abbrev member (j : Fin 8) (x : Fin 128) : Fin 8 := ⟨j.val % 4 * 2 + x.val / 64, by omega⟩

theorem out_split (b : Fin 128) (j : Fin 8) (x : Fin 128) : val_main_v47 (F := Ideal) Q K A B T (ix3 b j x)
    = val_main_v45 (F := Ideal) Q K A B T (ix5 b (keyHead j) (inHead x) (member j x) 0) := by
  unfold val_main_v47 val_main_v46
  generalize val_main_v45 (F := Ideal) Q K A B T = X
  refine (shapeCast_apply _ _ _ (ix5 b 0 (keyHead j) (member j x) (inHead x)) ?_).trans ?_
  · rw [Shape.rowMajor_val_five, Shape.rowMajor_val_three]
    show (((b.val * 1 + 0) * 2 + j.val / 4) * 8 + (j.val % 4 * 2 + x.val / 64)) * 64 + x.val % 64 = (b.val * 8 + j.val) * 128 + x.val
    omega
  · pointwise

theorem out_row (b : Fin 128) (c : Fin 2) (g : Fin 8) (d : Fin 64) : val_main_v45 (F := Ideal) Q K A B T (ix5 b c d g 0)
      = SwaRow.refOut (rowScores Q K A b c g) (sink T c g) (fun s => val_main_v5 (F := Ideal) K B (ix4 b s c d)) := by
  have hw := weights Q K A T b c g
  unfold SwaRow.refOut
  simp only [← hw]
  rw [val_main_v45_apply]
  refine Finset.sum_congr rfl fun s _ => ?_
  exact congrArg₂ (fun x y : EReal => x * y) (congrArg _ (eq_ix4 _)) (congrArg _ (eq_ix5 _))

theorem out_apply (hQ : ∀ r j, Finite.Num (Q (ix2 r j))) (hK : ∀ (r : Fin 128) (j : Fin 128), Finite.Num (K (ix2 r ⟨j.val, by omega⟩)))
    (hA : ∀ (r : Fin 128) (u : Fin 127) (c : Fin 2) (d : Fin 64), Finite.Num (A (ix4 r ⟨u.val + 1, by omega⟩ c d)))
    (hT : ∀ h, Finite.Num (T (ix1 h))) (b : Fin 128) (j : Fin 8) (x : Fin 128) : val_main_v48 (F := Ideal) Q K A B T (ix3 b j x)
      = rowOut (score ⟨x.val / 64, by omega⟩ (keyHead j) (query Q b j) (keysNow K A b)) (T (ix1 ⟨j.val * 2 + x.val / 64, by omega⟩))
        (fun u => valsNow K B b u (laneOf (keyHead j) x)) := by
  have hscale : Finite.Num (Ideal.ofBits .f32 1040187392#32) := ⟨1 / 8, by simp [Ideal.ofBits, Ideal.ieee, -EReal.coe_mul]; norm_num⟩
  have hkeys : ∀ u l, Finite.Num (keysNow K A b u l) := fun u l => by
    unfold keysNow movedAt
    split
    · exact hK b ⟨0 * 128 + l.val, by omega⟩
    · have e : (⟨(u.val + 1) % 128, by omega⟩ : Fin 128) = ⟨(⟨u.val, by omega⟩ : Fin 127).val + 1, by omega⟩ :=
        Fin.ext (by show (u.val + 1) % 128 = u.val + 1; omega)
      rw [e]
      exact hA b ⟨u.val, by omega⟩ _ _
  have h0 : rowScores Q K A b (keyHead j) (member j x) 0 = ⊥ := (masked Q K A b _ _ 0).trans (if_neg (Nat.lt_irrefl 0))
  have hs : ∀ u : Fin 128, rowScores Q K A b (keyHead j) (member j x) u.succ
      = score ⟨x.val / 64, by omega⟩ (keyHead j) (query Q b j) (keysNow K A b) u := fun u => by
    refine (masked Q K A b _ _ u.succ).trans ((if_pos (Nat.succ_pos _)).trans ?_)
    unfold score
    refine congrArg (· * _) (Finset.sum_congr rfl fun d _ => ?_)
    rw [← keys_apply]
    exact congrArg₂ (fun x y : EReal => x * y)
      (congrArg₂ (fun c d => val_main_v4 (F := Ideal) K A (ix4 b u.succ c d))
        (Fin.ext (by show j.val / 4 = (j.val / 4 * 64 + d.val) / 64; omega)) (Fin.ext (by show d.val = (j.val / 4 * 64 + d.val) % 64; omega)))
      (congrArg (fun x => Q (ix2 b x))
        (Fin.ext (by show (j.val / 4 * 8 + (j.val % 4 * 2 + x.val / 64)) * 64 + d.val = j.val * 128 + (x.val / 64 * 64 + d.val); omega)))
  have hn : ∀ u, SwaRow.Score (rowScores Q K A b (keyHead j) (member j x) u) := fun u => by
    refine Fin.cases (Or.inl h0) (fun u => Or.inr ?_) u
    rw [hs]
    exact (Finite.Num.sum _ _ fun (d : Fin 64) => (hkeys u _).mul (hQ _ _)).mul hscale
  refine (out_split Q K A B T b j x).trans ((out_row Q K A B T _ _ _ _).trans ?_)
  rw [SwaRow.refOut_eq _ hn (hT _), sum_succ h0, den_succ h0, funext hs]
  unfold rowOut
  have ht : T (ix1 ⟨(keyHead j).val * 8 + (member j x).val, by omega⟩) = T (ix1 ⟨j.val * 2 + x.val / 64, by omega⟩) :=
    congrArg (fun x => T (ix1 x)) (Fin.ext (by show j.val / 4 * 8 + (j.val % 4 * 2 + x.val / 64) = j.val * 2 + x.val / 64; omega))
  rw [ht]
  simp only [hs]
  refine congrArg (Ideal.div · _) (Finset.sum_congr rfl fun u _ => congrArg₂ (fun x y : EReal => x * y) rfl ?_)
  rw [← vals_apply]
  exact congrArg₂ (fun c d => val_main_v5 (F := Ideal) K B (ix4 b u.succ c d))
    (Fin.ext (by show j.val / 4 = (j.val / 4 * 64 + x.val % 64) / 64; omega)) (Fin.ext (by show x.val % 64 = (j.val / 4 * 64 + x.val % 64) % 64; omega))

end Cert.WinRef

end
-- ==== Proof.WinValue.lean ====
module

public import proofs.«01_k».proof.Proof.WinBlock
public import proofs.«01_k».proof.Proof.WinRef
public import proofs.«01_k».proof.Proof.Gen.WinIdeal.Value

@[expose] public section

set_option maxRecDepth 16384

/-! # The sample attention's result and its two caches are the reference's -/

noncomputable section

namespace Cert.WinValue

open Cert.WinIdeal Cert.WinIdeal.Gen Idealize.ShloMosaic Idealize.ShloMosaic.TcCoe Idealize.SL.Sem
open Idealize.ShloMosaic.Pipeline (Dat)

variable (m : (ℓ : Loc nD τ sig) → Buf (Elt Ideal) ℓ)

/-! ## The reference's values of device `c`'s arguments -/

abbrev Q (c : Dev nD) : (⟨S128x1024, .bf16⟩ : BufTy).Contents (Elt Ideal) := m ((c : Thread nD τ).loc main_arg0)
abbrev K (c : Dev nD) : (⟨S128x256, .f32⟩ : BufTy).Contents (Elt Ideal) := m ((c : Thread nD τ).loc main_arg1)
abbrev A (c : Dev nD) : (⟨S128x128x2x64, .f32⟩ : BufTy).Contents (Elt Ideal) := m ((c : Thread nD τ).loc main_arg2)
abbrev B (c : Dev nD) : (⟨S128x128x2x64, .f32⟩ : BufTy).Contents (Elt Ideal) := m ((c : Thread nD τ).loc main_arg3)
abbrev T (c : Dev nD) : (⟨S16, .f32⟩ : BufTy).Contents (Elt Ideal) := m ((c : Thread nD τ).loc main_arg4)

abbrev G6 (c : Dev nD) : (⟨S128x8x128, .bf16⟩ : BufTy).Contents (Elt Ideal) :=
  WinReferenceIdeal.Read.val_main_v48 (F := Ideal) (Q m c) (K m c) (A m c) (B m c) (T m c)
abbrev G7 (c : Dev nD) : (⟨S128x128x128, .f32⟩ : BufTy).Contents (Elt Ideal) := WinReferenceIdeal.Read.val_main_v50 (F := Ideal) (K m c) (A m c)
abbrev G8 (c : Dev nD) : (⟨S128x128x128, .f32⟩ : BufTy).Contents (Elt Ideal) := WinReferenceIdeal.Read.val_main_v52 (F := Ideal) (K m c) (B m c)

/-! ## The arrays the windows stage -/

/-- Column `z` of the sinks of the pairs of heads, along 128 lanes. -/
abbrev sinkLanes0 (T : Vec Ideal S16 .f32) : Vec Ideal S8x128 .f32 :=
  broadcastInDim S8x128 ![0, 1] bcast_S8x1_S8x128_0_1 (extractStridedSlice S8x1 ![0, 0] (shapeCast S8x2 T shapeCasts_S16_S8x2) slices_S8x2_S8x1_0_0)
abbrev sinkLanes1 (T : Vec Ideal S16 .f32) : Vec Ideal S8x128 .f32 :=
  broadcastInDim S8x128 ![0, 1] bcast_S8x1_S8x128_0_1 (extractStridedSlice S8x1 ![0, 1] (shapeCast S8x2 T shapeCasts_S16_S8x2) slices_S8x2_S8x1_0_1)

theorem V_v2 (c : Dev nD) : V m c main_v2 = sinkLanes0 (T m c) := by
  unfold_abbrev_sides
  after_results
  rfl

theorem V_v5 (c : Dev nD) : V m c main_v5 = sinkLanes1 (T m c) := by
  unfold_abbrev_sides
  after_results
  rfl

theorem V_v6 (c : Dev nD) : V m c main_v6 = shapeCast S128x8x128 (Q m c) shapeCasts_S128x1024_S128x8x128 := by
  unfold_abbrev_sides
  after_results
  rfl

theorem V_v7 (c : Dev nD) : V m c main_v7 = shapeCast S128x128x128 (A m c) shapeCasts_S128x128x2x64_S128x128x128 := by
  unfold_abbrev_sides
  after_results
  rfl

theorem V_v8 (c : Dev nD) : V m c main_v8 = shapeCast S128x128x128 (B m c) shapeCasts_S128x128x2x64_S128x128x128 := by
  unfold_abbrev_sides
  after_results
  rfl

theorem sink_lo (T : Vec Ideal S16 .f32) (j : Fin 8) (l : Fin 128) : sinkLanes0 T (ix2 j l) = T (ix1 ⟨j.val * 2, by omega⟩) := by
  unfold sinkLanes0
  pointwise

theorem sink_hi (T : Vec Ideal S16 .f32) (j : Fin 8) (l : Fin 128) : sinkLanes1 T (ix2 j l) = T (ix1 ⟨j.val * 2 + 1, by omega⟩) := by
  unfold sinkLanes1
  pointwise

theorem cast_q (Q : Vec Ideal S128x1024 .bf16) (b : Fin 128) (j : Fin 8) (x : Fin 128) :
    shapeCast S128x8x128 Q shapeCasts_S128x1024_S128x8x128 (ix3 b j x) = Q (ix2 b ⟨j.val * 128 + x.val, by omega⟩) := by
  pointwise

theorem cast_cache (A : Vec Ideal S128x128x2x64 .f32) (b u l : Fin 128) :
    shapeCast S128x128x128 A shapeCasts_S128x128x2x64_S128x128x128 (ix3 b u l) = A (ix4 b u (WinRef.headOf l) (WinRef.inHead l)) := by
  pointwise

/-! ## The windows' places on the grid -/

/-- The windows of 16 samples move with the point. -/
theorem idx_flat : ∀ t : Fin grid0.N, win0_1.index t 0 = t.val ∧ win0_1.index t 1 = 0 := by
  decide +kernel

theorem idx_samples : ∀ t : Fin grid0.N, (win0_0.index t 0 = t.val ∧ win0_0.index t 1 = 0 ∧ win0_0.index t 2 = 0)
    ∧ (win0_2.index t 0 = t.val ∧ win0_2.index t 1 = 0 ∧ win0_2.index t 2 = 0)
    ∧ (win0_3.index t 0 = t.val ∧ win0_3.index t 1 = 0 ∧ win0_3.index t 2 = 0)
    ∧ (win0_6.index t 0 = t.val ∧ win0_6.index t 1 = 0 ∧ win0_6.index t 2 = 0)
    ∧ (win0_7.index t 0 = t.val ∧ win0_7.index t 1 = 0 ∧ win0_7.index t 2 = 0)
    ∧ (win0_8.index t 0 = t.val ∧ win0_8.index t 1 = 0 ∧ win0_8.index t 2 = 0) := by
  decide +kernel

/-- The sinks' windows stay. -/
theorem idx_sink : ∀ t : Fin grid0.N, ∀ a : Fin 2, win0_4.index t a = 0 ∧ win0_5.index t a = 0 := by
  decide +kernel

/-- Sample `b` of point `t`. -/
abbrev sampleOf (t : Fin grid0.N) (b : Fin 16) : Fin 128 := ⟨t.val * 16 + b.val, by have : grid0.N = 8 := N_0; omega⟩

theorem blk0 (A : S128x8x128.Idx → EReal) (t : Fin grid0.N) (b : Fin 16) (j : Fin 8) (x : Fin 128) :
    (win0_0.blk t).view.read (Elt Ideal) A (ix3 b j x) = A (ix3 (sampleOf t b) j x) := by
  refine congrArg A (funext fun a => Fin.ext ?_)
  obtain ⟨h0, h1, h2⟩ := (idx_samples t).1
  match a with
  | ⟨0, _⟩ => show win0_0.index t 0 * 16 + 1 * b.val = t.val * 16 + b.val; rw [h0]; omega
  | ⟨1, _⟩ => show win0_0.index t 1 * 8 + 1 * j.val = j.val; rw [h1]; omega
  | ⟨2, _⟩ => show win0_0.index t 2 * 128 + 1 * x.val = x.val; rw [h2]; omega

theorem blk1 (A : S128x256.Idx → EReal) (t : Fin grid0.N) (b : Fin 16) (l : Fin 256) :
    (win0_1.blk t).view.read (Elt Ideal) A (ix2 b l) = A (ix2 (sampleOf t b) l) := by
  refine congrArg A (funext fun a => Fin.ext ?_)
  obtain ⟨h0, h1⟩ := idx_flat t
  match a with
  | ⟨0, _⟩ => show win0_1.index t 0 * 16 + 1 * b.val = t.val * 16 + b.val; rw [h0]; omega
  | ⟨1, _⟩ => show win0_1.index t 1 * 256 + 1 * l.val = l.val; rw [h1]; omega

theorem blk2 (A : S128x128x128.Idx → EReal) (t : Fin grid0.N) (b : Fin 16) (u l : Fin 128) :
    (win0_2.blk t).view.read (Elt Ideal) A (ix3 b u l) = A (ix3 (sampleOf t b) u l) := by
  refine congrArg A (funext fun a => Fin.ext ?_)
  obtain ⟨h0, h1, h2⟩ := (idx_samples t).2.1
  match a with
  | ⟨0, _⟩ => show win0_2.index t 0 * 16 + 1 * b.val = t.val * 16 + b.val; rw [h0]; omega
  | ⟨1, _⟩ => show win0_2.index t 1 * 128 + 1 * u.val = u.val; rw [h1]; omega
  | ⟨2, _⟩ => show win0_2.index t 2 * 128 + 1 * l.val = l.val; rw [h2]; omega

theorem blk3 (A : S128x128x128.Idx → EReal) (t : Fin grid0.N) (b : Fin 16) (u l : Fin 128) :
    (win0_3.blk t).view.read (Elt Ideal) A (ix3 b u l) = A (ix3 (sampleOf t b) u l) := by
  refine congrArg A (funext fun a => Fin.ext ?_)
  obtain ⟨h0, h1, h2⟩ := (idx_samples t).2.2.1
  match a with
  | ⟨0, _⟩ => show win0_3.index t 0 * 16 + 1 * b.val = t.val * 16 + b.val; rw [h0]; omega
  | ⟨1, _⟩ => show win0_3.index t 1 * 128 + 1 * u.val = u.val; rw [h1]; omega
  | ⟨2, _⟩ => show win0_3.index t 2 * 128 + 1 * l.val = l.val; rw [h2]; omega

theorem blk4 (A : S8x128.Idx → EReal) (t : Fin grid0.N) (j : Fin 8) (l : Fin 128) :
    (win0_4.blk t).view.read (Elt Ideal) A (ix2 j l) = A (ix2 j l) := by
  refine congrArg A (funext fun a => Fin.ext ?_)
  match a with
  | ⟨0, _⟩ => show win0_4.index t 0 * 8 + 1 * j.val = j.val; rw [(idx_sink t 0).1]; omega
  | ⟨1, _⟩ => show win0_4.index t 1 * 128 + 1 * l.val = l.val; rw [(idx_sink t 1).1]; omega

theorem blk5 (A : S8x128.Idx → EReal) (t : Fin grid0.N) (j : Fin 8) (l : Fin 128) :
    (win0_5.blk t).view.read (Elt Ideal) A (ix2 j l) = A (ix2 j l) := by
  refine congrArg A (funext fun a => Fin.ext ?_)
  match a with
  | ⟨0, _⟩ => show win0_5.index t 0 * 8 + 1 * j.val = j.val; rw [(idx_sink t 0).2]; omega
  | ⟨1, _⟩ => show win0_5.index t 1 * 128 + 1 * l.val = l.val; rw [(idx_sink t 1).2]; omega

theorem blk6 (A : S128x8x128.Idx → EReal) (t : Fin grid0.N) (b : Fin 16) (j : Fin 8) (x : Fin 128) :
    (win0_6.blk t).view.read (Elt Ideal) A (ix3 b j x) = A (ix3 (sampleOf t b) j x) := by
  refine congrArg A (funext fun a => Fin.ext ?_)
  obtain ⟨h0, h1, h2⟩ := (idx_samples t).2.2.2.1
  match a with
  | ⟨0, _⟩ => show win0_6.index t 0 * 16 + 1 * b.val = t.val * 16 + b.val; rw [h0]; omega
  | ⟨1, _⟩ => show win0_6.index t 1 * 8 + 1 * j.val = j.val; rw [h1]; omega
  | ⟨2, _⟩ => show win0_6.index t 2 * 128 + 1 * x.val = x.val; rw [h2]; omega

theorem blk7 (A : S128x128x128.Idx → EReal) (t : Fin grid0.N) (b : Fin 16) (u l : Fin 128) :
    (win0_7.blk t).view.read (Elt Ideal) A (ix3 b u l) = A (ix3 (sampleOf t b) u l) := by
  refine congrArg A (funext fun a => Fin.ext ?_)
  obtain ⟨h0, h1, h2⟩ := (idx_samples t).2.2.2.2.1
  match a with
  | ⟨0, _⟩ => show win0_7.index t 0 * 16 + 1 * b.val = t.val * 16 + b.val; rw [h0]; omega
  | ⟨1, _⟩ => show win0_7.index t 1 * 128 + 1 * u.val = u.val; rw [h1]; omega
  | ⟨2, _⟩ => show win0_7.index t 2 * 128 + 1 * l.val = l.val; rw [h2]; omega

theorem blk8 (A : S128x128x128.Idx → EReal) (t : Fin grid0.N) (b : Fin 16) (u l : Fin 128) :
    (win0_8.blk t).view.read (Elt Ideal) A (ix3 b u l) = A (ix3 (sampleOf t b) u l) := by
  refine congrArg A (funext fun a => Fin.ext ?_)
  obtain ⟨h0, h1, h2⟩ := (idx_samples t).2.2.2.2.2
  match a with
  | ⟨0, _⟩ => show win0_8.index t 0 * 16 + 1 * b.val = t.val * 16 + b.val; rw [h0]; omega
  | ⟨1, _⟩ => show win0_8.index t 1 * 128 + 1 * u.val = u.val; rw [h1]; omega
  | ⟨2, _⟩ => show win0_8.index t 2 * 128 + 1 * l.val = l.val; rw [h2]; omega

/-! ## The blocks at a point, over the arrays -/

section tile

variable (Q : (⟨S128x1024, .bf16⟩ : BufTy).Contents (Elt Ideal)) (K : (⟨S128x256, .f32⟩ : BufTy).Contents (Elt Ideal))
  (A B : (⟨S128x128x2x64, .f32⟩ : BufTy).Contents (Elt Ideal)) (T : (⟨S16, .f32⟩ : BufTy).Contents (Elt Ideal)) (b : Fin 16) (g : Fin 128)
  {x0 : Vec Ideal S16x8x128 .bf16} {x1 : Vec Ideal S16x256 .f32} {x2 x3 : Vec Ideal S16x128x128 .f32}

theorem keys_eq (h1 : ∀ l, x1 (ix2 b l) = K (ix2 g l)) (h2 : ∀ u l, x2 (ix3 b u l) = A (ix4 g u (WinRef.headOf l) (WinRef.inHead l))) :
    WinBlock.cacheAt x1 0 x2 b = WinRef.keysNow K A g := by
  funext u l
  unfold WinBlock.cacheAt WinRef.keysNow WinBlock.movedAt
  simp only [h1, h2]
  rfl

theorem vals_eq (h1 : ∀ l, x1 (ix2 b l) = K (ix2 g l)) (h3 : ∀ u l, x3 (ix3 b u l) = B (ix4 g u (WinRef.headOf l) (WinRef.inHead l))) :
    WinBlock.cacheAt x1 1 x3 b = WinRef.valsNow K B g := by
  funext u l
  unfold WinBlock.cacheAt WinRef.valsNow WinBlock.movedAt
  simp only [h1, h3]
  rfl

theorem out_eq (h0 : ∀ j x, x0 (ix3 b j x) = WinRef.query Q g j x) (h1 : ∀ l, x1 (ix2 b l) = K (ix2 g l))
    (h2 : ∀ u l, x2 (ix3 b u l) = A (ix4 g u (WinRef.headOf l) (WinRef.inHead l)))
    (h3 : ∀ u l, x3 (ix3 b u l) = B (ix4 g u (WinRef.headOf l) (WinRef.inHead l))) (j : Fin 8) (x : Fin 128) :
    WinBlock.outAt x0 x1 x2 x3 (fun j h => T (ix1 ⟨j.val * 2 + h.val, by omega⟩)) b j x
      = WinBlock.rowOut (WinBlock.score ⟨x.val / 64, by omega⟩ (WinBlock.keyHead j) (WinRef.query Q g j) (WinRef.keysNow K A g))
        (T (ix1 ⟨j.val * 2 + x.val / 64, by omega⟩)) (fun u => WinRef.valsNow K B g u (SwaBlock.laneOf (WinBlock.keyHead j) x)) := by
  unfold WinBlock.outAt
  rw [keys_eq K A b g h1 h2, vals_eq K B b g h1 h3, show (fun x => x0 (ix3 b j x)) = WinRef.query Q g j from funext (h0 j)]

end tile

/-! ## What a point writes back is its block of the reference's value -/

theorem in0 (c : Dev nD) (t : Fin cfg0.N) (b : Fin 16) (j : Fin 8) (x : Fin 128) :
    (iblk m c 0 t : Vec Ideal S16x8x128 .bf16) (ix3 b j x) = WinRef.query (Q m c) (sampleOf t b) j x :=
  (blk0 _ t b j x).trans ((congrFun (V_v6 m c) _).trans (cast_q (Q m c) _ j x))

theorem in1 (c : Dev nD) (t : Fin cfg0.N) (b : Fin 16) (l : Fin 256) :
    (iblk m c 1 t : Vec Ideal S16x256 .f32) (ix2 b l) = K m c (ix2 (sampleOf t b) l) :=
  (blk1 _ t b l).trans (congrFun (V_main_arg1 m c) _)

theorem in2 (c : Dev nD) (t : Fin cfg0.N) (b : Fin 16) (u l : Fin 128) :
    (iblk m c 2 t : Vec Ideal S16x128x128 .f32) (ix3 b u l) = A m c (ix4 (sampleOf t b) u (WinRef.headOf l) (WinRef.inHead l)) :=
  (blk2 _ t b u l).trans ((congrFun (V_v7 m c) _).trans (cast_cache (A m c) _ u l))

theorem in3 (c : Dev nD) (t : Fin cfg0.N) (b : Fin 16) (u l : Fin 128) :
    (iblk m c 3 t : Vec Ideal S16x128x128 .f32) (ix3 b u l) = B m c (ix4 (sampleOf t b) u (WinRef.headOf l) (WinRef.inHead l)) :=
  (blk3 _ t b u l).trans ((congrFun (V_v8 m c) _).trans (cast_cache (B m c) _ u l))

theorem in4 (c : Dev nD) (t : Fin cfg0.N) (j : Fin 8) (l : Fin 128) :
    (iblk m c 4 t : Vec Ideal S8x128 .f32) (ix2 j l) = T m c (ix1 ⟨j.val * 2 + (0 : Fin 2).val, by omega⟩) :=
  (blk4 _ t j l).trans ((congrFun (V_v2 m c) _).trans (sink_lo (T m c) j l))

theorem in5 (c : Dev nD) (t : Fin cfg0.N) (j : Fin 8) (l : Fin 128) :
    (iblk m c 5 t : Vec Ideal S8x128 .f32) (ix2 j l) = T m c (ix1 ⟨j.val * 2 + (1 : Fin 2).val, by omega⟩) :=
  (blk5 _ t j l).trans ((congrFun (V_v5 m c) _).trans (sink_hi (T m c) j l))

theorem flushed7_eq (c : Dev nD) (t : Fin cfg0.N) : (dats m 0 c).flushed 7 t = ((cfg0.win 7).blk t).view.read (Elt Ideal) (G7 m c) := by
  rw [WinIdeal.Value.flushed7]
  show (fun y : S16x128x128.Idx => out0_7 (F := Ideal) (iblk m c 0 t) (iblk m c 1 t) (iblk m c 2 t) (iblk m c 3 t) (iblk m c 4 t) (iblk m c 5 t) y)
    = fun y : S16x128x128.Idx => (win0_7.blk t).view.read (Elt Ideal) (G7 m c) y
  funext y
  obtain ⟨b, u, l, rfl⟩ : ∃ (b : Fin 16) (u l : Fin 128), y = ix3 b u l := ⟨y 0, y 1, y 2, eq_ix3 y⟩
  rw [WinStage.keys_eq, WinBlock.cache_canon, blk7]
  refine Eq.trans ?_ (WinRef.cacheK_apply (K m c) (A m c) _ u l).symm
  exact congrFun (congrFun (keys_eq (K m c) (A m c) b (sampleOf t b) (in1 m c t b) (in2 m c t b)) u) l

theorem flushed8_eq (c : Dev nD) (t : Fin cfg0.N) : (dats m 0 c).flushed 8 t = ((cfg0.win 8).blk t).view.read (Elt Ideal) (G8 m c) := by
  rw [WinIdeal.Value.flushed8]
  show (fun y : S16x128x128.Idx => out0_8 (F := Ideal) (iblk m c 0 t) (iblk m c 1 t) (iblk m c 2 t) (iblk m c 3 t) (iblk m c 4 t) (iblk m c 5 t) y)
    = fun y : S16x128x128.Idx => (win0_8.blk t).view.read (Elt Ideal) (G8 m c) y
  funext y
  obtain ⟨b, u, l, rfl⟩ : ∃ (b : Fin 16) (u l : Fin 128), y = ix3 b u l := ⟨y 0, y 1, y 2, eq_ix3 y⟩
  rw [WinStage.vals_eq, WinBlock.cache_canon, blk8]
  refine Eq.trans ?_ (WinRef.cacheV_apply (K m c) (B m c) _ u l).symm
  exact congrFun (congrFun (vals_eq (K m c) (B m c) b (sampleOf t b) (in1 m c t b) (in3 m c t b)) u) l

theorem flushed6_eq (c : Dev nD) (hQ : ∀ (r : Fin 128) (j : Fin 1024), Finite.Num (Q m c (ix2 r j)))
    (hK : ∀ (r : Fin 128) (j : Fin 128), Finite.Num (K m c (ix2 r ⟨j.val, by omega⟩)))
    (hA : ∀ (r : Fin 128) (u : Fin 127) (k : Fin 2) (d : Fin 64), Finite.Num (A m c (ix4 r ⟨u.val + 1, by omega⟩ k d)))
    (hT : ∀ h : Fin 16, Finite.Num (T m c (ix1 h))) (t : Fin cfg0.N) :
    (dats m 0 c).flushed 6 t = ((cfg0.win 6).blk t).view.read (Elt Ideal) (G6 m c) := by
  rw [WinIdeal.Value.flushed6]
  show (fun y : S16x8x128.Idx => out0_6 (F := Ideal) (iblk m c 0 t) (iblk m c 1 t) (iblk m c 2 t) (iblk m c 3 t) (iblk m c 4 t) (iblk m c 5 t) y)
    = fun y : S16x8x128.Idx => (win0_6.blk t).view.read (Elt Ideal) (G6 m c) y
  funext y
  obtain ⟨b, j, x, rfl⟩ : ∃ (b : Fin 16) (j : Fin 8) (x : Fin 128), y = ix3 b j x := ⟨y 0, y 1, y 2, eq_ix3 y⟩
  rw [WinStage.out_eq, WinBlock.out_canon _ _ _ _ _ _ (fun j h => T m c (ix1 ⟨j.val * 2 + h.val, by omega⟩)) (in4 m c t) (in5 m c t), blk6]
  refine Eq.trans ?_ (WinRef.out_apply _ _ _ _ _ hQ hK hA hT _ j x).symm
  exact out_eq (Q m c) (K m c) (A m c) (B m c) (T m c) b (sampleOf t b) (in0 m c t b) (in1 m c t b) (in2 m c t b) (in3 m c t b) j x

/-! ## The points' blocks cover the arrays -/

theorem cover6 (i : S128x8x128.Idx) : ∃ t : Fin cfg0.N, (cfg0.win 6).flush t = true ∧ i ∈ ((cfg0.win 6).blk t).view.set := by
  have hN : cfg0.N = 8 := N_0
  have h0 : (i 0).val < 128 := (i 0).isLt
  have h1 : (i 1).val < 8 := (i 1).isLt
  have h2 : (i 2).val < 128 := (i 2).isLt
  refine ⟨⟨(i 0).val / 16, by omega⟩, flush0_6 _, ?_⟩
  generalize ht : (⟨(i 0).val / 16, by omega⟩ : Fin cfg0.N) = t
  have htv : t.val = (i 0).val / 16 := by rw [← ht]
  obtain ⟨e0, e1, e2⟩ := (idx_samples t).2.2.2.1
  show i ∈ ((View.whole main_v9_0).slice (win0_6.rect t)).set
  rw [View.set_slice_whole, Rect.mem_set_unit]
  intro a
  match a with
  | ⟨0, _⟩ =>
    show win0_6.index t 0 * 16 ≤ (i 0).val ∧ (i 0).val < win0_6.index t 0 * 16 + 16
    rw [e0]; omega
  | ⟨1, _⟩ =>
    show win0_6.index t 1 * 8 ≤ (i 1).val ∧ (i 1).val < win0_6.index t 1 * 8 + 8
    rw [e1]; omega
  | ⟨2, _⟩ =>
    show win0_6.index t 2 * 128 ≤ (i 2).val ∧ (i 2).val < win0_6.index t 2 * 128 + 128
    rw [e2]; omega

theorem cover7 (i : S128x128x128.Idx) : ∃ t : Fin cfg0.N, (cfg0.win 7).flush t = true ∧ i ∈ ((cfg0.win 7).blk t).view.set := by
  have hN : cfg0.N = 8 := N_0
  have h0 : (i 0).val < 128 := (i 0).isLt
  have h1 : (i 1).val < 128 := (i 1).isLt
  have h2 : (i 2).val < 128 := (i 2).isLt
  refine ⟨⟨(i 0).val / 16, by omega⟩, flush0_7 _, ?_⟩
  generalize ht : (⟨(i 0).val / 16, by omega⟩ : Fin cfg0.N) = t
  have htv : t.val = (i 0).val / 16 := by rw [← ht]
  obtain ⟨e0, e1, e2⟩ := (idx_samples t).2.2.2.2.1
  show i ∈ ((View.whole main_v9_1).slice (win0_7.rect t)).set
  rw [View.set_slice_whole, Rect.mem_set_unit]
  intro a
  match a with
  | ⟨0, _⟩ =>
    show win0_7.index t 0 * 16 ≤ (i 0).val ∧ (i 0).val < win0_7.index t 0 * 16 + 16
    rw [e0]; omega
  | ⟨1, _⟩ =>
    show win0_7.index t 1 * 128 ≤ (i 1).val ∧ (i 1).val < win0_7.index t 1 * 128 + 128
    rw [e1]; omega
  | ⟨2, _⟩ =>
    show win0_7.index t 2 * 128 ≤ (i 2).val ∧ (i 2).val < win0_7.index t 2 * 128 + 128
    rw [e2]; omega

theorem cover8 (i : S128x128x128.Idx) : ∃ t : Fin cfg0.N, (cfg0.win 8).flush t = true ∧ i ∈ ((cfg0.win 8).blk t).view.set := by
  have hN : cfg0.N = 8 := N_0
  have h0 : (i 0).val < 128 := (i 0).isLt
  have h1 : (i 1).val < 128 := (i 1).isLt
  have h2 : (i 2).val < 128 := (i 2).isLt
  refine ⟨⟨(i 0).val / 16, by omega⟩, flush0_8 _, ?_⟩
  generalize ht : (⟨(i 0).val / 16, by omega⟩ : Fin cfg0.N) = t
  have htv : t.val = (i 0).val / 16 := by rw [← ht]
  obtain ⟨e0, e1, e2⟩ := (idx_samples t).2.2.2.2.2
  show i ∈ ((View.whole main_v9_2).slice (win0_8.rect t)).set
  rw [View.set_slice_whole, Rect.mem_set_unit]
  intro a
  match a with
  | ⟨0, _⟩ =>
    show win0_8.index t 0 * 16 ≤ (i 0).val ∧ (i 0).val < win0_8.index t 0 * 16 + 16
    rw [e0]; omega
  | ⟨1, _⟩ =>
    show win0_8.index t 1 * 128 ≤ (i 1).val ∧ (i 1).val < win0_8.index t 1 * 128 + 128
    rw [e1]; omega
  | ⟨2, _⟩ =>
    show win0_8.index t 2 * 128 ≤ (i 2).val ∧ (i 2).val < win0_8.index t 2 * 128 + 128
    rw [e2]; omega

theorem final6 (c : Dev nD) (hQ : ∀ (r : Fin 128) (j : Fin 1024), Finite.Num (Q m c (ix2 r j)))
    (hK : ∀ (r : Fin 128) (j : Fin 128), Finite.Num (K m c (ix2 r ⟨j.val, by omega⟩)))
    (hA : ∀ (r : Fin 128) (u : Fin 127) (k : Fin 2) (d : Fin 64), Finite.Num (A m c (ix4 r ⟨u.val + 1, by omega⟩ k d)))
    (hT : ∀ h : Fin 16, Finite.Num (T m c (ix1 h))) : (dats m 0 c).arrAt 6 cfg0.N = G6 m c :=
  (dats m 0 c).arrAt_eq_of_cover 6 (G6 m c) (fun t _ => flushed6_eq m c hQ hK hA hT t) cover6

theorem final7 (c : Dev nD) : (dats m 0 c).arrAt 7 cfg0.N = G7 m c :=
  (dats m 0 c).arrAt_eq_of_cover 7 (G7 m c) (fun t _ => flushed7_eq m c t) cover7

theorem final8 (c : Dev nD) : (dats m 0 c).arrAt 8 cfg0.N = G8 m c :=
  (dats m 0 c).arrAt_eq_of_cover 8 (G8 m c) (fun t _ => flushed8_eq m c t) cover8

end Cert.WinValue

end
-- ==== Proof.WinPre.lean ====
module

public import proofs.«01_k».proof.Pre_finite_win
public import proofs.«01_k».proof.Proof.Gen.Pre_finite_win
public import proofs.«01_k».proof.Proof.Finite

@[expose] public section

set_option maxRecDepth 2048

/-! # What the sample attention's precondition says -/

noncomputable section

namespace Cert.WinPre

open Cert.Pre_finite_win Idealize.ShloMosaic

/-- The first two of the four arrays put end to end, read at one of their own places. -/
theorem first_piece (X : S131072.Idx → EReal) (Y : S16384.Idx → EReal) (Z : S2080768.Idx → EReal) (W : S16.Idx → EReal)
    (hc : Shape.Concatenates [S131072, S16384, S2080768, S16] S2228240 0) (p : ℕ) (hp : p < 131072) :
    concatenate S2228240 0 [⟨S131072, X⟩, ⟨S16384, Y⟩, ⟨S2080768, Z⟩, ⟨S16, W⟩] hc (ix1 ⟨p, by omega⟩) = X (ix1 ⟨p, hp⟩) :=
  concatenate_apply_piece (t := S2228240) 0 [⟨S131072, X⟩, ⟨S16384, Y⟩, ⟨S2080768, Z⟩, ⟨S16, W⟩] hc (ix1 ⟨p, by omega⟩) 0 (Nat.zero_lt_succ _) S131072
    X rfl rfl 0 rfl (ix1 ⟨p, hp⟩) (fun _ hb => absurd (Subsingleton.elim (α := Fin 1) _ _) hb) (Nat.zero_add p)

theorem second_piece (X : S131072.Idx → EReal) (Y : S16384.Idx → EReal) (Z : S2080768.Idx → EReal) (W : S16.Idx → EReal)
    (hc : Shape.Concatenates [S131072, S16384, S2080768, S16] S2228240 0) (p : ℕ) (hp : p < 16384) :
    concatenate S2228240 0 [⟨S131072, X⟩, ⟨S16384, Y⟩, ⟨S2080768, Z⟩, ⟨S16, W⟩] hc (ix1 ⟨131072 + p, by omega⟩) = Y (ix1 ⟨p, hp⟩) :=
  concatenate_apply_piece (t := S2228240) 0 [⟨S131072, X⟩, ⟨S16384, Y⟩, ⟨S2080768, Z⟩, ⟨S16, W⟩] hc (ix1 ⟨131072 + p, by omega⟩) 1
    (Nat.succ_lt_succ (Nat.zero_lt_succ _)) S16384 Y rfl rfl 131072 rfl (ix1 ⟨p, hp⟩) (fun _ hb => absurd (Subsingleton.elim (α := Fin 1) _ _) hb) rfl

variable {Q : FVec Ideal S128x1024 .bf16} {K : FVec Ideal S128x256 .f32} {A B : FVec Ideal S128x128x2x64 .f32} {T : FVec Ideal S16 .f32}
variable (h : fn Q K A B T = fun _ => 1#1)
include h

theorem num_q (r : Fin 128) (j : Fin 1024) : Finite.Num (Q (ix2 r j)) := by
  have hp : r.val * 1024 + j.val < 131072 := by omega
  have e := congrFun h (ix1 ⟨r.val * 1024 + j.val, by omega⟩)
  refine Finite.num_of_test (Eq.trans (congrArg (fun x => BitVec.ofBool (decide (FloatOps.absf (F := Ideal) (φ := .f32) x < _))) (Eq.symm ?_)) e)
  refine (first_piece _ _ _ _ _ _ hp).trans ?_
  pointwise

theorem num_k (r : Fin 128) (j : Fin 128) : Finite.Num (K (ix2 r ⟨j.val, by omega⟩)) := by
  have hp : r.val * 128 + j.val < 16384 := by omega
  have e := congrFun h (ix1 ⟨131072 + (r.val * 128 + j.val), by omega⟩)
  refine Finite.num_of_test (Eq.trans (congrArg (fun x => BitVec.ofBool (decide (FloatOps.absf (F := Ideal) (φ := .f32) x < _))) (Eq.symm ?_)) e)
  refine (second_piece _ _ _ _ _ _ hp).trans ?_
  pointwise

theorem num_a (r : Fin 128) (u : Fin 127) (c : Fin 2) (d : Fin 64) : Finite.Num (A (ix4 r ⟨u.val + 1, by omega⟩ c d)) := by
  have e := congrFun h (ix1 ⟨131072 + (16384 + (((r.val * 127 + u.val) * 2 + c.val) * 64 + d.val)), by omega⟩)
  refine Finite.num_of_test (Eq.trans (Eq.symm ?_) e)
  pointwise [fn]
  rw [dif_pos (by omega)]
  exact congrArg (fun x => BitVec.ofBool (decide (FloatOps.absf (F := Ideal) (φ := .f32) (A (ix4 r x c d)) < _))) (Fin.ext (Nat.add_comm 1 u.val))

theorem num_t (j : Fin 16) : Finite.Num (T (ix1 j)) := by
  have e := congrFun h (ix1 ⟨131072 + (16384 + (2080768 + j.val)), by omega⟩)
  refine Finite.num_of_test (Eq.trans (Eq.symm ?_) e)
  pointwise [fn]

end Cert.WinPre

end
-- ==== Proof.WinClaims.lean ====
module

public import proofs.«01_k».proof.Defs
public import proofs.«01_k».proof.Proof.Gen.Win.Frame
public import proofs.«01_k».proof.Proof.Gen.WinIdeal.Value
public import proofs.«01_k».proof.Proof.Gen.WinReferenceIdeal.Run
public import proofs.«01_k».proof.Proof.WinValue
public import proofs.«01_k».proof.Proof.WinPre
public import Idealize.ShloMosaic.Adequacy

@[expose] public section

/-! # The claims about the samples' windowed attention -/

noncomputable section

namespace Cert.WinClaims

open Idealize.ShloMosaic

theorem frame : Cert.quiescent_Win := fun m ρ _ => Cert.Win.Gen.frame m ρ

theorem frame_ideal : Cert.quiescent_WinIdeal := fun m ρ _ => Cert.WinIdeal.Gen.frame m ρ

theorem frame_reference : Cert.quiescent_WinReferenceIdeal := fun m ρ _ =>
  (θ_run Cert.WinReferenceIdeal.defs _ _).mono (fun r h => ⟨fun c => (h c).2.2.2, sem_eq_zero_of_no_sems (by decide) r.2⟩)
    (Cert.WinReferenceIdeal.Value.run (F := Ideal) m ρ)

/-- The two frames again, of the memories the precondition holds of. -/
theorem frame_ideal_pre : Cert.quiescent_WinIdeal_pre_finite_win := fun m ρ _ => frame_ideal m ρ trivial

theorem frame_reference_pre : Cert.quiescent_WinReferenceIdeal_pre_finite_win := fun m ρ _ => frame_reference m ρ trivial

theorem preserves : Cert.preserves_Win_WinIdeal := trivial

/-- Both programs end with the reference's values of the kernel's arguments. -/
theorem algebraic : Cert.algebraic_WinIdeal_WinReferenceIdeal_pre_finite_win := by
  intro m ρ m' ρ' hpre hagree
  refine ⟨fun c => WinValue.G6 m c, fun c => WinValue.G7 m c, fun c => WinValue.G8 m c, ?_, ?_⟩
  · refine (θ_run Cert.WinIdeal.defs _ _).mono (fun _ h c => ?_) (Cert.WinIdeal.Value.run_blocks (F := Ideal) m ρ)
    obtain ⟨h6, h7, h8, hrest⟩ := h c
    exact ⟨h6.trans (WinValue.final6 m c (WinPre.num_q (hpre c)) (WinPre.num_k (hpre c)) (WinPre.num_a (hpre c)) (WinPre.num_t (hpre c))),
      h7.trans (WinValue.final7 m c), h8.trans (WinValue.final8 m c), hrest⟩
  · refine (θ_run Cert.WinReferenceIdeal.defs _ _).mono (fun _ h c => ?_) (Cert.WinReferenceIdeal.Value.run (F := Ideal) m' ρ')
    obtain ⟨e0, e1, e2, e3, e4⟩ := hagree c
    obtain ⟨h6, h7, h8, hrest⟩ := h c
    refine ⟨h6.trans ?_, h7.trans ?_, h8.trans ?_, hrest⟩
    · rw [Cert.WinReferenceIdeal.Read.val_main_v48_eq]
      show Cert.WinReferenceIdeal.Read.val_main_v48 (F := Ideal) _ _ _ _ _ = Cert.WinReferenceIdeal.Read.val_main_v48 _ _ _ _ _
      rw [e0, e1, e2, e3, e4]
    · refine (Cert.WinReferenceIdeal.Read.val_main_v50_eq (F := Ideal) _ _).trans ?_
      show Cert.WinReferenceIdeal.Read.val_main_v50 (F := Ideal) _ _ = Cert.WinReferenceIdeal.Read.val_main_v50 _ _
      rw [e1, e2]
    · refine (Cert.WinReferenceIdeal.Read.val_main_v52_eq (F := Ideal) _ _).trans ?_
      show Cert.WinReferenceIdeal.Read.val_main_v52 (F := Ideal) _ _ = Cert.WinReferenceIdeal.Read.val_main_v52 _ _
      rw [e1, e3]

end Cert.WinClaims

end
-- ==== Proof.PrepStage.lean ====
module

public import proofs.«01_k».proof.Proof.Gen.PrepIdeal.Value
public import Idealize.ShloMosaic.Lib.Pointwise

@[expose] public section

set_option maxRecDepth 16384

/-! # The delta rule's preparation: what is stored, head by head

The body takes eight heads through the same computation on their own columns. It is spelt out here once, and the outputs'
stores are its instances. -/

noncomputable section

namespace Cert.PrepStage

open Cert.PrepIdeal Cert.PrepIdeal.Gen Idealize.ShloMosaic Idealize.ShloMosaic.TcCoe Idealize.SL.Sem

/-- The new row's columns of group `g`: queries are groups 0 to 7, keys 8 to 15, values 16 to 23. -/
abbrev cols (g : Fin 24) : Rect S128x3072 :=
  Rect.unit (s := S128x3072) ![0, 128 * g.val] S128x128.size (by
    intro a
    match a with
    | ⟨0, _⟩ => show 0 + 128 ≤ 128; omega
    | ⟨1, _⟩ => show 128 * g.val + 128 ≤ 3072; omega)

/-- Row `j` of the convolution's weights at a group's columns. -/
abbrev taps (j : Fin 4) (g : Fin 24) : Rect S4x3072 :=
  Rect.unit (s := S4x3072) ![j.val, 128 * g.val] S1x128.size (by
    intro a
    match a with
    | ⟨0, _⟩ => show j.val + 1 ≤ 4; omega
    | ⟨1, _⟩ => show 128 * g.val + 128 ≤ 3072; omega)

/-- Row `j` of the samples' histories at a group's columns. -/
abbrev olds (j : Fin 3) (g : Fin 24) : Rect S3x128x3072 :=
  Rect.unit (s := S3x128x3072) ![j.val, 0, 128 * g.val] S1x128x128.size (by
    intro a
    match a with
    | ⟨0, _⟩ => show j.val + 1 ≤ 3; omega
    | ⟨1, _⟩ => show 0 + 128 ≤ 128; omega
    | ⟨2, _⟩ => show 128 * g.val + 128 ≤ 3072; omega)

/-- Row `j` of the samples' histories. -/
abbrev hist (j : Fin 3) : Rect S3x128x3072 :=
  Rect.unit (s := S3x128x3072) ![j.val, 0, 0] S1x128x3072.size (by
    intro a
    match a with
    | ⟨0, _⟩ => show j.val + 1 ≤ 3; omega
    | ⟨1, _⟩ => show 0 + 128 ≤ 128; omega
    | ⟨2, _⟩ => show 0 + 3072 ≤ 3072; omega)

/-- Head `h`'s slab of the queries or keys. -/
abbrev slab (h : Fin 8) : Rect S8x128x128 :=
  Rect.unit (s := S8x128x128) ![h.val, 0, 0] S1x128x128.size (by
    intro a
    match a with
    | ⟨0, _⟩ => show h.val + 1 ≤ 8; omega
    | ⟨1, _⟩ => show 0 + 128 ≤ 128; omega
    | ⟨2, _⟩ => show 0 + 128 ≤ 128; omega)

/-- Head `h`'s lanes of the values, decays or strengths. -/
abbrev band (h : Fin 8) : Rect S128x1024 :=
  Rect.unit (s := S128x1024) ![0, 128 * h.val] S128x128.size (by
    intro a
    match a with
    | ⟨0, _⟩ => show 0 + 128 ≤ 128; omega
    | ⟨1, _⟩ => show 128 * h.val + 128 ≤ 1024; omega)

abbrev row0 : Rect S128x3072 := Rect.unit (s := S128x3072) ![0, 0] S128x3072.size inb_S128x3072_S128x3072_0_0
abbrev all2 : Rect S128x128 := Rect.unit (s := S128x128) ![0, 0] S128x128.size inb_S128x128_S128x128_0_0
abbrev all1 : Rect S1x128 := Rect.unit (s := S1x128) ![0, 0] S1x128.size inb_S1x128_S1x128_0_0

theorem slices_col : ∀ b : Fin 16, S128x128.Slices ![0, b.val] S128x1 := by decide

/-- Column `b`, in every lane. -/
def spread (x : FVec Ideal S128x128 .f32) (b : Fin 16) : FVec Ideal S128x128 .f32 :=
  broadcastTo S128x128 (shapeCast S128x1 (extractStridedSlice S128x1 ![0, b.val] x (slices_col b)) shapeCasts_S128x1_S128x1) broadcasts_S128x1_S128x128

variable (x0 : Vec Ideal S128x3072 .f32) (x1 : Vec Ideal S3x128x3072 .f32) (x2 : Vec Ideal S128x128 .f32) (x3 : Vec Ideal S4x3072 .f32)
  (x4 x5 : Vec Ideal S1x128 .f32)

/-- A group's columns through the convolution and its activation. -/
def act (g : Fin 24) : FVec Ideal S128x128 .f32 :=
  k0_pay18 (View.ld x0 (cols g)) (View.ld x3 (taps 3 g)) (View.ld x1 (olds 0 g)) (View.ld x3 (taps 0 g)) (View.ld x1 (olds 1 g)) (View.ld x3 (taps 1 g))
    (View.ld x1 (olds 2 g)) (View.ld x3 (taps 2 g))

/-- The decays, a column a head. -/
def decays : FVec Ideal S128x128 .f32 :=
  k0_pay10 (k0_pay4 (View.ld x4 all1)) (k0_pay6 (View.ld x2 all2) (View.ld x5 all1)) (k0_pay7 (View.ld x2 all2) (View.ld x5 all1))
    (k0_pay8 (View.ld x2 all2) (View.ld x5 all1)) (k0_pay9 (View.ld x2 all2) (View.ld x5 all1))

def qPiece (h : Fin 8) : View.Piece (Elt Ideal) S8x128x128 .f32 := ⟨slab h, k0_pay88 (act x0 x1 x3 ⟨h.val, by omega⟩)⟩

/-- The reciprocal of a row's length, in every lane. -/
def scale (x : FVec Ideal S128x128 .f32) : FVec Ideal S128x128 .f32 :=
  broadcastTo S128x128 (rsqrt (addf (shapeCast S128x1 (multiReduction .add [1] S128 (mulf x x) 0x00000000#32 reduces_S128x128_S128 (.inl rfl) rfl)
    shapeCasts_S128_S128x1) (broadcast S128x1 (Scalar.ofBits (F := Ideal) .f32 0x358637BD#32)))) broadcasts_S128x1_S128x128

def kPiece (h : Fin 8) : View.Piece (Elt Ideal) S8x128x128 .f32 :=
  ⟨slab h, k0_pay17 (act x0 x1 x3 ⟨8 + h.val, by omega⟩) (scale (act x0 x1 x3 ⟨8 + h.val, by omega⟩))⟩

def vPiece (h : Fin 8) : View.Piece (Elt Ideal) S128x1024 .f32 := ⟨band h, act x0 x1 x3 ⟨16 + h.val, by omega⟩⟩

def decPiece (h : Fin 8) : View.Piece (Elt Ideal) S128x1024 .f32 := ⟨band h, spread (decays x2 x4 x5) ⟨h.val, by omega⟩⟩

def betaPiece (h : Fin 8) : View.Piece (Elt Ideal) S128x1024 .f32 := ⟨band h, spread (k0_pay11 (View.ld x2 all2)) ⟨8 + h.val, by omega⟩⟩

/-- The heads, last first. -/
abbrev heads : List (Fin 8) := [7, 6, 5, 4, 3, 2, 1, 0]

theorem hist_eq : out0_6 (F := Ideal) x0 x1 x2 x3 x4 x5
    = View.canon [⟨hist 2, k0_pay3 (View.ld x0 row0)⟩, ⟨hist 1, k0_pay2 (View.ld x1 (hist 2))⟩, ⟨hist 0, k0_pay1 (View.ld x1 (hist 1))⟩] := rfl

theorem q_eq : out0_7 (F := Ideal) x0 x1 x2 x3 x4 x5 = View.canon (heads.map (qPiece x0 x1 x3)) := rfl

theorem k_eq : out0_8 (F := Ideal) x0 x1 x2 x3 x4 x5 = View.canon (heads.map (kPiece x0 x1 x3)) := rfl

theorem v_eq : out0_9 (F := Ideal) x0 x1 x2 x3 x4 x5 = View.canon (heads.map (vPiece x0 x1 x3)) := rfl

theorem dec_eq : out0_10 (F := Ideal) x0 x1 x2 x3 x4 x5 = View.canon (heads.map (decPiece x2 x4 x5)) := rfl

theorem beta_eq : out0_11 (F := Ideal) x0 x1 x2 x3 x4 x5 = View.canon (heads.map (betaPiece x2)) := rfl

end Cert.PrepStage

end
-- ==== Proof.PrepBlock.lean ====
module

public import proofs.«01_k».proof.Proof.PrepStage

@[expose] public section

set_option maxRecDepth 16384

/-! # The delta rule's preparation: the six blocks, element by element -/

noncomputable section

namespace Cert.PrepBlock

open Cert.PrepIdeal Cert.PrepIdeal.Gen Cert.PrepStage Idealize.ShloMosaic Idealize.ShloMosaic.TcCoe Idealize.SL.Sem

/-! ## The mathematics -/

/-- One channel's convolution at the new row, and its activation. -/
abbrev conv (n o0 o1 o2 w0 w1 w2 w3 : EReal) : EReal := n * w3 + o0 * w0 + o1 * w1 + o2 * w2

abbrev silu (y : EReal) : EReal := y * Ideal.logistic y

/-- A row over its length. -/
abbrev unit (r : Fin 128 → EReal) (l : Fin 128) : EReal :=
  r l * Ideal.rsqrt ((∑ j : Fin 128, r j * r j) + Ideal.ofBits .f32 0x358637BD#32)

abbrev softplus (x : EReal) : EReal := max x 0 + Ideal.log1p (Ideal.exp (-max x (-x)))

abbrev decay (a t d : EReal) : EReal := Ideal.exp (-Ideal.exp a * softplus (t + d))

/-- Lane `l` of group `g`. -/
abbrev chan (g : Fin 24) (l : Fin 128) : Fin 3072 := ⟨128 * g.val + l.val, by omega⟩

/-! ## The loads -/

theorem ld_cols (x : Vec Ideal S128x3072 .f32) (g : Fin 24) (b l : Fin 128) : View.ld x (cols g) (ix2 b l) = x (ix2 b (chan g l)) := by
  refine congrArg x (funext fun a => Fin.ext ?_)
  match a with
  | ⟨0, _⟩ => show 0 + 1 * b.val = b.val; omega
  | ⟨1, _⟩ => show 128 * g.val + 1 * l.val = 128 * g.val + l.val; omega

theorem ld_taps (x : Vec Ideal S4x3072 .f32) (j : Fin 4) (g : Fin 24) (l : Fin 128) : View.ld x (taps j g) (ix2 0 l) = x (ix2 j (chan g l)) := by
  refine congrArg x (funext fun a => Fin.ext ?_)
  match a with
  | ⟨0, _⟩ => show j.val + 1 * 0 = j.val; omega
  | ⟨1, _⟩ => show 128 * g.val + 1 * l.val = 128 * g.val + l.val; omega

theorem ld_olds (x : Vec Ideal S3x128x3072 .f32) (j : Fin 3) (g : Fin 24) (b l : Fin 128) :
    View.ld x (olds j g) (ix3 0 b l) = x (ix3 j b (chan g l)) := by
  refine congrArg x (funext fun a => Fin.ext ?_)
  match a with
  | ⟨0, _⟩ => show j.val + 1 * 0 = j.val; omega
  | ⟨1, _⟩ => show 0 + 1 * b.val = b.val; omega
  | ⟨2, _⟩ => show 128 * g.val + 1 * l.val = 128 * g.val + l.val; omega

theorem ld_hist (x : Vec Ideal S3x128x3072 .f32) (j : Fin 3) (b : Fin 128) (c : Fin 3072) :
    View.ld x (hist j) (ix3 0 b c) = x (ix3 j b c) := by
  refine congrArg x (funext fun a => Fin.ext ?_)
  match a with
  | ⟨0, _⟩ => show j.val + 1 * 0 = j.val; omega
  | ⟨1, _⟩ => show 0 + 1 * b.val = b.val; omega
  | ⟨2, _⟩ => show 0 + 1 * c.val = c.val; omega

theorem ld_row0 (x : Vec Ideal S128x3072 .f32) (b : Fin 128) (c : Fin 3072) : View.ld x row0 (ix2 b c) = x (ix2 b c) := by
  refine congrArg x (funext fun a => Fin.ext ?_)
  match a with
  | ⟨0, _⟩ => show 0 + 1 * b.val = b.val; omega
  | ⟨1, _⟩ => show 0 + 1 * c.val = c.val; omega

theorem ld_all2 (x : Vec Ideal S128x128 .f32) (b c : Fin 128) : View.ld x all2 (ix2 b c) = x (ix2 b c) := by
  refine congrArg x (funext fun a => Fin.ext ?_)
  match a with
  | ⟨0, _⟩ => show 0 + 1 * b.val = b.val; omega
  | ⟨1, _⟩ => show 0 + 1 * c.val = c.val; omega

theorem ld_all1 (x : Vec Ideal S1x128 .f32) (l : Fin 128) : View.ld x all1 (ix2 0 l) = x (ix2 0 l) := by
  refine congrArg x (funext fun a => Fin.ext ?_)
  match a with
  | ⟨0, _⟩ => show 0 + 1 * 0 = 0; omega
  | ⟨1, _⟩ => show 0 + 1 * l.val = l.val; omega

theorem emb_hist (j : Fin 3) (z : S1x128x3072.Idx) : (hist j).emb z = ix3 j (z 1) (z 2) := by
  refine funext fun a => Fin.ext ?_
  match a with
  | ⟨0, _⟩ => show j.val + 1 * (z 0).val = j.val; have h : (z 0).val < 1 := (z 0).isLt; omega
  | ⟨1, _⟩ => show 0 + 1 * (z 1).val = (z 1).val; omega
  | ⟨2, _⟩ => show 0 + 1 * (z 2).val = (z 2).val; omega

theorem emb_slab (h : Fin 8) (z : S1x128x128.Idx) : (slab h).emb z = ix3 h (z 1) (z 2) := by
  refine funext fun a => Fin.ext ?_
  match a with
  | ⟨0, _⟩ => show h.val + 1 * (z 0).val = h.val; have h : (z 0).val < 1 := (z 0).isLt; omega
  | ⟨1, _⟩ => show 0 + 1 * (z 1).val = (z 1).val; omega
  | ⟨2, _⟩ => show 0 + 1 * (z 2).val = (z 2).val; omega

/-- Lane `l` of head `h` in a row of all heads. -/
abbrev lane (h : Fin 8) (l : Fin 128) : Fin 1024 := ⟨h.val * 128 + l.val, by omega⟩

theorem emb_band (h : Fin 8) (z : S128x128.Idx) : (band h).emb z = ix2 (z 0) (lane h (z 1)) := by
  refine funext fun a => Fin.ext ?_
  match a with
  | ⟨0, _⟩ => show 0 + 1 * (z 0).val = (z 0).val; omega
  | ⟨1, _⟩ => show 128 * h.val + 1 * (z 1).val = h.val * 128 + (z 1).val; omega

theorem mem_heads : ∀ h : Fin 8, h ∈ heads := by decide

/-! ## The pieces -/

theorem act_pay_apply (n : Vec Ideal S128x128 .f32) (p0 p1 p2 : Vec Ideal S1x128x128 .f32) (w0 w1 w2 w3 : Vec Ideal S1x128 .f32)
    (b l : Fin 128) : k0_pay18 n w3 p0 w0 p1 w1 p2 w2 (ix2 b l)
      = silu (conv (n (ix2 b l)) (p0 (ix3 0 b l)) (p1 (ix3 0 b l)) (p2 (ix3 0 b l)) (w0 (ix2 0 l)) (w1 (ix2 0 l)) (w2 (ix2 0 l)) (w3 (ix2 0 l))) := by
  pointwise [k0_pay18]

theorem query_pay_apply (y : FVec Ideal S128x128 .f32) (o : Fin 1) (l b : Fin 128) :
    k0_pay88 y (ix3 o l b) = unit (fun l => y (ix2 b l)) l * Ideal.ofBits .f32 0x3DB504F3#32 := by
  pointwise [k0_pay88]

theorem key_pay_apply (y : FVec Ideal S128x128 .f32) (o : Fin 1) (l b : Fin 128) :
    k0_pay17 y (scale y) (ix3 o l b) = unit (fun l => y (ix2 b l)) l := by
  pointwise [k0_pay17, scale]

theorem spread_apply (x : FVec Ideal S128x128 .f32) (c : Fin 16) (b l : Fin 128) :
    spread x c (ix2 b l) = x (ix2 b ⟨c.val, by omega⟩) := by
  have e : extractStridedSlice S128x1 ![0, c.val] x (slices_col c) (ix2 b 0) = x (ix2 b ⟨c.val, by omega⟩) := by
    refine congrArg x (funext fun a => Fin.ext ?_)
    match a with
    | ⟨0, _⟩ => show 0 + b.val = b.val; omega
    | ⟨1, _⟩ => show c.val + 0 = c.val; omega
  unfold spread
  generalize extractStridedSlice S128x1 ![0, c.val] x (slices_col c) = y at e ⊢
  pointwise
  exact e

theorem decay_pay_apply (t : Vec Ideal S128x128 .f32) (a d : Vec Ideal S1x128 .f32) (b l : Fin 128) :
    k0_pay10 (k0_pay4 a) (k0_pay6 t d) (k0_pay7 t d) (k0_pay8 t d) (k0_pay9 t d) (ix2 b l) = decay (a (ix2 0 l)) (t (ix2 b l)) (d (ix2 0 l)) := by
  pointwise [k0_pay10, k0_pay4, k0_pay5, k0_pay6, k0_pay7, k0_pay8, k0_pay9]
  simp only [ne_eq, not_true_eq_false, if_false, zero_sub]
  rfl

theorem strength_pay_apply (t : Vec Ideal S128x128 .f32) (b l : Fin 128) : k0_pay11 t (ix2 b l) = Ideal.logistic (t (ix2 b l)) := rfl

theorem old0_apply (x : Vec Ideal S1x128x3072 .f32) (o : Fin 1) (b : Fin 128) (c : Fin 3072) : k0_pay1 x (ix3 o b c) = x (ix3 0 b c) := by
  obtain rfl := Fin.fin_one_eq_zero o
  pointwise [k0_pay1]

theorem old1_apply (x : Vec Ideal S1x128x3072 .f32) (o : Fin 1) (b : Fin 128) (c : Fin 3072) : k0_pay2 x (ix3 o b c) = x (ix3 0 b c) := by
  obtain rfl := Fin.fin_one_eq_zero o
  pointwise [k0_pay2]

theorem new_apply (x : Vec Ideal S128x3072 .f32) (o : Fin 1) (b : Fin 128) (c : Fin 3072) : k0_pay3 x (ix3 o b c) = x (ix2 b c) := by
  pointwise [k0_pay3]

/-! ## The blocks -/

variable (x0 : Vec Ideal S128x3072 .f32) (x1 : Vec Ideal S3x128x3072 .f32) (x2 : Vec Ideal S128x128 .f32) (x3 : Vec Ideal S4x3072 .f32)
  (x4 x5 : Vec Ideal S1x128 .f32)

/-- Sample `b`'s channel `c` through the convolution and its activation. -/
abbrev actAt (b : Fin 128) (c : Fin 3072) : EReal :=
  silu (conv (x0 (ix2 b c)) (x1 (ix3 0 b c)) (x1 (ix3 1 b c)) (x1 (ix3 2 b c)) (x3 (ix2 0 c)) (x3 (ix2 1 c)) (x3 (ix2 2 c)) (x3 (ix2 3 c)))

theorem conv_congr {n n' o0 o0' o1 o1' o2 o2' w0 w0' w1 w1' w2 w2' w3 w3' : EReal} (h : n = n') (h0 : o0 = o0') (h1 : o1 = o1') (h2 : o2 = o2')
    (k0 : w0 = w0') (k1 : w1 = w1') (k2 : w2 = w2') (k3 : w3 = w3') :
    silu (conv n o0 o1 o2 w0 w1 w2 w3) = silu (conv n' o0' o1' o2' w0' w1' w2' w3') := by
  subst h h0 h1 h2 k0 k1 k2 k3; rfl

theorem act_apply (g : Fin 24) (b l : Fin 128) : act x0 x1 x3 g (ix2 b l) = actAt x0 x1 x3 b (chan g l) :=
  (act_pay_apply _ _ _ _ _ _ _ _ b l).trans (conv_congr (ld_cols x0 g b l) (ld_olds x1 0 g b l) (ld_olds x1 1 g b l) (ld_olds x1 2 g b l)
    (ld_taps x3 0 g l) (ld_taps x3 1 g l) (ld_taps x3 2 g l) (ld_taps x3 3 g l))

theorem unit_congr {r s : Fin 128 → EReal} (h : ∀ l, r l = s l) (l : Fin 128) : unit r l = unit s l := by
  rw [funext h]

theorem decay_congr {a a' t t' d d' : EReal} (ha : a = a') (ht : t = t') (hd : d = d') : decay a t d = decay a' t' d' := by
  subst ha ht hd; rfl

/-- What head `h` stores in its slab, and in its lanes. -/
abbrev slabPiece (P : Fin 8 → FVec Ideal S1x128x128 .f32) (h : Fin 8) : View.Piece (Elt Ideal) S8x128x128 .f32 := ⟨slab h, P h⟩

abbrev bandPiece (P : Fin 8 → FVec Ideal S128x128 .f32) (h : Fin 8) : View.Piece (Elt Ideal) S128x1024 .f32 := ⟨band h, P h⟩

/-- What is left where each head stores its slab. -/
theorem slab_canon (P : Fin 8 → FVec Ideal S1x128x128 .f32) (G : Fin 8 → Fin 128 → Fin 128 → EReal)
    (hP : ∀ h o l b, P h (ix3 o l b) = G h l b) (h : Fin 8) (l b : Fin 128) :
    View.canon (heads.map (slabPiece P)) (ix3 h l b) = G h l b := by
  refine View.canon_apply_of_pieces (fun y : S8x128x128.Idx => (G (y 0) (y 1) (y 2) : Elt Ideal .f32)) _ (fun p hp z => ?_) _
    ⟨slabPiece P h, List.mem_map.2 ⟨h, mem_heads _, rfl⟩, ?_⟩
  · obtain ⟨h, -, rfl⟩ := List.mem_map.1 hp
    obtain ⟨o, l, b, rfl⟩ : ∃ (o : Fin 1) (l b : Fin 128), z = ix3 o l b := ⟨z 0, z 1, z 2, eq_ix3 z⟩
    show P h (ix3 o l b) = G ((slab h).emb (ix3 o l b) 0) ((slab h).emb (ix3 o l b) 1) ((slab h).emb (ix3 o l b) 2)
    rw [emb_slab]
    exact hP h o l b
  · show ix3 h l b ∈ (slab h).set
    rw [Rect.mem_set_unit]
    intro a
    match a with
    | ⟨0, _⟩ => show h.val ≤ h.val ∧ h.val < h.val + 1; omega
    | ⟨1, _⟩ => show 0 ≤ l.val ∧ l.val < 0 + 128; omega
    | ⟨2, _⟩ => show 0 ≤ b.val ∧ b.val < 0 + 128; omega

/-- The head of a lane in a row of all heads, and its place there. -/
abbrev headOf (c : Fin 1024) : Fin 8 := ⟨c.val / 128, by omega⟩

abbrev placeOf (c : Fin 1024) : Fin 128 := ⟨c.val % 128, by omega⟩

/-- What is left where each head stores its lanes. -/
theorem band_canon (P : Fin 8 → FVec Ideal S128x128 .f32) (G : Fin 8 → Fin 128 → Fin 128 → EReal)
    (hP : ∀ h b l, P h (ix2 b l) = G h b l) (b : Fin 128) (c : Fin 1024) :
    View.canon (heads.map (bandPiece P)) (ix2 b c) = G (headOf c) b (placeOf c) := by
  refine View.canon_apply_of_pieces (fun y : S128x1024.Idx => (G (headOf (y 1)) (y 0) (placeOf (y 1)) : Elt Ideal .f32)) _ (fun p hp z => ?_) _
    ⟨bandPiece P (headOf c), List.mem_map.2 ⟨headOf c, mem_heads _, rfl⟩, ?_⟩
  · obtain ⟨h, -, rfl⟩ := List.mem_map.1 hp
    obtain ⟨b, l, rfl⟩ : ∃ b l : Fin 128, z = ix2 b l := ⟨z 0, z 1, eq_ix2 z⟩
    show P h (ix2 b l) = G (headOf ((band h).emb (ix2 b l) 1)) ((band h).emb (ix2 b l) 0) (placeOf ((band h).emb (ix2 b l) 1))
    rw [emb_band]
    show P h (ix2 b l) = G (headOf (lane h l)) b (placeOf (lane h l))
    rw [show headOf (lane h l) = h from Fin.ext (by show (h.val * 128 + l.val) / 128 = h.val; omega),
      show placeOf (lane h l) = l from Fin.ext (by show (h.val * 128 + l.val) % 128 = l.val; omega)]
    exact hP h b l
  · show ix2 b c ∈ (band (headOf c)).set
    rw [Rect.mem_set_unit]
    intro a
    match a with
    | ⟨0, _⟩ => show 0 ≤ b.val ∧ b.val < 0 + 128; omega
    | ⟨1, _⟩ => show 128 * (c.val / 128) ≤ c.val ∧ c.val < 128 * (c.val / 128) + 128; omega

theorem q_apply (h : Fin 8) (l b : Fin 128) : out0_7 (F := Ideal) x0 x1 x2 x3 x4 x5 (ix3 h l b)
    = unit (fun l => actAt x0 x1 x3 b (chan ⟨h.val, by omega⟩ l)) l * Ideal.ofBits .f32 0x3DB504F3#32 := by
  rw [q_eq]
  exact slab_canon (fun h => k0_pay88 (act x0 x1 x3 ⟨h.val, by omega⟩))
    (fun h l b => unit (fun l => actAt x0 x1 x3 b (chan ⟨h.val, by omega⟩ l)) l * Ideal.ofBits .f32 0x3DB504F3#32)
    (fun h o l b => (query_pay_apply _ o l b).trans (congrArg₂ (fun x y : EReal => x * y) (unit_congr (fun l => act_apply x0 x1 x3 _ b l) l) rfl)) h l b

theorem k_apply (h : Fin 8) (l b : Fin 128) : out0_8 (F := Ideal) x0 x1 x2 x3 x4 x5 (ix3 h l b)
    = unit (fun l => actAt x0 x1 x3 b (chan ⟨8 + h.val, by omega⟩ l)) l := by
  rw [k_eq]
  exact slab_canon (fun h => k0_pay17 (act x0 x1 x3 ⟨8 + h.val, by omega⟩) (scale (act x0 x1 x3 ⟨8 + h.val, by omega⟩)))
    (fun h l b => unit (fun l => actAt x0 x1 x3 b (chan ⟨8 + h.val, by omega⟩ l)) l)
    (fun h o l b => (key_pay_apply _ o l b).trans (unit_congr (fun l => act_apply x0 x1 x3 _ b l) l)) h l b

theorem v_apply (b : Fin 128) (c : Fin 1024) : out0_9 (F := Ideal) x0 x1 x2 x3 x4 x5 (ix2 b c)
    = actAt x0 x1 x3 b (chan ⟨16 + (headOf c).val, by omega⟩ (placeOf c)) := by
  rw [v_eq]
  exact band_canon (fun h => act x0 x1 x3 ⟨16 + h.val, by omega⟩) (fun h b l => actAt x0 x1 x3 b (chan ⟨16 + h.val, by omega⟩ l))
    (fun h b l => act_apply x0 x1 x3 _ b l) b c

theorem dec_apply (b : Fin 128) (c : Fin 1024) : out0_10 (F := Ideal) x0 x1 x2 x3 x4 x5 (ix2 b c)
    = decay (x4 (ix2 0 ⟨(headOf c).val, by omega⟩)) (x2 (ix2 b ⟨(headOf c).val, by omega⟩)) (x5 (ix2 0 ⟨(headOf c).val, by omega⟩)) := by
  rw [dec_eq]
  exact band_canon (fun h => spread (decays x2 x4 x5) ⟨h.val, by omega⟩)
    (fun h b _ => decay (x4 (ix2 0 ⟨h.val, by omega⟩)) (x2 (ix2 b ⟨h.val, by omega⟩)) (x5 (ix2 0 ⟨h.val, by omega⟩)))
    (fun h b l => (spread_apply _ _ b l).trans ((decay_pay_apply _ _ _ b _).trans
      (decay_congr (ld_all1 x4 _) (ld_all2 x2 b _) (ld_all1 x5 _)))) b c

theorem beta_apply (b : Fin 128) (c : Fin 1024) : out0_11 (F := Ideal) x0 x1 x2 x3 x4 x5 (ix2 b c)
    = Ideal.logistic (x2 (ix2 b ⟨8 + (headOf c).val, by omega⟩)) := by
  rw [beta_eq]
  exact band_canon (fun h => spread (k0_pay11 (View.ld x2 all2)) ⟨8 + h.val, by omega⟩)
    (fun h b _ => Ideal.logistic (x2 (ix2 b ⟨8 + h.val, by omega⟩)))
    (fun h b l => (spread_apply _ _ b l).trans (congrArg Ideal.logistic (ld_all2 x2 b _))) b c

/-- The history moved on by one row. -/
abbrev moved (j : Fin 3) (b : Fin 128) (c : Fin 3072) : EReal :=
  match j with
  | 0 => x1 (ix3 1 b c)
  | 1 => x1 (ix3 2 b c)
  | 2 => x0 (ix2 b c)

abbrev movedAt (y : S3x128x3072.Idx) : EReal := moved x0 x1 (y 0) (y 1) (y 2)

theorem row_cases (z : S1x128x3072.Idx) : ∃ (o : Fin 1) (b : Fin 128) (c : Fin 3072), z = ix3 o b c := ⟨z 0, z 1, z 2, eq_ix3 z⟩

theorem mem_hist (j : Fin 3) (b : Fin 128) (c : Fin 3072) : ix3 j b c ∈ (hist j).set := by
  rw [Rect.mem_set_unit]
  intro a
  match a with
  | ⟨0, _⟩ => show j.val ≤ j.val ∧ j.val < j.val + 1; omega
  | ⟨1, _⟩ => show 0 ≤ b.val ∧ b.val < 0 + 128; omega
  | ⟨2, _⟩ => show 0 ≤ c.val ∧ c.val < 0 + 3072; omega

theorem hist_apply (j : Fin 3) (b : Fin 128) (c : Fin 3072) :
    out0_6 (F := Ideal) x0 x1 x2 x3 x4 x5 (ix3 j b c) = moved x0 x1 j b c := by
  rw [hist_eq]
  refine View.canon_apply_of_pieces (Val := Elt Ideal) (e := .f32) (movedAt x0 x1) _ (fun p hp z => ?_) _ ?_
  · simp only [List.mem_cons, List.not_mem_nil, or_false] at hp
    rcases hp with rfl | rfl | rfl
    · obtain ⟨o, b, c, rfl⟩ := row_cases z
      exact ((new_apply _ o b c).trans (ld_row0 x0 b c)).trans (congrArg (movedAt x0 x1) (emb_hist 2 (ix3 o b c))).symm
    · obtain ⟨o, b, c, rfl⟩ := row_cases z
      exact ((old1_apply _ o b c).trans (ld_hist x1 2 b c)).trans (congrArg (movedAt x0 x1) (emb_hist 1 (ix3 o b c))).symm
    · obtain ⟨o, b, c, rfl⟩ := row_cases z
      exact ((old0_apply _ o b c).trans (ld_hist x1 1 b c)).trans (congrArg (movedAt x0 x1) (emb_hist 0 (ix3 o b c))).symm
  · match j with
    | 0 => exact ⟨_, List.mem_cons_of_mem _ (List.mem_cons_of_mem _ List.mem_cons_self), mem_hist 0 b c⟩
    | 1 => exact ⟨_, List.mem_cons_of_mem _ List.mem_cons_self, mem_hist 1 b c⟩
    | 2 => exact ⟨_, List.mem_cons_self, mem_hist 2 b c⟩

end Cert.PrepBlock

end
-- ==== Proof.PrepRef.lean ====
module

public import proofs.«01_k».proof.Proof.Gen.PrepReferenceIdeal.Read
public import proofs.«01_k».proof.Proof.PrepBlock
public import Idealize.ShloMosaic.Lib.Pointwise

@[expose] public section

set_option maxRecDepth 16384

/-! # The delta rule's preparation: the reference, element by element -/

noncomputable section

namespace Cert.PrepRef

open Cert.PrepReferenceIdeal Cert.PrepReferenceIdeal.Gen Cert.PrepReferenceIdeal.Read Idealize.ShloMosaic Idealize.ShloMosaic.TcCoe
open Cert.PrepBlock (conv silu unit decay headOf placeOf unit_congr lane chan actAt moved)

variable (X : (⟨S128x3072, .f32⟩ : BufTy).Contents (Elt Ideal)) (H : (⟨S128x3x3072, .f32⟩ : BufTy).Contents (Elt Ideal))
  (T : (⟨S128x128, .f32⟩ : BufTy).Contents (Elt Ideal)) (W : (⟨S4x3072, .f32⟩ : BufTy).Contents (Elt Ideal))
  (A D : (⟨S8, .f32⟩ : BufTy).Contents (Elt Ideal)) (b : Fin 128)

/-! ## The history with the new row -/

theorem old_apply (k : ℕ) (hk : k < 3) (c : Fin 3072) : val_main_v1 (F := Ideal) X H (ix3 b ⟨k, by omega⟩ c) = H (ix3 b ⟨k, hk⟩ c) :=
  concatenate_apply_piece (t := S128x4x3072) 1 [⟨S128x3x3072, H⟩, ⟨S128x1x3072, val_main_v0 (F := Ideal) X⟩]
    concatenates_S128x3x3072_S128x1x3072_S128x4x3072_d1 (ix3 b ⟨k, by omega⟩ c) 0 (Nat.zero_lt_succ _) S128x3x3072 H rfl
    rfl 0 rfl (ix3 b ⟨k, hk⟩ c) (fun a ha => match a with
      | ⟨0, _⟩ => rfl
      | ⟨1, _⟩ => absurd rfl ha
      | ⟨2, _⟩ => rfl) (Nat.zero_add k)

theorem new_apply (c : Fin 3072) : val_main_v1 (F := Ideal) X H (ix3 b 3 c) = X (ix2 b c) := by
  refine Eq.trans (concatenate_apply_piece (t := S128x4x3072) 1 [⟨S128x3x3072, H⟩, ⟨S128x1x3072, val_main_v0 (F := Ideal) X⟩]
    concatenates_S128x3x3072_S128x1x3072_S128x4x3072_d1 (ix3 b 3 c) 1 (Nat.lt_succ_self _) S128x1x3072 (val_main_v0 (F := Ideal) X) rfl
    rfl 3 rfl (ix3 b 0 c) (fun a ha => match a with
      | ⟨0, _⟩ => rfl
      | ⟨1, _⟩ => absurd rfl ha
      | ⟨2, _⟩ => rfl) rfl) ?_
  rw [val_main_v0_apply]
  exact congrArg X (eq_ix2 _)

theorem moved_apply (j : Fin 3) (c : Fin 3072) :
    val_main_v48 (F := Ideal) X H (ix3 j b c) = moved X (fun i => H (ix3 (i 1) (i 0) (i 2))) j b c := by
  rw [val_main_v48_apply, val_main_v2_apply]
  match j with
  | 0 => exact (congrArg _ (eq_ix3 _)).trans (old_apply X H b 1 (by omega) c)
  | 1 => exact (congrArg _ (eq_ix3 _)).trans (old_apply X H b 2 (by omega) c)
  | 2 => exact (congrArg _ (eq_ix3 _)).trans (new_apply X H b c)

/-! ## The convolution -/

theorem tap_apply (k : Fin 4) (c : Fin 3072) : val_main_v5 (F := Ideal) X H W (ix3 b k c) = val_main_v1 (F := Ideal) X H (ix3 b k c) * W (ix2 k c) := by
  rw [val_main_v5_apply, val_main_v4_apply, val_main_v3_apply]
  exact congrArg₂ (fun x y : EReal => x * y) rfl (congrArg W (eq_ix2 _))

theorem reorder (a b c d : EReal) : a + b + c + d = d + a + b + c := by
  rw [add_comm (a + b + c) d, ← add_assoc, ← add_assoc]

abbrev convAt (c : Fin 3072) : EReal :=
  conv (X (ix2 b c)) (H (ix3 b 0 c)) (H (ix3 b 1 c)) (H (ix3 b 2 c)) (W (ix2 0 c)) (W (ix2 1 c)) (W (ix2 2 c)) (W (ix2 3 c))

theorem conv_apply (c : Fin 3072) : val_main_v6 (F := Ideal) X H W (ix2 b c) = convAt X H W b c := by
  rw [val_main_v6_apply]
  refine Eq.trans (congrArg₂ (fun x y : EReal => x + y) Ideal.ofBits_zero_f32 (Finset.sum_congr rfl fun k _ =>
    (congrArg _ (eq_ix3 _)).trans (tap_apply X H W b k c))) ((zero_add _).trans ?_)
  refine (Fin.sum_univ_four _).trans ?_
  refine Eq.trans (congrArg₂ (fun x y : EReal => x + y) (congrArg₂ (fun x y : EReal => x + y) (congrArg₂ (fun x y : EReal => x + y)
    (congrArg₂ (fun x y : EReal => x * y) (old_apply X H b 0 (by omega) c) rfl) (congrArg₂ (fun x y : EReal => x * y) (old_apply X H b 1 (by omega) c) rfl))
    (congrArg₂ (fun x y : EReal => x * y) (old_apply X H b 2 (by omega) c) rfl)) (congrArg₂ (fun x y : EReal => x * y) (new_apply X H b c) rfl)) ?_
  exact reorder _ _ _ _

theorem one_apply (i : S128x3072.Idx) : val_main_call0_v2 (F := Ideal) i = 1 ∧ val_main_call0_v4 (F := Ideal) i = 1 := by
  rw [val_main_call0_v2_apply, val_main_call0_v4_apply]
  exact ⟨Ideal.ofBits_one_f32, Ideal.ofBits_one_f32⟩

theorem act_apply (c : Fin 3072) : val_main_v7 (F := Ideal) X H W (ix2 b c) = silu (convAt X H W b c) := by
  rw [val_main_v7_apply, val_main_call0_v5_apply, val_main_call0_v3_apply, val_main_call0_v1_apply, val_main_call0_v0_apply,
    (one_apply _).1, (one_apply _).2, conv_apply]
  rfl

/-! ## The queries, the keys and the values -/

theorem heads_apply (Y : Vec Ideal S128x1024 .f32) (h : Fin 8) (l : Fin 128) :
    shapeCast S128x8x128 Y shapeCasts_S128x1024_S128x8x128 (ix3 b h l) = Y (ix2 b (lane h l)) := by
  pointwise

theorem query_apply (h : Fin 8) (l : Fin 128) :
    val_main_v11 (F := Ideal) X H W (ix3 b h l) = silu (convAt X H W b (chan ⟨h.val, by omega⟩ l)) := by
  refine (heads_apply b _ h l).trans ?_
  rw [val_main_v8_apply]
  refine (congrArg _ ((eq_ix2 _).trans (congrArg₂ (fun x y => ix2 x y) (Fin.ext rfl) (Fin.ext ?_)))).trans (act_apply X H W b _)
  show h.val * 128 + l.val = 128 * h.val + l.val
  omega

theorem key_apply (h : Fin 8) (l : Fin 128) :
    val_main_v22 (F := Ideal) X H W (ix3 b h l) = silu (convAt X H W b (chan ⟨8 + h.val, by omega⟩ l)) := by
  refine (heads_apply b _ h l).trans ?_
  rw [val_main_v9_apply]
  refine (congrArg _ ((eq_ix2 _).trans (congrArg₂ (fun x y => ix2 x y) (Fin.ext rfl) (Fin.ext ?_)))).trans (act_apply X H W b _)
  show 1024 + (h.val * 128 + l.val) = 128 * (8 + h.val) + l.val
  omega

theorem value_apply (c : Fin 1024) :
    val_main_v10 (F := Ideal) X H W (ix2 b c) = silu (convAt X H W b (chan ⟨16 + (headOf c).val, by omega⟩ (placeOf c))) := by
  rw [val_main_v10_apply]
  refine (congrArg _ ((eq_ix2 _).trans (congrArg₂ (fun x y => ix2 x y) (Fin.ext rfl) (Fin.ext ?_)))).trans (act_apply X H W b _)
  show 2048 + c.val = 128 * (16 + c.val / 128) + c.val % 128
  omega

theorem query_squares (h : Fin 8) : val_main_v13 (F := Ideal) X H W (ix2 b h)
    = ∑ l : Fin 128, val_main_v11 (F := Ideal) X H W (ix3 b h l) * val_main_v11 (F := Ideal) X H W (ix3 b h l) := by
  rw [val_main_v13_apply]
  refine Eq.trans (congrArg₂ (fun x y : EReal => x + y) Ideal.ofBits_zero_f32 (Finset.sum_congr rfl fun l _ => ?_)) (zero_add _)
  rw [val_main_v12_apply]
  have e : val_main_v11 (F := Ideal) X H W (idx_main_v13 (ix2 b h) l) = val_main_v11 (F := Ideal) X H W (ix3 b h l) := congrArg _ (eq_ix3 _)
  exact congrArg₂ (fun x y : EReal => x * y) e e

theorem key_squares (h : Fin 8) : val_main_v24 (F := Ideal) X H W (ix2 b h)
    = ∑ l : Fin 128, val_main_v22 (F := Ideal) X H W (ix3 b h l) * val_main_v22 (F := Ideal) X H W (ix3 b h l) := by
  rw [val_main_v24_apply]
  refine Eq.trans (congrArg₂ (fun x y : EReal => x + y) Ideal.ofBits_zero_f32 (Finset.sum_congr rfl fun l _ => ?_)) (zero_add _)
  rw [val_main_v23_apply]
  have e : val_main_v22 (F := Ideal) X H W (idx_main_v24 (ix2 b h) l) = val_main_v22 (F := Ideal) X H W (ix3 b h l) := congrArg _ (eq_ix3 _)
  exact congrArg₂ (fun x y : EReal => x * y) e e

theorem query_scaled (h : Fin 8) (l : Fin 128) : val_main_v49 (F := Ideal) X H W (ix3 h l b)
    = unit (fun l => silu (convAt X H W b (chan ⟨h.val, by omega⟩ l))) l * Ideal.ofBits .f32 0x3DB504F3#32 := by
  rw [← unit_congr (query_apply X H W b h)]
  rw [val_main_v49_apply, val_main_v21_apply, val_main_v20_apply, val_main_v19_apply, val_main_v18_apply, val_main_v17_apply, val_main_v16_apply,
    val_main_v15_apply, val_main_v14_apply]
  have e : val_main_v13 (F := Ideal) X H W (idx_main_v14 (idx_main_v18 (idx_main_v49 (ix3 h l b)))) = _ :=
    (congrArg _ (eq_ix2 _)).trans (query_squares X H W b h)
  refine congrArg₂ (fun x y : EReal => x * y) (congrArg₂ (fun x y : EReal => x * y) (congrArg _ (eq_ix3 _)) ?_) rfl
  exact congrArg (fun x : EReal => Ideal.rsqrt (x + Ideal.ofBits .f32 0x358637BD#32)) e

theorem key_scaled (h : Fin 8) (l : Fin 128) : val_main_v50 (F := Ideal) X H W (ix3 h l b)
    = unit (fun l => silu (convAt X H W b (chan ⟨8 + h.val, by omega⟩ l))) l := by
  rw [← unit_congr (key_apply X H W b h)]
  rw [val_main_v50_apply, val_main_v30_apply, val_main_v29_apply, val_main_v28_apply, val_main_v27_apply, val_main_v26_apply, val_main_v25_apply]
  have e : val_main_v24 (F := Ideal) X H W (idx_main_v25 (idx_main_v29 (idx_main_v50 (ix3 h l b)))) = _ :=
    (congrArg _ (eq_ix2 _)).trans (key_squares X H W b h)
  refine congrArg₂ (fun x y : EReal => x * y) (congrArg _ (eq_ix3 _)) ?_
  exact congrArg (fun x : EReal => Ideal.rsqrt (x + Ideal.ofBits .f32 0x358637BD#32)) e

/-! ## The decays and the strengths -/

theorem lanes_apply (Y : Vec Ideal S128x8x128 .f32) (c : Fin 1024) :
    shapeCast S128x1024 Y shapeCasts_S128x8x128_S128x1024 (ix2 b c) = Y (ix3 b (headOf c) (placeOf c)) := by
  pointwise

theorem decay_head (h : Fin 8) : val_main_v51 (F := Ideal) T A D (ix2 b h) = decay (A (ix1 h)) (T (ix2 b ⟨h.val, by omega⟩)) (D (ix1 h)) := by
  pointwise [val_main_v51, val_main_v41, val_main_v40, val_main_v39, val_main_v38, val_main_v37, val_main_v36, val_main_v35, val_main_v34, val_main_v33,
    val_main_v31, val_main_call1_cst, val_main_call1_v0, val_main_call1_v1, val_main_call1_v2, val_main_call1_v3, val_main_call1_v4, val_main_call1_v5,
    val_main_call1_v6, val_main_call1_v7, val_main_call1_v8, val_main_call1_v9, val_main_call1_v10, val_main_call1_v11]
  simp only [ne_eq, not_true_eq_false, if_false]
  rfl

theorem decay_apply (c : Fin 1024) : val_main_v54 (F := Ideal) T A D (ix2 b c)
    = decay (A (ix1 (headOf c))) (T (ix2 b ⟨(headOf c).val, by omega⟩)) (D (ix1 (headOf c))) := by
  refine (lanes_apply b _ c).trans ?_
  rw [val_main_v53_apply, val_main_v52_apply]
  exact (congrArg _ (eq_ix2 _)).trans (decay_head T A D b (headOf c))

theorem strength_head (h : Fin 8) : val_main_v47 (F := Ideal) T (ix2 b h) = Ideal.logistic (T (ix2 b ⟨8 + h.val, by omega⟩)) := by
  rw [val_main_v47_apply, val_main_v46_apply, val_main_v45_apply, val_main_v44_apply, val_main_v43_apply, val_main_v42_apply, val_main_v32_apply]
  have e : T (idx_main_v32 (ix2 b h)) = T (ix2 b ⟨8 + h.val, by omega⟩) := congrArg T (eq_ix2 _)
  rw [e]
  show Ideal.div (Ideal.ofBits .f32 0x3F800000#32) (Ideal.ofBits .f32 0x3F800000#32 + Ideal.exp (-T (ix2 b ⟨8 + h.val, by omega⟩))) = _
  rw [Ideal.ofBits_one_f32]
  rfl

theorem strength_apply (c : Fin 1024) : val_main_v57 (F := Ideal) T (ix2 b c) = Ideal.logistic (T (ix2 b ⟨8 + (headOf c).val, by omega⟩)) := by
  refine (lanes_apply b _ c).trans ?_
  rw [val_main_v56_apply, val_main_v55_apply]
  exact (congrArg _ (eq_ix2 _)).trans (strength_head T b (headOf c))

end Cert.PrepRef

end
-- ==== Proof.PrepValue.lean ====
module

public import proofs.«01_k».proof.Proof.PrepBlock
public import proofs.«01_k».proof.Proof.PrepRef
public import proofs.«01_k».proof.Proof.Gen.PrepIdeal.Value

@[expose] public section

set_option maxRecDepth 16384

/-! # The delta rule's preparation: the six outputs are the reference's -/

noncomputable section

namespace Cert.PrepValue

open Cert.PrepIdeal Cert.PrepIdeal.Gen Idealize.ShloMosaic Idealize.ShloMosaic.TcCoe Idealize.SL.Sem
open Idealize.ShloMosaic.Pipeline (Dat)
open Cert.PrepBlock (headOf placeOf conv_congr unit_congr decay_congr)

variable (m : (ℓ : Loc nD τ sig) → Buf (Elt Ideal) ℓ)

/-! ## The reference's values of device `c`'s arguments -/

abbrev X (c : Dev nD) : (⟨S128x3072, .f32⟩ : BufTy).Contents (Elt Ideal) := m ((c : Thread nD τ).loc main_arg0)
abbrev H (c : Dev nD) : (⟨S128x3x3072, .f32⟩ : BufTy).Contents (Elt Ideal) := m ((c : Thread nD τ).loc main_arg1)
abbrev T (c : Dev nD) : (⟨S128x128, .f32⟩ : BufTy).Contents (Elt Ideal) := m ((c : Thread nD τ).loc main_arg2)
abbrev W (c : Dev nD) : (⟨S4x3072, .f32⟩ : BufTy).Contents (Elt Ideal) := m ((c : Thread nD τ).loc main_arg3)
abbrev A (c : Dev nD) : (⟨S8, .f32⟩ : BufTy).Contents (Elt Ideal) := m ((c : Thread nD τ).loc main_arg4)
abbrev D (c : Dev nD) : (⟨S8, .f32⟩ : BufTy).Contents (Elt Ideal) := m ((c : Thread nD τ).loc main_arg5)

abbrev G6 (c : Dev nD) : (⟨S3x128x3072, .f32⟩ : BufTy).Contents (Elt Ideal) := PrepReferenceIdeal.Read.val_main_v48 (F := Ideal) (X m c) (H m c)
abbrev G7 (c : Dev nD) : (⟨S8x128x128, .f32⟩ : BufTy).Contents (Elt Ideal) :=
  PrepReferenceIdeal.Read.val_main_v49 (F := Ideal) (X m c) (H m c) (W m c)
abbrev G8 (c : Dev nD) : (⟨S8x128x128, .f32⟩ : BufTy).Contents (Elt Ideal) :=
  PrepReferenceIdeal.Read.val_main_v50 (F := Ideal) (X m c) (H m c) (W m c)
abbrev G9 (c : Dev nD) : (⟨S128x1024, .f32⟩ : BufTy).Contents (Elt Ideal) :=
  PrepReferenceIdeal.Read.val_main_v10 (F := Ideal) (X m c) (H m c) (W m c)
abbrev G10 (c : Dev nD) : (⟨S128x1024, .f32⟩ : BufTy).Contents (Elt Ideal) :=
  PrepReferenceIdeal.Read.val_main_v54 (F := Ideal) (T m c) (A m c) (D m c)
abbrev G11 (c : Dev nD) : (⟨S128x1024, .f32⟩ : BufTy).Contents (Elt Ideal) := PrepReferenceIdeal.Read.val_main_v57 (F := Ideal) (T m c)

/-! ## What the host prepares -/

/-- One number a head, padded with zeros to a whole row of lanes. -/
def padded (x : Vec Ideal S8 .f32) : Vec Ideal S1x128 .f32 :=
  shapeCast S1x128 (pad S128 ![0] ![120] ![0] x (sitofp (F := Ideal) .f32 (constantI S_ 32 0#32)) pads_S8_S128_01200 h_S_) shapeCasts_S128_S1x128

theorem padded_apply (x : Vec Ideal S8 .f32) (h : Fin 8) : padded x (ix2 0 ⟨h.val, by omega⟩) = x (ix1 h) := by
  pointwise [padded]

theorem V_v0 (c : Dev nD) : V m c main_v0 = transpose S3x128x3072 [1, 0, 2] (H m c) transposes_S128x3x3072_S3x128x3072_1_0_2 := by
  unfold_abbrev_sides
  after_results
  rfl

theorem V_v2 (c : Dev nD) : V m c main_v2 = padded (A m c) := by
  unfold_abbrev_sides
  simp only [hostOps0, hostOps0_1, hostOps0_2, hostOps0_3, hostOps0_4, List.flatten_cons, List.flatten_nil, List.append_nil, List.cons_append,
    List.nil_append]
  after_results
  rfl

theorem V_v4 (c : Dev nD) : V m c main_v4 = padded (D m c) := by
  unfold_abbrev_sides
  simp only [hostOps0, hostOps0_1, hostOps0_2, hostOps0_3, hostOps0_4, List.flatten_cons, List.flatten_nil, List.append_nil, List.cons_append,
    List.nil_append]
  after_results
  rfl

theorem hist_first (x : Vec Ideal S128x3x3072 .f32) (j : Fin 3) (b : Fin 128) (k : Fin 3072) :
    transpose S3x128x3072 [1, 0, 2] x transposes_S128x3x3072_S3x128x3072_1_0_2 (ix3 j b k) = x (ix3 b j k) := by
  pointwise

/-! ## The windows are the whole arrays -/

theorem idx_threes : ∀ t : Fin grid0.N, (∀ a, win0_1.index t a = 0) ∧ (∀ a, win0_6.index t a = 0) ∧ (∀ a, win0_7.index t a = 0)
    ∧ (∀ a, win0_8.index t a = 0) := by
  decide +kernel

theorem idx_inputs : ∀ t : Fin grid0.N, (∀ a, win0_0.index t a = 0) ∧ (∀ a, win0_2.index t a = 0) ∧ (∀ a, win0_3.index t a = 0)
    ∧ (∀ a, win0_4.index t a = 0) ∧ (∀ a, win0_5.index t a = 0) := by
  decide +kernel

theorem idx_outputs : ∀ t : Fin grid0.N, (∀ a, win0_9.index t a = 0) ∧ (∀ a, win0_10.index t a = 0) ∧ (∀ a, win0_11.index t a = 0) := by
  decide +kernel

theorem place {p s x : ℕ} (hp : p = 0) : p * s + 1 * x = x := by
  rw [hp]; omega

theorem span {p s x : ℕ} (hp : p = 0) (hx : x < s) : p * s ≤ x ∧ x < p * s + s := by
  rw [hp]; omega

theorem blk0 (Y : S128x3072.Idx → EReal) (t : Fin grid0.N) (y : S128x3072.Idx) : (win0_0.blk t).view.read (Elt Ideal) Y y = Y y :=
  congrArg Y (funext fun a => Fin.ext (match a with
    | ⟨0, _⟩ => place ((idx_inputs t).1 0)
    | ⟨1, _⟩ => place ((idx_inputs t).1 1)))

theorem blk1 (Y : S3x128x3072.Idx → EReal) (t : Fin grid0.N) (y : S3x128x3072.Idx) : (win0_1.blk t).view.read (Elt Ideal) Y y = Y y :=
  congrArg Y (funext fun a => Fin.ext (match a with
    | ⟨0, _⟩ => place ((idx_threes t).1 0)
    | ⟨1, _⟩ => place ((idx_threes t).1 1)
    | ⟨2, _⟩ => place ((idx_threes t).1 2)))

theorem blk2 (Y : S128x128.Idx → EReal) (t : Fin grid0.N) (y : S128x128.Idx) : (win0_2.blk t).view.read (Elt Ideal) Y y = Y y :=
  congrArg Y (funext fun a => Fin.ext (match a with
    | ⟨0, _⟩ => place ((idx_inputs t).2.1 0)
    | ⟨1, _⟩ => place ((idx_inputs t).2.1 1)))

theorem blk3 (Y : S4x3072.Idx → EReal) (t : Fin grid0.N) (y : S4x3072.Idx) : (win0_3.blk t).view.read (Elt Ideal) Y y = Y y :=
  congrArg Y (funext fun a => Fin.ext (match a with
    | ⟨0, _⟩ => place ((idx_inputs t).2.2.1 0)
    | ⟨1, _⟩ => place ((idx_inputs t).2.2.1 1)))

theorem blk4 (Y : S1x128.Idx → EReal) (t : Fin grid0.N) (y : S1x128.Idx) : (win0_4.blk t).view.read (Elt Ideal) Y y = Y y :=
  congrArg Y (funext fun a => Fin.ext (match a with
    | ⟨0, _⟩ => place ((idx_inputs t).2.2.2.1 0)
    | ⟨1, _⟩ => place ((idx_inputs t).2.2.2.1 1)))

theorem blk5 (Y : S1x128.Idx → EReal) (t : Fin grid0.N) (y : S1x128.Idx) : (win0_5.blk t).view.read (Elt Ideal) Y y = Y y :=
  congrArg Y (funext fun a => Fin.ext (match a with
    | ⟨0, _⟩ => place ((idx_inputs t).2.2.2.2 0)
    | ⟨1, _⟩ => place ((idx_inputs t).2.2.2.2 1)))

theorem blk6 (Y : S3x128x3072.Idx → EReal) (t : Fin grid0.N) (y : S3x128x3072.Idx) : (win0_6.blk t).view.read (Elt Ideal) Y y = Y y :=
  congrArg Y (funext fun a => Fin.ext (match a with
    | ⟨0, _⟩ => place ((idx_threes t).2.1 0)
    | ⟨1, _⟩ => place ((idx_threes t).2.1 1)
    | ⟨2, _⟩ => place ((idx_threes t).2.1 2)))

theorem blk7 (Y : S8x128x128.Idx → EReal) (t : Fin grid0.N) (y : S8x128x128.Idx) : (win0_7.blk t).view.read (Elt Ideal) Y y = Y y :=
  congrArg Y (funext fun a => Fin.ext (match a with
    | ⟨0, _⟩ => place ((idx_threes t).2.2.1 0)
    | ⟨1, _⟩ => place ((idx_threes t).2.2.1 1)
    | ⟨2, _⟩ => place ((idx_threes t).2.2.1 2)))

theorem blk8 (Y : S8x128x128.Idx → EReal) (t : Fin grid0.N) (y : S8x128x128.Idx) : (win0_8.blk t).view.read (Elt Ideal) Y y = Y y :=
  congrArg Y (funext fun a => Fin.ext (match a with
    | ⟨0, _⟩ => place ((idx_threes t).2.2.2 0)
    | ⟨1, _⟩ => place ((idx_threes t).2.2.2 1)
    | ⟨2, _⟩ => place ((idx_threes t).2.2.2 2)))

theorem blk9 (Y : S128x1024.Idx → EReal) (t : Fin grid0.N) (y : S128x1024.Idx) : (win0_9.blk t).view.read (Elt Ideal) Y y = Y y :=
  congrArg Y (funext fun a => Fin.ext (match a with
    | ⟨0, _⟩ => place ((idx_outputs t).1 0)
    | ⟨1, _⟩ => place ((idx_outputs t).1 1)))

theorem blk10 (Y : S128x1024.Idx → EReal) (t : Fin grid0.N) (y : S128x1024.Idx) : (win0_10.blk t).view.read (Elt Ideal) Y y = Y y :=
  congrArg Y (funext fun a => Fin.ext (match a with
    | ⟨0, _⟩ => place ((idx_outputs t).2.1 0)
    | ⟨1, _⟩ => place ((idx_outputs t).2.1 1)))

theorem blk11 (Y : S128x1024.Idx → EReal) (t : Fin grid0.N) (y : S128x1024.Idx) : (win0_11.blk t).view.read (Elt Ideal) Y y = Y y :=
  congrArg Y (funext fun a => Fin.ext (match a with
    | ⟨0, _⟩ => place ((idx_outputs t).2.2 0)
    | ⟨1, _⟩ => place ((idx_outputs t).2.2 1)))

/-! ## The blocks at a point, over the arrays -/

theorem in0 (c : Dev nD) (t : Fin cfg0.N) (y : S128x3072.Idx) : (iblk m c 0 t : Vec Ideal S128x3072 .f32) y = X m c y :=
  (blk0 _ t y).trans (congrFun (V_main_arg0 m c) _)

theorem in1 (c : Dev nD) (t : Fin cfg0.N) (j : Fin 3) (b : Fin 128) (k : Fin 3072) :
    (iblk m c 1 t : Vec Ideal S3x128x3072 .f32) (ix3 j b k) = H m c (ix3 b j k) :=
  (blk1 _ t _).trans ((congrFun (V_v0 m c) _).trans (hist_first (H m c) j b k))

theorem in2 (c : Dev nD) (t : Fin cfg0.N) (y : S128x128.Idx) : (iblk m c 2 t : Vec Ideal S128x128 .f32) y = T m c y :=
  (blk2 _ t y).trans (congrFun (V_main_arg2 m c) _)

theorem in3 (c : Dev nD) (t : Fin cfg0.N) (y : S4x3072.Idx) : (iblk m c 3 t : Vec Ideal S4x3072 .f32) y = W m c y :=
  (blk3 _ t y).trans (congrFun (V_main_arg3 m c) _)

theorem in4 (c : Dev nD) (t : Fin cfg0.N) (h : Fin 8) : (iblk m c 4 t : Vec Ideal S1x128 .f32) (ix2 0 ⟨h.val, by omega⟩) = A m c (ix1 h) :=
  (blk4 _ t _).trans ((congrFun (V_v2 m c) _).trans (padded_apply (A m c) h))

theorem in5 (c : Dev nD) (t : Fin cfg0.N) (h : Fin 8) : (iblk m c 5 t : Vec Ideal S1x128 .f32) (ix2 0 ⟨h.val, by omega⟩) = D m c (ix1 h) :=
  (blk5 _ t _).trans ((congrFun (V_v4 m c) _).trans (padded_apply (D m c) h))

/-- A sample's channel after the convolution and its activation is the reference's. -/
theorem act_eq (c : Dev nD) (t : Fin cfg0.N) (b : Fin 128) (k : Fin 3072) :
    PrepBlock.actAt (iblk m c 0 t) (iblk m c 1 t) (iblk m c 3 t) b k = PrepBlock.silu (PrepRef.convAt (X m c) (H m c) (W m c) b k) :=
  conv_congr (in0 m c t _) (in1 m c t 0 b k) (in1 m c t 1 b k) (in1 m c t 2 b k) (in3 m c t _) (in3 m c t _) (in3 m c t _) (in3 m c t _)

/-! ## What the point writes back is the reference's value -/

theorem flushed6_eq (c : Dev nD) (t : Fin cfg0.N) : (dats m 0 c).flushed 6 t = ((cfg0.win 6).blk t).view.read (Elt Ideal) (G6 m c) := by
  rw [PrepIdeal.Value.flushed6]
  show (fun y : S3x128x3072.Idx => out0_6 (F := Ideal) (iblk m c 0 t) (iblk m c 1 t) (iblk m c 2 t) (iblk m c 3 t) (iblk m c 4 t) (iblk m c 5 t) y)
    = fun y : S3x128x3072.Idx => (win0_6.blk t).view.read (Elt Ideal) (G6 m c) y
  funext y
  obtain ⟨j, b, k, rfl⟩ : ∃ (j : Fin 3) (b : Fin 128) (k : Fin 3072), y = ix3 j b k := ⟨y 0, y 1, y 2, eq_ix3 y⟩
  rw [PrepBlock.hist_apply, blk6]
  refine Eq.trans ?_ (PrepRef.moved_apply (X m c) (H m c) b j k).symm
  match j with
  | 0 => exact in1 m c t 1 b k
  | 1 => exact in1 m c t 2 b k
  | 2 => exact in0 m c t _

theorem flushed7_eq (c : Dev nD) (t : Fin cfg0.N) : (dats m 0 c).flushed 7 t = ((cfg0.win 7).blk t).view.read (Elt Ideal) (G7 m c) := by
  rw [PrepIdeal.Value.flushed7]
  show (fun y : S8x128x128.Idx => out0_7 (F := Ideal) (iblk m c 0 t) (iblk m c 1 t) (iblk m c 2 t) (iblk m c 3 t) (iblk m c 4 t) (iblk m c 5 t) y)
    = fun y : S8x128x128.Idx => (win0_7.blk t).view.read (Elt Ideal) (G7 m c) y
  funext y
  obtain ⟨h, l, b, rfl⟩ : ∃ (h : Fin 8) (l b : Fin 128), y = ix3 h l b := ⟨y 0, y 1, y 2, eq_ix3 y⟩
  rw [PrepBlock.q_apply, blk7]
  refine Eq.trans ?_ (PrepRef.query_scaled (X m c) (H m c) (W m c) b h l).symm
  exact congrArg₂ (fun x y : EReal => x * y) (unit_congr (fun l => act_eq m c t b _) l) rfl

theorem flushed8_eq (c : Dev nD) (t : Fin cfg0.N) : (dats m 0 c).flushed 8 t = ((cfg0.win 8).blk t).view.read (Elt Ideal) (G8 m c) := by
  rw [PrepIdeal.Value.flushed8]
  show (fun y : S8x128x128.Idx => out0_8 (F := Ideal) (iblk m c 0 t) (iblk m c 1 t) (iblk m c 2 t) (iblk m c 3 t) (iblk m c 4 t) (iblk m c 5 t) y)
    = fun y : S8x128x128.Idx => (win0_8.blk t).view.read (Elt Ideal) (G8 m c) y
  funext y
  obtain ⟨h, l, b, rfl⟩ : ∃ (h : Fin 8) (l b : Fin 128), y = ix3 h l b := ⟨y 0, y 1, y 2, eq_ix3 y⟩
  rw [PrepBlock.k_apply, blk8]
  refine Eq.trans ?_ (PrepRef.key_scaled (X m c) (H m c) (W m c) b h l).symm
  exact unit_congr (fun l => act_eq m c t b _) l

theorem flushed9_eq (c : Dev nD) (t : Fin cfg0.N) : (dats m 0 c).flushed 9 t = ((cfg0.win 9).blk t).view.read (Elt Ideal) (G9 m c) := by
  rw [PrepIdeal.Value.flushed9]
  show (fun y : S128x1024.Idx => out0_9 (F := Ideal) (iblk m c 0 t) (iblk m c 1 t) (iblk m c 2 t) (iblk m c 3 t) (iblk m c 4 t) (iblk m c 5 t) y)
    = fun y : S128x1024.Idx => (win0_9.blk t).view.read (Elt Ideal) (G9 m c) y
  funext y
  obtain ⟨b, k, rfl⟩ : ∃ (b : Fin 128) (k : Fin 1024), y = ix2 b k := ⟨y 0, y 1, eq_ix2 y⟩
  rw [PrepBlock.v_apply, blk9]
  exact (act_eq m c t b _).trans (PrepRef.value_apply (X m c) (H m c) (W m c) b k).symm

theorem flushed10_eq (c : Dev nD) (t : Fin cfg0.N) : (dats m 0 c).flushed 10 t = ((cfg0.win 10).blk t).view.read (Elt Ideal) (G10 m c) := by
  rw [PrepIdeal.Value.flushed10]
  show (fun y : S128x1024.Idx => out0_10 (F := Ideal) (iblk m c 0 t) (iblk m c 1 t) (iblk m c 2 t) (iblk m c 3 t) (iblk m c 4 t) (iblk m c 5 t) y)
    = fun y : S128x1024.Idx => (win0_10.blk t).view.read (Elt Ideal) (G10 m c) y
  funext y
  obtain ⟨b, k, rfl⟩ : ∃ (b : Fin 128) (k : Fin 1024), y = ix2 b k := ⟨y 0, y 1, eq_ix2 y⟩
  rw [PrepBlock.dec_apply, blk10]
  exact (decay_congr (in4 m c t (headOf k)) (in2 m c t _) (in5 m c t (headOf k))).trans (PrepRef.decay_apply (T m c) (A m c) (D m c) b k).symm

theorem flushed11_eq (c : Dev nD) (t : Fin cfg0.N) : (dats m 0 c).flushed 11 t = ((cfg0.win 11).blk t).view.read (Elt Ideal) (G11 m c) := by
  rw [PrepIdeal.Value.flushed11]
  show (fun y : S128x1024.Idx => out0_11 (F := Ideal) (iblk m c 0 t) (iblk m c 1 t) (iblk m c 2 t) (iblk m c 3 t) (iblk m c 4 t) (iblk m c 5 t) y)
    = fun y : S128x1024.Idx => (win0_11.blk t).view.read (Elt Ideal) (G11 m c) y
  funext y
  obtain ⟨b, k, rfl⟩ : ∃ (b : Fin 128) (k : Fin 1024), y = ix2 b k := ⟨y 0, y 1, eq_ix2 y⟩
  rw [PrepBlock.beta_apply, blk11]
  exact (congrArg Ideal.logistic (in2 m c t _)).trans (PrepRef.strength_apply (T m c) b k).symm

/-! ## The point's blocks are the arrays -/

theorem cover6 (i : S3x128x3072.Idx) : ∃ t : Fin cfg0.N, (cfg0.win 6).flush t = true ∧ i ∈ ((cfg0.win 6).blk t).view.set := by
  obtain ⟨t⟩ : Nonempty (Fin cfg0.N) := ⟨⟨0, by rw [show cfg0.N = 1 from N_0]; exact Nat.one_pos⟩⟩
  refine ⟨t, flush0_6 _, ?_⟩
  show i ∈ ((View.whole main_v5_0).slice (win0_6.rect t)).set
  rw [View.set_slice_whole, Rect.mem_set_unit]
  intro a
  match a with
  | ⟨0, _⟩ => exact span ((idx_threes t).2.1 0) (i 0).isLt
  | ⟨1, _⟩ => exact span ((idx_threes t).2.1 1) (i 1).isLt
  | ⟨2, _⟩ => exact span ((idx_threes t).2.1 2) (i 2).isLt

theorem cover7 (i : S8x128x128.Idx) : ∃ t : Fin cfg0.N, (cfg0.win 7).flush t = true ∧ i ∈ ((cfg0.win 7).blk t).view.set := by
  obtain ⟨t⟩ : Nonempty (Fin cfg0.N) := ⟨⟨0, by rw [show cfg0.N = 1 from N_0]; exact Nat.one_pos⟩⟩
  refine ⟨t, flush0_7 _, ?_⟩
  show i ∈ ((View.whole main_v5_1).slice (win0_7.rect t)).set
  rw [View.set_slice_whole, Rect.mem_set_unit]
  intro a
  match a with
  | ⟨0, _⟩ => exact span ((idx_threes t).2.2.1 0) (i 0).isLt
  | ⟨1, _⟩ => exact span ((idx_threes t).2.2.1 1) (i 1).isLt
  | ⟨2, _⟩ => exact span ((idx_threes t).2.2.1 2) (i 2).isLt

theorem cover8 (i : S8x128x128.Idx) : ∃ t : Fin cfg0.N, (cfg0.win 8).flush t = true ∧ i ∈ ((cfg0.win 8).blk t).view.set := by
  obtain ⟨t⟩ : Nonempty (Fin cfg0.N) := ⟨⟨0, by rw [show cfg0.N = 1 from N_0]; exact Nat.one_pos⟩⟩
  refine ⟨t, flush0_8 _, ?_⟩
  show i ∈ ((View.whole main_v5_2).slice (win0_8.rect t)).set
  rw [View.set_slice_whole, Rect.mem_set_unit]
  intro a
  match a with
  | ⟨0, _⟩ => exact span ((idx_threes t).2.2.2 0) (i 0).isLt
  | ⟨1, _⟩ => exact span ((idx_threes t).2.2.2 1) (i 1).isLt
  | ⟨2, _⟩ => exact span ((idx_threes t).2.2.2 2) (i 2).isLt

theorem cover9 (i : S128x1024.Idx) : ∃ t : Fin cfg0.N, (cfg0.win 9).flush t = true ∧ i ∈ ((cfg0.win 9).blk t).view.set := by
  obtain ⟨t⟩ : Nonempty (Fin cfg0.N) := ⟨⟨0, by rw [show cfg0.N = 1 from N_0]; exact Nat.one_pos⟩⟩
  refine ⟨t, flush0_9 _, ?_⟩
  show i ∈ ((View.whole main_v5_3).slice (win0_9.rect t)).set
  rw [View.set_slice_whole, Rect.mem_set_unit]
  intro a
  match a with
  | ⟨0, _⟩ => exact span ((idx_outputs t).1 0) (i 0).isLt
  | ⟨1, _⟩ => exact span ((idx_outputs t).1 1) (i 1).isLt

theorem cover10 (i : S128x1024.Idx) : ∃ t : Fin cfg0.N, (cfg0.win 10).flush t = true ∧ i ∈ ((cfg0.win 10).blk t).view.set := by
  obtain ⟨t⟩ : Nonempty (Fin cfg0.N) := ⟨⟨0, by rw [show cfg0.N = 1 from N_0]; exact Nat.one_pos⟩⟩
  refine ⟨t, flush0_10 _, ?_⟩
  show i ∈ ((View.whole main_v5_4).slice (win0_10.rect t)).set
  rw [View.set_slice_whole, Rect.mem_set_unit]
  intro a
  match a with
  | ⟨0, _⟩ => exact span ((idx_outputs t).2.1 0) (i 0).isLt
  | ⟨1, _⟩ => exact span ((idx_outputs t).2.1 1) (i 1).isLt

theorem cover11 (i : S128x1024.Idx) : ∃ t : Fin cfg0.N, (cfg0.win 11).flush t = true ∧ i ∈ ((cfg0.win 11).blk t).view.set := by
  obtain ⟨t⟩ : Nonempty (Fin cfg0.N) := ⟨⟨0, by rw [show cfg0.N = 1 from N_0]; exact Nat.one_pos⟩⟩
  refine ⟨t, flush0_11 _, ?_⟩
  show i ∈ ((View.whole main_v5_5).slice (win0_11.rect t)).set
  rw [View.set_slice_whole, Rect.mem_set_unit]
  intro a
  match a with
  | ⟨0, _⟩ => exact span ((idx_outputs t).2.2 0) (i 0).isLt
  | ⟨1, _⟩ => exact span ((idx_outputs t).2.2 1) (i 1).isLt

theorem final6 (c : Dev nD) : (dats m 0 c).arrAt 6 cfg0.N = G6 m c :=
  (dats m 0 c).arrAt_eq_of_cover 6 (G6 m c) (fun t _ => flushed6_eq m c t) cover6

theorem final7 (c : Dev nD) : (dats m 0 c).arrAt 7 cfg0.N = G7 m c :=
  (dats m 0 c).arrAt_eq_of_cover 7 (G7 m c) (fun t _ => flushed7_eq m c t) cover7

theorem final8 (c : Dev nD) : (dats m 0 c).arrAt 8 cfg0.N = G8 m c :=
  (dats m 0 c).arrAt_eq_of_cover 8 (G8 m c) (fun t _ => flushed8_eq m c t) cover8

theorem final9 (c : Dev nD) : (dats m 0 c).arrAt 9 cfg0.N = G9 m c :=
  (dats m 0 c).arrAt_eq_of_cover 9 (G9 m c) (fun t _ => flushed9_eq m c t) cover9

theorem final10 (c : Dev nD) : (dats m 0 c).arrAt 10 cfg0.N = G10 m c :=
  (dats m 0 c).arrAt_eq_of_cover 10 (G10 m c) (fun t _ => flushed10_eq m c t) cover10

theorem final11 (c : Dev nD) : (dats m 0 c).arrAt 11 cfg0.N = G11 m c :=
  (dats m 0 c).arrAt_eq_of_cover 11 (G11 m c) (fun t _ => flushed11_eq m c t) cover11

end Cert.PrepValue

end
-- ==== Proof.PrepClaims.lean ====
module

public import proofs.«01_k».proof.Defs
public import proofs.«01_k».proof.Proof.Gen.Prep.Frame
public import proofs.«01_k».proof.Proof.Gen.PrepIdeal.Value
public import proofs.«01_k».proof.Proof.Gen.PrepReferenceIdeal.Run
public import proofs.«01_k».proof.Proof.PrepValue
public import Idealize.ShloMosaic.Adequacy

@[expose] public section

/-! # The claims about the preparation of the samples' delta rule step -/

noncomputable section

namespace Cert.PrepClaims

open Idealize.ShloMosaic

theorem frame : Cert.quiescent_Prep := fun m ρ _ => Cert.Prep.Gen.frame m ρ

theorem frame_ideal : Cert.quiescent_PrepIdeal := fun m ρ _ => Cert.PrepIdeal.Gen.frame m ρ

theorem frame_reference : Cert.quiescent_PrepReferenceIdeal := fun m ρ _ =>
  (θ_run Cert.PrepReferenceIdeal.defs _ _).mono (fun r h => ⟨fun c => (h c).2.2.2.2.2.2, sem_eq_zero_of_no_sems (by decide) r.2⟩)
    (Cert.PrepReferenceIdeal.Value.run (F := Ideal) m ρ)

theorem preserves : Cert.preserves_Prep_PrepIdeal := trivial

/-- Both programs end with the reference's values of the kernel's arguments. -/
theorem algebraic : Cert.algebraic_PrepIdeal_PrepReferenceIdeal := by
  intro m ρ m' ρ' _ hagree
  refine ⟨fun c => PrepValue.G6 m c, fun c => PrepValue.G7 m c, fun c => PrepValue.G8 m c, fun c => PrepValue.G9 m c,
    fun c => PrepValue.G10 m c, fun c => PrepValue.G11 m c, ?_, ?_⟩
  · refine (θ_run Cert.PrepIdeal.defs _ _).mono (fun _ h c => ?_) (Cert.PrepIdeal.Value.run_blocks (F := Ideal) m ρ)
    obtain ⟨h6, h7, h8, h9, h10, h11, hrest⟩ := h c
    exact ⟨h6.trans (PrepValue.final6 m c), h7.trans (PrepValue.final7 m c), h8.trans (PrepValue.final8 m c), h9.trans (PrepValue.final9 m c),
      h10.trans (PrepValue.final10 m c), h11.trans (PrepValue.final11 m c), hrest⟩
  · refine (θ_run Cert.PrepReferenceIdeal.defs _ _).mono (fun _ h c => ?_) (Cert.PrepReferenceIdeal.Value.run (F := Ideal) m' ρ')
    obtain ⟨e0, e1, e2, e3, e4, e5⟩ := hagree c
    obtain ⟨h6, h7, h8, h9, h10, h11, hrest⟩ := h c
    refine ⟨h6.trans ?_, h7.trans ?_, h8.trans ?_, h9.trans ?_, h10.trans ?_, h11.trans ?_, hrest⟩
    · refine (Cert.PrepReferenceIdeal.Read.val_main_v48_eq (F := Ideal) _ _).trans ?_
      show Cert.PrepReferenceIdeal.Read.val_main_v48 (F := Ideal) _ _ = Cert.PrepReferenceIdeal.Read.val_main_v48 _ _
      rw [e0, e1]
    · rw [Cert.PrepReferenceIdeal.Read.val_main_v49_eq]
      show Cert.PrepReferenceIdeal.Read.val_main_v49 (F := Ideal) _ _ _ = Cert.PrepReferenceIdeal.Read.val_main_v49 _ _ _
      rw [e0, e1, e3]
    · rw [Cert.PrepReferenceIdeal.Read.val_main_v50_eq]
      show Cert.PrepReferenceIdeal.Read.val_main_v50 (F := Ideal) _ _ _ = Cert.PrepReferenceIdeal.Read.val_main_v50 _ _ _
      rw [e0, e1, e3]
    · refine (Cert.PrepReferenceIdeal.Read.val_main_v10_eq (F := Ideal) _ _ _).trans ?_
      show Cert.PrepReferenceIdeal.Read.val_main_v10 (F := Ideal) _ _ _ = Cert.PrepReferenceIdeal.Read.val_main_v10 _ _ _
      rw [e0, e1, e3]
    · refine (Cert.PrepReferenceIdeal.Read.val_main_v54_eq (F := Ideal) _ _ _).trans ?_
      show Cert.PrepReferenceIdeal.Read.val_main_v54 (F := Ideal) _ _ _ = Cert.PrepReferenceIdeal.Read.val_main_v54 _ _ _
      rw [e2, e4, e5]
    · refine (Cert.PrepReferenceIdeal.Read.val_main_v57_eq (F := Ideal) _).trans ?_
      show Cert.PrepReferenceIdeal.Read.val_main_v57 (F := Ideal) _ = Cert.PrepReferenceIdeal.Read.val_main_v57 _
      rw [e2]

end Cert.PrepClaims

end
-- ==== Proof.lean ====
module

public import proofs.«01_k».proof.Proof.Gen.Pre_finite_ab
public import proofs.«01_k».proof.Proof.Gen.Pre_finite_scores
public import proofs.«01_k».proof.Proof.Gen.Pre_finite_win
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojReferenceIdeal
public import proofs.«01_k».proof.Proof.Gen.InprojReferenceIdeal.Run
public import proofs.«01_k».proof.Proof.Gen.InprojReferenceIdeal.Read
public import proofs.«01_k».proof.Proof.Gen.Step
public import proofs.«01_k».proof.Proof.Gen.Step.Skeleton
public import proofs.«01_k».proof.Proof.Gen.Step.Launch
public import proofs.«01_k».proof.Proof.Gen.Step.Points
public import proofs.«01_k».proof.Proof.Gen.Step.Frame
public import proofs.«01_k».proof.Proof.Gen.StepIdeal
public import proofs.«01_k».proof.Proof.Gen.StepIdeal.Skeleton
public import proofs.«01_k».proof.Proof.Gen.StepIdeal.Launch
public import proofs.«01_k».proof.Proof.Gen.StepIdeal.Points
public import proofs.«01_k».proof.Proof.Gen.StepIdeal.Frame
public import proofs.«01_k».proof.Proof.Gen.StepIdeal.Value
public import proofs.«01_k».proof.Proof.Gen.StepReferenceIdeal
public import proofs.«01_k».proof.Proof.Gen.StepReferenceIdeal.Run
public import proofs.«01_k».proof.Proof.Gen.StepReferenceIdeal.Read
public import proofs.«01_k».proof.Proof.Gen.Win
public import proofs.«01_k».proof.Proof.Gen.Win.Skeleton
public import proofs.«01_k».proof.Proof.Gen.Win.Launch
public import proofs.«01_k».proof.Proof.Gen.Win.Points
public import proofs.«01_k».proof.Proof.Gen.Win.Frame
public import proofs.«01_k».proof.Proof.Gen.WinIdeal
public import proofs.«01_k».proof.Proof.Gen.WinIdeal.Skeleton
public import proofs.«01_k».proof.Proof.Gen.WinIdeal.Launch
public import proofs.«01_k».proof.Proof.Gen.WinIdeal.Points
public import proofs.«01_k».proof.Proof.Gen.WinIdeal.Frame
public import proofs.«01_k».proof.Proof.Gen.WinIdeal.Value
public import proofs.«01_k».proof.Proof.Gen.WinReferenceIdeal
public import proofs.«01_k».proof.Proof.Gen.WinReferenceIdeal.Run
public import proofs.«01_k».proof.Proof.Gen.WinReferenceIdeal.Read
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.PrepReferenceIdeal
public import proofs.«01_k».proof.Proof.Gen.PrepReferenceIdeal.Run
public import proofs.«01_k».proof.Proof.Gen.PrepReferenceIdeal.Read
public import proofs.«01_k».proof.Proof.SwaClaims
public import proofs.«01_k».proof.Proof.FfnClaims
public import proofs.«01_k».proof.Proof.MixClaims
public import proofs.«01_k».proof.Proof.InprojClaims
public import proofs.«01_k».proof.Proof.StepClaims
public import proofs.«01_k».proof.Proof.WinClaims
public import proofs.«01_k».proof.Proof.PrepClaims
public import Idealize.ShloMosaic.Adequacy
public import Idealize.ShloMosaic.Init

@[expose] public section

noncomputable section

namespace Cert.Proof

/-- The launch facts of the twenty-one programs, and the claims about each call, from its own module. -/
theorem claim : Cert.Claim :=
  ⟨Cert.Kernel.Gen.facts, Cert.KernelIdeal.Gen.facts, Cert.ReferenceIdeal.Gen.facts, Cert.Ffn.Gen.facts, Cert.FfnIdeal.Gen.facts,
    Cert.FfnReferenceIdeal.Gen.facts, Cert.Mix.Gen.facts, Cert.MixIdeal.Gen.facts, Cert.MixReferenceIdeal.Gen.facts,
    Cert.Inproj.Gen.facts, Cert.InprojIdeal.Gen.facts, Cert.InprojReferenceIdeal.Gen.facts, Cert.Step.Gen.facts, Cert.StepIdeal.Gen.facts,
    Cert.StepReferenceIdeal.Gen.facts, Cert.Win.Gen.facts, Cert.WinIdeal.Gen.facts, Cert.WinReferenceIdeal.Gen.facts,
    Cert.Prep.Gen.facts, Cert.PrepIdeal.Gen.facts, Cert.PrepReferenceIdeal.Gen.facts,
    Cert.Pre_finite_scores.Gen.facts, Cert.Pre_finite_ab.Gen.facts, Cert.Pre_finite_win.Gen.facts,
    SwaClaims.frame, SwaClaims.frame_ideal, SwaClaims.frame_ideal_pre, SwaClaims.frame_reference,
    SwaClaims.frame_reference_pre, FfnClaims.frame, FfnClaims.frame_ideal,
    FfnClaims.frame_reference, MixClaims.frame, MixClaims.frame_ideal, MixClaims.frame_reference, InprojClaims.frame,
    InprojClaims.frame_ideal, InprojClaims.frame_ideal_pre, InprojClaims.frame_reference, InprojClaims.frame_reference_pre,
    StepClaims.frame, StepClaims.frame_ideal, StepClaims.frame_reference, WinClaims.frame, WinClaims.frame_ideal, WinClaims.frame_ideal_pre,
    WinClaims.frame_reference, WinClaims.frame_reference_pre, PrepClaims.frame, PrepClaims.frame_ideal, PrepClaims.frame_reference,
    SwaClaims.preserves, SwaClaims.algebraic, FfnClaims.preserves, FfnClaims.algebraic,
    MixClaims.preserves, MixClaims.algebraic, InprojClaims.preserves, InprojClaims.algebraic,
    StepClaims.preserves, StepClaims.algebraic, WinClaims.preserves, WinClaims.algebraic,
    PrepClaims.preserves, PrepClaims.algebraic⟩

end Cert.Proof

end
